-- ==== Defs.lean ====
def Pre_Ctx (m : (ℓ : Loc Cert.Ctx.nD Cert.Ctx.τ Cert.Ctx.sig) → Buf (Elt Bits) ℓ) : Prop :=
  True

def Pre_CtxIdeal (m : (ℓ : Loc Cert.CtxIdeal.nD Cert.CtxIdeal.τ Cert.CtxIdeal.sig) → Buf (Elt Ideal) ℓ) : Prop :=
  True

def Pre_CtxIdeal_ctx_finite [hPre_ctx_finite : Cert.Pre_ctx_finite.Facts] (m : (ℓ : Loc Cert.CtxIdeal.nD Cert.CtxIdeal.τ Cert.CtxIdeal.sig) → Buf (Elt Ideal) ℓ) : Prop :=
  ∀ c : Dev Cert.CtxIdeal.nD,
    (Cert.Pre_ctx_finite.fn (F := Ideal) (m ((c.tc : Thread Cert.CtxIdeal.nD Cert.CtxIdeal.τ).loc Cert.CtxIdeal.main_arg0)) (m ((c.tc : Thread Cert.CtxIdeal.nD Cert.CtxIdeal.τ).loc Cert.CtxIdeal.main_arg1)) (m ((c.tc : Thread Cert.CtxIdeal.nD Cert.CtxIdeal.τ).loc Cert.CtxIdeal.main_arg2)) (m ((c.tc : Thread Cert.CtxIdeal.nD Cert.CtxIdeal.τ).loc Cert.CtxIdeal.main_arg3))) = (fun _ => 1#1)

def Pre_CtxRefIdeal (m : (ℓ : Loc Cert.CtxRefIdeal.nD Cert.CtxRefIdeal.τ Cert.CtxRefIdeal.sig) → Buf (Elt Ideal) ℓ) : Prop :=
  True

def Pre_CtxRefIdeal_ctx_finite [hPre_ctx_finite : Cert.Pre_ctx_finite.Facts] (m : (ℓ : Loc Cert.CtxRefIdeal.nD Cert.CtxRefIdeal.τ Cert.CtxRefIdeal.sig) → Buf (Elt Ideal) ℓ) : Prop :=
  ∀ c : Dev Cert.CtxRefIdeal.nD,
    (Cert.Pre_ctx_finite.fn (F := Ideal) (m ((c.tc : Thread Cert.CtxRefIdeal.nD Cert.CtxRefIdeal.τ).loc Cert.CtxRefIdeal.main_arg0)) (m ((c.tc : Thread Cert.CtxRefIdeal.nD Cert.CtxRefIdeal.τ).loc Cert.CtxRefIdeal.main_arg1)) (m ((c.tc : Thread Cert.CtxRefIdeal.nD Cert.CtxRefIdeal.τ).loc Cert.CtxRefIdeal.main_arg2)) (m ((c.tc : Thread Cert.CtxRefIdeal.nD Cert.CtxRefIdeal.τ).loc Cert.CtxRefIdeal.main_arg3))) = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_Moe (m : (ℓ : Loc Cert.Moe.nD Cert.Moe.τ Cert.Moe.sig) → Buf (Elt Bits) ℓ) : Prop :=
  True

def Pre_MoeIdeal (m : (ℓ : Loc Cert.MoeIdeal.nD Cert.MoeIdeal.τ Cert.MoeIdeal.sig) → Buf (Elt Ideal) ℓ) : Prop :=
  True

def Pre_MoeIdeal_moe_finite [hPre_moe_finite : Cert.Pre_moe_finite.Facts] (m : (ℓ : Loc Cert.MoeIdeal.nD Cert.MoeIdeal.τ Cert.MoeIdeal.sig) → Buf (Elt Ideal) ℓ) : Prop :=
  ∀ c : Dev Cert.MoeIdeal.nD,
    (Cert.Pre_moe_finite.fn (F := Ideal) (m ((c.tc : Thread Cert.MoeIdeal.nD Cert.MoeIdeal.τ).loc Cert.MoeIdeal.main_arg0)) (m ((c.tc : Thread Cert.MoeIdeal.nD Cert.MoeIdeal.τ).loc Cert.MoeIdeal.main_arg1)) (m ((c.tc : Thread Cert.MoeIdeal.nD Cert.MoeIdeal.τ).loc Cert.MoeIdeal.main_arg2)) (m ((c.tc : Thread Cert.MoeIdeal.nD Cert.MoeIdeal.τ).loc Cert.MoeIdeal.main_arg3)) (m ((c.tc : Thread Cert.MoeIdeal.nD Cert.MoeIdeal.τ).loc Cert.MoeIdeal.main_arg4)) (m ((c.tc : Thread Cert.MoeIdeal.nD Cert.MoeIdeal.τ).loc Cert.MoeIdeal.main_arg5)) (m ((c.tc : Thread Cert.MoeIdeal.nD Cert.MoeIdeal.τ).loc Cert.MoeIdeal.main_arg6)) (m ((c.tc : Thread Cert.MoeIdeal.nD Cert.MoeIdeal.τ).loc Cert.MoeIdeal.main_arg7))) = (fun _ => 1#1)

def Pre_MoeRefIdeal (m : (ℓ : Loc Cert.MoeRefIdeal.nD Cert.MoeRefIdeal.τ Cert.MoeRefIdeal.sig) → Buf (Elt Ideal) ℓ) : Prop :=
  True

def Pre_MoeRefIdeal_moe_finite [hPre_moe_finite : Cert.Pre_moe_finite.Facts] (m : (ℓ : Loc Cert.MoeRefIdeal.nD Cert.MoeRefIdeal.τ Cert.MoeRefIdeal.sig) → Buf (Elt Ideal) ℓ) : Prop :=
  ∀ c : Dev Cert.MoeRefIdeal.nD,
    (Cert.Pre_moe_finite.fn (F := Ideal) (m ((c.tc : Thread Cert.MoeRefIdeal.nD Cert.MoeRefIdeal.τ).loc Cert.MoeRefIdeal.main_arg0)) (m ((c.tc : Thread Cert.MoeRefIdeal.nD Cert.MoeRefIdeal.τ).loc Cert.MoeRefIdeal.main_arg1)) (m ((c.tc : Thread Cert.MoeRefIdeal.nD Cert.MoeRefIdeal.τ).loc Cert.MoeRefIdeal.main_arg2)) (m ((c.tc : Thread Cert.MoeRefIdeal.nD Cert.MoeRefIdeal.τ).loc Cert.MoeRefIdeal.main_arg3)) (m ((c.tc : Thread Cert.MoeRefIdeal.nD Cert.MoeRefIdeal.τ).loc Cert.MoeRefIdeal.main_arg4)) (m ((c.tc : Thread Cert.MoeRefIdeal.nD Cert.MoeRefIdeal.τ).loc Cert.MoeRefIdeal.main_arg5)) (m ((c.tc : Thread Cert.MoeRefIdeal.nD Cert.MoeRefIdeal.τ).loc Cert.MoeRefIdeal.main_arg6)) (m ((c.tc : Thread Cert.MoeRefIdeal.nD Cert.MoeRefIdeal.τ).loc Cert.MoeRefIdeal.main_arg7))) = (fun _ => 1#1)

def quiescent_Ctx [hCtx : Cert.Ctx.Facts] : Prop :=
  ∀ (m : (ℓ : Loc Cert.Ctx.nD Cert.Ctx.τ Cert.Ctx.sig) → Buf (Elt Bits) ℓ) (g : Dev Cert.Ctx.nD → PrngReg), Pre_Ctx m →
    θ_run (Cert.Ctx.defs (F := Bits)) (onTc (τ := Cert.Ctx.τ) (Cert.Ctx.main (F := Bits))) ⟨m, fun _ => 0, g⟩ (fun r => (∀ c : Dev Cert.Ctx.nD,
      r.2.mem ((c.tc : Thread Cert.Ctx.nD Cert.Ctx.τ).loc Cert.Ctx.main_arg0) = m ((c.tc : Thread Cert.Ctx.nD Cert.Ctx.τ).loc Cert.Ctx.main_arg0)
      ∧ r.2.mem ((c.tc : Thread Cert.Ctx.nD Cert.Ctx.τ).loc Cert.Ctx.main_arg1) = m ((c.tc : Thread Cert.Ctx.nD Cert.Ctx.τ).loc Cert.Ctx.main_arg1)
      ∧ r.2.mem ((c.tc : Thread Cert.Ctx.nD Cert.Ctx.τ).loc Cert.Ctx.main_arg2) = m ((c.tc : Thread Cert.Ctx.nD Cert.Ctx.τ).loc Cert.Ctx.main_arg2)
      ∧ r.2.mem ((c.tc : Thread Cert.Ctx.nD Cert.Ctx.τ).loc Cert.Ctx.main_arg3) = m ((c.tc : Thread Cert.Ctx.nD Cert.Ctx.τ).loc Cert.Ctx.main_arg3))
      ∧ r.2.sem = fun _ => 0)

def quiescent_CtxIdeal [hCtxIdeal : Cert.CtxIdeal.Facts] : Prop :=
  ∀ (m : (ℓ : Loc Cert.CtxIdeal.nD Cert.CtxIdeal.τ Cert.CtxIdeal.sig) → Buf (Elt Ideal) ℓ) (g : Dev Cert.CtxIdeal.nD → PrngReg), Pre_CtxIdeal m →
    θ_run (Cert.CtxIdeal.defs (F := Ideal)) (onTc (τ := Cert.CtxIdeal.τ) (Cert.CtxIdeal.main (F := Ideal))) ⟨m, fun _ => 0, g⟩ (fun r => (∀ c : Dev Cert.CtxIdeal.nD,
      r.2.mem ((c.tc : Thread Cert.CtxIdeal.nD Cert.CtxIdeal.τ).loc Cert.CtxIdeal.main_arg0) = m ((c.tc : Thread Cert.CtxIdeal.nD Cert.CtxIdeal.τ).loc Cert.CtxIdeal.main_arg0)
      ∧ r.2.mem ((c.tc : Thread Cert.CtxIdeal.nD Cert.CtxIdeal.τ).loc Cert.CtxIdeal.main_arg1) = m ((c.tc : Thread Cert.CtxIdeal.nD Cert.CtxIdeal.τ).loc Cert.CtxIdeal.main_arg1)
      ∧ r.2.mem ((c.tc : Thread Cert.CtxIdeal.nD Cert.CtxIdeal.τ).loc Cert.CtxIdeal.main_arg2) = m ((c.tc : Thread Cert.CtxIdeal.nD Cert.CtxIdeal.τ).loc Cert.CtxIdeal.main_arg2)
      ∧ r.2.mem ((c.tc : Thread Cert.CtxIdeal.nD Cert.CtxIdeal.τ).loc Cert.CtxIdeal.main_arg3) = m ((c.tc : Thread Cert.CtxIdeal.nD Cert.CtxIdeal.τ).loc Cert.CtxIdeal.main_arg3))
      ∧ r.2.sem = fun _ => 0)

def quiescent_CtxIdeal_pre_ctx_finite [hCtxIdeal : Cert.CtxIdeal.Facts] [hPre_ctx_finite : Cert.Pre_ctx_finite.Facts] : Prop :=
  ∀ (m : (ℓ : Loc Cert.CtxIdeal.nD Cert.CtxIdeal.τ Cert.CtxIdeal.sig) → Buf (Elt Ideal) ℓ) (g : Dev Cert.CtxIdeal.nD → PrngReg), Pre_CtxIdeal_ctx_finite m →
    θ_run (Cert.CtxIdeal.defs (F := Ideal)) (onTc (τ := Cert.CtxIdeal.τ) (Cert.CtxIdeal.main (F := Ideal))) ⟨m, fun _ => 0, g⟩ (fun r => (∀ c : Dev Cert.CtxIdeal.nD,
      r.2.mem ((c.tc : Thread Cert.CtxIdeal.nD Cert.CtxIdeal.τ).loc Cert.CtxIdeal.main_arg0) = m ((c.tc : Thread Cert.CtxIdeal.nD Cert.CtxIdeal.τ).loc Cert.CtxIdeal.main_arg0)
      ∧ r.2.mem ((c.tc : Thread Cert.CtxIdeal.nD Cert.CtxIdeal.τ).loc Cert.CtxIdeal.main_arg1) = m ((c.tc : Thread Cert.CtxIdeal.nD Cert.CtxIdeal.τ).loc Cert.CtxIdeal.main_arg1)
      ∧ r.2.mem ((c.tc : Thread Cert.CtxIdeal.nD Cert.CtxIdeal.τ).loc Cert.CtxIdeal.main_arg2) = m ((c.tc : Thread Cert.CtxIdeal.nD Cert.CtxIdeal.τ).loc Cert.CtxIdeal.main_arg2)
      ∧ r.2.mem ((c.tc : Thread Cert.CtxIdeal.nD Cert.CtxIdeal.τ).loc Cert.CtxIdeal.main_arg3) = m ((c.tc : Thread Cert.CtxIdeal.nD Cert.CtxIdeal.τ).loc Cert.CtxIdeal.main_arg3))
      ∧ r.2.sem = fun _ => 0)

def quiescent_CtxRefIdeal [hCtxRefIdeal : Cert.CtxRefIdeal.Facts] : Prop :=
  ∀ (m : (ℓ : Loc Cert.CtxRefIdeal.nD Cert.CtxRefIdeal.τ Cert.CtxRefIdeal.sig) → Buf (Elt Ideal) ℓ) (g : Dev Cert.CtxRefIdeal.nD → PrngReg), Pre_CtxRefIdeal m →
    θ_run (Cert.CtxRefIdeal.defs (F := Ideal)) (onTc (τ := Cert.CtxRefIdeal.τ) (Cert.CtxRefIdeal.main (F := Ideal))) ⟨m, fun _ => 0, g⟩ (fun r => (∀ c : Dev Cert.CtxRefIdeal.nD,
      r.2.mem ((c.tc : Thread Cert.CtxRefIdeal.nD Cert.CtxRefIdeal.τ).loc Cert.CtxRefIdeal.main_arg0) = m ((c.tc : Thread Cert.CtxRefIdeal.nD Cert.CtxRefIdeal.τ).loc Cert.CtxRefIdeal.main_arg0)
      ∧ r.2.mem ((c.tc : Thread Cert.CtxRefIdeal.nD Cert.CtxRefIdeal.τ).loc Cert.CtxRefIdeal.main_arg1) = m ((c.tc : Thread Cert.CtxRefIdeal.nD Cert.CtxRefIdeal.τ).loc Cert.CtxRefIdeal.main_arg1)
      ∧ r.2.mem ((c.tc : Thread Cert.CtxRefIdeal.nD Cert.CtxRefIdeal.τ).loc Cert.CtxRefIdeal.main_arg2) = m ((c.tc : Thread Cert.CtxRefIdeal.nD Cert.CtxRefIdeal.τ).loc Cert.CtxRefIdeal.main_arg2)
      ∧ r.2.mem ((c.tc : Thread Cert.CtxRefIdeal.nD Cert.CtxRefIdeal.τ).loc Cert.CtxRefIdeal.main_arg3) = m ((c.tc : Thread Cert.CtxRefIdeal.nD Cert.CtxRefIdeal.τ).loc Cert.CtxRefIdeal.main_arg3))
      ∧ r.2.sem = fun _ => 0)

def quiescent_CtxRefIdeal_pre_ctx_finite [hCtxRefIdeal : Cert.CtxRefIdeal.Facts] [hPre_ctx_finite : Cert.Pre_ctx_finite.Facts] : Prop :=
  ∀ (m : (ℓ : Loc Cert.CtxRefIdeal.nD Cert.CtxRefIdeal.τ Cert.CtxRefIdeal.sig) → Buf (Elt Ideal) ℓ) (g : Dev Cert.CtxRefIdeal.nD → PrngReg), Pre_CtxRefIdeal_ctx_finite m →
    θ_run (Cert.CtxRefIdeal.defs (F := Ideal)) (onTc (τ := Cert.CtxRefIdeal.τ) (Cert.CtxRefIdeal.main (F := Ideal))) ⟨m, fun _ => 0, g⟩ (fun r => (∀ c : Dev Cert.CtxRefIdeal.nD,
      r.2.mem ((c.tc : Thread Cert.CtxRefIdeal.nD Cert.CtxRefIdeal.τ).loc Cert.CtxRefIdeal.main_arg0) = m ((c.tc : Thread Cert.CtxRefIdeal.nD Cert.CtxRefIdeal.τ).loc Cert.CtxRefIdeal.main_arg0)
      ∧ r.2.mem ((c.tc : Thread Cert.CtxRefIdeal.nD Cert.CtxRefIdeal.τ).loc Cert.CtxRefIdeal.main_arg1) = m ((c.tc : Thread Cert.CtxRefIdeal.nD Cert.CtxRefIdeal.τ).loc Cert.CtxRefIdeal.main_arg1)
      ∧ r.2.mem ((c.tc : Thread Cert.CtxRefIdeal.nD Cert.CtxRefIdeal.τ).loc Cert.CtxRefIdeal.main_arg2) = m ((c.tc : Thread Cert.CtxRefIdeal.nD Cert.CtxRefIdeal.τ).loc Cert.CtxRefIdeal.main_arg2)
      ∧ r.2.mem ((c.tc : Thread Cert.CtxRefIdeal.nD Cert.CtxRefIdeal.τ).loc Cert.CtxRefIdeal.main_arg3) = m ((c.tc : Thread Cert.CtxRefIdeal.nD Cert.CtxRefIdeal.τ).loc Cert.CtxRefIdeal.main_arg3))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2)
      ∧ r.2.mem ((c.tc : Thread Cert.Proj.nD Cert.Proj.τ).loc Cert.Proj.main_arg3) = m ((c.tc : Thread Cert.Proj.nD Cert.Proj.τ).loc Cert.Proj.main_arg3)
      ∧ r.2.mem ((c.tc : Thread Cert.Proj.nD Cert.Proj.τ).loc Cert.Proj.main_arg4) = m ((c.tc : Thread Cert.Proj.nD Cert.Proj.τ).loc Cert.Proj.main_arg4)
      ∧ r.2.mem ((c.tc : Thread Cert.Proj.nD Cert.Proj.τ).loc Cert.Proj.main_arg5) = m ((c.tc : Thread Cert.Proj.nD Cert.Proj.τ).loc Cert.Proj.main_arg5)
      ∧ r.2.mem ((c.tc : Thread Cert.Proj.nD Cert.Proj.τ).loc Cert.Proj.main_arg6) = m ((c.tc : Thread Cert.Proj.nD Cert.Proj.τ).loc Cert.Proj.main_arg6)
      ∧ r.2.mem ((c.tc : Thread Cert.Proj.nD Cert.Proj.τ).loc Cert.Proj.main_arg7) = m ((c.tc : Thread Cert.Proj.nD Cert.Proj.τ).loc Cert.Proj.main_arg7))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
      ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
      ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5)
      ∧ r.2.mem ((c.tc : Thread Cert.ProjIdeal.nD Cert.ProjIdeal.τ).loc Cert.ProjIdeal.main_arg6) = m ((c.tc : Thread Cert.ProjIdeal.nD Cert.ProjIdeal.τ).loc Cert.ProjIdeal.main_arg6)
      ∧ r.2.mem ((c.tc : Thread Cert.ProjIdeal.nD Cert.ProjIdeal.τ).loc Cert.ProjIdeal.main_arg7) = m ((c.tc : Thread Cert.ProjIdeal.nD Cert.ProjIdeal.τ).loc Cert.ProjIdeal.main_arg7))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2)
      ∧ r.2.mem ((c.tc : Thread Cert.ProjRefIdeal.nD Cert.ProjRefIdeal.τ).loc Cert.ProjRefIdeal.main_arg3) = m ((c.tc : Thread Cert.ProjRefIdeal.nD Cert.ProjRefIdeal.τ).loc Cert.ProjRefIdeal.main_arg3)
      ∧ r.2.mem ((c.tc : Thread Cert.ProjRefIdeal.nD Cert.ProjRefIdeal.τ).loc Cert.ProjRefIdeal.main_arg4) = m ((c.tc : Thread Cert.ProjRefIdeal.nD Cert.ProjRefIdeal.τ).loc Cert.ProjRefIdeal.main_arg4)
      ∧ r.2.mem ((c.tc : Thread Cert.ProjRefIdeal.nD Cert.ProjRefIdeal.τ).loc Cert.ProjRefIdeal.main_arg5) = m ((c.tc : Thread Cert.ProjRefIdeal.nD Cert.ProjRefIdeal.τ).loc Cert.ProjRefIdeal.main_arg5)
      ∧ r.2.mem ((c.tc : Thread Cert.ProjRefIdeal.nD Cert.ProjRefIdeal.τ).loc Cert.ProjRefIdeal.main_arg6) = m ((c.tc : Thread Cert.ProjRefIdeal.nD Cert.ProjRefIdeal.τ).loc Cert.ProjRefIdeal.main_arg6)
      ∧ r.2.mem ((c.tc : Thread Cert.ProjRefIdeal.nD Cert.ProjRefIdeal.τ).loc Cert.ProjRefIdeal.main_arg7) = m ((c.tc : Thread Cert.ProjRefIdeal.nD Cert.ProjRefIdeal.τ).loc Cert.ProjRefIdeal.main_arg7))
      ∧ r.2.sem = fun _ => 0)

def quiescent_Moe [hMoe : Cert.Moe.Facts] : Prop :=
  ∀ (m : (ℓ : Loc Cert.Moe.nD Cert.Moe.τ Cert.Moe.sig) → Buf (Elt Bits) ℓ) (g : Dev Cert.Moe.nD → PrngReg), Pre_Moe m →
    θ_run (Cert.Moe.defs (F := Bits)) (onTc (τ := Cert.Moe.τ) (Cert.Moe.main (F := Bits))) ⟨m, fun _ => 0, g⟩ (fun r => (∀ c : Dev Cert.Moe.nD,
      r.2.mem ((c.tc : Thread Cert.Moe.nD Cert.Moe.τ).loc Cert.Moe.main_arg0) = m ((c.tc : Thread Cert.Moe.nD Cert.Moe.τ).loc Cert.Moe.main_arg0)
      ∧ r.2.mem ((c.tc : Thread Cert.Moe.nD Cert.Moe.τ).loc Cert.Moe.main_arg1) = m ((c.tc : Thread Cert.Moe.nD Cert.Moe.τ).loc Cert.Moe.main_arg1)
      ∧ r.2.mem ((c.tc : Thread Cert.Moe.nD Cert.Moe.τ).loc Cert.Moe.main_arg2) = m ((c.tc : Thread Cert.Moe.nD Cert.Moe.τ).loc Cert.Moe.main_arg2)
      ∧ r.2.mem ((c.tc : Thread Cert.Moe.nD Cert.Moe.τ).loc Cert.Moe.main_arg3) = m ((c.tc : Thread Cert.Moe.nD Cert.Moe.τ).loc Cert.Moe.main_arg3)
      ∧ r.2.mem ((c.tc : Thread Cert.Moe.nD Cert.Moe.τ).loc Cert.Moe.main_arg4) = m ((c.tc : Thread Cert.Moe.nD Cert.Moe.τ).loc Cert.Moe.main_arg4)
      ∧ r.2.mem ((c.tc : Thread Cert.Moe.nD Cert.Moe.τ).loc Cert.Moe.main_arg5) = m ((c.tc : Thread Cert.Moe.nD Cert.Moe.τ).loc Cert.Moe.main_arg5)
      ∧ r.2.mem ((c.tc : Thread Cert.Moe.nD Cert.Moe.τ).loc Cert.Moe.main_arg6) = m ((c.tc : Thread Cert.Moe.nD Cert.Moe.τ).loc Cert.Moe.main_arg6)
      ∧ r.2.mem ((c.tc : Thread Cert.Moe.nD Cert.Moe.τ).loc Cert.Moe.main_arg7) = m ((c.tc : Thread Cert.Moe.nD Cert.Moe.τ).loc Cert.Moe.main_arg7))
      ∧ r.2.sem = fun _ => 0)

def quiescent_MoeIdeal [hMoeIdeal : Cert.MoeIdeal.Facts] : Prop :=
  ∀ (m : (ℓ : Loc Cert.MoeIdeal.nD Cert.MoeIdeal.τ Cert.MoeIdeal.sig) → Buf (Elt Ideal) ℓ) (g : Dev Cert.MoeIdeal.nD → PrngReg), Pre_MoeIdeal m →
    θ_run (Cert.MoeIdeal.defs (F := Ideal)) (onTc (τ := Cert.MoeIdeal.τ) (Cert.MoeIdeal.main (F := Ideal))) ⟨m, fun _ => 0, g⟩ (fun r => (∀ c : Dev Cert.MoeIdeal.nD,
      r.2.mem ((c.tc : Thread Cert.MoeIdeal.nD Cert.MoeIdeal.τ).loc Cert.MoeIdeal.main_arg0) = m ((c.tc : Thread Cert.MoeIdeal.nD Cert.MoeIdeal.τ).loc Cert.MoeIdeal.main_arg0)
      ∧ r.2.mem ((c.tc : Thread Cert.MoeIdeal.nD Cert.MoeIdeal.τ).loc Cert.MoeIdeal.main_arg1) = m ((c.tc : Thread Cert.MoeIdeal.nD Cert.MoeIdeal.τ).loc Cert.MoeIdeal.main_arg1)
      ∧ r.2.mem ((c.tc : Thread Cert.MoeIdeal.nD Cert.MoeIdeal.τ).loc Cert.MoeIdeal.main_arg2) = m ((c.tc : Thread Cert.MoeIdeal.nD Cert.MoeIdeal.τ).loc Cert.MoeIdeal.main_arg2)
      ∧ r.2.mem ((c.tc : Thread Cert.MoeIdeal.nD Cert.MoeIdeal.τ).loc Cert.MoeIdeal.main_arg3) = m ((c.tc : Thread Cert.MoeIdeal.nD Cert.MoeIdeal.τ).loc Cert.MoeIdeal.main_arg3)
      ∧ r.2.mem ((c.tc : Thread Cert.MoeIdeal.nD Cert.MoeIdeal.τ).loc Cert.MoeIdeal.main_arg4) = m ((c.tc : Thread Cert.MoeIdeal.nD Cert.MoeIdeal.τ).loc Cert.MoeIdeal.main_arg4)
      ∧ r.2.mem ((c.tc : Thread Cert.MoeIdeal.nD Cert.MoeIdeal.τ).loc Cert.MoeIdeal.main_arg5) = m ((c.tc : Thread Cert.MoeIdeal.nD Cert.MoeIdeal.τ).loc Cert.MoeIdeal.main_arg5)
      ∧ r.2.mem ((c.tc : Thread Cert.MoeIdeal.nD Cert.MoeIdeal.τ).loc Cert.MoeIdeal.main_arg6) = m ((c.tc : Thread Cert.MoeIdeal.nD Cert.MoeIdeal.τ).loc Cert.MoeIdeal.main_arg6)
      ∧ r.2.mem ((c.tc : Thread Cert.MoeIdeal.nD Cert.MoeIdeal.τ).loc Cert.MoeIdeal.main_arg7) = m ((c.tc : Thread Cert.MoeIdeal.nD Cert.MoeIdeal.τ).loc Cert.MoeIdeal.main_arg7))
      ∧ r.2.sem = fun _ => 0)

def quiescent_MoeIdeal_pre_moe_finite [hMoeIdeal : Cert.MoeIdeal.Facts] [hPre_moe_finite : Cert.Pre_moe_finite.Facts] : Prop :=
  ∀ (m : (ℓ : Loc Cert.MoeIdeal.nD Cert.MoeIdeal.τ Cert.MoeIdeal.sig) → Buf (Elt Ideal) ℓ) (g : Dev Cert.MoeIdeal.nD → PrngReg), Pre_MoeIdeal_moe_finite m →
    θ_run (Cert.MoeIdeal.defs (F := Ideal)) (onTc (τ := Cert.MoeIdeal.τ) (Cert.MoeIdeal.main (F := Ideal))) ⟨m, fun _ => 0, g⟩ (fun r => (∀ c : Dev Cert.MoeIdeal.nD,
      r.2.mem ((c.tc : Thread Cert.MoeIdeal.nD Cert.MoeIdeal.τ).loc Cert.MoeIdeal.main_arg0) = m ((c.tc : Thread Cert.MoeIdeal.nD Cert.MoeIdeal.τ).loc Cert.MoeIdeal.main_arg0)
      ∧ r.2.mem ((c.tc : Thread Cert.MoeIdeal.nD Cert.MoeIdeal.τ).loc Cert.MoeIdeal.main_arg1) = m ((c.tc : Thread Cert.MoeIdeal.nD Cert.MoeIdeal.τ).loc Cert.MoeIdeal.main_arg1)
      ∧ r.2.mem ((c.tc : Thread Cert.MoeIdeal.nD Cert.MoeIdeal.τ).loc Cert.MoeIdeal.main_arg2) = m ((c.tc : Thread Cert.MoeIdeal.nD Cert.MoeIdeal.τ).loc Cert.MoeIdeal.main_arg2)
      ∧ r.2.mem ((c.tc : Thread Cert.MoeIdeal.nD Cert.MoeIdeal.τ).loc Cert.MoeIdeal.main_arg3) = m ((c.tc : Thread Cert.MoeIdeal.nD Cert.MoeIdeal.τ).loc Cert.MoeIdeal.main_arg3)
      ∧ r.2.mem ((c.tc : Thread Cert.MoeIdeal.nD Cert.MoeIdeal.τ).loc Cert.MoeIdeal.main_arg4) = m ((c.tc : Thread Cert.MoeIdeal.nD Cert.MoeIdeal.τ).loc Cert.MoeIdeal.main_arg4)
      ∧ r.2.mem ((c.tc : Thread Cert.MoeIdeal.nD Cert.MoeIdeal.τ).loc Cert.MoeIdeal.main_arg5) = m ((c.tc : Thread Cert.MoeIdeal.nD Cert.MoeIdeal.τ).loc Cert.MoeIdeal.main_arg5)
      ∧ r.2.mem ((c.tc : Thread Cert.MoeIdeal.nD Cert.MoeIdeal.τ).loc Cert.MoeIdeal.main_arg6) = m ((c.tc : Thread Cert.MoeIdeal.nD Cert.MoeIdeal.τ).loc Cert.MoeIdeal.main_arg6)
      ∧ r.2.mem ((c.tc : Thread Cert.MoeIdeal.nD Cert.MoeIdeal.τ).loc Cert.MoeIdeal.main_arg7) = m ((c.tc : Thread Cert.MoeIdeal.nD Cert.MoeIdeal.τ).loc Cert.MoeIdeal.main_arg7))
      ∧ r.2.sem = fun _ => 0)

def quiescent_MoeRefIdeal [hMoeRefIdeal : Cert.MoeRefIdeal.Facts] : Prop :=
  ∀ (m : (ℓ : Loc Cert.MoeRefIdeal.nD Cert.MoeRefIdeal.τ Cert.MoeRefIdeal.sig) → Buf (Elt Ideal) ℓ) (g : Dev Cert.MoeRefIdeal.nD → PrngReg), Pre_MoeRefIdeal m →
    θ_run (Cert.MoeRefIdeal.defs (F := Ideal)) (onTc (τ := Cert.MoeRefIdeal.τ) (Cert.MoeRefIdeal.main (F := Ideal))) ⟨m, fun _ => 0, g⟩ (fun r => (∀ c : Dev Cert.MoeRefIdeal.nD,
      r.2.mem ((c.tc : Thread Cert.MoeRefIdeal.nD Cert.MoeRefIdeal.τ).loc Cert.MoeRefIdeal.main_arg0) = m ((c.tc : Thread Cert.MoeRefIdeal.nD Cert.MoeRefIdeal.τ).loc Cert.MoeRefIdeal.main_arg0)
      ∧ r.2.mem ((c.tc : Thread Cert.MoeRefIdeal.nD Cert.MoeRefIdeal.τ).loc Cert.MoeRefIdeal.main_arg1) = m ((c.tc : Thread Cert.MoeRefIdeal.nD Cert.MoeRefIdeal.τ).loc Cert.MoeRefIdeal.main_arg1)
      ∧ r.2.mem ((c.tc : Thread Cert.MoeRefIdeal.nD Cert.MoeRefIdeal.τ).loc Cert.MoeRefIdeal.main_arg2) = m ((c.tc : Thread Cert.MoeRefIdeal.nD Cert.MoeRefIdeal.τ).loc Cert.MoeRefIdeal.main_arg2)
      ∧ r.2.mem ((c.tc : Thread Cert.MoeRefIdeal.nD Cert.MoeRefIdeal.τ).loc Cert.MoeRefIdeal.main_arg3) = m ((c.tc : Thread Cert.MoeRefIdeal.nD Cert.MoeRefIdeal.τ).loc Cert.MoeRefIdeal.main_arg3)
      ∧ r.2.mem ((c.tc : Thread Cert.MoeRefIdeal.nD Cert.MoeRefIdeal.τ).loc Cert.MoeRefIdeal.main_arg4) = m ((c.tc : Thread Cert.MoeRefIdeal.nD Cert.MoeRefIdeal.τ).loc Cert.MoeRefIdeal.main_arg4)
      ∧ r.2.mem ((c.tc : Thread Cert.MoeRefIdeal.nD Cert.MoeRefIdeal.τ).loc Cert.MoeRefIdeal.main_arg5) = m ((c.tc : Thread Cert.MoeRefIdeal.nD Cert.MoeRefIdeal.τ).loc Cert.MoeRefIdeal.main_arg5)
      ∧ r.2.mem ((c.tc : Thread Cert.MoeRefIdeal.nD Cert.MoeRefIdeal.τ).loc Cert.MoeRefIdeal.main_arg6) = m ((c.tc : Thread Cert.MoeRefIdeal.nD Cert.MoeRefIdeal.τ).loc Cert.MoeRefIdeal.main_arg6)
      ∧ r.2.mem ((c.tc : Thread Cert.MoeRefIdeal.nD Cert.MoeRefIdeal.τ).loc Cert.MoeRefIdeal.main_arg7) = m ((c.tc : Thread Cert.MoeRefIdeal.nD Cert.MoeRefIdeal.τ).loc Cert.MoeRefIdeal.main_arg7))
      ∧ r.2.sem = fun _ => 0)

def quiescent_MoeRefIdeal_pre_moe_finite [hMoeRefIdeal : Cert.MoeRefIdeal.Facts] [hPre_moe_finite : Cert.Pre_moe_finite.Facts] : Prop :=
  ∀ (m : (ℓ : Loc Cert.MoeRefIdeal.nD Cert.MoeRefIdeal.τ Cert.MoeRefIdeal.sig) → Buf (Elt Ideal) ℓ) (g : Dev Cert.MoeRefIdeal.nD → PrngReg), Pre_MoeRefIdeal_moe_finite m →
    θ_run (Cert.MoeRefIdeal.defs (F := Ideal)) (onTc (τ := Cert.MoeRefIdeal.τ) (Cert.MoeRefIdeal.main (F := Ideal))) ⟨m, fun _ => 0, g⟩ (fun r => (∀ c : Dev Cert.MoeRefIdeal.nD,
      r.2.mem ((c.tc : Thread Cert.MoeRefIdeal.nD Cert.MoeRefIdeal.τ).loc Cert.MoeRefIdeal.main_arg0) = m ((c.tc : Thread Cert.MoeRefIdeal.nD Cert.MoeRefIdeal.τ).loc Cert.MoeRefIdeal.main_arg0)
      ∧ r.2.mem ((c.tc : Thread Cert.MoeRefIdeal.nD Cert.MoeRefIdeal.τ).loc Cert.MoeRefIdeal.main_arg1) = m ((c.tc : Thread Cert.MoeRefIdeal.nD Cert.MoeRefIdeal.τ).loc Cert.MoeRefIdeal.main_arg1)
      ∧ r.2.mem ((c.tc : Thread Cert.MoeRefIdeal.nD Cert.MoeRefIdeal.τ).loc Cert.MoeRefIdeal.main_arg2) = m ((c.tc : Thread Cert.MoeRefIdeal.nD Cert.MoeRefIdeal.τ).loc Cert.MoeRefIdeal.main_arg2)
      ∧ r.2.mem ((c.tc : Thread Cert.MoeRefIdeal.nD Cert.MoeRefIdeal.τ).loc Cert.MoeRefIdeal.main_arg3) = m ((c.tc : Thread Cert.MoeRefIdeal.nD Cert.MoeRefIdeal.τ).loc Cert.MoeRefIdeal.main_arg3)
      ∧ r.2.mem ((c.tc : Thread Cert.MoeRefIdeal.nD Cert.MoeRefIdeal.τ).loc Cert.MoeRefIdeal.main_arg4) = m ((c.tc : Thread Cert.MoeRefIdeal.nD Cert.MoeRefIdeal.τ).loc Cert.MoeRefIdeal.main_arg4)
      ∧ r.2.mem ((c.tc : Thread Cert.MoeRefIdeal.nD Cert.MoeRefIdeal.τ).loc Cert.MoeRefIdeal.main_arg5) = m ((c.tc : Thread Cert.MoeRefIdeal.nD Cert.MoeRefIdeal.τ).loc Cert.MoeRefIdeal.main_arg5)
      ∧ r.2.mem ((c.tc : Thread Cert.MoeRefIdeal.nD Cert.MoeRefIdeal.τ).loc Cert.MoeRefIdeal.main_arg6) = m ((c.tc : Thread Cert.MoeRefIdeal.nD Cert.MoeRefIdeal.τ).loc Cert.MoeRefIdeal.main_arg6)
      ∧ r.2.mem ((c.tc : Thread Cert.MoeRefIdeal.nD Cert.MoeRefIdeal.τ).loc Cert.MoeRefIdeal.main_arg7) = m ((c.tc : Thread Cert.MoeRefIdeal.nD Cert.MoeRefIdeal.τ).loc Cert.MoeRefIdeal.main_arg7))
      ∧ r.2.sem = fun _ => 0)

def preserves_Ctx_CtxIdeal : Prop :=
  True

def algebraic_CtxIdeal_CtxRefIdeal_pre_ctx_finite [hCtxIdeal : Cert.CtxIdeal.Facts] [hCtxRefIdeal : Cert.CtxRefIdeal.Facts] [hPre_ctx_finite : Cert.Pre_ctx_finite.Facts] : Prop :=
  ∀ (m : (ℓ : Loc Cert.CtxIdeal.nD Cert.CtxIdeal.τ Cert.CtxIdeal.sig) → Buf (Elt Ideal) ℓ) (g : Dev Cert.CtxIdeal.nD → PrngReg)
    (m' : (ℓ : Loc Cert.CtxRefIdeal.nD Cert.CtxRefIdeal.τ Cert.CtxRefIdeal.sig) → Buf (Elt Ideal) ℓ) (g' : Dev Cert.CtxRefIdeal.nD → PrngReg), Pre_CtxIdeal_ctx_finite m →
    (∀ c : Dev Cert.CtxIdeal.nD,
      m' ((c.tc : Thread Cert.CtxRefIdeal.nD Cert.CtxRefIdeal.τ).loc Cert.CtxRefIdeal.main_arg0) = m ((c.tc : Thread Cert.CtxIdeal.nD Cert.CtxIdeal.τ).loc Cert.CtxIdeal.main_arg0)
      ∧ m' ((c.tc : Thread Cert.CtxRefIdeal.nD Cert.CtxRefIdeal.τ).loc Cert.CtxRefIdeal.main_arg1) = m ((c.tc : Thread Cert.CtxIdeal.nD Cert.CtxIdeal.τ).loc Cert.CtxIdeal.main_arg1)
      ∧ m' ((c.tc : Thread Cert.CtxRefIdeal.nD Cert.CtxRefIdeal.τ).loc Cert.CtxRefIdeal.main_arg2) = m ((c.tc : Thread Cert.CtxIdeal.nD Cert.CtxIdeal.τ).loc Cert.CtxIdeal.main_arg2)
      ∧ m' ((c.tc : Thread Cert.CtxRefIdeal.nD Cert.CtxRefIdeal.τ).loc Cert.CtxRefIdeal.main_arg3) = m ((c.tc : Thread Cert.CtxIdeal.nD Cert.CtxIdeal.τ).loc Cert.CtxIdeal.main_arg3)) →
    ∃ (v0 : (c : Dev Cert.CtxIdeal.nD) → Buf (Elt Ideal) ((c.tc : Thread Cert.CtxIdeal.nD Cert.CtxIdeal.τ).loc Cert.CtxIdeal.main_v13)),
      θ_run (Cert.CtxIdeal.defs (F := Ideal)) (onTc (τ := Cert.CtxIdeal.τ) (Cert.CtxIdeal.main (F := Ideal))) ⟨m, fun _ => 0, g⟩ (fun r => ∀ c : Dev Cert.CtxIdeal.nD,
          r.2.mem ((c.tc : Thread Cert.CtxIdeal.nD Cert.CtxIdeal.τ).loc Cert.CtxIdeal.main_v13) = v0 c
          ∧ r.2.mem ((c.tc : Thread Cert.CtxIdeal.nD Cert.CtxIdeal.τ).loc Cert.CtxIdeal.main_arg0) = m ((c.tc : Thread Cert.CtxIdeal.nD Cert.CtxIdeal.τ).loc Cert.CtxIdeal.main_arg0)
          ∧ r.2.mem ((c.tc : Thread Cert.CtxIdeal.nD Cert.CtxIdeal.τ).loc Cert.CtxIdeal.main_arg1) = m ((c.tc : Thread Cert.CtxIdeal.nD Cert.CtxIdeal.τ).loc Cert.CtxIdeal.main_arg1)
          ∧ r.2.mem ((c.tc : Thread Cert.CtxIdeal.nD Cert.CtxIdeal.τ).loc Cert.CtxIdeal.main_arg2) = m ((c.tc : Thread Cert.CtxIdeal.nD Cert.CtxIdeal.τ).loc Cert.CtxIdeal.main_arg2)
          ∧ r.2.mem ((c.tc : Thread Cert.CtxIdeal.nD Cert.CtxIdeal.τ).loc Cert.CtxIdeal.main_arg3) = m ((c.tc : Thread Cert.CtxIdeal.nD Cert.CtxIdeal.τ).loc Cert.CtxIdeal.main_arg3))
      ∧ θ_run (Cert.CtxRefIdeal.defs (F := Ideal)) (onTc (τ := Cert.CtxRefIdeal.τ) (Cert.CtxRefIdeal.main (F := Ideal))) ⟨m', fun _ => 0, g'⟩ (fun r => ∀ c : Dev Cert.CtxRefIdeal.nD,
          r.2.mem ((c.tc : Thread Cert.CtxRefIdeal.nD Cert.CtxRefIdeal.τ).loc Cert.CtxRefIdeal.main_v27) = v0 c
          ∧ r.2.mem ((c.tc : Thread Cert.CtxRefIdeal.nD Cert.CtxRefIdeal.τ).loc Cert.CtxRefIdeal.main_arg0) = m' ((c.tc : Thread Cert.CtxRefIdeal.nD Cert.CtxRefIdeal.τ).loc Cert.CtxRefIdeal.main_arg0)
          ∧ r.2.mem ((c.tc : Thread Cert.CtxRefIdeal.nD Cert.CtxRefIdeal.τ).loc Cert.CtxRefIdeal.main_arg1) = m' ((c.tc : Thread Cert.CtxRefIdeal.nD Cert.CtxRefIdeal.τ).loc Cert.CtxRefIdeal.main_arg1)
          ∧ r.2.mem ((c.tc : Thread Cert.CtxRefIdeal.nD Cert.CtxRefIdeal.τ).loc Cert.CtxRefIdeal.main_arg2) = m' ((c.tc : Thread Cert.CtxRefIdeal.nD Cert.CtxRefIdeal.τ).loc Cert.CtxRefIdeal.main_arg2)
          ∧ r.2.mem ((c.tc : Thread Cert.CtxRefIdeal.nD Cert.CtxRefIdeal.τ).loc Cert.CtxRefIdeal.main_arg3) = m' ((c.tc : Thread Cert.CtxRefIdeal.nD Cert.CtxRefIdeal.τ).loc Cert.CtxRefIdeal.main_arg3))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)) →
    ∃ (v0 : (c : Dev Cert.FfnIdeal.nD) → Buf (Elt Ideal) ((c.tc : Thread Cert.FfnIdeal.nD Cert.FfnIdeal.τ).loc Cert.FfnIdeal.main_v4)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v4) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v47) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)
      ∧ m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2)
      ∧ m' ((c.tc : Thread Cert.ProjRefIdeal.nD Cert.ProjRefIdeal.τ).loc Cert.ProjRefIdeal.main_arg3) = m ((c.tc : Thread Cert.ProjIdeal.nD Cert.ProjIdeal.τ).loc Cert.ProjIdeal.main_arg3)
      ∧ m' ((c.tc : Thread Cert.ProjRefIdeal.nD Cert.ProjRefIdeal.τ).loc Cert.ProjRefIdeal.main_arg4) = m ((c.tc : Thread Cert.ProjIdeal.nD Cert.ProjIdeal.τ).loc Cert.ProjIdeal.main_arg4)
      ∧ m' ((c.tc : Thread Cert.ProjRefIdeal.nD Cert.ProjRefIdeal.τ).loc Cert.ProjRefIdeal.main_arg5) = m ((c.tc : Thread Cert.ProjIdeal.nD Cert.ProjIdeal.τ).loc Cert.ProjIdeal.main_arg5)
      ∧ m' ((c.tc : Thread Cert.ProjRefIdeal.nD Cert.ProjRefIdeal.τ).loc Cert.ProjRefIdeal.main_arg6) = m ((c.tc : Thread Cert.ProjIdeal.nD Cert.ProjIdeal.τ).loc Cert.ProjIdeal.main_arg6)
      ∧ m' ((c.tc : Thread Cert.ProjRefIdeal.nD Cert.ProjRefIdeal.τ).loc Cert.ProjRefIdeal.main_arg7) = m ((c.tc : Thread Cert.ProjIdeal.nD Cert.ProjIdeal.τ).loc Cert.ProjIdeal.main_arg7)) →
    ∃ (v0 : (c : Dev Cert.ProjIdeal.nD) → Buf (Elt Ideal) ((c.tc : Thread Cert.ProjIdeal.nD Cert.ProjIdeal.τ).loc Cert.ProjIdeal.main_v36_0)) (v1 : (c : Dev Cert.ProjIdeal.nD) → Buf (Elt Ideal) ((c.tc : Thread Cert.ProjIdeal.nD Cert.ProjIdeal.τ).loc Cert.ProjIdeal.main_v36_1)) (v2 : (c : Dev Cert.ProjIdeal.nD) → Buf (Elt Ideal) ((c.tc : Thread Cert.ProjIdeal.nD Cert.ProjIdeal.τ).loc Cert.ProjIdeal.main_v36_2)) (v3 : (c : Dev Cert.ProjIdeal.nD) → Buf (Elt Ideal) ((c.tc : Thread Cert.ProjIdeal.nD Cert.ProjIdeal.τ).loc Cert.ProjIdeal.main_v36_3)) (v4 : (c : Dev Cert.ProjIdeal.nD) → Buf (Elt Ideal) ((c.tc : Thread Cert.ProjIdeal.nD Cert.ProjIdeal.τ).loc Cert.ProjIdeal.main_v36_4)) (v5 : (c : Dev Cert.ProjIdeal.nD) → Buf (Elt Ideal) ((c.tc : Thread Cert.ProjIdeal.nD Cert.ProjIdeal.τ).loc Cert.ProjIdeal.main_v36_5)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v36_0) = v0 c
          ∧ r.2.mem ((c.tc : Thread Cert.ProjIdeal.nD Cert.ProjIdeal.τ).loc Cert.ProjIdeal.main_v36_1) = v1 c
          ∧ r.2.mem ((c.tc : Thread Cert.ProjIdeal.nD Cert.ProjIdeal.τ).loc Cert.ProjIdeal.main_v36_2) = v2 c
          ∧ r.2.mem ((c.tc : Thread Cert.ProjIdeal.nD Cert.ProjIdeal.τ).loc Cert.ProjIdeal.main_v36_3) = v3 c
          ∧ r.2.mem ((c.tc : Thread Cert.ProjIdeal.nD Cert.ProjIdeal.τ).loc Cert.ProjIdeal.main_v36_4) = v4 c
          ∧ r.2.mem ((c.tc : Thread Cert.ProjIdeal.nD Cert.ProjIdeal.τ).loc Cert.ProjIdeal.main_v36_5) = v5 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
          ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
          ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
          ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5)
          ∧ r.2.mem ((c.tc : Thread Cert.ProjIdeal.nD Cert.ProjIdeal.τ).loc Cert.ProjIdeal.main_arg6) = m ((c.tc : Thread Cert.ProjIdeal.nD Cert.ProjIdeal.τ).loc Cert.ProjIdeal.main_arg6)
          ∧ r.2.mem ((c.tc : Thread Cert.ProjIdeal.nD Cert.ProjIdeal.τ).loc Cert.ProjIdeal.main_arg7) = m ((c.tc : Thread Cert.ProjIdeal.nD Cert.ProjIdeal.τ).loc Cert.ProjIdeal.main_arg7))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v156) = v0 c
          ∧ r.2.mem ((c.tc : Thread Cert.ProjRefIdeal.nD Cert.ProjRefIdeal.τ).loc Cert.ProjRefIdeal.main_v157) = v1 c
          ∧ r.2.mem ((c.tc : Thread Cert.ProjRefIdeal.nD Cert.ProjRefIdeal.τ).loc Cert.ProjRefIdeal.main_v158) = v2 c
          ∧ r.2.mem ((c.tc : Thread Cert.ProjRefIdeal.nD Cert.ProjRefIdeal.τ).loc Cert.ProjRefIdeal.main_v159) = v3 c
          ∧ r.2.mem ((c.tc : Thread Cert.ProjRefIdeal.nD Cert.ProjRefIdeal.τ).loc Cert.ProjRefIdeal.main_v160) = v4 c
          ∧ r.2.mem ((c.tc : Thread Cert.ProjRefIdeal.nD Cert.ProjRefIdeal.τ).loc Cert.ProjRefIdeal.main_v37) = v5 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1)
          ∧ r.2.mem ((c.tc : Thread Cert.ProjRefIdeal.nD Cert.ProjRefIdeal.τ).loc Cert.ProjRefIdeal.main_arg2) = m' ((c.tc : Thread Cert.ProjRefIdeal.nD Cert.ProjRefIdeal.τ).loc Cert.ProjRefIdeal.main_arg2)
          ∧ r.2.mem ((c.tc : Thread Cert.ProjRefIdeal.nD Cert.ProjRefIdeal.τ).loc Cert.ProjRefIdeal.main_arg3) = m' ((c.tc : Thread Cert.ProjRefIdeal.nD Cert.ProjRefIdeal.τ).loc Cert.ProjRefIdeal.main_arg3)
          ∧ r.2.mem ((c.tc : Thread Cert.ProjRefIdeal.nD Cert.ProjRefIdeal.τ).loc Cert.ProjRefIdeal.main_arg4) = m' ((c.tc : Thread Cert.ProjRefIdeal.nD Cert.ProjRefIdeal.τ).loc Cert.ProjRefIdeal.main_arg4)
          ∧ r.2.mem ((c.tc : Thread Cert.ProjRefIdeal.nD Cert.ProjRefIdeal.τ).loc Cert.ProjRefIdeal.main_arg5) = m' ((c.tc : Thread Cert.ProjRefIdeal.nD Cert.ProjRefIdeal.τ).loc Cert.ProjRefIdeal.main_arg5)
          ∧ r.2.mem ((c.tc : Thread Cert.ProjRefIdeal.nD Cert.ProjRefIdeal.τ).loc Cert.ProjRefIdeal.main_arg6) = m' ((c.tc : Thread Cert.ProjRefIdeal.nD Cert.ProjRefIdeal.τ).loc Cert.ProjRefIdeal.main_arg6)
          ∧ r.2.mem ((c.tc : Thread Cert.ProjRefIdeal.nD Cert.ProjRefIdeal.τ).loc Cert.ProjRefIdeal.main_arg7) = m' ((c.tc : Thread Cert.ProjRefIdeal.nD Cert.ProjRefIdeal.τ).loc Cert.ProjRefIdeal.main_arg7))

def preserves_Moe_MoeIdeal : Prop :=
  True

def algebraic_MoeIdeal_MoeRefIdeal_pre_moe_finite [hMoeIdeal : Cert.MoeIdeal.Facts] [hMoeRefIdeal : Cert.MoeRefIdeal.Facts] [hPre_moe_finite : Cert.Pre_moe_finite.Facts] : Prop :=
  ∀ (m : (ℓ : Loc Cert.MoeIdeal.nD Cert.MoeIdeal.τ Cert.MoeIdeal.sig) → Buf (Elt Ideal) ℓ) (g : Dev Cert.MoeIdeal.nD → PrngReg)
    (m' : (ℓ : Loc Cert.MoeRefIdeal.nD Cert.MoeRefIdeal.τ Cert.MoeRefIdeal.sig) → Buf (Elt Ideal) ℓ) (g' : Dev Cert.MoeRefIdeal.nD → PrngReg), Pre_MoeIdeal_moe_finite m →
    (∀ c : Dev Cert.MoeIdeal.nD,
      m' ((c.tc : Thread Cert.MoeRefIdeal.nD Cert.MoeRefIdeal.τ).loc Cert.MoeRefIdeal.main_arg0) = m ((c.tc : Thread Cert.MoeIdeal.nD Cert.MoeIdeal.τ).loc Cert.MoeIdeal.main_arg0)
      ∧ m' ((c.tc : Thread Cert.MoeRefIdeal.nD Cert.MoeRefIdeal.τ).loc Cert.MoeRefIdeal.main_arg1) = m ((c.tc : Thread Cert.MoeIdeal.nD Cert.MoeIdeal.τ).loc Cert.MoeIdeal.main_arg1)
      ∧ m' ((c.tc : Thread Cert.MoeRefIdeal.nD Cert.MoeRefIdeal.τ).loc Cert.MoeRefIdeal.main_arg2) = m ((c.tc : Thread Cert.MoeIdeal.nD Cert.MoeIdeal.τ).loc Cert.MoeIdeal.main_arg2)
      ∧ m' ((c.tc : Thread Cert.MoeRefIdeal.nD Cert.MoeRefIdeal.τ).loc Cert.MoeRefIdeal.main_arg3) = m ((c.tc : Thread Cert.MoeIdeal.nD Cert.MoeIdeal.τ).loc Cert.MoeIdeal.main_arg3)
      ∧ m' ((c.tc : Thread Cert.MoeRefIdeal.nD Cert.MoeRefIdeal.τ).loc Cert.MoeRefIdeal.main_arg4) = m ((c.tc : Thread Cert.MoeIdeal.nD Cert.MoeIdeal.τ).loc Cert.MoeIdeal.main_arg4)
      ∧ m' ((c.tc : Thread Cert.MoeRefIdeal.nD Cert.MoeRefIdeal.τ).loc Cert.MoeRefIdeal.main_arg5) = m ((c.tc : Thread Cert.MoeIdeal.nD Cert.MoeIdeal.τ).loc Cert.MoeIdeal.main_arg5)
      ∧ m' ((c.tc : Thread Cert.MoeRefIdeal.nD Cert.MoeRefIdeal.τ).loc Cert.MoeRefIdeal.main_arg6) = m ((c.tc : Thread Cert.MoeIdeal.nD Cert.MoeIdeal.τ).loc Cert.MoeIdeal.main_arg6)
      ∧ m' ((c.tc : Thread Cert.MoeRefIdeal.nD Cert.MoeRefIdeal.τ).loc Cert.MoeRefIdeal.main_arg7) = m ((c.tc : Thread Cert.MoeIdeal.nD Cert.MoeIdeal.τ).loc Cert.MoeIdeal.main_arg7)) →
    ∃ (v0 : (c : Dev Cert.MoeIdeal.nD) → Buf (Elt Ideal) ((c.tc : Thread Cert.MoeIdeal.nD Cert.MoeIdeal.τ).loc Cert.MoeIdeal.main_v13)),
      θ_run (Cert.MoeIdeal.defs (F := Ideal)) (onTc (τ := Cert.MoeIdeal.τ) (Cert.MoeIdeal.main (F := Ideal))) ⟨m, fun _ => 0, g⟩ (fun r => ∀ c : Dev Cert.MoeIdeal.nD,
          r.2.mem ((c.tc : Thread Cert.MoeIdeal.nD Cert.MoeIdeal.τ).loc Cert.MoeIdeal.main_v13) = v0 c
          ∧ r.2.mem ((c.tc : Thread Cert.MoeIdeal.nD Cert.MoeIdeal.τ).loc Cert.MoeIdeal.main_arg0) = m ((c.tc : Thread Cert.MoeIdeal.nD Cert.MoeIdeal.τ).loc Cert.MoeIdeal.main_arg0)
          ∧ r.2.mem ((c.tc : Thread Cert.MoeIdeal.nD Cert.MoeIdeal.τ).loc Cert.MoeIdeal.main_arg1) = m ((c.tc : Thread Cert.MoeIdeal.nD Cert.MoeIdeal.τ).loc Cert.MoeIdeal.main_arg1)
          ∧ r.2.mem ((c.tc : Thread Cert.MoeIdeal.nD Cert.MoeIdeal.τ).loc Cert.MoeIdeal.main_arg2) = m ((c.tc : Thread Cert.MoeIdeal.nD Cert.MoeIdeal.τ).loc Cert.MoeIdeal.main_arg2)
          ∧ r.2.mem ((c.tc : Thread Cert.MoeIdeal.nD Cert.MoeIdeal.τ).loc Cert.MoeIdeal.main_arg3) = m ((c.tc : Thread Cert.MoeIdeal.nD Cert.MoeIdeal.τ).loc Cert.MoeIdeal.main_arg3)
          ∧ r.2.mem ((c.tc : Thread Cert.MoeIdeal.nD Cert.MoeIdeal.τ).loc Cert.MoeIdeal.main_arg4) = m ((c.tc : Thread Cert.MoeIdeal.nD Cert.MoeIdeal.τ).loc Cert.MoeIdeal.main_arg4)
          ∧ r.2.mem ((c.tc : Thread Cert.MoeIdeal.nD Cert.MoeIdeal.τ).loc Cert.MoeIdeal.main_arg5) = m ((c.tc : Thread Cert.MoeIdeal.nD Cert.MoeIdeal.τ).loc Cert.MoeIdeal.main_arg5)
          ∧ r.2.mem ((c.tc : Thread Cert.MoeIdeal.nD Cert.MoeIdeal.τ).loc Cert.MoeIdeal.main_arg6) = m ((c.tc : Thread Cert.MoeIdeal.nD Cert.MoeIdeal.τ).loc Cert.MoeIdeal.main_arg6)
          ∧ r.2.mem ((c.tc : Thread Cert.MoeIdeal.nD Cert.MoeIdeal.τ).loc Cert.MoeIdeal.main_arg7) = m ((c.tc : Thread Cert.MoeIdeal.nD Cert.MoeIdeal.τ).loc Cert.MoeIdeal.main_arg7))
      ∧ θ_run (Cert.MoeRefIdeal.defs (F := Ideal)) (onTc (τ := Cert.MoeRefIdeal.τ) (Cert.MoeRefIdeal.main (F := Ideal))) ⟨m', fun _ => 0, g'⟩ (fun r => ∀ c : Dev Cert.MoeRefIdeal.nD,
          r.2.mem ((c.tc : Thread Cert.MoeRefIdeal.nD Cert.MoeRefIdeal.τ).loc Cert.MoeRefIdeal.main_v71) = v0 c
          ∧ r.2.mem ((c.tc : Thread Cert.MoeRefIdeal.nD Cert.MoeRefIdeal.τ).loc Cert.MoeRefIdeal.main_arg0) = m' ((c.tc : Thread Cert.MoeRefIdeal.nD Cert.MoeRefIdeal.τ).loc Cert.MoeRefIdeal.main_arg0)
          ∧ r.2.mem ((c.tc : Thread Cert.MoeRefIdeal.nD Cert.MoeRefIdeal.τ).loc Cert.MoeRefIdeal.main_arg1) = m' ((c.tc : Thread Cert.MoeRefIdeal.nD Cert.MoeRefIdeal.τ).loc Cert.MoeRefIdeal.main_arg1)
          ∧ r.2.mem ((c.tc : Thread Cert.MoeRefIdeal.nD Cert.MoeRefIdeal.τ).loc Cert.MoeRefIdeal.main_arg2) = m' ((c.tc : Thread Cert.MoeRefIdeal.nD Cert.MoeRefIdeal.τ).loc Cert.MoeRefIdeal.main_arg2)
          ∧ r.2.mem ((c.tc : Thread Cert.MoeRefIdeal.nD Cert.MoeRefIdeal.τ).loc Cert.MoeRefIdeal.main_arg3) = m' ((c.tc : Thread Cert.MoeRefIdeal.nD Cert.MoeRefIdeal.τ).loc Cert.MoeRefIdeal.main_arg3)
          ∧ r.2.mem ((c.tc : Thread Cert.MoeRefIdeal.nD Cert.MoeRefIdeal.τ).loc Cert.MoeRefIdeal.main_arg4) = m' ((c.tc : Thread Cert.MoeRefIdeal.nD Cert.MoeRefIdeal.τ).loc Cert.MoeRefIdeal.main_arg4)
          ∧ r.2.mem ((c.tc : Thread Cert.MoeRefIdeal.nD Cert.MoeRefIdeal.τ).loc Cert.MoeRefIdeal.main_arg5) = m' ((c.tc : Thread Cert.MoeRefIdeal.nD Cert.MoeRefIdeal.τ).loc Cert.MoeRefIdeal.main_arg5)
          ∧ r.2.mem ((c.tc : Thread Cert.MoeRefIdeal.nD Cert.MoeRefIdeal.τ).loc Cert.MoeRefIdeal.main_arg6) = m' ((c.tc : Thread Cert.MoeRefIdeal.nD Cert.MoeRefIdeal.τ).loc Cert.MoeRefIdeal.main_arg6)
          ∧ r.2.mem ((c.tc : Thread Cert.MoeRefIdeal.nD Cert.MoeRefIdeal.τ).loc Cert.MoeRefIdeal.main_arg7) = m' ((c.tc : Thread Cert.MoeRefIdeal.nD Cert.MoeRefIdeal.τ).loc Cert.MoeRefIdeal.main_arg7))

def Claim : Prop :=
  ∃ (hCtx : Cert.Ctx.Facts) (hCtxIdeal : Cert.CtxIdeal.Facts) (hCtxRefIdeal : Cert.CtxRefIdeal.Facts) (hFfn : Cert.Ffn.Facts) (hFfnIdeal : Cert.FfnIdeal.Facts) (hFfnRefIdeal : Cert.FfnRefIdeal.Facts) (hProj : Cert.Proj.Facts) (hProjIdeal : Cert.ProjIdeal.Facts) (hProjRefIdeal : Cert.ProjRefIdeal.Facts) (hMoe : Cert.Moe.Facts) (hMoeIdeal : Cert.MoeIdeal.Facts) (hMoeRefIdeal : Cert.MoeRefIdeal.Facts) (hPre_ctx_finite : Cert.Pre_ctx_finite.Facts) (hPre_moe_finite : Cert.Pre_moe_finite.Facts),
    quiescent_Ctx (hCtx := hCtx)
    ∧ quiescent_CtxIdeal (hCtxIdeal := hCtxIdeal)
    ∧ quiescent_CtxIdeal_pre_ctx_finite (hCtxIdeal := hCtxIdeal) (hPre_ctx_finite := hPre_ctx_finite)
    ∧ quiescent_CtxRefIdeal (hCtxRefIdeal := hCtxRefIdeal)
    ∧ quiescent_CtxRefIdeal_pre_ctx_finite (hCtxRefIdeal := hCtxRefIdeal) (hPre_ctx_finite := hPre_ctx_finite)
    ∧ quiescent_Ffn (hFfn := hFfn)
    ∧ quiescent_FfnIdeal (hFfnIdeal := hFfnIdeal)
    ∧ quiescent_FfnRefIdeal (hFfnRefIdeal := hFfnRefIdeal)
    ∧ quiescent_Proj (hProj := hProj)
    ∧ quiescent_ProjIdeal (hProjIdeal := hProjIdeal)
    ∧ quiescent_ProjRefIdeal (hProjRefIdeal := hProjRefIdeal)
    ∧ quiescent_Moe (hMoe := hMoe)
    ∧ quiescent_MoeIdeal (hMoeIdeal := hMoeIdeal)
    ∧ quiescent_MoeIdeal_pre_moe_finite (hMoeIdeal := hMoeIdeal) (hPre_moe_finite := hPre_moe_finite)
    ∧ quiescent_MoeRefIdeal (hMoeRefIdeal := hMoeRefIdeal)
    ∧ quiescent_MoeRefIdeal_pre_moe_finite (hMoeRefIdeal := hMoeRefIdeal) (hPre_moe_finite := hPre_moe_finite)
    ∧ preserves_Ctx_CtxIdeal
    ∧ algebraic_CtxIdeal_CtxRefIdeal_pre_ctx_finite (hCtxIdeal := hCtxIdeal) (hCtxRefIdeal := hCtxRefIdeal) (hPre_ctx_finite := hPre_ctx_finite)
    ∧ preserves_Ffn_FfnIdeal
    ∧ algebraic_FfnIdeal_FfnRefIdeal (hFfnIdeal := hFfnIdeal) (hFfnRefIdeal := hFfnRefIdeal)
    ∧ preserves_Proj_ProjIdeal
    ∧ algebraic_ProjIdeal_ProjRefIdeal (hProjIdeal := hProjIdeal) (hProjRefIdeal := hProjRefIdeal)
    ∧ preserves_Moe_MoeIdeal
    ∧ algebraic_MoeIdeal_MoeRefIdeal_pre_moe_finite (hMoeIdeal := hMoeIdeal) (hMoeRefIdeal := hMoeRefIdeal) (hPre_moe_finite := hPre_moe_finite)
-- ==== Pre_ctx_finite.lean ====
abbrev S8 : Shape := ⟨1, ![8]⟩
abbrev S24576x512 : Shape := ⟨2, ![24576, 512]⟩
abbrev S24576x128 : Shape := ⟨2, ![24576, 128]⟩
abbrev S_ : Shape := ⟨0, ![]⟩

class Facts : Prop where
  bcast_S_S8 : S_.BroadcastsInDim S8 (![] : Fin 0 → Fin S8.rank)
  reducesTo_S8_S_d0 : S8.ReducesTo [0] S_
  h_S_ : 0 < S_.numel
  bcast_S_S24576x512 : S_.BroadcastsInDim S24576x512 (![] : Fin 0 → Fin S24576x512.rank)
  reducesTo_S24576x512_S_d0_1 : S24576x512.ReducesTo [0, 1] S_
  bcast_S_S24576x128 : S_.BroadcastsInDim S24576x128 (![] : Fin 0 → Fin S24576x128.rank)
  reducesTo_S24576x128_S_d0_1 : S24576x128.ReducesTo [0, 1] S_

variable [Facts]

def fn {F : FTy → Type} [FloatOps F] (main_arg0 : FVec F S8 .f32) (main_arg1 : FVec F S24576x512 .f32) (main_arg2 : FVec F S24576x128 .f32) (main_arg3 : FVec F S24576x128 .f32) : IVec S_ 1 :=
  let main_v0 : FVec F S8 .f32 := Host.absf main_arg0
  let main_cst : FVec F S_ .f32 := constant S_ .f32 0x7F800000#32
  let main_v1 : FVec F S8 .f32 := broadcastInDim S8 ![] bcast_S_S8 main_cst
  let main_v2 : IVec S8 1 := cmpf .olt main_v0 main_v1
  let main_c : IVec S_ 1 := constantI S_ 1 1#1
  let main_v3 : IVec S_ 1 := (fun x v => Host.reduce IntOp.andi x v reducesTo_S8_S_d0 h_S_) main_v2 main_c
  let main_v4 : FVec F S24576x512 .f32 := Host.absf main_arg1
  let main_cst_0 : FVec F S_ .f32 := constant S_ .f32 0x7F800000#32
  let main_v5 : FVec F S24576x512 .f32 := broadcastInDim S24576x512 ![] bcast_S_S24576x512 main_cst_0
  let main_v6 : IVec S24576x512 1 := cmpf .olt main_v4 main_v5
  let main_c_1 : IVec S_ 1 := constantI S_ 1 1#1
  let main_v7 : IVec S_ 1 := (fun x v => Host.reduce IntOp.andi x v reducesTo_S24576x512_S_d0_1 h_S_) main_v6 main_c_1
  let main_v8 : IVec S_ 1 := andi main_v3 main_v7
  let main_v9 : FVec F S24576x128 .f32 := Host.absf main_arg2
  let main_cst_2 : FVec F S_ .f32 := constant S_ .f32 0x7F800000#32
  let main_v10 : FVec F S24576x128 .f32 := broadcastInDim S24576x128 ![] bcast_S_S24576x128 main_cst_2
  let main_v11 : IVec S24576x128 1 := cmpf .olt main_v9 main_v10
  let main_c_3 : IVec S_ 1 := constantI S_ 1 1#1
  let main_v12 : IVec S_ 1 := (fun x v => Host.reduce IntOp.andi x v reducesTo_S24576x128_S_d0_1 h_S_) main_v11 main_c_3
  let main_v13 : IVec S_ 1 := andi main_v8 main_v12
  main_v13
-- ==== Pre_moe_finite.lean ====
abbrev S24576x1024 : Shape := ⟨2, ![24576, 1024]⟩
abbrev S4x8x6x1x1024 : Shape := ⟨5, ![4, 8, 6, 1, 1024]⟩
abbrev S1024 : Shape := ⟨1, ![1024]⟩
abbrev S1024x8 : Shape := ⟨2, ![1024, 8]⟩
abbrev S8 : Shape := ⟨1, ![8]⟩
abbrev S8x1024x1024 : Shape := ⟨3, ![8, 1024, 1024]⟩
abbrev S1x5x1x1x1024 : Shape := ⟨5, ![1, 5, 1, 1, 1024]⟩
abbrev S5x1024 : Shape := ⟨2, ![5, 1024]⟩
abbrev S1x1024 : Shape := ⟨2, ![1, 1024]⟩
abbrev S8192x1024 : Shape := ⟨2, ![8192, 1024]⟩
abbrev S4x1024 : Shape := ⟨2, ![4, 1024]⟩
abbrev S4x4096x1024 : Shape := ⟨3, ![4, 4096, 1024]⟩
abbrev S16384x1024 : Shape := ⟨2, ![16384, 1024]⟩
abbrev S_ : Shape := ⟨0, ![]⟩
abbrev S24576 : Shape := ⟨1, ![24576]⟩
abbrev S24576x1 : Shape := ⟨2, ![24576, 1]⟩
abbrev S24576x8 : Shape := ⟨2, ![24576, 8]⟩
abbrev S1x8 : Shape := ⟨2, ![1, 8]⟩

class Facts : Prop where
  slices_S4x8x6x1x1024_S1x5x1x1x1024_1_0_3_0_0 : S4x8x6x1x1024.Slices ![1, 0, 3, 0, 0] S1x5x1x1x1024
  shapeCasts_S1x5x1x1x1024_S5x1024 : S1x5x1x1x1024.ShapeCasts S5x1024
  slices_S5x1024_S1x1024_0_0 : S5x1024.Slices ![0, 0] S1x1024
  bcast_S1x1024_S8192x1024_0_1 : S1x1024.BroadcastsInDim S8192x1024 (![0, 1] : Fin 2 → Fin S8192x1024.rank)
  slices_S5x1024_S4x1024_1_0 : S5x1024.Slices ![1, 0] S4x1024
  bcast_S4x1024_S4x4096x1024_0_2 : S4x1024.BroadcastsInDim S4x4096x1024 (![0, 2] : Fin 2 → Fin S4x4096x1024.rank)
  shapeCasts_S4x4096x1024_S16384x1024 : S4x4096x1024.ShapeCasts S16384x1024
  concatenates_S8192x1024_S16384x1024_S24576x1024_d0 : Shape.Concatenates [S8192x1024, S16384x1024] S24576x1024 0
  slices_S4x8x6x1x1024_S1x5x1x1x1024_1_0_4_0_0 : S4x8x6x1x1024.Slices ![1, 0, 4, 0, 0] S1x5x1x1x1024
  reducesTo_S24576x1024_S24576_d1 : S24576x1024.ReducesTo [1] S24576
  h_S_ : 0 < S_.numel
  bcast_S24576_S24576x1_0 : S24576.BroadcastsInDim S24576x1 (![0] : Fin 1 → Fin S24576x1.rank)
  bcast_S_S24576x1 : S_.BroadcastsInDim S24576x1 (![] : Fin 0 → Fin S24576x1.rank)
  bcast_S24576x1_S24576x1024_0_1 : S24576x1.BroadcastsInDim S24576x1024 (![0, 1] : Fin 2 → Fin S24576x1024.rank)
  bcast_S1024_S1x1024_1 : S1024.BroadcastsInDim S1x1024 (![1] : Fin 1 → Fin S1x1024.rank)
  bcast_S1x1024_S24576x1024_0_1 : S1x1024.BroadcastsInDim S24576x1024 (![0, 1] : Fin 2 → Fin S24576x1024.rank)
  bcast_S_S24576x1024 : S_.BroadcastsInDim S24576x1024 (![] : Fin 0 → Fin S24576x1024.rank)
  bcast_S8_S1x8_1 : S8.BroadcastsInDim S1x8 (![1] : Fin 1 → Fin S1x8.rank)
  bcast_S1x8_S24576x8_0_1 : S1x8.BroadcastsInDim S24576x8 (![0, 1] : Fin 2 → Fin S24576x8.rank)
  bcast_S_S24576x8 : S_.BroadcastsInDim S24576x8 (![] : Fin 0 → Fin S24576x8.rank)
  reducesTo_S24576x8_S_d0_1 : S24576x8.ReducesTo [0, 1] S_
  dot_S24576x1024_S1024x8_S24576x8_1_0_0_1_n_n_wf : DotDims.WF S24576x1024 S1024x8 S24576x8 [1] [0] [0] [1] [] []

variable [Facts]

def dot_S24576x1024_S1024x8_S24576x8_1_0_0_1_n_n : DotDims S24576x1024 S1024x8 S24576x8 where
  lhsContracting := [1]
  rhsContracting := [0]
  lhsNonContracting := [0]
  rhsNonContracting := [1]
  lhsBatch := []
  rhsBatch := []
  wf := dot_S24576x1024_S1024x8_S24576x8_1_0_0_1_n_n_wf
def fn_part1 {F : FTy → Type} [FloatOps F] (main_arg0 : FVec F S24576x1024 .f32) (main_arg2 : FVec F S1024 .f32) (main_arg3 : FVec F S1024x8 .f32) (main_arg4 : FVec F S8 .f32) (main_v7 : FVec F S24576x1024 .f32) (main_v15 : FVec F S24576x1024 .f32) (main_v20 : FVec F S24576x1 .f32) (main_cst_1 : FVec F S_ .f32) : IVec S_ 1 :=
  let main_v21 : FVec F S24576x1 .f32 := broadcastInDim S24576x1 ![] bcast_S_S24576x1 main_cst_1
  let main_v22 : FVec F S24576x1 .f32 := addf main_v20 main_v21
  let main_v23 : FVec F S24576x1 .f32 := Host.rsqrt main_v22
  let main_v24 : FVec F S24576x1024 .f32 := broadcastInDim S24576x1024 ![0, 1] bcast_S24576x1_S24576x1024_0_1 main_v23
  let main_v25 : FVec F S24576x1024 .f32 := mulf main_arg0 main_v24
  let main_v26 : FVec F S1x1024 .f32 := broadcastInDim S1x1024 ![1] bcast_S1024_S1x1024_1 main_arg2
  let main_v27 : FVec F S24576x1024 .f32 := broadcastInDim S24576x1024 ![0, 1] bcast_S1x1024_S24576x1024_0_1 main_v26
  let main_v28 : FVec F S24576x1024 .f32 := mulf main_v25 main_v27
  let main_cst_2 : FVec F S_ .f32 := constant S_ .f32 0x3F800000#32
  let main_v29 : FVec F S24576x1024 .f32 := broadcastInDim S24576x1024 ![] bcast_S_S24576x1024 main_cst_2
  let main_v30 : FVec F S24576x1024 .f32 := addf main_v29 main_v15
  let main_v31 : FVec F S24576x1024 .f32 := mulf main_v28 main_v30
  let main_v32 : FVec F S24576x1024 .f32 := addf main_v31 main_v7
  let main_v33 : FVec F S24576x8 .f32 := (fun l r => Host.dotGeneral dot_S24576x1024_S1024x8_S24576x8_1_0_0_1_n_n none l r) main_v32 main_arg3
  let main_v34 : FVec F S1x8 .f32 := broadcastInDim S1x8 ![1] bcast_S8_S1x8_1 main_arg4
  let main_v35 : FVec F S24576x8 .f32 := broadcastInDim S24576x8 ![0, 1] bcast_S1x8_S24576x8_0_1 main_v34
  let main_v36 : FVec F S24576x8 .f32 := addf main_v33 main_v35
  let main_v37 : FVec F S24576x8 .f32 := Host.absf main_v36
  let main_cst_3 : FVec F S_ .f32 := constant S_ .f32 0x7F800000#32
  let main_v38 : FVec F S24576x8 .f32 := broadcastInDim S24576x8 ![] bcast_S_S24576x8 main_cst_3
  let main_v39 : IVec S24576x8 1 := cmpf .olt main_v37 main_v38
  let main_c : IVec S_ 1 := constantI S_ 1 1#1
  let main_v40 : IVec S_ 1 := (fun x v => Host.reduce IntOp.andi x v reducesTo_S24576x8_S_d0_1 h_S_) main_v39 main_c
  main_v40

def fn {F : FTy → Type} [FloatOps F] (main_arg0 : FVec F S24576x1024 .f32) (main_arg1 : FVec F S4x8x6x1x1024 .f32) (main_arg2 : FVec F S1024 .f32) (main_arg3 : FVec F S1024x8 .f32) (main_arg4 : FVec F S8 .f32) (main_arg5 : FVec F S8x1024x1024 .f32) (main_arg6 : FVec F S8x1024x1024 .f32) (main_arg7 : FVec F S8x1024x1024 .f32) : IVec S_ 1 :=
  let main_v0 : FVec F S1x5x1x1x1024 .f32 := (extractStridedSlice S1x5x1x1x1024 ![1, 0, 3, 0, 0] · slices_S4x8x6x1x1024_S1x5x1x1x1024_1_0_3_0_0) main_arg1
  let main_v1 : FVec F S5x1024 .f32 := shapeCast S5x1024 main_v0 shapeCasts_S1x5x1x1x1024_S5x1024
  let main_v2 : FVec F S1x1024 .f32 := (extractStridedSlice S1x1024 ![0, 0] · slices_S5x1024_S1x1024_0_0) main_v1
  let main_v3 : FVec F S8192x1024 .f32 := broadcastInDim S8192x1024 ![0, 1] bcast_S1x1024_S8192x1024_0_1 main_v2
  let main_v4 : FVec F S4x1024 .f32 := (extractStridedSlice S4x1024 ![1, 0] · slices_S5x1024_S4x1024_1_0) main_v1
  let main_v5 : FVec F S4x4096x1024 .f32 := broadcastInDim S4x4096x1024 ![0, 2] bcast_S4x1024_S4x4096x1024_0_2 main_v4
  let main_v6 : FVec F S16384x1024 .f32 := shapeCast S16384x1024 main_v5 shapeCasts_S4x4096x1024_S16384x1024
  let main_v7 : FVec F S24576x1024 .f32 := (fun a b => concatenate S24576x1024 0 [⟨S8192x1024, a⟩, ⟨S16384x1024, b⟩] concatenates_S8192x1024_S16384x1024_S24576x1024_d0) main_v3 main_v6
  let main_v8 : FVec F S1x5x1x1x1024 .f32 := (extractStridedSlice S1x5x1x1x1024 ![1, 0, 4, 0, 0] · slices_S4x8x6x1x1024_S1x5x1x1x1024_1_0_4_0_0) main_arg1
  let main_v9 : FVec F S5x1024 .f32 := shapeCast S5x1024 main_v8 shapeCasts_S1x5x1x1x1024_S5x1024
  let main_v10 : FVec F S1x1024 .f32 := (extractStridedSlice S1x1024 ![0, 0] · slices_S5x1024_S1x1024_0_0) main_v9
  let main_v11 : FVec F S8192x1024 .f32 := broadcastInDim S8192x1024 ![0, 1] bcast_S1x1024_S8192x1024_0_1 main_v10
  let main_v12 : FVec F S4x1024 .f32 := (extractStridedSlice S4x1024 ![1, 0] · slices_S5x1024_S4x1024_1_0) main_v9
  let main_v13 : FVec F S4x4096x1024 .f32 := broadcastInDim S4x4096x1024 ![0, 2] bcast_S4x1024_S4x4096x1024_0_2 main_v12
  let main_v14 : FVec F S16384x1024 .f32 := shapeCast S16384x1024 main_v13 shapeCasts_S4x4096x1024_S16384x1024
  let main_v15 : FVec F S24576x1024 .f32 := (fun a b => concatenate S24576x1024 0 [⟨S8192x1024, a⟩, ⟨S16384x1024, b⟩] concatenates_S8192x1024_S16384x1024_S24576x1024_d0) main_v11 main_v14
  let main_v16 : FVec F S24576x1024 .f32 := mulf main_arg0 main_arg0
  let main_cst : FVec F S_ .f32 := constant S_ .f32 0x00000000#32
  let main_v17 : FVec F S24576 .f32 := (fun x v => Host.reduceAdd x v reducesTo_S24576x1024_S24576_d1 h_S_) main_v16 main_cst
  let main_v18 : FVec F S24576x1 .f32 := broadcastInDim S24576x1 ![0] bcast_S24576_S24576x1_0 main_v17
  let main_cst_0 : FVec F S_ .f32 := constant S_ .f32 0x44800000#32
  let main_v19 : FVec F S24576x1 .f32 := broadcastInDim S24576x1 ![] bcast_S_S24576x1 main_cst_0
  let main_v20 : FVec F S24576x1 .f32 := Host.divf main_v18 main_v19
  let main_cst_1 : FVec F S_ .f32 := constant S_ .f32 0x358637BD#32
  fn_part1 (F := F) main_arg0 main_arg2 main_arg3 main_arg4 main_v7 main_v15 main_v20 main_cst_1
-- ==== Ctx.lean ====
abbrev S8 : Shape := ⟨1, ![8]⟩
abbrev S24576x512 : Shape := ⟨2, ![24576, 512]⟩
abbrev S24576x128 : Shape := ⟨2, ![24576, 128]⟩
abbrev S_ : Shape := ⟨0, ![]⟩
abbrev S24576x64 : Shape := ⟨2, ![24576, 64]⟩
abbrev S8192x512 : Shape := ⟨2, ![8192, 512]⟩
abbrev S256x512 : Shape := ⟨2, ![256, 512]⟩
abbrev S256x128 : Shape := ⟨2, ![256, 128]⟩
abbrev S512x128 : Shape := ⟨2, ![512, 128]⟩
abbrev S1 : Shape := ⟨1, ![1]⟩
abbrev S512x1 : Shape := ⟨2, ![512, 1]⟩
abbrev S512x256 : Shape := ⟨2, ![512, 256]⟩
abbrev S512 : Shape := ⟨1, ![512]⟩

abbrev nBuf : Space → Nat
  | .hbm => 21
  | .vmem => 8
  | .smem => 1
  | _ => 0

abbrev bufTy : (tb : Table) → Fin (tcTables nBuf tb) → BufTy
  | .hbm, ⟨0, _⟩ => ⟨S8, .f32⟩
  | .hbm, ⟨1, _⟩ => ⟨S24576x512, .f32⟩
  | .hbm, ⟨2, _⟩ => ⟨S24576x128, .f32⟩
  | .hbm, ⟨3, _⟩ => ⟨S24576x128, .f32⟩
  | .hbm, ⟨4, _⟩ => ⟨S_, .f32⟩
  | .hbm, ⟨5, _⟩ => ⟨S24576x512, .f32⟩
  | .hbm, ⟨6, _⟩ => ⟨S24576x512, .f32⟩
  | .hbm, ⟨7, _⟩ => ⟨S24576x512, .bf16⟩
  | .hbm, ⟨8, _⟩ => ⟨S_, .f32⟩
  | .hbm, ⟨9, _⟩ => ⟨S24576x64, .f32⟩
  | .hbm, ⟨10, _⟩ => ⟨S24576x64, .f32⟩
  | .hbm, ⟨11, _⟩ => ⟨S24576x64, .f32⟩
  | .hbm, ⟨12, _⟩ => ⟨S24576x512, .f32⟩
  | .hbm, ⟨13, _⟩ => ⟨S24576x512, .bf16⟩
  | .hbm, ⟨14, _⟩ => ⟨S_, .f32⟩
  | .hbm, ⟨15, _⟩ => ⟨S24576x64, .f32⟩
  | .hbm, ⟨16, _⟩ => ⟨S24576x64, .f32⟩
  | .hbm, ⟨17, _⟩ => ⟨S24576x64, .f32⟩
  | .hbm, ⟨18, _⟩ => ⟨S24576x512, .f32⟩
  | .hbm, ⟨19, _⟩ => ⟨S24576x512, .bf16⟩
  | .hbm, ⟨20, _⟩ => ⟨S8192x512, .f32⟩
  | .local _ .vmem, ⟨0, _⟩ => ⟨S256x512, .bf16⟩
  | .local _ .vmem, ⟨1, _⟩ => ⟨S256x512, .bf16⟩
  | .local _ .vmem, ⟨2, _⟩ => ⟨S256x512, .bf16⟩
  | .local _ .vmem, ⟨3, _⟩ => ⟨S256x512, .bf16⟩
  | .local _ .vmem, ⟨4, _⟩ => ⟨S256x512, .bf16⟩
  | .local _ .vmem, ⟨5, _⟩ => ⟨S256x512, .bf16⟩
  | .local _ .vmem, ⟨6, _⟩ => ⟨S256x512, .f32⟩
  | .local _ .vmem, ⟨7, _⟩ => ⟨S256x512, .f32⟩
  | .local _ .smem, ⟨0, _⟩ => ⟨S8, .f32⟩
  | _, _ => ⟨S8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .smem, ⟨0, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .smem S8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== CtxRefIdeal.lean ====
abbrev S8 : Shape := ⟨1, ![8]⟩
abbrev S24576x512 : Shape := ⟨2, ![24576, 512]⟩
abbrev S24576x128 : Shape := ⟨2, ![24576, 128]⟩
abbrev S8192x512 : Shape := ⟨2, ![8192, 512]⟩
abbrev S32x256x2x4x64 : Shape := ⟨5, ![32, 256, 2, 4, 64]⟩
abbrev S8192x128 : Shape := ⟨2, ![8192, 128]⟩
abbrev S32x256x2x64 : Shape := ⟨4, ![32, 256, 2, 64]⟩
abbrev S32x2x256x256x4 : Shape := ⟨5, ![32, 2, 256, 256, 4]⟩
abbrev S32x2x4x256x256 : Shape := ⟨5, ![32, 2, 4, 256, 256]⟩
abbrev S_ : Shape := ⟨0, ![]⟩
abbrev S2x4x1x1 : Shape := ⟨4, ![2, 4, 1, 1]⟩
abbrev S32x2x4x256x1 : Shape := ⟨5, ![32, 2, 4, 256, 1]⟩
abbrev S32x2x4x256x257 : Shape := ⟨5, ![32, 2, 4, 256, 257]⟩
abbrev S32x2x4x256 : Shape := ⟨4, ![32, 2, 4, 256]⟩
abbrev S32x2x64x4x256 : Shape := ⟨5, ![32, 2, 64, 4, 256]⟩

abbrev nBuf : Space → Nat
  | .hbm => 36
  | .vmem => 0
  | .smem => 0
  | _ => 0

abbrev bufTy : (tb : Table) → Fin (tcTables nBuf tb) → BufTy
  | .hbm, ⟨0, _⟩ => ⟨S8, .f32⟩
  | .hbm, ⟨1, _⟩ => ⟨S24576x512, .f32⟩
  | .hbm, ⟨2, _⟩ => ⟨S24576x128, .f32⟩
  | .hbm, ⟨3, _⟩ => ⟨S24576x128, .f32⟩
  | .hbm, ⟨4, _⟩ => ⟨S8192x512, .f32⟩
  | .hbm, ⟨5, _⟩ => ⟨S32x256x2x4x64, .f32⟩
  | .hbm, ⟨6, _⟩ => ⟨S8192x128, .f32⟩
  | .hbm, ⟨7, _⟩ => ⟨S32x256x2x64, .f32⟩
  | .hbm, ⟨8, _⟩ => ⟨S8192x128, .f32⟩
  | .hbm, ⟨9, _⟩ => ⟨S32x256x2x64, .f32⟩
  | .hbm, ⟨10, _⟩ => ⟨S32x2x256x256x4, .f32⟩
  | .hbm, ⟨11, _⟩ => ⟨S32x2x4x256x256, .f32⟩
  | .hbm, ⟨12, _⟩ => ⟨S_, .f32⟩
  | .hbm, ⟨13, _⟩ => ⟨S32x2x4x256x256, .f32⟩
  | .hbm, ⟨14, _⟩ => ⟨S32x2x4x256x256, .f32⟩
  | .hbm, ⟨15, _⟩ => ⟨S2x4x1x1, .f32⟩
  | .hbm, ⟨16, _⟩ => ⟨S32x2x4x256x1, .f32⟩
  | .hbm, ⟨17, _⟩ => ⟨S32x2x4x256x257, .f32⟩
  | .hbm, ⟨18, _⟩ => ⟨S_, .f32⟩
  | .hbm, ⟨19, _⟩ => ⟨S32x2x4x256, .f32⟩
  | .hbm, ⟨20, _⟩ => ⟨S_, .f32⟩
  | .hbm, ⟨21, _⟩ => ⟨S32x2x4x256, .f32⟩
  | .hbm, ⟨22, _⟩ => ⟨S32x2x4x256, .f32⟩
  | .hbm, ⟨23, _⟩ => ⟨S32x2x4x256x1, .f32⟩
  | .hbm, ⟨24, _⟩ => ⟨S32x2x4x256x257, .f32⟩
  | .hbm, ⟨25, _⟩ => ⟨S32x2x4x256x257, .f32⟩
  | .hbm, ⟨26, _⟩ => ⟨S32x2x4x256x257, .f32⟩
  | .hbm, ⟨27, _⟩ => ⟨S_, .f32⟩
  | .hbm, ⟨28, _⟩ => ⟨S32x2x4x256, .f32⟩
  | .hbm, ⟨29, _⟩ => ⟨S32x2x4x256x1, .f32⟩
  | .hbm, ⟨30, _⟩ => ⟨S32x2x4x256x257, .f32⟩
  | .hbm, ⟨31, _⟩ => ⟨S32x2x4x256x257, .f32⟩
  | .hbm, ⟨32, _⟩ => ⟨S32x2x4x256x256, .f32⟩
  | .hbm, ⟨33, _⟩ => ⟨S32x2x64x4x256, .f32⟩
  | .hbm, ⟨34, _⟩ => ⟨S32x256x2x4x64, .f32⟩
  | .hbm, ⟨35, _⟩ => ⟨S8192x512, .f32⟩
  | _, _ => ⟨S8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_0 : Ref sig .tc := ⟨.hbm, 18, rfl⟩
abbrev main_v13 : Ref sig .tc := ⟨.hbm, 19, rfl⟩
abbrev main_cst_1 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_2 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩

abbrev nD : Nat := 1
abbrev τ : Topo := Topo.v7x

variable {F : FTy → Type} [FloatOps F]
-- ==== Ffn.lean ====
abbrev S24576x1024 : Shape := ⟨2, ![24576, 1024]⟩
abbrev S4x8x6x1x1024 : Shape := ⟨5, ![4, 8, 6, 1, 1024]⟩
abbrev S1024 : Shape := ⟨1, ![1024]⟩
abbrev S1024x2816 : Shape := ⟨2, ![1024, 2816]⟩
abbrev S2816x1024 : Shape := ⟨2, ![2816, 1024]⟩
abbrev S1x1024 : Shape := ⟨2, ![1, 1024]⟩
abbrev S1024x1024 : Shape := ⟨2, ![1024, 1024]⟩
abbrev S1x1x1x1x1024 : Shape := ⟨5, ![1, 1, 1, 1, 1024]⟩
abbrev S1024x1408 : Shape := ⟨2, ![1024, 1408]⟩
abbrev S1408x1024 : Shape := ⟨2, ![1408, 1024]⟩
abbrev S1024x1 : Shape := ⟨2, ![1024, 1]⟩
abbrev S1024x256 : Shape := ⟨2, ![1024, 256]⟩
abbrev S256x1024 : Shape := ⟨2, ![256, 1024]⟩
abbrev S1024x384 : Shape := ⟨2, ![1024, 384]⟩
abbrev S384x1024 : Shape := ⟨2, ![384, 1024]⟩

abbrev nBuf : Space → Nat
  | .hbm => 11
  | .vmem => 19
  | .smem => 0
  | _ => 0

abbrev bufTy : (tb : Table) → Fin (tcTables nBuf tb) → BufTy
  | .hbm, ⟨0, _⟩ => ⟨S24576x1024, .f32⟩
  | .hbm, ⟨1, _⟩ => ⟨S4x8x6x1x1024, .f32⟩
  | .hbm, ⟨2, _⟩ => ⟨S1024, .f32⟩
  | .hbm, ⟨3, _⟩ => ⟨S1024x2816, .f32⟩
  | .hbm, ⟨4, _⟩ => ⟨S1024x2816, .f32⟩
  | .hbm, ⟨5, _⟩ => ⟨S2816x1024, .f32⟩
  | .hbm, ⟨6, _⟩ => ⟨S1x1024, .f32⟩
  | .hbm, ⟨7, _⟩ => ⟨S1024x2816, .bf16⟩
  | .hbm, ⟨8, _⟩ => ⟨S1024x2816, .bf16⟩
  | .hbm, ⟨9, _⟩ => ⟨S2816x1024, .bf16⟩
  | .hbm, ⟨10, _⟩ => ⟨S24576x1024, .f32⟩
  | .local _ .vmem, ⟨0, _⟩ => ⟨S1024x1024, .f32⟩
  | .local _ .vmem, ⟨1, _⟩ => ⟨S1024x1024, .f32⟩
  | .local _ .vmem, ⟨2, _⟩ => ⟨S1x1x1x1x1024, .f32⟩
  | .local _ .vmem, ⟨3, _⟩ => ⟨S1x1x1x1x1024, .f32⟩
  | .local _ .vmem, ⟨4, _⟩ => ⟨S1x1x1x1x1024, .f32⟩
  | .local _ .vmem, ⟨5, _⟩ => ⟨S1x1x1x1x1024, .f32⟩
  | .local _ .vmem, ⟨6, _⟩ => ⟨S1x1x1x1x1024, .f32⟩
  | .local _ .vmem, ⟨7, _⟩ => ⟨S1x1x1x1x1024, .f32⟩
  | .local _ .vmem, ⟨8, _⟩ => ⟨S1x1024, .f32⟩
  | .local _ .vmem, ⟨9, _⟩ => ⟨S1024x1408, .bf16⟩
  | .local _ .vmem, ⟨10, _⟩ => ⟨S1024x1408, .bf16⟩
  | .local _ .vmem, ⟨11, _⟩ => ⟨S1024x1408, .bf16⟩
  | .local _ .vmem, ⟨12, _⟩ => ⟨S1024x1408, .bf16⟩
  | .local _ .vmem, ⟨13, _⟩ => ⟨S1408x1024, .bf16⟩
  | .local _ .vmem, ⟨14, _⟩ => ⟨S1408x1024, .bf16⟩
  | .local _ .vmem, ⟨15, _⟩ => ⟨S1024x1024, .f32⟩
  | .local _ .vmem, ⟨16, _⟩ => ⟨S1024x1024, .f32⟩
  | .local _ .vmem, ⟨17, _⟩ => ⟨S1024x1024, .bf16⟩
  | .local _ .vmem, ⟨18, _⟩ => ⟨S1024x1024, .f32⟩
  | _, _ => ⟨S24576x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_scratch0 : Ref sig .tc := ⟨.vmem, 17, rfl⟩
abbrev cc0_scratch1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨2, ![24, 2], ![false, false]⟩

def k0_cond2 (i : grid0.Coords) : BitVec 1 :=
  let arg1 : BitVec 32 := BitVec.ofNat 32 (i 1).val
  let c1_i32 : BitVec 32 := 1#32
  let v78 : BitVec 1 := Scalar.cmpi .eq arg1 c1_i32
  let v79 : BitVec 32 := Scalar.extui v78
  let c0_i32_46 : BitVec 32 := 0#32
  let v80 : BitVec 1 := Scalar.cmpi .ne v79 c0_i32_46
  v80

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 5 → Nat :=
  let arg0 : BitVec 32 := BitVec.ofNat 32 (i 0).val
  let arg1 : BitVec 32 := BitVec.ofNat 32 (i 1).val
  let c8_i32 : BitVec 32 := 8#32
  let v0 : BitVec 1 := Scalar.cmpi .slt arg0 c8_i32
  let c8_i32_0 : BitVec 32 := 8#32
  let v1 : BitVec 32 := Scalar.subi arg0 c8_i32_0
  let c4_i32 : BitVec 32 := 4#32
  let v2 : BitVec 32 := Scalar.divsi v1 c4_i32
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c4_i32 c0_i32_2
  let v9 : BitVec 32 := Scalar.extui v8
  let c0_i32_3 : BitVec 32 := 0#32
  let v10 : BitVec 1 := Scalar.cmpi .slt c4_i32 c0_i32_3
  let v11 : BitVec 32 := Scalar.extui v10
  let v12 : BitVec 32 := Scalar.subi v9 v11
  let v13 : BitVec 1 := Scalar.cmpi .ne v7 v12
  let v14 : BitVec 32 := Scalar.remsi v1 c4_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c1_i32_5 : BitVec 32 := 1#32
  let v19 : BitVec 32 := Scalar.addi c1_i32_5 v18
  let c0_i32_6 : BitVec 32 := 0#32
  let v20 : BitVec 32 := Scalar.select v0 c0_i32_6 v19
  let c0_i32_7 : BitVec 32 := 0#32
  let c3_i32 : BitVec 32 := 3#32
  let c0_i32_8 : BitVec 32 := 0#32
  let c0_i32_9 : BitVec 32 := 0#32
  let c0_i32_10 : BitVec 32 := 0#32
  ![c0_i32_7.toNat, v20.toNat, c3_i32.toNat, c0_i32_8.toNat, c0_i32_9.toNat]

def cc0_transform_2 (i : grid0.Coords) : Fin 5 → Nat :=
  let arg0 : BitVec 32 := BitVec.ofNat 32 (i 0).val
  let arg1 : BitVec 32 := BitVec.ofNat 32 (i 1).val
  let c8_i32 : BitVec 32 := 8#32
  let v0 : BitVec 1 := Scalar.cmpi .slt arg0 c8_i32
  let c8_i32_0 : BitVec 32 := 8#32
  let v1 : BitVec 32 := Scalar.subi arg0 c8_i32_0
  let c4_i32 : BitVec 32 := 4#32
  let v2 : BitVec 32 := Scalar.divsi v1 c4_i32
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c4_i32 c0_i32_2
  let v9 : BitVec 32 := Scalar.extui v8
  let c0_i32_3 : BitVec 32 := 0#32
  let v10 : BitVec 1 := Scalar.cmpi .slt c4_i32 c0_i32_3
  let v11 : BitVec 32 := Scalar.extui v10
  let v12 : BitVec 32 := Scalar.subi v9 v11
  let v13 : BitVec 1 := Scalar.cmpi .ne v7 v12
  let v14 : BitVec 32 := Scalar.remsi v1 c4_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c1_i32_5 : BitVec 32 := 1#32
  let v19 : BitVec 32 := Scalar.addi c1_i32_5 v18
  let c0_i32_6 : BitVec 32 := 0#32
  let v20 : BitVec 32 := Scalar.select v0 c0_i32_6 v19
  let c0_i32_7 : BitVec 32 := 0#32
  let c4_i32_8 : BitVec 32 := 4#32
  let c0_i32_9 : BitVec 32 := 0#32
  let c0_i32_10 : BitVec 32 := 0#32
  let c0_i32_11 : BitVec 32 := 0#32
  ![c0_i32_7.toNat, v20.toNat, c4_i32_8.toNat, c0_i32_9.toNat, c0_i32_10.toNat]

def cc0_transform_3 (i : grid0.Coords) : Fin 5 → Nat :=
  let arg0 : BitVec 32 := BitVec.ofNat 32 (i 0).val
  let arg1 : BitVec 32 := BitVec.ofNat 32 (i 1).val
  let c8_i32 : BitVec 32 := 8#32
  let v0 : BitVec 1 := Scalar.cmpi .slt arg0 c8_i32
  let c8_i32_0 : BitVec 32 := 8#32
  let v1 : BitVec 32 := Scalar.subi arg0 c8_i32_0
  let c4_i32 : BitVec 32 := 4#32
  let v2 : BitVec 32 := Scalar.divsi v1 c4_i32
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c4_i32 c0_i32_2
  let v9 : BitVec 32 := Scalar.extui v8
  let c0_i32_3 : BitVec 32 := 0#32
  let v10 : BitVec 1 := Scalar.cmpi .slt c4_i32 c0_i32_3
  let v11 : BitVec 32 := Scalar.extui v10
  let v12 : BitVec 32 := Scalar.subi v9 v11
  let v13 : BitVec 1 := Scalar.cmpi .ne v7 v12
  let v14 : BitVec 32 := Scalar.remsi v1 c4_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c1_i32_5 : BitVec 32 := 1#32
  let v19 : BitVec 32 := Scalar.addi c1_i32_5 v18
  let c0_i32_6 : BitVec 32 := 0#32
  let v20 : BitVec 32 := Scalar.select v0 c0_i32_6 v19
  let c0_i32_7 : BitVec 32 := 0#32
  let c5_i32 : BitVec 32 := 5#32
  let c0_i32_8 : BitVec 32 := 0#32
  let c0_i32_9 : BitVec 32 := 0#32
  let c0_i32_10 : BitVec 32 := 0#32
  ![c0_i32_7.toNat, v20.toNat, c5_i32.toNat, c0_i32_8.toNat, c0_i32_9.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1x1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1024x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1024x1408 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1408x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1024x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== FfnRefIdeal.lean ====
abbrev S24576x1024 : Shape := ⟨2, ![24576, 1024]⟩
abbrev S4x8x6x1x1024 : Shape := ⟨5, ![4, 8, 6, 1, 1024]⟩
abbrev S1024 : Shape := ⟨1, ![1024]⟩
abbrev S1024x2816 : Shape := ⟨2, ![1024, 2816]⟩
abbrev S2816x1024 : Shape := ⟨2, ![2816, 1024]⟩
abbrev S1x1x1x1x1024 : Shape := ⟨5, ![1, 1, 1, 1, 1024]⟩
abbrev S1x1024 : Shape := ⟨2, ![1, 1024]⟩
abbrev S8192x1024 : Shape := ⟨2, ![8192, 1024]⟩
abbrev S1x4x1x1x1024 : Shape := ⟨5, ![1, 4, 1, 1, 1024]⟩
abbrev S4x1x1024 : Shape := ⟨3, ![4, 1, 1024]⟩
abbrev S4x4096x1024 : Shape := ⟨3, ![4, 4096, 1024]⟩
abbrev S16384x1024 : Shape := ⟨2, ![16384, 1024]⟩
abbrev S_ : Shape := ⟨0, ![]⟩
abbrev S24576 : Shape := ⟨1, ![24576]⟩
abbrev S24576x1 : Shape := ⟨2, ![24576, 1]⟩
abbrev S24576x2816 : Shape := ⟨2, ![24576, 2816]⟩

abbrev nBuf : Space → Nat
  | .hbm => 66
  | .vmem => 0
  | .smem => 0
  | _ => 0

abbrev bufTy : (tb : Table) → Fin (tcTables nBuf tb) → BufTy
  | .hbm, ⟨0, _⟩ => ⟨S24576x1024, .f32⟩
  | .hbm, ⟨1, _⟩ => ⟨S4x8x6x1x1024, .f32⟩
  | .hbm, ⟨2, _⟩ => ⟨S1024, .f32⟩
  | .hbm, ⟨3, _⟩ => ⟨S1024x2816, .f32⟩
  | .hbm, ⟨4, _⟩ => ⟨S1024x2816, .f32⟩
  | .hbm, ⟨5, _⟩ => ⟨S2816x1024, .f32⟩
  | .hbm, ⟨6, _⟩ => ⟨S1x1x1x1x1024, .f32⟩
  | .hbm, ⟨7, _⟩ => ⟨S1x1024, .f32⟩
  | .hbm, ⟨8, _⟩ => ⟨S8192x1024, .f32⟩
  | .hbm, ⟨9, _⟩ => ⟨S1x4x1x1x1024, .f32⟩
  | .hbm, ⟨10, _⟩ => ⟨S4x1x1024, .f32⟩
  | .hbm, ⟨11, _⟩ => ⟨S4x4096x1024, .f32⟩
  | .hbm, ⟨12, _⟩ => ⟨S16384x1024, .f32⟩
  | .hbm, ⟨13, _⟩ => ⟨S24576x1024, .f32⟩
  | .hbm, ⟨14, _⟩ => ⟨S1x1x1x1x1024, .f32⟩
  | .hbm, ⟨15, _⟩ => ⟨S1x1024, .f32⟩
  | .hbm, ⟨16, _⟩ => ⟨S8192x1024, .f32⟩
  | .hbm, ⟨17, _⟩ => ⟨S1x4x1x1x1024, .f32⟩
  | .hbm, ⟨18, _⟩ => ⟨S4x1x1024, .f32⟩
  | .hbm, ⟨19, _⟩ => ⟨S4x4096x1024, .f32⟩
  | .hbm, ⟨20, _⟩ => ⟨S16384x1024, .f32⟩
  | .hbm, ⟨21, _⟩ => ⟨S24576x1024, .f32⟩
  | .hbm, ⟨22, _⟩ => ⟨S24576x1024, .f32⟩
  | .hbm, ⟨23, _⟩ => ⟨S_, .f32⟩
  | .hbm, ⟨24, _⟩ => ⟨S24576, .f32⟩
  | .hbm, ⟨25, _⟩ => ⟨S24576x1, .f32⟩
  | .hbm, ⟨26, _⟩ => ⟨S_, .f32⟩
  | .hbm, ⟨27, _⟩ => ⟨S24576x1, .f32⟩
  | .hbm, ⟨28, _⟩ => ⟨S24576x1, .f32⟩
  | .hbm, ⟨29, _⟩ => ⟨S_, .f32⟩
  | .hbm, ⟨30, _⟩ => ⟨S24576x1, .f32⟩
  | .hbm, ⟨31, _⟩ => ⟨S24576x1, .f32⟩
  | .hbm, ⟨32, _⟩ => ⟨S24576x1, .f32⟩
  | .hbm, ⟨33, _⟩ => ⟨S24576x1024, .f32⟩
  | .hbm, ⟨34, _⟩ => ⟨S24576x1024, .f32⟩
  | .hbm, ⟨35, _⟩ => ⟨S1x1024, .f32⟩
  | .hbm, ⟨36, _⟩ => ⟨S24576x1024, .f32⟩
  | .hbm, ⟨37, _⟩ => ⟨S24576x1024, .f32⟩
  | .hbm, ⟨38, _⟩ => ⟨S_, .f32⟩
  | .hbm, ⟨39, _⟩ => ⟨S24576x1024, .f32⟩
  | .hbm, ⟨40, _⟩ => ⟨S24576x1024, .f32⟩
  | .hbm, ⟨41, _⟩ => ⟨S24576x1024, .f32⟩
  | .hbm, ⟨42, _⟩ => ⟨S24576x1024, .f32⟩
  | .hbm, ⟨43, _⟩ => ⟨S1x1x1x1x1024, .f32⟩
  | .hbm, ⟨44, _⟩ => ⟨S1x1024, .f32⟩
  | .hbm, ⟨45, _⟩ => ⟨S8192x1024, .f32⟩
  | .hbm, ⟨46, _⟩ => ⟨S1x4x1x1x1024, .f32⟩
  | .hbm, ⟨47, _⟩ => ⟨S4x1x1024, .f32⟩
  | .hbm, ⟨48, _⟩ => ⟨S4x4096x1024, .f32⟩
  | .hbm, ⟨49, _⟩ => ⟨S16384x1024, .f32⟩
  | .hbm, ⟨50, _⟩ => ⟨S24576x1024, .f32⟩
  | .hbm, ⟨51, _⟩ => ⟨S24576x2816, .f32⟩
  | .hbm, ⟨52, _⟩ => ⟨S24576x2816, .f32⟩
  | .hbm, ⟨53, _⟩ => ⟨S24576x2816, .f32⟩
  | .hbm, ⟨54, _⟩ => ⟨S_, .f32⟩
  | .hbm, ⟨55, _⟩ => ⟨S24576x2816, .f32⟩
  | .hbm, ⟨56, _⟩ => ⟨S24576x2816, .f32⟩
  | .hbm, ⟨57, _⟩ => ⟨S_, .f32⟩
  | .hbm, ⟨58, _⟩ => ⟨S24576x2816, .f32⟩
  | .hbm, ⟨59, _⟩ => ⟨S24576x2816, .f32⟩
  | .hbm, ⟨60, _⟩ => ⟨S24576x2816, .f32⟩
  | .hbm, ⟨61, _⟩ => ⟨S24576x2816, .f32⟩
  | .hbm, ⟨62, _⟩ => ⟨S24576x2816, .f32⟩
  | .hbm, ⟨63, _⟩ => ⟨S24576x1024, .f32⟩
  | .hbm, ⟨64, _⟩ => ⟨S24576x1024, .f32⟩
  | .hbm, ⟨65, _⟩ => ⟨S24576x1024, .f32⟩
  | _, _ => ⟨S24576x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst : Ref sig .tc := ⟨.hbm, 23, rfl⟩
abbrev main_v17 : Ref sig .tc := ⟨.hbm, 24, rfl⟩
abbrev main_v18 : Ref sig .tc := ⟨.hbm, 25, rfl⟩
abbrev main_cst_0 : Ref sig .tc := ⟨.hbm, 26, rfl⟩
abbrev main_v19 : Ref sig .tc := ⟨.hbm, 27, rfl⟩
abbrev main_v20 : Ref sig .tc := ⟨.hbm, 28, rfl⟩
abbrev main_cst_1 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_cst_2 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_call0_v0 : Ref sig .tc := ⟨.hbm, 52, rfl⟩
abbrev main_call0_v1 : Ref sig .tc := ⟨.hbm, 53, rfl⟩
abbrev main_call0_cst : Ref sig .tc := ⟨.hbm, 54, rfl⟩
abbrev main_call0_v2 : Ref sig .tc := ⟨.hbm, 55, rfl⟩
abbrev main_call0_v3 : Ref sig .tc := ⟨.hbm, 56, rfl⟩
abbrev main_call0_cst_0 : Ref sig .tc := ⟨.hbm, 57, rfl⟩
abbrev main_call0_v4 : Ref sig .tc := ⟨.hbm, 58, rfl⟩
abbrev main_call0_v5 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩

abbrev nD : Nat := 1
abbrev τ : Topo := Topo.v7x

variable {F : FTy → Type} [FloatOps F]
-- ==== Proj.lean ====
abbrev S24576x1024 : Shape := ⟨2, ![24576, 1024]⟩
abbrev S4x8x6x1x1024 : Shape := ⟨5, ![4, 8, 6, 1, 1024]⟩
abbrev S1024 : Shape := ⟨1, ![1024]⟩
abbrev S1024x7440 : Shape := ⟨2, ![1024, 7440]⟩
abbrev S4096x32 : Shape := ⟨2, ![4096, 32]⟩
abbrev S64 : Shape := ⟨1, ![64]⟩
abbrev S4096x32x2 : Shape := ⟨3, ![4096, 32, 2]⟩
abbrev S4096x64 : Shape := ⟨2, ![4096, 64]⟩
abbrev S4096x32x1 : Shape := ⟨3, ![4096, 32, 1]⟩
abbrev S_ : Shape := ⟨0, ![]⟩
abbrev S512x64 : Shape := ⟨2, ![512, 64]⟩
abbrev S4608x64 : Shape := ⟨2, ![4608, 64]⟩
abbrev S1x4608x1x64 : Shape := ⟨4, ![1, 4608, 1, 64]⟩
abbrev S1x4608x2x64 : Shape := ⟨4, ![1, 4608, 2, 64]⟩
abbrev S4608x128 : Shape := ⟨2, ![4608, 128]⟩
abbrev S1x1024 : Shape := ⟨2, ![1, 1024]⟩
abbrev S1024x240 : Shape := ⟨2, ![1024, 240]⟩
abbrev S1024x1536 : Shape := ⟨2, ![1024, 1536]⟩
abbrev S1024x512 : Shape := ⟨2, ![1024, 512]⟩
abbrev S1024x3072 : Shape := ⟨2, ![1024, 3072]⟩
abbrev S1024x256 : Shape := ⟨2, ![1024, 256]⟩
abbrev S1024x16 : Shape := ⟨2, ![1024, 16]⟩
abbrev S1024x7680 : Shape := ⟨2, ![1024, 7680]⟩
abbrev S1x64 : Shape := ⟨2, ![1, 64]⟩
abbrev S2x64 : Shape := ⟨2, ![2, 64]⟩
abbrev S128 : Shape := ⟨1, ![128]⟩
abbrev S1x128 : Shape := ⟨2, ![1, 128]⟩
abbrev S24576x7680 : Shape := ⟨2, ![24576, 7680]⟩
abbrev S24576x512 : Shape := ⟨2, ![24576, 512]⟩
abbrev S24576x128 : Shape := ⟨2, ![24576, 128]⟩
abbrev S512x1024 : Shape := ⟨2, ![512, 1024]⟩
abbrev S1x1x1x1x1024 : Shape := ⟨5, ![1, 1, 1, 1, 1024]⟩
abbrev S512x128 : Shape := ⟨2, ![512, 128]⟩
abbrev S512x7680 : Shape := ⟨2, ![512, 7680]⟩
abbrev S512x512 : Shape := ⟨2, ![512, 512]⟩
abbrev S512 : Shape := ⟨1, ![512]⟩
abbrev S512x1 : Shape := ⟨2, ![512, 1]⟩
abbrev S512x1536 : Shape := ⟨2, ![512, 1536]⟩
abbrev S512x256 : Shape := ⟨2, ![512, 256]⟩

abbrev nBuf : Space → Nat
  | .hbm => 53
  | .vmem => 26
  | .smem => 0
  | _ => 0

abbrev bufTy : (tb : Table) → Fin (tcTables nBuf tb) → BufTy
  | .hbm, ⟨0, _⟩ => ⟨S24576x1024, .f32⟩
  | .hbm, ⟨1, _⟩ => ⟨S4x8x6x1x1024, .f32⟩
  | .hbm, ⟨2, _⟩ => ⟨S1024, .f32⟩
  | .hbm, ⟨3, _⟩ => ⟨S1024x7440, .f32⟩
  | .hbm, ⟨4, _⟩ => ⟨S4096x32, .f32⟩
  | .hbm, ⟨5, _⟩ => ⟨S4096x32, .f32⟩
  | .hbm, ⟨6, _⟩ => ⟨S64, .f32⟩
  | .hbm, ⟨7, _⟩ => ⟨S64, .f32⟩
  | .hbm, ⟨8, _⟩ => ⟨S4096x32x2, .f32⟩
  | .hbm, ⟨9, _⟩ => ⟨S4096x64, .f32⟩
  | .hbm, ⟨10, _⟩ => ⟨S4096x32, .f32⟩
  | .hbm, ⟨11, _⟩ => ⟨S4096x32x1, .f32⟩
  | .hbm, ⟨12, _⟩ => ⟨S4096x32x1, .f32⟩
  | .hbm, ⟨13, _⟩ => ⟨S4096x32x2, .f32⟩
  | .hbm, ⟨14, _⟩ => ⟨S4096x64, .f32⟩
  | .hbm, ⟨15, _⟩ => ⟨S_, .f32⟩
  | .hbm, ⟨16, _⟩ => ⟨S512x64, .f32⟩
  | .hbm, ⟨17, _⟩ => ⟨S4608x64, .f32⟩
  | .hbm, ⟨18, _⟩ => ⟨S_, .f32⟩
  | .hbm, ⟨19, _⟩ => ⟨S512x64, .f32⟩
  | .hbm, ⟨20, _⟩ => ⟨S4608x64, .f32⟩
  | .hbm, ⟨21, _⟩ => ⟨S1x4608x1x64, .f32⟩
  | .hbm, ⟨22, _⟩ => ⟨S1x4608x2x64, .f32⟩
  | .hbm, ⟨23, _⟩ => ⟨S4608x128, .f32⟩
  | .hbm, ⟨24, _⟩ => ⟨S1x4608x1x64, .f32⟩
  | .hbm, ⟨25, _⟩ => ⟨S1x4608x2x64, .f32⟩
  | .hbm, ⟨26, _⟩ => ⟨S4608x128, .f32⟩
  | .hbm, ⟨27, _⟩ => ⟨S1x1024, .f32⟩
  | .hbm, ⟨28, _⟩ => ⟨S_, .f32⟩
  | .hbm, ⟨29, _⟩ => ⟨S1024x240, .f32⟩
  | .hbm, ⟨30, _⟩ => ⟨S1024x1536, .f32⟩
  | .hbm, ⟨31, _⟩ => ⟨S1024x1536, .f32⟩
  | .hbm, ⟨32, _⟩ => ⟨S1024x512, .f32⟩
  | .hbm, ⟨33, _⟩ => ⟨S1024x512, .f32⟩
  | .hbm, ⟨34, _⟩ => ⟨S1024x3072, .f32⟩
  | .hbm, ⟨35, _⟩ => ⟨S1024x256, .f32⟩
  | .hbm, ⟨36, _⟩ => ⟨S1024x16, .f32⟩
  | .hbm, ⟨37, _⟩ => ⟨S1024x7680, .f32⟩
  | .hbm, ⟨38, _⟩ => ⟨S1024x7680, .bf16⟩
  | .hbm, ⟨39, _⟩ => ⟨S1x64, .f32⟩
  | .hbm, ⟨40, _⟩ => ⟨S2x64, .f32⟩
  | .hbm, ⟨41, _⟩ => ⟨S128, .f32⟩
  | .hbm, ⟨42, _⟩ => ⟨S1x128, .f32⟩
  | .hbm, ⟨43, _⟩ => ⟨S1x64, .f32⟩
  | .hbm, ⟨44, _⟩ => ⟨S2x64, .f32⟩
  | .hbm, ⟨45, _⟩ => ⟨S128, .f32⟩
  | .hbm, ⟨46, _⟩ => ⟨S1x128, .f32⟩
  | .hbm, ⟨47, _⟩ => ⟨S24576x7680, .bf16⟩
  | .hbm, ⟨48, _⟩ => ⟨S24576x512, .bf16⟩
  | .hbm, ⟨49, _⟩ => ⟨S24576x512, .bf16⟩
  | .hbm, ⟨50, _⟩ => ⟨S24576x512, .bf16⟩
  | .hbm, ⟨51, _⟩ => ⟨S24576x128, .f32⟩
  | .hbm, ⟨52, _⟩ => ⟨S24576x128, .f32⟩
  | .local _ .vmem, ⟨0, _⟩ => ⟨S512x1024, .f32⟩
  | .local _ .vmem, ⟨1, _⟩ => ⟨S512x1024, .f32⟩
  | .local _ .vmem, ⟨2, _⟩ => ⟨S1x1x1x1x1024, .f32⟩
  | .local _ .vmem, ⟨3, _⟩ => ⟨S1x1x1x1x1024, .f32⟩
  | .local _ .vmem, ⟨4, _⟩ => ⟨S1x1x1x1x1024, .f32⟩
  | .local _ .vmem, ⟨5, _⟩ => ⟨S1x1x1x1x1024, .f32⟩
  | .local _ .vmem, ⟨6, _⟩ => ⟨S1x1024, .f32⟩
  | .local _ .vmem, ⟨7, _⟩ => ⟨S1024x7680, .bf16⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S1x128, .f32⟩
  | .local _ .vmem, ⟨13, _⟩ => ⟨S1x128, .f32⟩
  | .local _ .vmem, ⟨14, _⟩ => ⟨S512x7680, .bf16⟩
  | .local _ .vmem, ⟨15, _⟩ => ⟨S512x7680, .bf16⟩
  | .local _ .vmem, ⟨16, _⟩ => ⟨S512x512, .bf16⟩
  | .local _ .vmem, ⟨17, _⟩ => ⟨S512x512, .bf16⟩
  | .local _ .vmem, ⟨18, _⟩ => ⟨S512x512, .bf16⟩
  | .local _ .vmem, ⟨19, _⟩ => ⟨S512x512, .bf16⟩
  | .local _ .vmem, ⟨20, _⟩ => ⟨S512x512, .bf16⟩
  | .local _ .vmem, ⟨21, _⟩ => ⟨S512x512, .bf16⟩
  | .local _ .vmem, ⟨22, _⟩ => ⟨S512x128, .f32⟩
  | .local _ .vmem, ⟨23, _⟩ => ⟨S512x128, .f32⟩
  | .local _ .vmem, ⟨24, _⟩ => ⟨S512x128, .f32⟩
  | .local _ .vmem, ⟨25, _⟩ => ⟨S512x128, .f32⟩
  | _, _ => ⟨S24576x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_1 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36_0 : Ref sig .tc := ⟨.hbm, 47, rfl⟩
abbrev main_v36_1 : Ref sig .tc := ⟨.hbm, 48, rfl⟩
abbrev main_v36_2 : Ref sig .tc := ⟨.hbm, 49, rfl⟩
abbrev main_v36_3 : Ref sig .tc := ⟨.hbm, 50, rfl⟩
abbrev main_v36_4 : Ref sig .tc := ⟨.hbm, 51, rfl⟩
abbrev main_v36_5 : Ref sig .tc := ⟨.hbm, 52, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem14_1 : DmaSem sig := 25

abbrev nD : Nat := 1
abbrev τ : Topo := Topo.v7x

variable {F : FTy → Type} [FloatOps F]

abbrev grid0 : Pipeline.Grid := ⟨1, ![48], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 5 → Nat :=
  let arg0 : BitVec 32 := BitVec.ofNat 32 (i 0).val
  let c16_i32 : BitVec 32 := 16#32
  let v0 : BitVec 1 := Scalar.cmpi .slt arg0 c16_i32
  let c16_i32_0 : BitVec 32 := 16#32
  let v1 : BitVec 32 := Scalar.subi arg0 c16_i32_0
  let c8_i32 : BitVec 32 := 8#32
  let v2 : BitVec 32 := Scalar.divsi v1 c8_i32
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c8_i32 c0_i32_2
  let v9 : BitVec 32 := Scalar.extui v8
  let c0_i32_3 : BitVec 32 := 0#32
  let v10 : BitVec 1 := Scalar.cmpi .slt c8_i32 c0_i32_3
  let v11 : BitVec 32 := Scalar.extui v10
  let v12 : BitVec 32 := Scalar.subi v9 v11
  let v13 : BitVec 1 := Scalar.cmpi .ne v7 v12
  let v14 : BitVec 32 := Scalar.remsi v1 c8_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c1_i32_5 : BitVec 32 := 1#32
  let v19 : BitVec 32 := Scalar.addi c1_i32_5 v18
  let c0_i32_6 : BitVec 32 := 0#32
  let v20 : BitVec 32 := Scalar.select v0 c0_i32_6 v19
  let c0_i32_7 : BitVec 32 := 0#32
  let c0_i32_8 : BitVec 32 := 0#32
  let c0_i32_9 : BitVec 32 := 0#32
  let c0_i32_10 : BitVec 32 := 0#32
  let c0_i32_11 : BitVec 32 := 0#32
  ![c0_i32_7.toNat, v20.toNat, c0_i32_8.toNat, c0_i32_9.toNat, c0_i32_10.toNat]

def cc0_transform_2 (i : grid0.Coords) : Fin 5 → Nat :=
  let arg0 : BitVec 32 := BitVec.ofNat 32 (i 0).val
  let c16_i32 : BitVec 32 := 16#32
  let v0 : BitVec 1 := Scalar.cmpi .slt arg0 c16_i32
  let c16_i32_0 : BitVec 32 := 16#32
  let v1 : BitVec 32 := Scalar.subi arg0 c16_i32_0
  let c8_i32 : BitVec 32 := 8#32
  let v2 : BitVec 32 := Scalar.divsi v1 c8_i32
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c8_i32 c0_i32_2
  let v9 : BitVec 32 := Scalar.extui v8
  let c0_i32_3 : BitVec 32 := 0#32
  let v10 : BitVec 1 := Scalar.cmpi .slt c8_i32 c0_i32_3
  let v11 : BitVec 32 := Scalar.extui v10
  let v12 : BitVec 32 := Scalar.subi v9 v11
  let v13 : BitVec 1 := Scalar.cmpi .ne v7 v12
  let v14 : BitVec 32 := Scalar.remsi v1 c8_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c1_i32_5 : BitVec 32 := 1#32
  let v19 : BitVec 32 := Scalar.addi c1_i32_5 v18
  let c0_i32_6 : BitVec 32 := 0#32
  let v20 : BitVec 32 := Scalar.select v0 c0_i32_6 v19
  let c0_i32_7 : BitVec 32 := 0#32
  let c1_i32_8 : BitVec 32 := 1#32
  let c0_i32_9 : BitVec 32 := 0#32
  let c0_i32_10 : BitVec 32 := 0#32
  let c0_i32_11 : BitVec 32 := 0#32
  ![c0_i32_7.toNat, v20.toNat, c1_i32_8.toNat, c0_i32_9.toNat, c0_i32_10.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c16_i32 : BitVec 32 := 16#32
  let v0 : BitVec 1 := Scalar.cmpi .slt arg0 c16_i32
  let c16_i32_0 : BitVec 32 := 16#32
  let v1 : BitVec 32 := Scalar.subi arg0 c16_i32_0
  let c8_i32 : BitVec 32 := 8#32
  let c0_i32 : BitVec 32 := 0#32
  let v2 : BitVec 1 := Scalar.cmpi .eq c8_i32 c0_i32
  let c1_i32 : BitVec 32 := 1#32
  let v3 : BitVec 32 := Scalar.select v2 c1_i32 c8_i32
  let v4 : BitVec 32 := Scalar.remsi v1 v3
  let c0_i32_1 : BitVec 32 := 0#32
  let v5 : BitVec 1 := Scalar.cmpi .ne v4 c0_i32_1
  let c0_i32_2 : BitVec 32 := 0#32
  let v6 : BitVec 1 := Scalar.cmpi .slt v4 c0_i32_2
  let c0_i32_3 : BitVec 32 := 0#32
  let v7 : BitVec 1 := Scalar.cmpi .slt v3 c0_i32_3
  let v8 : BitVec 1 := Scalar.xori v6 v7
  let v9 : BitVec 1 := Scalar.andi v8 v5
  let v10 : BitVec 32 := Scalar.addi v4 v3
  let v11 : BitVec 32 := Scalar.select v9 v10 v4
  let c1_i32_4 : BitVec 32 := 1#32
  let v12 : BitVec 32 := Scalar.addi c1_i32_4 v11
  let c0_i32_5 : BitVec 32 := 0#32
  let v13 : BitVec 32 := Scalar.select v0 c0_i32_5 v12
  let c0_i32_6 : BitVec 32 := 0#32
  let c0_i32_7 : BitVec 32 := 0#32
  ![v13.toNat, c0_i32_6.toNat]

def cc0_transform_6 (i : grid0.Coords) : Fin 2 → Nat :=
  let arg0 : BitVec 32 := BitVec.ofNat 32 (i 0).val
  let c16_i32 : BitVec 32 := 16#32
  let v0 : BitVec 1 := Scalar.cmpi .slt arg0 c16_i32
  let c16_i32_0 : BitVec 32 := 16#32
  let v1 : BitVec 32 := Scalar.subi arg0 c16_i32_0
  let c8_i32 : BitVec 32 := 8#32
  let c0_i32 : BitVec 32 := 0#32
  let v2 : BitVec 1 := Scalar.cmpi .eq c8_i32 c0_i32
  let c1_i32 : BitVec 32 := 1#32
  let v3 : BitVec 32 := Scalar.select v2 c1_i32 c8_i32
  let v4 : BitVec 32 := Scalar.remsi v1 v3
  let c0_i32_1 : BitVec 32 := 0#32
  let v5 : BitVec 1 := Scalar.cmpi .ne v4 c0_i32_1
  let c0_i32_2 : BitVec 32 := 0#32
  let v6 : BitVec 1 := Scalar.cmpi .slt v4 c0_i32_2
  let c0_i32_3 : BitVec 32 := 0#32
  let v7 : BitVec 1 := Scalar.cmpi .slt v3 c0_i32_3
  let v8 : BitVec 1 := Scalar.xori v6 v7
  let v9 : BitVec 1 := Scalar.andi v8 v5
  let v10 : BitVec 32 := Scalar.addi v4 v3
  let v11 : BitVec 32 := Scalar.select v9 v10 v4
  let c1_i32_4 : BitVec 32 := 1#32
  let v12 : BitVec 32 := Scalar.addi c1_i32_4 v11
  let c0_i32_5 : BitVec 32 := 0#32
  let v13 : BitVec 32 := Scalar.select v0 c0_i32_5 v12
  let c0_i32_6 : BitVec 32 := 0#32
  let c0_i32_7 : BitVec 32 := 0#32
  ![v13.toNat, c0_i32_6.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x7680 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x7680 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== ProjRefIdeal.lean ====
abbrev S24576x1024 : Shape := ⟨2, ![24576, 1024]⟩
abbrev S4x8x6x1x1024 : Shape := ⟨5, ![4, 8, 6, 1, 1024]⟩
abbrev S1024 : Shape := ⟨1, ![1024]⟩
abbrev S1024x7440 : Shape := ⟨2, ![1024, 7440]⟩
abbrev S4096x32 : Shape := ⟨2, ![4096, 32]⟩
abbrev S64 : Shape := ⟨1, ![64]⟩
abbrev S1x1x1x1x1024 : Shape := ⟨5, ![1, 1, 1, 1, 1024]⟩
abbrev S1x1024 : Shape := ⟨2, ![1, 1024]⟩
abbrev S8192x1024 : Shape := ⟨2, ![8192, 1024]⟩
abbrev S1x4x1x1x1024 : Shape := ⟨5, ![1, 4, 1, 1, 1024]⟩
abbrev S4x1x1024 : Shape := ⟨3, ![4, 1, 1024]⟩
abbrev S4x4096x1024 : Shape := ⟨3, ![4, 4096, 1024]⟩
abbrev S16384x1024 : Shape := ⟨2, ![16384, 1024]⟩
abbrev S_ : Shape := ⟨0, ![]⟩
abbrev S24576 : Shape := ⟨1, ![24576]⟩
abbrev S24576x1 : Shape := ⟨2, ![24576, 1]⟩
abbrev S24576x7440 : Shape := ⟨2, ![24576, 7440]⟩
abbrev S24576x1536 : Shape := ⟨2, ![24576, 1536]⟩
abbrev S24576x512 : Shape := ⟨2, ![24576, 512]⟩
abbrev S24576x128 : Shape := ⟨2, ![24576, 128]⟩
abbrev S24576x16 : Shape := ⟨2, ![24576, 16]⟩
abbrev S24576x3072 : Shape := ⟨2, ![24576, 3072]⟩
abbrev S24576x240 : Shape := ⟨2, ![24576, 240]⟩
abbrev S24576x7680 : Shape := ⟨2, ![24576, 7680]⟩
abbrev S24576x8x64 : Shape := ⟨3, ![24576, 8, 64]⟩
abbrev S24576x8 : Shape := ⟨2, ![24576, 8]⟩
abbrev S24576x8x1 : Shape := ⟨3, ![24576, 8, 1]⟩
abbrev S1x1x64 : Shape := ⟨3, ![1, 1, 64]⟩
abbrev S24576x2x64 : Shape := ⟨3, ![24576, 2, 64]⟩
abbrev S24576x2 : Shape := ⟨2, ![24576, 2]⟩
abbrev S24576x2x1 : Shape := ⟨3, ![24576, 2, 1]⟩
abbrev S16384x8x64 : Shape := ⟨3, ![16384, 8, 64]⟩
abbrev S4x4096x8x64 : Shape := ⟨4, ![4, 4096, 8, 64]⟩
abbrev S4x4096x8x32x2 : Shape := ⟨5, ![4, 4096, 8, 32, 2]⟩
abbrev S4x4096x8x32x1 : Shape := ⟨5, ![4, 4096, 8, 32, 1]⟩
abbrev S4x4096x8x32 : Shape := ⟨4, ![4, 4096, 8, 32]⟩
abbrev S4096x1x32 : Shape := ⟨3, ![4096, 1, 32]⟩
abbrev S1x4096x1x32 : Shape := ⟨4, ![1, 4096, 1, 32]⟩
abbrev S8192x8x64 : Shape := ⟨3, ![8192, 8, 64]⟩
abbrev S16384x2x64 : Shape := ⟨3, ![16384, 2, 64]⟩
abbrev S4x4096x2x64 : Shape := ⟨4, ![4, 4096, 2, 64]⟩
abbrev S4x4096x2x32x2 : Shape := ⟨5, ![4, 4096, 2, 32, 2]⟩
abbrev S4x4096x2x32x1 : Shape := ⟨5, ![4, 4096, 2, 32, 1]⟩
abbrev S4x4096x2x32 : Shape := ⟨4, ![4, 4096, 2, 32]⟩
abbrev S8192x2x64 : Shape := ⟨3, ![8192, 2, 64]⟩
abbrev S24576x64 : Shape := ⟨2, ![24576, 64]⟩
abbrev S24576x1x64 : Shape := ⟨3, ![24576, 1, 64]⟩

abbrev nBuf : Space → Nat
  | .hbm => 183
  | .vmem => 0
  | .smem => 0
  | _ => 0

abbrev hbmTy0_0 (i : Nat) : BufTy := match i % 128 with
  | 0 => ⟨S24576x1024, .f32⟩
  | 1 => ⟨S4x8x6x1x1024, .f32⟩
  | 2 => ⟨S1024, .f32⟩
  | 3 => ⟨S1024x7440, .f32⟩
  | 4 => ⟨S4096x32, .f32⟩
  | 5 => ⟨S4096x32, .f32⟩
  | 6 => ⟨S64, .f32⟩
  | 7 => ⟨S64, .f32⟩
  | 8 => ⟨S1x1x1x1x1024, .f32⟩
  | 9 => ⟨S1x1024, .f32⟩
  | 10 => ⟨S8192x1024, .f32⟩
  | 11 => ⟨S1x4x1x1x1024, .f32⟩
  | 12 => ⟨S4x1x1024, .f32⟩
  | 13 => ⟨S4x4096x1024, .f32⟩
  | 14 => ⟨S16384x1024, .f32⟩
  | 15 => ⟨S24576x1024, .f32⟩
  | 16 => ⟨S1x1x1x1x1024, .f32⟩
  | 17 => ⟨S1x1024, .f32⟩
  | 18 => ⟨S8192x1024, .f32⟩
  | 19 => ⟨S1x4x1x1x1024, .f32⟩
  | 20 => ⟨S4x1x1024, .f32⟩
  | 21 => ⟨S4x4096x1024, .f32⟩
  | 22 => ⟨S16384x1024, .f32⟩
  | 23 => ⟨S24576x1024, .f32⟩
  | 24 => ⟨S24576x1024, .f32⟩
  | 25 => ⟨S_, .f32⟩
  | 26 => ⟨S24576, .f32⟩
  | 27 => ⟨S24576x1, .f32⟩
  | 28 => ⟨S_, .f32⟩
  | 29 => ⟨S24576x1, .f32⟩
  | 30 => ⟨S24576x1, .f32⟩
  | 31 => ⟨S_, .f32⟩
  | 32 => ⟨S24576x1, .f32⟩
  | 33 => ⟨S24576x1, .f32⟩
  | 34 => ⟨S24576x1, .f32⟩
  | 35 => ⟨S24576x1024, .f32⟩
  | 36 => ⟨S24576x1024, .f32⟩
  | 37 => ⟨S1x1024, .f32⟩
  | 38 => ⟨S24576x1024, .f32⟩
  | 39 => ⟨S24576x1024, .f32⟩
  | 40 => ⟨S_, .f32⟩
  | 41 => ⟨S24576x1024, .f32⟩
  | 42 => ⟨S24576x1024, .f32⟩
  | 43 => ⟨S24576x1024, .f32⟩
  | 44 => ⟨S24576x1024, .f32⟩
  | 45 => ⟨S24576x7440, .f32⟩
  | 46 => ⟨S24576x1536, .f32⟩
  | 47 => ⟨S24576x512, .f32⟩
  | 48 => ⟨S24576x128, .f32⟩
  | 49 => ⟨S24576x128, .f32⟩
  | 50 => ⟨S24576x1536, .f32⟩
  | 51 => ⟨S24576x512, .f32⟩
  | 52 => ⟨S24576x16, .f32⟩
  | 53 => ⟨S24576x3072, .f32⟩
  | 54 => ⟨S_, .f32⟩
  | 55 => ⟨S24576x240, .f32⟩
  | 56 => ⟨S24576x7680, .f32⟩
  | 57 => ⟨S24576x8x64, .f32⟩
  | 58 => ⟨S24576x8x64, .f32⟩
  | 59 => ⟨S_, .f32⟩
  | 60 => ⟨S24576x8, .f32⟩
  | 61 => ⟨S24576x8x1, .f32⟩
  | 62 => ⟨S_, .f32⟩
  | 63 => ⟨S24576x8x1, .f32⟩
  | 64 => ⟨S24576x8x1, .f32⟩
  | 65 => ⟨S_, .f32⟩
  | 66 => ⟨S24576x8x1, .f32⟩
  | 67 => ⟨S24576x8x1, .f32⟩
  | 68 => ⟨S24576x8x1, .f32⟩
  | 69 => ⟨S24576x8x64, .f32⟩
  | 70 => ⟨S24576x8x64, .f32⟩
  | 71 => ⟨S1x1x64, .f32⟩
  | 72 => ⟨S24576x8x64, .f32⟩
  | 73 => ⟨S24576x8x64, .f32⟩
  | 74 => ⟨S24576x2x64, .f32⟩
  | 75 => ⟨S24576x2x64, .f32⟩
  | 76 => ⟨S_, .f32⟩
  | 77 => ⟨S24576x2, .f32⟩
  | 78 => ⟨S24576x2x1, .f32⟩
  | 79 => ⟨S_, .f32⟩
  | 80 => ⟨S24576x2x1, .f32⟩
  | 81 => ⟨S24576x2x1, .f32⟩
  | 82 => ⟨S_, .f32⟩
  | 83 => ⟨S24576x2x1, .f32⟩
  | 84 => ⟨S24576x2x1, .f32⟩
  | 85 => ⟨S24576x2x1, .f32⟩
  | 86 => ⟨S24576x2x64, .f32⟩
  | 87 => ⟨S24576x2x64, .f32⟩
  | 88 => ⟨S1x1x64, .f32⟩
  | 89 => ⟨S24576x2x64, .f32⟩
  | 90 => ⟨S24576x2x64, .f32⟩
  | 91 => ⟨S16384x8x64, .f32⟩
  | 92 => ⟨S4x4096x8x64, .f32⟩
  | 93 => ⟨S4x4096x8x32x2, .f32⟩
  | 94 => ⟨S4x4096x8x32x1, .f32⟩
  | 95 => ⟨S4x4096x8x32, .f32⟩
  | 96 => ⟨S4x4096x8x32x1, .f32⟩
  | 97 => ⟨S4x4096x8x32, .f32⟩
  | 98 => ⟨S4096x1x32, .f32⟩
  | 99 => ⟨S4096x1x32, .f32⟩
  | 100 => ⟨S1x4096x1x32, .f32⟩
  | 101 => ⟨S4x4096x8x32, .f32⟩
  | 102 => ⟨S4x4096x8x32, .f32⟩
  | 103 => ⟨S1x4096x1x32, .f32⟩
  | 104 => ⟨S4x4096x8x32, .f32⟩
  | 105 => ⟨S4x4096x8x32, .f32⟩
  | 106 => ⟨S4x4096x8x32, .f32⟩
  | 107 => ⟨S1x4096x1x32, .f32⟩
  | 108 => ⟨S4x4096x8x32, .f32⟩
  | 109 => ⟨S4x4096x8x32, .f32⟩
  | 110 => ⟨S1x4096x1x32, .f32⟩
  | 111 => ⟨S4x4096x8x32, .f32⟩
  | 112 => ⟨S4x4096x8x32, .f32⟩
  | 113 => ⟨S4x4096x8x32, .f32⟩
  | 114 => ⟨S4x4096x8x32x1, .f32⟩
  | 115 => ⟨S4x4096x8x32x1, .f32⟩
  | 116 => ⟨S4x4096x8x32x2, .f32⟩
  | 117 => ⟨S4x4096x8x64, .f32⟩
  | 118 => ⟨S8192x8x64, .f32⟩
  | 119 => ⟨S16384x8x64, .f32⟩
  | 120 => ⟨S24576x8x64, .f32⟩
  | 121 => ⟨S_, .f32⟩
  | 122 => ⟨S24576x8x64, .f32⟩
  | 123 => ⟨S24576x8x64, .f32⟩
  | 124 => ⟨S24576x512, .f32⟩
  | 125 => ⟨S16384x2x64, .f32⟩
  | 126 => ⟨S4x4096x2x64, .f32⟩
  | 127 => ⟨S4x4096x2x32x2, .f32⟩
  | _ => ⟨S24576x1024, .f32⟩

abbrev hbmTy0_1 (i : Nat) : BufTy := match i % 128 with
  | 0 => ⟨S4x4096x2x32x1, .f32⟩
  | 1 => ⟨S4x4096x2x32, .f32⟩
  | 2 => ⟨S4x4096x2x32x1, .f32⟩
  | 3 => ⟨S4x4096x2x32, .f32⟩
  | 4 => ⟨S4096x1x32, .f32⟩
  | 5 => ⟨S4096x1x32, .f32⟩
  | 6 => ⟨S1x4096x1x32, .f32⟩
  | 7 => ⟨S4x4096x2x32, .f32⟩
  | 8 => ⟨S4x4096x2x32, .f32⟩
  | 9 => ⟨S1x4096x1x32, .f32⟩
  | 10 => ⟨S4x4096x2x32, .f32⟩
  | 11 => ⟨S4x4096x2x32, .f32⟩
  | 12 => ⟨S4x4096x2x32, .f32⟩
  | 13 => ⟨S1x4096x1x32, .f32⟩
  | 14 => ⟨S4x4096x2x32, .f32⟩
  | 15 => ⟨S4x4096x2x32, .f32⟩
  | 16 => ⟨S1x4096x1x32, .f32⟩
  | 17 => ⟨S4x4096x2x32, .f32⟩
  | 18 => ⟨S4x4096x2x32, .f32⟩
  | 19 => ⟨S4x4096x2x32, .f32⟩
  | 20 => ⟨S4x4096x2x32x1, .f32⟩
  | 21 => ⟨S4x4096x2x32x1, .f32⟩
  | 22 => ⟨S4x4096x2x32x2, .f32⟩
  | 23 => ⟨S4x4096x2x64, .f32⟩
  | 24 => ⟨S8192x2x64, .f32⟩
  | 25 => ⟨S16384x2x64, .f32⟩
  | 26 => ⟨S24576x2x64, .f32⟩
  | 27 => ⟨S_, .f32⟩
  | 28 => ⟨S24576x64, .f32⟩
  | 29 => ⟨S24576x1x64, .f32⟩
  | 30 => ⟨S24576x64, .f32⟩
  | 31 => ⟨S24576x1x64, .f32⟩
  | 32 => ⟨S24576x64, .f32⟩
  | 33 => ⟨S24576x1x64, .f32⟩
  | 34 => ⟨S24576x64, .f32⟩
  | 35 => ⟨S24576x1x64, .f32⟩
  | 36 => ⟨S24576x64, .f32⟩
  | 37 => ⟨S24576x512, .f32⟩
  | 38 => ⟨S24576x2x64, .f32⟩
  | 39 => ⟨S_, .f32⟩
  | 40 => ⟨S24576x64, .f32⟩
  | 41 => ⟨S24576x1x64, .f32⟩
  | 42 => ⟨S24576x64, .f32⟩
  | 43 => ⟨S24576x1x64, .f32⟩
  | 44 => ⟨S24576x64, .f32⟩
  | 45 => ⟨S24576x1x64, .f32⟩
  | 46 => ⟨S24576x64, .f32⟩
  | 47 => ⟨S24576x1x64, .f32⟩
  | 48 => ⟨S24576x64, .f32⟩
  | 49 => ⟨S24576x512, .f32⟩
  | 50 => ⟨S24576x7680, .bf16⟩
  | 51 => ⟨S24576x512, .bf16⟩
  | 52 => ⟨S24576x512, .bf16⟩
  | 53 => ⟨S24576x512, .bf16⟩
  | 54 => ⟨S24576x128, .f32⟩
  | _ => ⟨S24576x1024, .f32⟩

abbrev hbmTy (i : Nat) : BufTy := match i / 128 with
  | 0 => hbmTy0_0 i
  | 1 => hbmTy0_1 i
  | _ => ⟨S24576x1024, .f32⟩

abbrev bufTy : (tb : Table) → Fin (tcTables nBuf tb) → BufTy
  | .hbm, ⟨i, _⟩ => hbmTy i
  | _, _ => ⟨S24576x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst : Ref sig .tc := ⟨.hbm, 25, rfl⟩
abbrev main_v17 : Ref sig .tc := ⟨.hbm, 26, rfl⟩
abbrev main_v18 : Ref sig .tc := ⟨.hbm, 27, rfl⟩
abbrev main_cst_0 : Ref sig .tc := ⟨.hbm, 28, rfl⟩
abbrev main_v19 : Ref sig .tc := ⟨.hbm, 29, rfl⟩
abbrev main_v20 : Ref sig .tc := ⟨.hbm, 30, rfl⟩
abbrev main_cst_1 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_2 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_cst_3 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_cst_4 : Ref sig .tc := ⟨.hbm, 59, rfl⟩
abbrev main_v46 : Ref sig .tc := ⟨.hbm, 60, rfl⟩
abbrev main_v47 : Ref sig .tc := ⟨.hbm, 61, rfl⟩
abbrev main_cst_5 : Ref sig .tc := ⟨.hbm, 62, rfl⟩
abbrev main_v48 : Ref sig .tc := ⟨.hbm, 63, rfl⟩
abbrev main_v49 : Ref sig .tc := ⟨.hbm, 64, rfl⟩
abbrev main_cst_6 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_cst_7 : Ref sig .tc := ⟨.hbm, 76, rfl⟩
abbrev main_v60 : Ref sig .tc := ⟨.hbm, 77, rfl⟩
abbrev main_v61 : Ref sig .tc := ⟨.hbm, 78, rfl⟩
abbrev main_cst_8 : Ref sig .tc := ⟨.hbm, 79, rfl⟩
abbrev main_v62 : Ref sig .tc := ⟨.hbm, 80, rfl⟩
abbrev main_v63 : Ref sig .tc := ⟨.hbm, 81, rfl⟩
abbrev main_cst_9 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_v83 : Ref sig .tc := ⟨.hbm, 102, rfl⟩
abbrev main_v84 : Ref sig .tc := ⟨.hbm, 103, rfl⟩
abbrev main_v85 : Ref sig .tc := ⟨.hbm, 104, rfl⟩
abbrev main_v86 : Ref sig .tc := ⟨.hbm, 105, rfl⟩
abbrev main_v87 : Ref sig .tc := ⟨.hbm, 106, rfl⟩
abbrev main_v88 : Ref sig .tc := ⟨.hbm, 107, rfl⟩
abbrev main_v89 : Ref sig .tc := ⟨.hbm, 108, rfl⟩
abbrev main_v90 : Ref sig .tc := ⟨.hbm, 109, rfl⟩
abbrev main_v91 : Ref sig .tc := ⟨.hbm, 110, rfl⟩
abbrev main_v92 : Ref sig .tc := ⟨.hbm, 111, rfl⟩
abbrev main_v93 : Ref sig .tc := ⟨.hbm, 112, rfl⟩
abbrev main_v94 : Ref sig .tc := ⟨.hbm, 113, rfl⟩
abbrev main_v95 : Ref sig .tc := ⟨.hbm, 114, rfl⟩
abbrev main_v96 : Ref sig .tc := ⟨.hbm, 115, rfl⟩
abbrev main_v97 : Ref sig .tc := ⟨.hbm, 116, rfl⟩
abbrev main_v98 : Ref sig .tc := ⟨.hbm, 117, rfl⟩
abbrev main_v99 : Ref sig .tc := ⟨.hbm, 118, rfl⟩
abbrev main_v100 : Ref sig .tc := ⟨.hbm, 119, rfl⟩
abbrev main_v101 : Ref sig .tc := ⟨.hbm, 120, rfl⟩
abbrev main_cst_10 : Ref sig .tc := ⟨.hbm, 121, rfl⟩
abbrev main_v102 : Ref sig .tc := ⟨.hbm, 122, rfl⟩
abbrev main_v103 : Ref sig .tc := ⟨.hbm, 123, rfl⟩
abbrev main_v104 : Ref sig .tc := ⟨.hbm, 124, rfl⟩
abbrev main_v105 : Ref sig .tc := ⟨.hbm, 125, rfl⟩
abbrev main_v106 : Ref sig .tc := ⟨.hbm, 126, rfl⟩
abbrev main_v107 : Ref sig .tc := ⟨.hbm, 127, rfl⟩
abbrev main_v108 : Ref sig .tc := ⟨.hbm, 128, rfl⟩
abbrev main_v109 : Ref sig .tc := ⟨.hbm, 129, rfl⟩
abbrev main_v110 : Ref sig .tc := ⟨.hbm, 130, rfl⟩
abbrev main_v111 : Ref sig .tc := ⟨.hbm, 131, rfl⟩
abbrev main_v112 : Ref sig .tc := ⟨.hbm, 132, rfl⟩
abbrev main_v113 : Ref sig .tc := ⟨.hbm, 133, rfl⟩
abbrev main_v114 : Ref sig .tc := ⟨.hbm, 134, rfl⟩
abbrev main_v115 : Ref sig .tc := ⟨.hbm, 135, rfl⟩
abbrev main_v116 : Ref sig .tc := ⟨.hbm, 136, rfl⟩
abbrev main_v117 : Ref sig .tc := ⟨.hbm, 137, rfl⟩
abbrev main_v118 : Ref sig .tc := ⟨.hbm, 138, rfl⟩
abbrev main_v119 : Ref sig .tc := ⟨.hbm, 139, rfl⟩
abbrev main_v120 : Ref sig .tc := ⟨.hbm, 140, rfl⟩
abbrev main_v121 : Ref sig .tc := ⟨.hbm, 141, rfl⟩
abbrev main_v122 : Ref sig .tc := ⟨.hbm, 142, rfl⟩
abbrev main_v123 : Ref sig .tc := ⟨.hbm, 143, rfl⟩
abbrev main_v124 : Ref sig .tc := ⟨.hbm, 144, rfl⟩
abbrev main_v125 : Ref sig .tc := ⟨.hbm, 145, rfl⟩
abbrev main_v126 : Ref sig .tc := ⟨.hbm, 146, rfl⟩
abbrev main_v127 : Ref sig .tc := ⟨.hbm, 147, rfl⟩
abbrev main_v128 : Ref sig .tc := ⟨.hbm, 148, rfl⟩
abbrev main_v129 : Ref sig .tc := ⟨.hbm, 149, rfl⟩
abbrev main_v130 : Ref sig .tc := ⟨.hbm, 150, rfl⟩
abbrev main_v131 : Ref sig .tc := ⟨.hbm, 151, rfl⟩
abbrev main_v132 : Ref sig .tc := ⟨.hbm, 152, rfl⟩
abbrev main_v133 : Ref sig .tc := ⟨.hbm, 153, rfl⟩
abbrev main_v134 : Ref sig .tc := ⟨.hbm, 154, rfl⟩
abbrev main_cst_11 : Ref sig .tc := ⟨.hbm, 155, rfl⟩
abbrev main_v135 : Ref sig .tc := ⟨.hbm, 156, rfl⟩
abbrev main_v136 : Ref sig .tc := ⟨.hbm, 157, rfl⟩
abbrev main_v137 : Ref sig .tc := ⟨.hbm, 158, rfl⟩
abbrev main_v138 : Ref sig .tc := ⟨.hbm, 159, rfl⟩
abbrev main_v139 : Ref sig .tc := ⟨.hbm, 160, rfl⟩
abbrev main_v140 : Ref sig .tc := ⟨.hbm, 161, rfl⟩
abbrev main_v141 : Ref sig .tc := ⟨.hbm, 162, rfl⟩
abbrev main_v142 : Ref sig .tc := ⟨.hbm, 163, rfl⟩
abbrev main_v143 : Ref sig .tc := ⟨.hbm, 164, rfl⟩
abbrev main_v144 : Ref sig .tc := ⟨.hbm, 165, rfl⟩
abbrev main_v145 : Ref sig .tc := ⟨.hbm, 166, rfl⟩
abbrev main_cst_12 : Ref sig .tc := ⟨.hbm, 167, rfl⟩
abbrev main_v146 : Ref sig .tc := ⟨.hbm, 168, rfl⟩
abbrev main_v147 : Ref sig .tc := ⟨.hbm, 169, rfl⟩
abbrev main_v148 : Ref sig .tc := ⟨.hbm, 170, rfl⟩
abbrev main_v149 : Ref sig .tc := ⟨.hbm, 171, rfl⟩
abbrev main_v150 : Ref sig .tc := ⟨.hbm, 172, rfl⟩
abbrev main_v151 : Ref sig .tc := ⟨.hbm, 173, rfl⟩
abbrev main_v152 : Ref sig .tc := ⟨.hbm, 174, rfl⟩
abbrev main_v153 : Ref sig .tc := ⟨.hbm, 175, rfl⟩
abbrev main_v154 : Ref sig .tc := ⟨.hbm, 176, rfl⟩
abbrev main_v155 : Ref sig .tc := ⟨.hbm, 177, rfl⟩
abbrev main_v156 : Ref sig .tc := ⟨.hbm, 178, rfl⟩
abbrev main_v157 : Ref sig .tc := ⟨.hbm, 179, rfl⟩
abbrev main_v158 : Ref sig .tc := ⟨.hbm, 180, rfl⟩
abbrev main_v159 : Ref sig .tc := ⟨.hbm, 181, rfl⟩
abbrev main_v160 : Ref sig .tc := ⟨.hbm, 182, rfl⟩

abbrev nD : Nat := 1
abbrev τ : Topo := Topo.v7x

variable {F : FTy → Type} [FloatOps F]
-- ==== Moe.lean ====
abbrev S24576x1024 : Shape := ⟨2, ![24576, 1024]⟩
abbrev S4x8x6x1x1024 : Shape := ⟨5, ![4, 8, 6, 1, 1024]⟩
abbrev S1024 : Shape := ⟨1, ![1024]⟩
abbrev S1024x8 : Shape := ⟨2, ![1024, 8]⟩
abbrev S8 : Shape := ⟨1, ![8]⟩
abbrev S8x1024x1024 : Shape := ⟨3, ![8, 1024, 1024]⟩
abbrev S8x1024 : Shape := ⟨2, ![8, 1024]⟩
abbrev S_ : Shape := ⟨0, ![]⟩
abbrev S16x1024 : Shape := ⟨2, ![16, 1024]⟩
abbrev S16 : Shape := ⟨1, ![16]⟩
abbrev S1x1024 : Shape := ⟨2, ![1, 1024]⟩
abbrev S16x1 : Shape := ⟨2, ![16, 1]⟩
abbrev S16x128 : Shape := ⟨2, ![16, 128]⟩
abbrev S1024x1024 : Shape := ⟨2, ![1024, 1024]⟩
abbrev S1x1x1x1x1024 : Shape := ⟨5, ![1, 1, 1, 1, 1024]⟩
abbrev S1x1024x1024 : Shape := ⟨3, ![1, 1024, 1024]⟩
abbrev S2x16x1024 : Shape := ⟨3, ![2, 16, 1024]⟩
abbrev S1024x1 : Shape := ⟨2, ![1024, 1]⟩
abbrev S1x16x1024 : Shape := ⟨3, ![1, 16, 1024]⟩
abbrev S1x1x1024 : Shape := ⟨3, ![1, 1, 1024]⟩
abbrev S1 : Shape := ⟨1, ![1]⟩
abbrev S1x1x1 : Shape := ⟨3, ![1, 1, 1]⟩
abbrev S256x1024 : Shape := ⟨2, ![256, 1024]⟩
abbrev S1x1024x256 : Shape := ⟨3, ![1, 1024, 256]⟩
abbrev S1024x256 : Shape := ⟨2, ![1024, 256]⟩
abbrev S256x256 : Shape := ⟨2, ![256, 256]⟩
abbrev S1x256x1024 : Shape := ⟨3, ![1, 256, 1024]⟩
abbrev S256 : Shape := ⟨1, ![256]⟩
abbrev S256x1 : Shape := ⟨2, ![256, 1]⟩
abbrev S128x1024 : Shape := ⟨2, ![128, 1024]⟩
abbrev S128x256 : Shape := ⟨2, ![128, 256]⟩
abbrev S128 : Shape := ⟨1, ![128]⟩
abbrev S128x1 : Shape := ⟨2, ![128, 1]⟩

abbrev nBuf : Space → Nat
  | .hbm => 33
  | .vmem => 23
  | .smem => 0
  | _ => 0

abbrev bufTy : (tb : Table) → Fin (tcTables nBuf tb) → BufTy
  | .hbm, ⟨0, _⟩ => ⟨S24576x1024, .f32⟩
  | .hbm, ⟨1, _⟩ => ⟨S4x8x6x1x1024, .f32⟩
  | .hbm, ⟨2, _⟩ => ⟨S1024, .f32⟩
  | .hbm, ⟨3, _⟩ => ⟨S1024x8, .f32⟩
  | .hbm, ⟨4, _⟩ => ⟨S8, .f32⟩
  | .hbm, ⟨5, _⟩ => ⟨S8x1024x1024, .f32⟩
  | .hbm, ⟨6, _⟩ => ⟨S8x1024x1024, .f32⟩
  | .hbm, ⟨7, _⟩ => ⟨S8x1024x1024, .f32⟩
  | .hbm, ⟨8, _⟩ => ⟨S8x1024, .f32⟩
  | .hbm, ⟨9, _⟩ => ⟨S_, .f32⟩
  | .hbm, ⟨10, _⟩ => ⟨S8x1024, .f32⟩
  | .hbm, ⟨11, _⟩ => ⟨S16x1024, .f32⟩
  | .hbm, ⟨12, _⟩ => ⟨S_, .f32⟩
  | .hbm, ⟨13, _⟩ => ⟨S8, .f32⟩
  | .hbm, ⟨14, _⟩ => ⟨S16, .f32⟩
  | .hbm, ⟨15, _⟩ => ⟨S1x1024, .f32⟩
  | .hbm, ⟨16, _⟩ => ⟨S16x1, .f32⟩
  | .hbm, ⟨17, _⟩ => ⟨S16x128, .f32⟩
  | .hbm, ⟨18, _⟩ => ⟨S8x1024x1024, .bf16⟩
  | .hbm, ⟨19, _⟩ => ⟨S8x1024x1024, .bf16⟩
  | .hbm, ⟨20, _⟩ => ⟨S8x1024x1024, .bf16⟩
  | .hbm, ⟨21, _⟩ => ⟨S_, .bf16⟩
  | .hbm, ⟨22, _⟩ => ⟨S1024x1024, .bf16⟩
  | .hbm, ⟨23, _⟩ => ⟨S1024x1024, .i32⟩
  | .hbm, ⟨24, _⟩ => ⟨S_, .i32⟩
  | .hbm, ⟨25, _⟩ => ⟨S1024x1024, .i32⟩
  | .hbm, ⟨26, _⟩ => ⟨S1024x1024, .i32⟩
  | .hbm, ⟨27, _⟩ => ⟨S1024x1024, .i32⟩
  | .hbm, ⟨28, _⟩ => ⟨S1024x1024, .i1⟩
  | .hbm, ⟨29, _⟩ => ⟨S_, .bf16⟩
  | .hbm, ⟨30, _⟩ => ⟨S1024x1024, .bf16⟩
  | .hbm, ⟨31, _⟩ => ⟨S1024x1024, .bf16⟩
  | .hbm, ⟨32, _⟩ => ⟨S24576x1024, .f32⟩
  | .local _ .vmem, ⟨0, _⟩ => ⟨S1024x1024, .f32⟩
  | .local _ .vmem, ⟨1, _⟩ => ⟨S1024x1024, .f32⟩
  | .local _ .vmem, ⟨2, _⟩ => ⟨S1x1x1x1x1024, .f32⟩
  | .local _ .vmem, ⟨3, _⟩ => ⟨S1x1x1x1x1024, .f32⟩
  | .local _ .vmem, ⟨4, _⟩ => ⟨S1x1x1x1x1024, .f32⟩
  | .local _ .vmem, ⟨5, _⟩ => ⟨S1x1x1x1x1024, .f32⟩
  | .local _ .vmem, ⟨6, _⟩ => ⟨S1x1x1x1x1024, .f32⟩
  | .local _ .vmem, ⟨7, _⟩ => ⟨S1x1x1x1x1024, .f32⟩
  | .local _ .vmem, ⟨8, _⟩ => ⟨S1x1024, .f32⟩
  | .local _ .vmem, ⟨9, _⟩ => ⟨S16x1024, .f32⟩
  | .local _ .vmem, ⟨10, _⟩ => ⟨S16x128, .f32⟩
  | .local _ .vmem, ⟨11, _⟩ => ⟨S1024x1024, .bf16⟩
  | .local _ .vmem, ⟨12, _⟩ => ⟨S1x1024x1024, .bf16⟩
  | .local _ .vmem, ⟨13, _⟩ => ⟨S1x1024x1024, .bf16⟩
  | .local _ .vmem, ⟨14, _⟩ => ⟨S1x1024x1024, .bf16⟩
  | .local _ .vmem, ⟨15, _⟩ => ⟨S1x1024x1024, .bf16⟩
  | .local _ .vmem, ⟨16, _⟩ => ⟨S1x1024x1024, .bf16⟩
  | .local _ .vmem, ⟨17, _⟩ => ⟨S1x1024x1024, .bf16⟩
  | .local _ .vmem, ⟨18, _⟩ => ⟨S1024x1024, .f32⟩
  | .local _ .vmem, ⟨19, _⟩ => ⟨S1024x1024, .f32⟩
  | .local _ .vmem, ⟨20, _⟩ => ⟨S1024x1024, .bf16⟩
  | .local _ .vmem, ⟨21, _⟩ => ⟨S2x16x1024, .f32⟩
  | .local _ .vmem, ⟨22, _⟩ => ⟨S1024x1024, .f32⟩
  | _, _ => ⟨S24576x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_call0_v0 : Ref sig .tc := ⟨.hbm, 23, rfl⟩
abbrev main_call0_c : Ref sig .tc := ⟨.hbm, 24, rfl⟩
abbrev main_call0_v1 : Ref sig .tc := ⟨.hbm, 25, rfl⟩
abbrev main_call0_v2 : Ref sig .tc := ⟨.hbm, 26, rfl⟩
abbrev main_call0_v3 : Ref sig .tc := ⟨.hbm, 27, rfl⟩
abbrev main_call0_v4 : Ref sig .tc := ⟨.hbm, 28, rfl⟩
abbrev main_call0_cst : Ref sig .tc := ⟨.hbm, 29, rfl⟩
abbrev main_call0_v5 : Ref sig .tc := ⟨.hbm, 30, rfl⟩
abbrev main_v12 : Ref sig .tc := ⟨.hbm, 31, rfl⟩
abbrev main_v13 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_scratch0 : Ref sig .tc := ⟨.vmem, 20, rfl⟩
abbrev cc0_scratch1 : Ref sig .tc := ⟨.vmem, 21, rfl⟩
abbrev cc0_scratch2 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19

abbrev nD : Nat := 1
abbrev τ : Topo := Topo.v7x

variable {F : FTy → Type} [FloatOps F]

abbrev grid0 : Pipeline.Grid := ⟨2, ![24, 8], ![false, false]⟩

def k0_cond7 (i : grid0.Coords) : BitVec 1 :=
  let arg1 : BitVec 32 := BitVec.ofNat 32 (i 1).val
  let c7_i32 : BitVec 32 := 7#32
  let v42 : BitVec 1 := Scalar.cmpi .eq arg1 c7_i32
  let v43 : BitVec 32 := Scalar.extui v42
  let c0_i32_22 : BitVec 32 := 0#32
  let v44 : BitVec 1 := Scalar.cmpi .ne v43 c0_i32_22
  v44

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 5 → Nat :=
  let arg0 : BitVec 32 := BitVec.ofNat 32 (i 0).val
  let arg1 : BitVec 32 := BitVec.ofNat 32 (i 1).val
  let c8_i32 : BitVec 32 := 8#32
  let v0 : BitVec 1 := Scalar.cmpi .slt arg0 c8_i32
  let c8_i32_0 : BitVec 32 := 8#32
  let v1 : BitVec 32 := Scalar.subi arg0 c8_i32_0
  let c4_i32 : BitVec 32 := 4#32
  let v2 : BitVec 32 := Scalar.divsi v1 c4_i32
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c4_i32 c0_i32_2
  let v9 : BitVec 32 := Scalar.extui v8
  let c0_i32_3 : BitVec 32 := 0#32
  let v10 : BitVec 1 := Scalar.cmpi .slt c4_i32 c0_i32_3
  let v11 : BitVec 32 := Scalar.extui v10
  let v12 : BitVec 32 := Scalar.subi v9 v11
  let v13 : BitVec 1 := Scalar.cmpi .ne v7 v12
  let v14 : BitVec 32 := Scalar.remsi v1 c4_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c1_i32_5 : BitVec 32 := 1#32
  let v19 : BitVec 32 := Scalar.addi c1_i32_5 v18
  let c0_i32_6 : BitVec 32 := 0#32
  let v20 : BitVec 32 := Scalar.select v0 c0_i32_6 v19
  let c1_i32_7 : BitVec 32 := 1#32
  let c3_i32 : BitVec 32 := 3#32
  let c0_i32_8 : BitVec 32 := 0#32
  let c0_i32_9 : BitVec 32 := 0#32
  let c0_i32_10 : BitVec 32 := 0#32
  ![c1_i32_7.toNat, v20.toNat, c3_i32.toNat, c0_i32_8.toNat, c0_i32_9.toNat]

def cc0_transform_2 (i : grid0.Coords) : Fin 5 → Nat :=
  let arg0 : BitVec 32 := BitVec.ofNat 32 (i 0).val
  let arg1 : BitVec 32 := BitVec.ofNat 32 (i 1).val
  let c8_i32 : BitVec 32 := 8#32
  let v0 : BitVec 1 := Scalar.cmpi .slt arg0 c8_i32
  let c8_i32_0 : BitVec 32 := 8#32
  let v1 : BitVec 32 := Scalar.subi arg0 c8_i32_0
  let c4_i32 : BitVec 32 := 4#32
  let v2 : BitVec 32 := Scalar.divsi v1 c4_i32
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c4_i32 c0_i32_2
  let v9 : BitVec 32 := Scalar.extui v8
  let c0_i32_3 : BitVec 32 := 0#32
  let v10 : BitVec 1 := Scalar.cmpi .slt c4_i32 c0_i32_3
  let v11 : BitVec 32 := Scalar.extui v10
  let v12 : BitVec 32 := Scalar.subi v9 v11
  let v13 : BitVec 1 := Scalar.cmpi .ne v7 v12
  let v14 : BitVec 32 := Scalar.remsi v1 c4_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c1_i32_5 : BitVec 32 := 1#32
  let v19 : BitVec 32 := Scalar.addi c1_i32_5 v18
  let c0_i32_6 : BitVec 32 := 0#32
  let v20 : BitVec 32 := Scalar.select v0 c0_i32_6 v19
  let c1_i32_7 : BitVec 32 := 1#32
  let c4_i32_8 : BitVec 32 := 4#32
  let c0_i32_9 : BitVec 32 := 0#32
  let c0_i32_10 : BitVec 32 := 0#32
  let c0_i32_11 : BitVec 32 := 0#32
  ![c1_i32_7.toNat, v20.toNat, c4_i32_8.toNat, c0_i32_9.toNat, c0_i32_10.toNat]

def cc0_transform_3 (i : grid0.Coords) : Fin 5 → Nat :=
  let arg0 : BitVec 32 := BitVec.ofNat 32 (i 0).val
  let arg1 : BitVec 32 := BitVec.ofNat 32 (i 1).val
  let c8_i32 : BitVec 32 := 8#32
  let v0 : BitVec 1 := Scalar.cmpi .slt arg0 c8_i32
  let c8_i32_0 : BitVec 32 := 8#32
  let v1 : BitVec 32 := Scalar.subi arg0 c8_i32_0
  let c4_i32 : BitVec 32 := 4#32
  let v2 : BitVec 32 := Scalar.divsi v1 c4_i32
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c4_i32 c0_i32_2
  let v9 : BitVec 32 := Scalar.extui v8
  let c0_i32_3 : BitVec 32 := 0#32
  let v10 : BitVec 1 := Scalar.cmpi .slt c4_i32 c0_i32_3
  let v11 : BitVec 32 := Scalar.extui v10
  let v12 : BitVec 32 := Scalar.subi v9 v11
  let v13 : BitVec 1 := Scalar.cmpi .ne v7 v12
  let v14 : BitVec 32 := Scalar.remsi v1 c4_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c1_i32_5 : BitVec 32 := 1#32
  let v19 : BitVec 32 := Scalar.addi c1_i32_5 v18
  let c0_i32_6 : BitVec 32 := 0#32
  let v20 : BitVec 32 := Scalar.select v0 c0_i32_6 v19
  let c1_i32_7 : BitVec 32 := 1#32
  let c5_i32 : BitVec 32 := 5#32
  let c0_i32_8 : BitVec 32 := 0#32
  let c0_i32_9 : BitVec 32 := 0#32
  let c0_i32_10 : BitVec 32 := 0#32
  ![c1_i32_7.toNat, v20.toNat, c5_i32.toNat, c0_i32_8.toNat, c0_i32_9.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1x1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S16x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S16x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x1024x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S1x1024x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S1x1024x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, true]

abbrev stage0_11 : Fin 2 → Memref sig .tc .vmem S1024x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]
-- ==== MoeRefIdeal.lean ====
abbrev S24576x1024 : Shape := ⟨2, ![24576, 1024]⟩
abbrev S4x8x6x1x1024 : Shape := ⟨5, ![4, 8, 6, 1, 1024]⟩
abbrev S1024 : Shape := ⟨1, ![1024]⟩
abbrev S1024x8 : Shape := ⟨2, ![1024, 8]⟩
abbrev S8 : Shape := ⟨1, ![8]⟩
abbrev S8x1024x1024 : Shape := ⟨3, ![8, 1024, 1024]⟩
abbrev S1x5x1x1x1024 : Shape := ⟨5, ![1, 5, 1, 1, 1024]⟩
abbrev S5x1024 : Shape := ⟨2, ![5, 1024]⟩
abbrev S1x1024 : Shape := ⟨2, ![1, 1024]⟩
abbrev S8192x1024 : Shape := ⟨2, ![8192, 1024]⟩
abbrev S4x1024 : Shape := ⟨2, ![4, 1024]⟩
abbrev S4x4096x1024 : Shape := ⟨3, ![4, 4096, 1024]⟩
abbrev S16384x1024 : Shape := ⟨2, ![16384, 1024]⟩
abbrev S_ : Shape := ⟨0, ![]⟩
abbrev S24576 : Shape := ⟨1, ![24576]⟩
abbrev S24576x1 : Shape := ⟨2, ![24576, 1]⟩
abbrev S24576x8 : Shape := ⟨2, ![24576, 8]⟩
abbrev S1x8 : Shape := ⟨2, ![1, 8]⟩
abbrev S24576x2 : Shape := ⟨2, ![24576, 2]⟩
abbrev S24576x2x1 : Shape := ⟨3, ![24576, 2, 1]⟩
abbrev S1x1x8 : Shape := ⟨3, ![1, 1, 8]⟩
abbrev S24576x2x8 : Shape := ⟨3, ![24576, 2, 8]⟩
abbrev S8x1024x24576 : Shape := ⟨3, ![8, 1024, 24576]⟩
abbrev S8x24576x1024 : Shape := ⟨3, ![8, 24576, 1024]⟩
abbrev S8x24576 : Shape := ⟨2, ![8, 24576]⟩
abbrev S8x24576x1 : Shape := ⟨3, ![8, 24576, 1]⟩

abbrev nBuf : Space → Nat
  | .hbm => 103
  | .vmem => 0
  | .smem => 0
  | _ => 0

abbrev bufTy : (tb : Table) → Fin (tcTables nBuf tb) → BufTy
  | .hbm, ⟨0, _⟩ => ⟨S24576x1024, .f32⟩
  | .hbm, ⟨1, _⟩ => ⟨S4x8x6x1x1024, .f32⟩
  | .hbm, ⟨2, _⟩ => ⟨S1024, .f32⟩
  | .hbm, ⟨3, _⟩ => ⟨S1024x8, .f32⟩
  | .hbm, ⟨4, _⟩ => ⟨S8, .f32⟩
  | .hbm, ⟨5, _⟩ => ⟨S8x1024x1024, .f32⟩
  | .hbm, ⟨6, _⟩ => ⟨S8x1024x1024, .f32⟩
  | .hbm, ⟨7, _⟩ => ⟨S8x1024x1024, .f32⟩
  | .hbm, ⟨8, _⟩ => ⟨S1x5x1x1x1024, .f32⟩
  | .hbm, ⟨9, _⟩ => ⟨S5x1024, .f32⟩
  | .hbm, ⟨10, _⟩ => ⟨S1x1024, .f32⟩
  | .hbm, ⟨11, _⟩ => ⟨S8192x1024, .f32⟩
  | .hbm, ⟨12, _⟩ => ⟨S4x1024, .f32⟩
  | .hbm, ⟨13, _⟩ => ⟨S4x4096x1024, .f32⟩
  | .hbm, ⟨14, _⟩ => ⟨S16384x1024, .f32⟩
  | .hbm, ⟨15, _⟩ => ⟨S24576x1024, .f32⟩
  | .hbm, ⟨16, _⟩ => ⟨S1x5x1x1x1024, .f32⟩
  | .hbm, ⟨17, _⟩ => ⟨S5x1024, .f32⟩
  | .hbm, ⟨18, _⟩ => ⟨S1x1024, .f32⟩
  | .hbm, ⟨19, _⟩ => ⟨S8192x1024, .f32⟩
  | .hbm, ⟨20, _⟩ => ⟨S4x1024, .f32⟩
  | .hbm, ⟨21, _⟩ => ⟨S4x4096x1024, .f32⟩
  | .hbm, ⟨22, _⟩ => ⟨S16384x1024, .f32⟩
  | .hbm, ⟨23, _⟩ => ⟨S24576x1024, .f32⟩
  | .hbm, ⟨24, _⟩ => ⟨S24576x1024, .f32⟩
  | .hbm, ⟨25, _⟩ => ⟨S_, .f32⟩
  | .hbm, ⟨26, _⟩ => ⟨S24576, .f32⟩
  | .hbm, ⟨27, _⟩ => ⟨S24576x1, .f32⟩
  | .hbm, ⟨28, _⟩ => ⟨S_, .f32⟩
  | .hbm, ⟨29, _⟩ => ⟨S24576x1, .f32⟩
  | .hbm, ⟨30, _⟩ => ⟨S24576x1, .f32⟩
  | .hbm, ⟨31, _⟩ => ⟨S_, .f32⟩
  | .hbm, ⟨32, _⟩ => ⟨S24576x1, .f32⟩
  | .hbm, ⟨33, _⟩ => ⟨S24576x1, .f32⟩
  | .hbm, ⟨34, _⟩ => ⟨S24576x1, .f32⟩
  | .hbm, ⟨35, _⟩ => ⟨S24576x1024, .f32⟩
  | .hbm, ⟨36, _⟩ => ⟨S24576x1024, .f32⟩
  | .hbm, ⟨37, _⟩ => ⟨S1x1024, .f32⟩
  | .hbm, ⟨38, _⟩ => ⟨S24576x1024, .f32⟩
  | .hbm, ⟨39, _⟩ => ⟨S24576x1024, .f32⟩
  | .hbm, ⟨40, _⟩ => ⟨S_, .f32⟩
  | .hbm, ⟨41, _⟩ => ⟨S24576x1024, .f32⟩
  | .hbm, ⟨42, _⟩ => ⟨S24576x1024, .f32⟩
  | .hbm, ⟨43, _⟩ => ⟨S24576x1024, .f32⟩
  | .hbm, ⟨44, _⟩ => ⟨S24576x1024, .f32⟩
  | .hbm, ⟨45, _⟩ => ⟨S24576x8, .f32⟩
  | .hbm, ⟨46, _⟩ => ⟨S1x8, .f32⟩
  | .hbm, ⟨47, _⟩ => ⟨S24576x8, .f32⟩
  | .hbm, ⟨48, _⟩ => ⟨S24576x8, .f32⟩
  | .hbm, ⟨49, _⟩ => ⟨S24576x2, .f32⟩
  | .hbm, ⟨50, _⟩ => ⟨S24576x2, .i32⟩
  | .hbm, ⟨51, _⟩ => ⟨S_, .f32⟩
  | .hbm, ⟨52, _⟩ => ⟨S24576, .f32⟩
  | .hbm, ⟨53, _⟩ => ⟨S_, .f32⟩
  | .hbm, ⟨54, _⟩ => ⟨S24576, .f32⟩
  | .hbm, ⟨55, _⟩ => ⟨S24576, .f32⟩
  | .hbm, ⟨56, _⟩ => ⟨S24576x1, .f32⟩
  | .hbm, ⟨57, _⟩ => ⟨S24576x2, .f32⟩
  | .hbm, ⟨58, _⟩ => ⟨S24576x2, .f32⟩
  | .hbm, ⟨59, _⟩ => ⟨S24576x2, .f32⟩
  | .hbm, ⟨60, _⟩ => ⟨S_, .f32⟩
  | .hbm, ⟨61, _⟩ => ⟨S24576, .f32⟩
  | .hbm, ⟨62, _⟩ => ⟨S24576x1, .f32⟩
  | .hbm, ⟨63, _⟩ => ⟨S24576x2, .f32⟩
  | .hbm, ⟨64, _⟩ => ⟨S24576x2, .f32⟩
  | .hbm, ⟨65, _⟩ => ⟨S24576x2x1, .i32⟩
  | .hbm, ⟨66, _⟩ => ⟨S1x1x8, .i32⟩
  | .hbm, ⟨67, _⟩ => ⟨S24576x2x8, .i32⟩
  | .hbm, ⟨68, _⟩ => ⟨S24576x2x8, .i32⟩
  | .hbm, ⟨69, _⟩ => ⟨S24576x2x8, .i1⟩
  | .hbm, ⟨70, _⟩ => ⟨S24576x2x8, .f32⟩
  | .hbm, ⟨71, _⟩ => ⟨S24576x8, .f32⟩
  | .hbm, ⟨72, _⟩ => ⟨S8x1024x24576, .f32⟩
  | .hbm, ⟨73, _⟩ => ⟨S8x24576x1024, .f32⟩
  | .hbm, ⟨74, _⟩ => ⟨S8x24576x1024, .f32⟩
  | .hbm, ⟨75, _⟩ => ⟨S8x24576x1024, .f32⟩
  | .hbm, ⟨76, _⟩ => ⟨S_, .f32⟩
  | .hbm, ⟨77, _⟩ => ⟨S8x24576x1024, .f32⟩
  | .hbm, ⟨78, _⟩ => ⟨S8x24576x1024, .f32⟩
  | .hbm, ⟨79, _⟩ => ⟨S_, .f32⟩
  | .hbm, ⟨80, _⟩ => ⟨S8x24576x1024, .f32⟩
  | .hbm, ⟨81, _⟩ => ⟨S8x24576x1024, .f32⟩
  | .hbm, ⟨82, _⟩ => ⟨S8x24576x1024, .f32⟩
  | .hbm, ⟨83, _⟩ => ⟨S8x1024x24576, .f32⟩
  | .hbm, ⟨84, _⟩ => ⟨S8x24576x1024, .f32⟩
  | .hbm, ⟨85, _⟩ => ⟨S8x24576x1024, .f32⟩
  | .hbm, ⟨86, _⟩ => ⟨S8x24576x1024, .f32⟩
  | .hbm, ⟨87, _⟩ => ⟨S1x5x1x1x1024, .f32⟩
  | .hbm, ⟨88, _⟩ => ⟨S5x1024, .f32⟩
  | .hbm, ⟨89, _⟩ => ⟨S1x1024, .f32⟩
  | .hbm, ⟨90, _⟩ => ⟨S8192x1024, .f32⟩
  | .hbm, ⟨91, _⟩ => ⟨S4x1024, .f32⟩
  | .hbm, ⟨92, _⟩ => ⟨S4x4096x1024, .f32⟩
  | .hbm, ⟨93, _⟩ => ⟨S16384x1024, .f32⟩
  | .hbm, ⟨94, _⟩ => ⟨S24576x1024, .f32⟩
  | .hbm, ⟨95, _⟩ => ⟨S8x24576, .f32⟩
  | .hbm, ⟨96, _⟩ => ⟨S8x24576x1, .f32⟩
  | .hbm, ⟨97, _⟩ => ⟨S8x24576x1024, .f32⟩
  | .hbm, ⟨98, _⟩ => ⟨S8x24576x1024, .f32⟩
  | .hbm, ⟨99, _⟩ => ⟨S_, .f32⟩
  | .hbm, ⟨100, _⟩ => ⟨S24576x1024, .f32⟩
  | .hbm, ⟨101, _⟩ => ⟨S24576x1024, .f32⟩
  | .hbm, ⟨102, _⟩ => ⟨S24576x1024, .f32⟩
  | _, _ => ⟨S24576x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst : Ref sig .tc := ⟨.hbm, 25, rfl⟩
abbrev main_v17 : Ref sig .tc := ⟨.hbm, 26, rfl⟩
abbrev main_v18 : Ref sig .tc := ⟨.hbm, 27, rfl⟩
abbrev main_cst_0 : Ref sig .tc := ⟨.hbm, 28, rfl⟩
abbrev main_v19 : Ref sig .tc := ⟨.hbm, 29, rfl⟩
abbrev main_v20 : Ref sig .tc := ⟨.hbm, 30, rfl⟩
abbrev main_cst_1 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_2 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_values : Ref sig .tc := ⟨.hbm, 49, rfl⟩
abbrev main_indices : Ref sig .tc := ⟨.hbm, 50, rfl⟩
abbrev main_cst_3 : Ref sig .tc := ⟨.hbm, 51, rfl⟩
abbrev main_v37 : Ref sig .tc := ⟨.hbm, 52, rfl⟩
abbrev main_cst_4 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_cst_5 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_call0_v0 : Ref sig .tc := ⟨.hbm, 65, rfl⟩
abbrev main_call0_v1 : Ref sig .tc := ⟨.hbm, 66, rfl⟩
abbrev main_call0_v2 : Ref sig .tc := ⟨.hbm, 67, rfl⟩
abbrev main_call0_v3 : Ref sig .tc := ⟨.hbm, 68, rfl⟩
abbrev main_call0_v4 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_call1_v0 : Ref sig .tc := ⟨.hbm, 74, rfl⟩
abbrev main_call1_v1 : Ref sig .tc := ⟨.hbm, 75, rfl⟩
abbrev main_call1_cst : Ref sig .tc := ⟨.hbm, 76, rfl⟩
abbrev main_call1_v2 : Ref sig .tc := ⟨.hbm, 77, rfl⟩
abbrev main_call1_v3 : Ref sig .tc := ⟨.hbm, 78, rfl⟩
abbrev main_call1_cst_0 : Ref sig .tc := ⟨.hbm, 79, rfl⟩
abbrev main_call1_v4 : Ref sig .tc := ⟨.hbm, 80, rfl⟩
abbrev main_call1_v5 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_cst_6 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩

abbrev nD : Nat := 1
abbrev τ : Topo := Topo.v7x

variable {F : FTy → Type} [FloatOps F]
-- ==== Proof.Attend.lean ====
/-
  Attention with a sink, over the extended reals: one query's scores `s`, its sink logit `z` and the values `v`, over any
  finite set of keys. `attend` divides once, after the weighted sum, as the kernels do; `softSum` divides every weight, as a
  softmax does. They agree where every score is below `⊤` and the sink is real (`attend_eq_softSum`): the sink's own term
  keeps the divisor positive.
-/
module

public import Idealize.ShloMosaic.PureOps.Ideal.Laws

@[expose] public section

noncomputable section

namespace Cert.Attend

open Idealize.ShloMosaic

variable {K K' : Type} [Fintype K] [Fintype K']

/-- The largest score, the sink's included. -/
def peak (s : K → EReal) (z : EReal) : EReal := max (Finset.univ.sup s) z

/-- What the weights are divided by. -/
def total (s : K → EReal) (z : EReal) : EReal :=
  ∑ k, Ideal.exp (s k - peak s z) + Ideal.exp (z - peak s z)

/-- The weighted sum, divided at the end. -/
def attend (s : K → EReal) (z : EReal) (v : K → EReal) : EReal :=
  Ideal.div (∑ k, Ideal.exp (s k - peak s z) * v k) (total s z)

/-- The sum of the values by divided weights. -/
def softSum (s : K → EReal) (z : EReal) (v : K → EReal) : EReal :=
  ∑ k, v k * Ideal.div (Ideal.exp (s k - peak s z)) (total s z)

theorem exp_nonneg (x : EReal) : 0 ≤ Ideal.exp x := by
  induction x with
  | bot => exact le_rfl
  | top => exact le_top
  | coe r => exact EReal.coe_nonneg.mpr (Real.exp_pos r).le

theorem inv_ne_top (x : EReal) : x⁻¹ ≠ ⊤ := (EReal.inv_lt_top x).ne

/-- A factor that is not negative and not `⊤` moves out of a sum. -/
theorem sum_mul_of_nonneg (f : K → EReal) {c : EReal} (h : 0 ≤ c) (h' : c ≠ ⊤) :
    (∑ k, f k) * c = ∑ k, f k * c := by
  classical
  induction (Finset.univ : Finset K) using Finset.induction_on with
  | empty => simp
  | insert a t ha ih =>
    rw [Finset.sum_insert ha, Finset.sum_insert ha, EReal.right_distrib_of_nonneg_of_ne_top h h', ih]

/-- With a real sink and no score `⊤`, the peak is real. -/
theorem peak_real {s : K → EReal} {z : EReal} (hs : ∀ k, s k ≠ ⊤) (hz : z ≠ ⊤) (hz' : z ≠ ⊥) :
    peak s z ≠ ⊤ ∧ peak s z ≠ ⊥ := by
  constructor
  · refine (max_lt ((Finset.sup_lt_iff bot_lt_top).mpr fun k _ => lt_top_iff_ne_top.mpr (hs k))
      (lt_top_iff_ne_top.mpr hz)).ne
  · exact (lt_of_lt_of_le (bot_lt_iff_ne_bot.mpr hz') (le_max_right _ _)).ne'

/-- So the divisor is positive. -/
theorem total_pos {s : K → EReal} {z : EReal} (hs : ∀ k, s k ≠ ⊤) (hz : z ≠ ⊤) (hz' : z ≠ ⊥) : 0 < total s z := by
  obtain ⟨h1, h2⟩ := peak_real hs hz hz'
  have hpos : 0 < Ideal.exp (z - peak s z) := by
    lift z to ℝ using ⟨hz, hz'⟩
    generalize peak s (z : EReal) = p at *
    lift p to ℝ using ⟨h1, h2⟩
    rw [← EReal.coe_sub, Ideal.exp_coe]
    exact EReal.coe_pos.mpr (Real.exp_pos _)
  exact lt_of_lt_of_le hpos (le_add_of_nonneg_left (Finset.sum_nonneg fun k _ => exp_nonneg _))

theorem div_of_pos {y : EReal} (h : 0 < y) (x : EReal) : Ideal.div x y = x * y⁻¹ := by
  rw [Ideal.div, if_neg h.ne']

/-- Dividing at the end or weight by weight is the same. -/
theorem attend_eq_softSum {s : K → EReal} {z : EReal} (v : K → EReal) (hs : ∀ k, s k ≠ ⊤) (hz : z ≠ ⊤) (hz' : z ≠ ⊥) :
    attend s z v = softSum s z v := by
  have hp := total_pos hs hz hz'
  unfold attend softSum
  rw [div_of_pos hp, sum_mul_of_nonneg _ (EReal.inv_nonneg_of_nonneg hp.le) (inv_ne_top _)]
  refine Finset.sum_congr rfl fun k _ => ?_
  rw [div_of_pos hp, mul_comm (Ideal.exp _), mul_assoc]

/-- Zero values attend to zero. -/
theorem attend_zero {s : K → EReal} {z : EReal} {v : K → EReal} (hv : ∀ k, v k = 0) (hs : ∀ k, s k ≠ ⊤) (hz : z ≠ ⊤)
    (hz' : z ≠ ⊥) : attend s z v = 0 := by
  unfold attend
  simp only [hv, mul_zero, Finset.sum_const_zero]
  rw [div_of_pos (total_pos hs hz hz'), zero_mul]

theorem attend_congr {s s' : K → EReal} {z z' : EReal} {v v' : K → EReal} (hs : ∀ k, s k = s' k) (hz : z = z')
    (hv : ∀ k, v k = v' k) : attend s z v = attend s' z' v' := by
  rw [funext hs, hz, funext hv]

section Embed

variable {s' : K' → EReal} {s : K → EReal} (P : K' → Prop) (φ : K' → K)

theorem sup_embed (hP : ∀ a, P a → s' a = s (φ a)) (hN : ∀ a, ¬P a → s' a = ⊥)
    (hK : ∀ k, (∃ a, P a ∧ φ a = k) ∨ s k = ⊥) : Finset.univ.sup s' = Finset.univ.sup s := by
  refine le_antisymm (Finset.sup_le fun a _ => ?_) (Finset.sup_le fun k _ => ?_)
  · by_cases h : P a
    · rw [hP a h]; exact Finset.le_sup (Finset.mem_univ _)
    · rw [hN a h]; exact bot_le
  · rcases hK k with ⟨a, ha, rfl⟩ | h
    · rw [← hP a ha]; exact Finset.le_sup (Finset.mem_univ _)
    · rw [h]; exact bot_le

theorem sum_embed (hinj : ∀ a b, P a → P b → φ a = φ b → a = b) (hP : ∀ a, P a → s' a = s (φ a))
    (hN : ∀ a, ¬P a → s' a = ⊥) (hK : ∀ k, (∃ a, P a ∧ φ a = k) ∨ s k = ⊥) (p : EReal)
    {v' : K' → EReal} {v : K → EReal} (hv : ∀ a, P a → v' a = v (φ a)) :
    ∑ a, Ideal.exp (s' a - p) * v' a = ∑ k, Ideal.exp (s k - p) * v k := by
  classical
  rw [← Finset.sum_filter_add_sum_filter_not Finset.univ P]
  rw [Finset.sum_eq_zero (s := Finset.univ.filter fun a => ¬P a), add_zero]
  · refine Finset.sum_of_injOn φ ?_ ?_ ?_ ?_
    · intro a ha b hb h
      exact hinj a b (by simpa using ha) (by simpa using hb) h
    · intro a _; simp
    · intro k _ hk
      rcases hK k with ⟨a, ha, rfl⟩ | h
      · exact absurd ⟨a, by simpa using ha, rfl⟩ hk
      · rw [h, EReal.bot_sub, Ideal.exp_bot, zero_mul]
    · intro a ha
      have hp : P a := by simpa using ha
      rw [hP a hp, hv a hp]
  · intro a ha
    rw [hN a (by simpa using ha), EReal.bot_sub, Ideal.exp_bot, zero_mul]

/-- Keys whose score is `⊥` do not count: the same attention over a larger or smaller set of keys. -/
theorem attend_embed (hinj : ∀ a b, P a → P b → φ a = φ b → a = b) (hP : ∀ a, P a → s' a = s (φ a))
    (hN : ∀ a, ¬P a → s' a = ⊥) (hK : ∀ k, (∃ a, P a ∧ φ a = k) ∨ s k = ⊥) (z : EReal)
    {v' : K' → EReal} {v : K → EReal} (hv : ∀ a, P a → v' a = v (φ a)) :
    attend s' z v' = attend s z v := by
  have hp : peak s' z = peak s z := by unfold peak; rw [sup_embed P φ hP hN hK]
  have ht : total s' z = total s z := by
    unfold total
    rw [hp]
    have := sum_embed P φ hinj hP hN hK (peak s z) (v' := fun _ => 1) (v := fun _ => 1) (fun _ _ => rfl)
    simp only [mul_one] at this
    rw [this]
  unfold attend
  rw [hp, ht, sum_embed P φ hinj hP hN hK _ hv]

end Embed

/-- A sum of products of numbers below `⊤` in absolute value is below `⊤`, and above `⊥`. -/
theorem sum_mul_real {f g : K → EReal} (hf : ∀ k, f k ≠ ⊤ ∧ f k ≠ ⊥) (hg : ∀ k, g k ≠ ⊤ ∧ g k ≠ ⊥) :
    (∑ k, f k * g k) ≠ ⊤ ∧ (∑ k, f k * g k) ≠ ⊥ := by
  classical
  have h : ∀ t : Finset K, ∃ r : ℝ, ∑ k ∈ t, f k * g k = (r : EReal) := by
    intro t
    induction t using Finset.induction_on with
    | empty => exact ⟨0, by simp⟩
    | insert a t ha ih =>
      obtain ⟨r, hr⟩ := ih
      refine ⟨(f a).toReal * (g a).toReal + r, ?_⟩
      rw [Finset.sum_insert ha, hr, EReal.coe_add, EReal.coe_mul, EReal.coe_toReal (hf a).1 (hf a).2,
        EReal.coe_toReal (hg a).1 (hg a).2]
  obtain ⟨r, hr⟩ := h Finset.univ
  rw [hr]
  exact ⟨EReal.coe_ne_top _, EReal.coe_ne_bot _⟩

/-- A scale that every query element carries is a scale of the score. -/
theorem score_scale (q k : K → EReal) {c : EReal} (h : 0 ≤ c) (h' : c ≠ ⊤) :
    ∑ d, q d * c * k d = (∑ d, k d * q d) * c := by
  rw [sum_mul_of_nonneg _ h h']
  exact Finset.sum_congr rfl fun d _ => by rw [mul_right_comm, mul_comm (q d)]

/-- The sink as the last of the scores: a softmax over `n + 1` scores, of which the first `n` weigh the values. -/
theorem fold_peak {n : ℕ} (f : Fin (n + 1) → EReal) :
    Finset.univ.fold max ⊥ f = peak (fun k : Fin n => f k.castSucc) (f (Fin.last n)) := by
  refine le_antisymm ?_ (max_le (Finset.sup_le fun k _ => Finset.le_sup (f := f) (Finset.mem_univ _))
    (Finset.le_sup (f := f) (Finset.mem_univ _)))
  refine Finset.sup_le fun k _ => ?_
  induction k using Fin.lastCases with
  | last => exact le_max_right _ _
  | cast k => exact le_max_of_le_left (Finset.le_sup (f := fun k : Fin n => f k.castSucc) (Finset.mem_univ k))

theorem softSum_last {n : ℕ} (f : Fin (n + 1) → EReal) (v : Fin n → EReal) :
    ∑ k : Fin n, v k * Ideal.div (Ideal.exp (f ⟨k.val, Nat.lt_succ_of_lt k.isLt⟩ - max ⊥ (Finset.univ.fold max ⊥ f)))
      (∑ k, Ideal.exp (f k - max ⊥ (Finset.univ.fold max ⊥ f)))
      = softSum (fun k => f ⟨k.val, Nat.lt_succ_of_lt k.isLt⟩) (f (Fin.last n)) v := by
  rw [max_eq_right bot_le, Fin.sum_univ_castSucc, fold_peak]
  rfl

end Cert.Attend

end
-- ==== Proof.CtxBlock.lean ====
/- What one step of the context attention stores: each entry of the block as the two half sums of its head. -/
module

public import proofs.«01_k».proof.Proof.Attend
public import proofs.«01_k».proof.Proof.Gen.CtxIdeal.Frame
public import Idealize.ShloMosaic.Lib.Pointwise
public import Idealize.ShloMosaic.Lib.WordCmp
public import Idealize.ShloMosaic.Lib.Pipeline.Value

@[expose] public section

set_option maxRecDepth 16384

noncomputable section

namespace Cert.CtxIdeal.Attn

open Cert.CtxIdeal Cert.CtxIdeal.Gen Cert.Attend Idealize.ShloMosaic Idealize.ShloMosaic.TcCoe Idealize.SL.Sem

theorem bot_f32 : Ideal.ofBits .f32 0xFF800000#32 = ⊥ := by
  simp [Ideal.ofBits, Ideal.ieee]

theorem slt_256 {n : Nat} (h : n < 512) :
    IntOp.cmpi .slt (BitVec.ofNat 32 n) 256#32 = BitVec.ofBool (decide (n < 256)) :=
  WordCmp.cmpi_slt_ofNat (by omega) (by decide)

theorem select_ite (p : Prop) [Decidable p] (a b : EReal) :
    Scalar.select (BitVec.ofBool (decide p)) a b = if p then a else b := by
  by_cases h : p <;> simp [h, Scalar.select]

/-- One half of a key head's work: 512 query rows (two heads below each other, with sinks `a` and `b`) against 256 keys. -/
def half (q : FVec Ideal S512x128 .bf16) (k v : FVec Ideal S256x128 .bf16) (a b : Elt Ideal .f32) :
    FVec Ideal S512x128 .f32 :=
  have w : FVec Ideal S512x256 .f32 :=
    matmul dot_S512x128_S256x128_S512x256_1_1_0_0_n_n none q k (constant S512x256 .f32 0x00000000#32)
  have z : FVec Ideal S512x1 .f32 :=
    select (cmpi .slt (iota .tc S512x1 32 [0] iota_S512x1_d0_w32) (broadcast S512x1 256#32)) (broadcast S512x1 a)
      (broadcast S512x1 b)
  have m : FVec Ideal S512x1 .f32 := maximumf (shapeCast S512x1
    (multiReduction .maximumf [1] S512 w 0xFF800000#32 reduces_S512x256_S512 (.inl rfl) rfl) shapeCasts_S512_S512x1) z
  have e : FVec Ideal S512x256 .f32 := exp (subf w (broadcastTo S512x256 m broadcasts_S512x1_S512x256))
  have d : FVec Ideal S512x1 .f32 := addf (shapeCast S512x1
    (multiReduction .add [1] S512 e 0x00000000#32 reduces_S512x256_S512 (.inl rfl) rfl) shapeCasts_S512_S512x1)
    (exp (subf z m))
  divf (matmul dot_S512x256_S256x128_S512x128_1_0_0_1_n_n none (truncf .bf16 e bitsLt_bf16_f32) v
    (constant S512x128 .f32 0x00000000#32)) (broadcastTo S512x128 d broadcasts_S512x1_S512x128)

theorem half_apply (q : FVec Ideal S512x128 .bf16) (k v : FVec Ideal S256x128 .bf16) (a b : Elt Ideal .f32)
    (r : Fin 512) (l : Fin 128) :
    half q k v a b (ix2 r l) = attend (fun n : Fin 256 => ∑ c : Fin 128, q (ix2 r c) * k (ix2 n c))
      (if r.val < 256 then a else b) (fun n => v (ix2 n l)) := by
  pointwise [half]
  rw [bot_f32, slt_256 r.isLt, select_ite]
  rfl

/-- The first two head pairs' payloads: the slices of the sum of the two halves. -/
theorem pay8_eq (qa qb : Vec Ideal S256x128 .bf16) (kk vv : Vec Ideal S256x512 .bf16) (a b c d : Elt Ideal .f32) :
    k0_pay8 (k0_pay2 vv) b d (iota .tc S512x1 32 [0] iota_S512x1_d0_w32) (k0_pay4 kk vv qa qb a c) (k0_pay5 kk qa qb) k0_pay6
      = extractStridedSlice S256x128 ![0, 0] (addf
        (half (k0_pay3 qa qb) (extractStridedSlice S256x128 ![0, 0] (k0_pay1 kk) slices_S256x512_o0_0_S256x128)
          (extractStridedSlice S256x128 ![0, 0] (k0_pay2 vv) slices_S256x512_o0_0_S256x128) a c)
        (half (k0_pay3 qa qb) (extractStridedSlice S256x128 ![0, 128] (k0_pay1 kk) slices_S256x512_o0_128_S256x128)
          (extractStridedSlice S256x128 ![0, 128] (k0_pay2 vv) slices_S256x512_o0_128_S256x128) b d))
        slices_S512x128_o0_0_S256x128 := by
  unfold k0_pay8 k0_pay7 k0_pay4 k0_pay5 k0_pay6 half
  rfl

theorem pay9_eq (qa qb : Vec Ideal S256x128 .bf16) (kk vv : Vec Ideal S256x512 .bf16) (a b c d : Elt Ideal .f32) :
    k0_pay9 (k0_pay2 vv) b d (iota .tc S512x1 32 [0] iota_S512x1_d0_w32) (k0_pay4 kk vv qa qb a c) (k0_pay5 kk qa qb) k0_pay6
      = extractStridedSlice S256x128 ![256, 0] (addf
        (half (k0_pay3 qa qb) (extractStridedSlice S256x128 ![0, 0] (k0_pay1 kk) slices_S256x512_o0_0_S256x128)
          (extractStridedSlice S256x128 ![0, 0] (k0_pay2 vv) slices_S256x512_o0_0_S256x128) a c)
        (half (k0_pay3 qa qb) (extractStridedSlice S256x128 ![0, 128] (k0_pay1 kk) slices_S256x512_o0_128_S256x128)
          (extractStridedSlice S256x128 ![0, 128] (k0_pay2 vv) slices_S256x512_o0_128_S256x128) b d))
        slices_S512x128_o256_0_S256x128 := by
  unfold k0_pay9 k0_pay7 k0_pay4 k0_pay5 k0_pay6 half
  rfl

/-- The last two head pairs' payloads. -/
theorem pay16_eq (qa qb : Vec Ideal S256x128 .bf16) (kk vv : Vec Ideal S256x512 .bf16) (a b c d : Elt Ideal .f32) :
    k0_pay16 (k0_pay1 kk) (k0_pay2 vv) (k0_pay10 qa qb) b d (iota .tc S512x1 32 [0] iota_S512x1_d0_w32)
      (k0_pay11 (k0_pay1 kk) qa qb) k0_pay12 (k0_pay13 a) (k0_pay14 c)
      = extractStridedSlice S256x128 ![0, 0] (addf
        (half (k0_pay10 qa qb) (extractStridedSlice S256x128 ![0, 256] (k0_pay1 kk) slices_S256x512_o0_256_S256x128)
          (extractStridedSlice S256x128 ![0, 256] (k0_pay2 vv) slices_S256x512_o0_256_S256x128) a c)
        (half (k0_pay10 qa qb) (extractStridedSlice S256x128 ![0, 384] (k0_pay1 kk) slices_S256x512_o0_384_S256x128)
          (extractStridedSlice S256x128 ![0, 384] (k0_pay2 vv) slices_S256x512_o0_384_S256x128) b d))
        slices_S512x128_o0_0_S256x128 := by
  unfold k0_pay16 k0_pay15 k0_pay11 k0_pay12 k0_pay13 k0_pay14 half
  rfl

theorem pay17_eq (qa qb : Vec Ideal S256x128 .bf16) (kk vv : Vec Ideal S256x512 .bf16) (a b c d : Elt Ideal .f32) :
    k0_pay17 (k0_pay1 kk) (k0_pay2 vv) (k0_pay10 qa qb) b d (iota .tc S512x1 32 [0] iota_S512x1_d0_w32)
      (k0_pay11 (k0_pay1 kk) qa qb) k0_pay12 (k0_pay13 a) (k0_pay14 c)
      = extractStridedSlice S256x128 ![256, 0] (addf
        (half (k0_pay10 qa qb) (extractStridedSlice S256x128 ![0, 256] (k0_pay1 kk) slices_S256x512_o0_256_S256x128)
          (extractStridedSlice S256x128 ![0, 256] (k0_pay2 vv) slices_S256x512_o0_256_S256x128) a c)
        (half (k0_pay10 qa qb) (extractStridedSlice S256x128 ![0, 384] (k0_pay1 kk) slices_S256x512_o0_384_S256x128)
          (extractStridedSlice S256x128 ![0, 384] (k0_pay2 vv) slices_S256x512_o0_384_S256x128) b d))
        slices_S512x128_o256_0_S256x128 := by
  unfold k0_pay17 k0_pay15 k0_pay11 k0_pay12 k0_pay13 k0_pay14 half
  rfl

theorem half_at (q : FVec Ideal S512x128 .bf16) (k v : FVec Ideal S256x128 .bf16) (a b : Elt Ideal .f32)
    (j : S512x128.Idx) :
    half q k v a b j = attend (fun n : Fin 256 => ∑ c : Fin 128, q (ix2 (j 0) c) * k (ix2 n c))
      (if (j 0).val < 256 then a else b) (fun n => v (ix2 n (j 1))) := by
  obtain ⟨r, l, rfl⟩ : ∃ (r : Fin 512) (l : Fin 128), j = ix2 r l := ⟨j 0, j 1, eq_ix2 j⟩
  exact half_apply q k v a b r l

/-- Head pair `p`'s head number `h`: row `r` of its 64 queries against the block's keys, lane `d` of the values. The keys
    and values of one head fill lanes `256 * (p / 2) + 128 * h` and on. -/
def side (x0 : Vec Ideal S8 .f32) (x1 x2 x3 : Vec Ideal S256x512 .bf16) (p : Fin 4) (h : Fin 2) (r : Fin 256)
    (d : Fin 128) : EReal :=
  attend (fun n : Fin 256 => ∑ c : Fin 128, x1 (ix2 r ⟨128 * p.val + c.val, by omega⟩)
      * x2 (ix2 n ⟨256 * (p.val / 2) + 128 * h.val + c.val, by omega⟩))
    (x0 (ix1 ⟨2 * p.val + h.val, by omega⟩))
    (fun n => x3 (ix2 n ⟨256 * (p.val / 2) + 128 * h.val + d.val, by omega⟩))

/-- What one block leaves at row `r` and lane `l`. -/
def blockOut (x0 : Vec Ideal S8 .f32) (x1 x2 x3 : Vec Ideal S256x512 .bf16) (r : Fin 256) (l : Fin 512) : EReal :=
  side x0 x1 x2 x3 ⟨l.val / 128, by omega⟩ 0 r ⟨l.val % 128, by omega⟩
    + side x0 x1 x2 x3 ⟨l.val / 128, by omega⟩ 1 r ⟨l.val % 128, by omega⟩

theorem blockOut_at (x0 : Vec Ideal S8 .f32) (x1 x2 x3 : Vec Ideal S256x512 .bf16) (p : Fin 4) (r : Fin 256)
    (d : Fin 128) (l : Fin 512) (hl : l.val = 128 * p.val + d.val) :
    blockOut x0 x1 x2 x3 r l = side x0 x1 x2 x3 p 0 r d + side x0 x1 x2 x3 p 1 r d := by
  have hp : (⟨l.val / 128, by omega⟩ : Fin 4) = p := Fin.ext (by simp only; omega)
  have hd : (⟨l.val % 128, by omega⟩ : Fin 128) = d := Fin.ext (by simp only; omega)
  unfold blockOut
  rw [hp, hd]

theorem emb_at (off : Nat) (h : ∀ a, (![0, off] : Fin 2 → Nat) a + (![256, 128] : Fin 2 → Nat) a ≤ S256x512.size a)
    (h' : off + 128 ≤ 512) (r : Fin 256) (d : Fin 128) :
    (Rect.unit (s := S256x512) ![0, off] ![256, 128] h).emb (ix2 r d) = ix2 r ⟨off + d.val, by omega⟩ := by
  funext a
  apply Fin.ext
  match a with
  | ⟨0, _⟩ => show 0 + 1 * r.val = r.val; omega
  | ⟨1, _⟩ => show off + 1 * d.val = off + d.val; omega

theorem out_eq (c : Dev nD) (i : grid0.Coords) (a1 : Memref sig .tc .smem S8 .f32) (h1 : a1.IsWhole)
    (a2 : Memref sig .tc .vmem S256x512 .bf16) (h2 : a2.IsWhole) (a3 : Memref sig .tc .vmem S256x512 .bf16) (h3 : a3.IsWhole)
    (a4 : Memref sig .tc .vmem S256x512 .bf16) (h4 : a4.IsWhole) (a5 : Memref sig .tc .vmem S256x512 .f32) (h5 : a5.IsWhole)
    (x0 : Vec Ideal S8 .f32) (x1 x2 x3 : Vec Ideal S256x512 .bf16) (y : S256x512.Idx) :
    out0_A_4 c i a1 h1 a2 h2 a3 h3 a4 h4 a5 h5 x0 x1 x2 x3 y = blockOut x0 x1 x2 x3 (y 0) (y 1) := by
  have hcov := cover0_A_4 c i a1 h1 a2 h2 a3 h3 a4 h4 a5 h5 x0 x1 x2 x3
  unfold out0_A_4
  rw [View.read_writes_eq_canon _ _ _ hcov]
  refine View.canon_apply_of_pieces (fun y => blockOut x0 x1 x2 x3 (y 0) (y 1)) _ ?_ y (hcov y)
  unfold kernelRun0_A
  dsimp only
  sl_unfold_words
  simp only [View.readAt_eq_ld, h1.read_unread, h2.read_unread, h3.read_unread, h4.read_unread]
  simp only [List.mem_cons, List.not_mem_nil, or_false]
  rintro p (rfl | rfl | rfl | rfl) x
  · obtain ⟨r, d, rfl⟩ : ∃ (r : Fin 256) (d : Fin 128), x = ix2 r d := ⟨x 0, x 1, eq_ix2 x⟩
    rw [emb_at _ _ (by omega)]
    show _ = blockOut x0 x1 x2 x3 r ⟨384 + d.val, _⟩
    rw [blockOut_at x0 x1 x2 x3 3 r d _ rfl, pay17_eq]
    pointwise [half_at, k0_pay1, k0_pay2, k0_pay10]
    rfl
  · obtain ⟨r, d, rfl⟩ : ∃ (r : Fin 256) (d : Fin 128), x = ix2 r d := ⟨x 0, x 1, eq_ix2 x⟩
    rw [emb_at _ _ (by omega)]
    show _ = blockOut x0 x1 x2 x3 r ⟨256 + d.val, _⟩
    rw [blockOut_at x0 x1 x2 x3 2 r d _ rfl, pay16_eq]
    pointwise [half_at, k0_pay1, k0_pay2, k0_pay10]
    rfl
  · obtain ⟨r, d, rfl⟩ : ∃ (r : Fin 256) (d : Fin 128), x = ix2 r d := ⟨x 0, x 1, eq_ix2 x⟩
    rw [emb_at _ _ (by omega)]
    show _ = blockOut x0 x1 x2 x3 r ⟨128 + d.val, _⟩
    rw [blockOut_at x0 x1 x2 x3 1 r d _ rfl, pay9_eq]
    pointwise [half_at, k0_pay1, k0_pay2, k0_pay3]
    simp only [side, Fin.val_zero, Fin.val_one, Nat.zero_add, Nat.mul_zero, Nat.mul_one, Nat.reduceDiv]; rfl
  · obtain ⟨r, d, rfl⟩ : ∃ (r : Fin 256) (d : Fin 128), x = ix2 r d := ⟨x 0, x 1, eq_ix2 x⟩
    rw [emb_at _ _ (by omega)]
    show _ = blockOut x0 x1 x2 x3 r ⟨0 + d.val, _⟩
    rw [blockOut_at x0 x1 x2 x3 0 r d _ (by simp), pay8_eq]
    pointwise [half_at, k0_pay1, k0_pay2, k0_pay3]
    simp only [side, Fin.val_zero, Fin.val_one, Nat.zero_add, Nat.mul_zero, Nat.mul_one, Nat.zero_div]; rfl

end Cert.CtxIdeal.Attn

end
-- ==== Proof.Heads.lean ====
/-
  Attention over heads laid out in halves of 128-lane blocks. A pair of query heads shares one block of 128 lanes; each key
  head is laid out twice, once in the lower and once in the upper half of a block, the other half zero (`Laid`). So a
  128-lane product against one layout reads one head of the pair, and the sum of the two halves' outputs holds each head's
  output in its own lanes (`pair_eq`).
-/
module

public import proofs.«01_k».proof.Proof.Attend
public import Idealize.ShloMosaic.PureOps.Ideal.Laws

@[expose] public section

noncomputable section

namespace Cert.Attend

open Idealize.ShloMosaic

variable {K : Type} [Fintype K]

/-- `X` holds the two heads of `x` laid out. -/
def Laid (X : K → Fin 512 → EReal) (x : K → Fin 128 → EReal) : Prop :=
  ∀ (n : K) (g : Fin 2) (h : Fin 2) (c : Fin 128), X n ⟨256 * g.val + 128 * h.val + c.val, by omega⟩
    = if c.val / 64 = h.val then x n ⟨64 * g.val + c.val % 64, by omega⟩ else 0

/-- A sum over 128 lanes of which one half is zero. -/
theorem sum_half (f : Fin 128 → EReal) (x : Fin 64 → EReal) (h : Fin 2) :
    ∑ c : Fin 128, f c * (if c.val / 64 = h.val then x ⟨c.val % 64, by omega⟩ else 0)
      = ∑ d : Fin 64, f ⟨64 * h.val + d.val, by omega⟩ * x d := by
  have e := Fin.sum_univ_add (a := 64) (b := 64) fun c : Fin 128 =>
    f c * (if c.val / 64 = h.val then x ⟨c.val % 64, by omega⟩ else 0)
  refine e.trans ?_
  have hl : ∀ d : Fin 64, ((Fin.castAdd 64 d : Fin 128).val / 64 = 0) := fun d => by simp
  have hr : ∀ d : Fin 64, ((Fin.natAdd 64 d : Fin 128).val / 64 = 1) := fun d => by simp
  match h with
  | ⟨0, _⟩ =>
    have z : ∑ d : Fin 64, f (Fin.natAdd 64 d) * (if (Fin.natAdd 64 d : Fin 128).val / 64 = 0
        then x ⟨(Fin.natAdd 64 d : Fin 128).val % 64, by omega⟩ else 0) = 0 :=
      Finset.sum_eq_zero fun d _ => by rw [hr d]; simp
    refine (congrArg (_ + ·) z).trans ((add_zero _).trans (Finset.sum_congr rfl fun d _ => ?_))
    rw [if_pos (hl d)]
    congr 2 <;> apply Fin.ext <;> simp
  | ⟨1, _⟩ =>
    have z : ∑ d : Fin 64, f (Fin.castAdd 64 d) * (if (Fin.castAdd 64 d : Fin 128).val / 64 = 1
        then x ⟨(Fin.castAdd 64 d : Fin 128).val % 64, by omega⟩ else 0) = 0 :=
      Finset.sum_eq_zero fun d _ => by rw [hl d]; simp
    refine (congrArg (· + _) z).trans ((zero_add _).trans (Finset.sum_congr rfl fun d _ => ?_))
    rw [if_pos (hr d)]
    congr 2
    apply Fin.ext; simp

/-- Head pair `p`'s half `h`, lane `d`, with the scores cut by a mask. -/
def halfOf (cut : K → EReal → EReal) (z : Fin 8 → EReal) (q : Fin 512 → EReal) (X V : K → Fin 512 → EReal) (p : Fin 4)
    (h : Fin 2) (d : Fin 128) : EReal :=
  attend (fun n => cut n (∑ c : Fin 128, q ⟨128 * p.val + c.val, by omega⟩
      * X n ⟨256 * (p.val / 2) + 128 * h.val + c.val, by omega⟩))
    (z ⟨2 * p.val + h.val, by omega⟩) (fun n => V n ⟨256 * (p.val / 2) + 128 * h.val + d.val, by omega⟩)

/-- One query head against its key head, as a softmax over scaled scores. -/
def headOf (cut : K → EReal → EReal) (κ : EReal) (z : Fin 8 → EReal) (q : Fin 512 → EReal) (x v : K → Fin 128 → EReal)
    (p : Fin 4) (g : Fin 2) (d : Fin 64) : EReal :=
  softSum (fun n => cut n ((∑ e : Fin 64, x n ⟨64 * (p.val / 2) + e.val, by omega⟩
      * q ⟨128 * p.val + 64 * g.val + e.val, by omega⟩) * κ))
    (z ⟨2 * p.val + g.val, by omega⟩) (fun n => v n ⟨64 * (p.val / 2) + d.val, by omega⟩)

theorem pair_eq (cut : K → EReal → EReal) {κ : EReal} (hκ : 0 ≤ κ) (hκ' : κ ≠ ⊤) {z : Fin 8 → EReal}
    {q : Fin 512 → EReal} {X V : K → Fin 512 → EReal} {x v : K → Fin 128 → EReal} (hX : Laid X x) (hV : Laid V v)
    (hcut : ∀ n s, s ≠ ⊤ → cut n s ≠ ⊤)
    (hz : ∀ a, z a ≠ ⊤ ∧ z a ≠ ⊥) (hq : ∀ a, q a ≠ ⊤ ∧ q a ≠ ⊥) (hx : ∀ n a, x n a ≠ ⊤ ∧ x n a ≠ ⊥)
    (p : Fin 4) (g : Fin 2) (d : Fin 64) :
    halfOf cut z (fun l => q l * κ) X V p 0 ⟨64 * g.val + d.val, by omega⟩
      + halfOf cut z (fun l => q l * κ) X V p 1 ⟨64 * g.val + d.val, by omega⟩ = headOf cut κ z q x v p g d := by
  have score : ∀ (h : Fin 2) (n : K), (∑ c : Fin 128, q ⟨128 * p.val + c.val, by omega⟩ * κ
      * X n ⟨256 * (p.val / 2) + 128 * h.val + c.val, by omega⟩)
      = (∑ e : Fin 64, x n ⟨64 * (p.val / 2) + e.val, by omega⟩ * q ⟨128 * p.val + 64 * h.val + e.val, by omega⟩) * κ := by
    intro h n
    rw [← score_scale _ _ hκ hκ']
    refine (Finset.sum_congr rfl fun c _ => congrArg (_ * ·) (hX n ⟨p.val / 2, by omega⟩ h c)).trans ?_
    refine (sum_half (fun c => q ⟨128 * p.val + c.val, by omega⟩ * κ)
      (fun e => x n ⟨64 * (p.val / 2) + e.val, by omega⟩) h).trans (Finset.sum_congr rfl fun e _ => ?_)
    simp only [Nat.add_assoc]
  have small : ∀ (h : Fin 2) (n : K), cut n ((∑ e : Fin 64, x n ⟨64 * (p.val / 2) + e.val, by omega⟩
      * q ⟨128 * p.val + 64 * h.val + e.val, by omega⟩) * κ) ≠ ⊤ := by
    intro h n
    refine hcut n _ ?_
    rw [sum_mul_of_nonneg _ hκ hκ']
    have hκr : κ ≠ ⊤ ∧ κ ≠ ⊥ := ⟨hκ', fun e => by rw [e] at hκ; exact absurd hκ (by simp)⟩
    rw [← sum_mul_of_nonneg _ hκ hκ']
    have a := sum_mul_real (K := Fin 64) (fun e => hx n ⟨64 * (p.val / 2) + e.val, by omega⟩)
      (fun e => hq ⟨128 * p.val + 64 * h.val + e.val, by omega⟩)
    lift (∑ e : Fin 64, x n ⟨64 * (p.val / 2) + e.val, by omega⟩ * q ⟨128 * p.val + 64 * h.val + e.val, by omega⟩)
      to ℝ using a with s
    lift κ to ℝ using hκr
    exact EReal.coe_ne_top (s * κ)
  have on : halfOf cut z (fun l => q l * κ) X V p g ⟨64 * g.val + d.val, by omega⟩ = headOf cut κ z q x v p g d := by
    unfold halfOf headOf
    rw [← attend_eq_softSum _ (small g) (hz _).1 (hz _).2]
    refine attend_congr (fun n => congrArg _ (score g n)) rfl fun n => ?_
    refine (hV n ⟨p.val / 2, by omega⟩ g ⟨64 * g.val + d.val, by omega⟩).trans ?_
    rw [if_pos (show (64 * g.val + d.val) / 64 = g.val by omega)]
    congr 1
    apply Fin.ext; show 64 * (p.val / 2) + (64 * g.val + d.val) % 64 = 64 * (p.val / 2) + d.val; omega
  have off : ∀ h : Fin 2, h ≠ g → halfOf cut z (fun l => q l * κ) X V p h ⟨64 * g.val + d.val, by omega⟩ = 0 := by
    intro h hne
    unfold halfOf
    refine attend_zero (fun n => ?_) (fun n => by rw [score h n]; exact small h n) (hz _).1 (hz _).2
    refine (hV n ⟨p.val / 2, by omega⟩ h ⟨64 * g.val + d.val, by omega⟩).trans (if_neg ?_)
    intro e; apply hne; apply Fin.ext; have e' : (64 * g.val + d.val) / 64 = h.val := e; omega
  have hg : g = 0 ∨ g = 1 := by omega
  rcases hg with rfl | rfl
  · exact (congrArg₂ (· + ·) on (off 1 (by decide))).trans (add_zero _)
  · exact (congrArg₂ (· + ·) (off 0 (by decide)) on).trans (zero_add _)

end Cert.Attend

end
-- ==== Proof.CtxArray.lean ====
/- What the context attention leaves in its result array: the entry of a row and a column, from the arguments. -/
module

public import proofs.«01_k».proof.Proof.CtxBlock
public import proofs.«01_k».proof.Proof.Heads
public import proofs.«01_k».proof.Proof.Gen.CtxIdeal.Value
public import Idealize.ShloMosaic.Lib.StableHlo.ReadAt

@[expose] public section

set_option maxRecDepth 16384

noncomputable section

namespace Cert.CtxIdeal.Attn

open Cert.CtxIdeal Cert.CtxIdeal.Gen Cert.Attend Idealize.ShloMosaic Idealize.ShloMosaic.TcCoe Idealize.SL.Sem
open Idealize.ShloMosaic.Pipeline (Dat)

variable (m : (ℓ : Loc nD τ sig) → Buf (Elt Ideal) ℓ)

/-- The sinks, queries, keys and values that the program is given. -/
def sinks (c : Dev nD) : Vec Ideal S8 .f32 := m ((c : Thread nD τ).loc main_arg0)
def queries (c : Dev nD) : Vec Ideal S24576x512 .f32 := m ((c : Thread nD τ).loc main_arg1)
def keys (c : Dev nD) : Vec Ideal S24576x128 .f32 := m ((c : Thread nD τ).loc main_arg2)
def values (c : Dev nD) : Vec Ideal S24576x128 .f32 := m ((c : Thread nD τ).loc main_arg3)

theorem V_q (c : Dev nD) (r : Fin 24576) (l : Fin 512) :
    (V m c main_v2 : Vec Ideal S24576x512 .bf16) (ix2 r l) = queries m c (ix2 r l) * Ideal.ofBits .f32 0x3E000000#32 := by
  unfold V
  after_reads_at
  rfl

/-- Eight pieces of 64 lanes: each head once in the lower and once in the upper half of a block of lanes. -/
def laid (lo zero hi : FVec Ideal S24576x64 .f32) : FVec Ideal S24576x512 .bf16 :=
  truncf .bf16 (concatenate S24576x512 1 [⟨S24576x64, lo⟩, ⟨S24576x64, zero⟩, ⟨S24576x64, zero⟩, ⟨S24576x64, lo⟩, ⟨S24576x64, hi⟩, ⟨S24576x64, zero⟩, ⟨S24576x64, zero⟩, ⟨S24576x64, hi⟩]
    concatenates_S24576x64_S24576x64_S24576x64_S24576x64_S24576x64_S24576x64_S24576x64_S24576x64_S24576x512_d1) bitsLt_bf16_f32

/-- The two heads of an array of 128 lanes, laid out. -/
def laidOut (x : FVec Ideal S24576x128 .f32) : FVec Ideal S24576x512 .bf16 :=
  laid (extractStridedSlice S24576x64 ![0, 0] x slices_S24576x128_S24576x64_0_0)
    (broadcastInDim (s := S_) S24576x64 ![] bcast_S_S24576x64 (constant (F := Ideal) S_ .f32 0x00000000#32))
    (extractStridedSlice S24576x64 ![0, 64] x slices_S24576x128_S24576x64_0_64)

theorem laidOut_at (x : FVec Ideal S24576x128 .f32) (r : Fin 24576) (g h : Fin 2) (c : Fin 128) :
    laidOut x (ix2 r ⟨256 * g.val + 128 * h.val + c.val, by omega⟩)
      = if c.val / 64 = h.val then x (ix2 r ⟨64 * g.val + c.val % 64, by omega⟩) else 0 := by
  unfold laidOut laid
  pointwise
  have hx : ∀ a b : Fin 128, a.val = b.val → x (ix2 r a) = x (ix2 r b) := fun a b e => by rw [Fin.ext e]
  by_cases hc : c.val / 64 = h.val
  · rw [if_pos hc]
    split_ifs <;> first | (exfalso; omega) | (apply hx; simp only; omega)
  · rw [if_neg hc]
    split_ifs <;> first | rfl | (exfalso; omega)

/-- So the rows of an array, laid out, hold its two heads. -/
theorem laidOut_rows {K : Type} [Fintype K] (x : FVec Ideal S24576x128 .f32) (f : K → Fin 24576) :
    Laid (fun n l => laidOut x (ix2 (f n) l)) (fun n l => x (ix2 (f n) l)) := fun n g h c => laidOut_at x (f n) g h c

theorem V_k (c : Dev nD) : (V m c main_v7 : Vec Ideal S24576x512 .bf16) = laidOut (keys m c) := by
  have h3 : (StableHlo.upto hostOps0 (fun b => m (c, b)) 8 (Proc.tc.devRef main_v3) : Vec Ideal S24576x64 .f32)
      = broadcastInDim (s := S_) S24576x64 ![] bcast_S_S24576x64 (constant (F := Ideal) S_ .f32 0x00000000#32) := by
    after_reads_simp
  have h4 : (StableHlo.upto hostOps0 (fun b => m (c, b)) 8 (Proc.tc.devRef main_v4) : Vec Ideal S24576x64 .f32)
      = extractStridedSlice S24576x64 ![0, 0] (keys m c) slices_S24576x128_S24576x64_0_0 := by
    after_reads_simp; rfl
  have h5 : (StableHlo.upto hostOps0 (fun b => m (c, b)) 8 (Proc.tc.devRef main_v5) : Vec Ideal S24576x64 .f32)
      = extractStridedSlice S24576x64 ![0, 64] (keys m c) slices_S24576x128_S24576x64_0_64 := by
    after_reads_simp; rfl
  unfold V
  after_reads_simp
  refine (?_ : _ = laid (StableHlo.upto hostOps0 (fun b => m (c, b)) 8 (Proc.tc.devRef main_v4)) (StableHlo.upto hostOps0 (fun b => m (c, b)) 8 (Proc.tc.devRef main_v3)) (StableHlo.upto hostOps0 (fun b => m (c, b)) 8 (Proc.tc.devRef main_v5))).trans ?_
  · rfl
  · rw [h3, h4, h5]; rfl

theorem V_v (c : Dev nD) : (V m c main_v12 : Vec Ideal S24576x512 .bf16) = laidOut (values m c) := by
  have h3 : (StableHlo.upto hostOps0 (fun b => m (c, b)) 14 (Proc.tc.devRef main_v8) : Vec Ideal S24576x64 .f32)
      = broadcastInDim (s := S_) S24576x64 ![] bcast_S_S24576x64 (constant (F := Ideal) S_ .f32 0x00000000#32) := by
    after_reads_simp
  have h4 : (StableHlo.upto hostOps0 (fun b => m (c, b)) 14 (Proc.tc.devRef main_v9) : Vec Ideal S24576x64 .f32)
      = extractStridedSlice S24576x64 ![0, 0] (values m c) slices_S24576x128_S24576x64_0_0 := by
    after_reads_simp; rfl
  have h5 : (StableHlo.upto hostOps0 (fun b => m (c, b)) 14 (Proc.tc.devRef main_v10) : Vec Ideal S24576x64 .f32)
      = extractStridedSlice S24576x64 ![0, 64] (values m c) slices_S24576x128_S24576x64_0_64 := by
    after_reads_simp; rfl
  unfold V
  after_reads_simp
  refine (?_ : _ = laid (StableHlo.upto hostOps0 (fun b => m (c, b)) 14 (Proc.tc.devRef main_v9)) (StableHlo.upto hostOps0 (fun b => m (c, b)) 14 (Proc.tc.devRef main_v8)) (StableHlo.upto hostOps0 (fun b => m (c, b)) 14 (Proc.tc.devRef main_v10))).trans ?_
  · rfl
  · rw [h3, h4, h5]; rfl

theorem idx_facts : ∀ t : Fin grid0.N, (win0_1.index t 0 = t.val ∧ win0_1.index t 1 = 0) ∧ (win0_2.index t 0 = t.val ∧ win0_2.index t 1 = 0) ∧ (win0_3.index t 0 = t.val ∧ win0_3.index t 1 = 0)
    ∧ (win0_4.index t 0 = t.val ∧ win0_4.index t 1 = 0) ∧ win0_0.index t 0 = 0 := by decide +kernel

theorem iblk1 (c : Dev nD) (t : Fin cfg0.N) (r : Fin 256) (l : Fin 512) (h : 256 * t.val + r.val < 24576) :
    (iblk m c 1 t : Vec Ideal S256x512 .bf16) (ix2 r l) = V m c main_v2 (ix2 ⟨256 * t.val + r.val, h⟩ l) := by
  obtain ⟨h1, -⟩ := idx_facts t
  unfold iblk
  rw [View.read_apply]
  show V m c main_v2 _ = V m c main_v2 _
  congr 1
  funext a
  apply Fin.ext
  match a with
  | ⟨0, _⟩ => show win0_1.index t 0 * 256 + 1 * r.val = 256 * t.val + r.val; rw [h1.1]; omega
  | ⟨1, _⟩ => show win0_1.index t 1 * 512 + 1 * l.val = l.val; rw [h1.2]; omega

theorem iblk2 (c : Dev nD) (t : Fin cfg0.N) (r : Fin 256) (l : Fin 512) (h : 256 * t.val + r.val < 24576) :
    (iblk m c 2 t : Vec Ideal S256x512 .bf16) (ix2 r l) = V m c main_v7 (ix2 ⟨256 * t.val + r.val, h⟩ l) := by
  obtain ⟨-, h1, -⟩ := idx_facts t
  unfold iblk
  rw [View.read_apply]
  show V m c main_v7 _ = V m c main_v7 _
  congr 1
  funext a
  apply Fin.ext
  match a with
  | ⟨0, _⟩ => show win0_2.index t 0 * 256 + 1 * r.val = 256 * t.val + r.val; rw [h1.1]; omega
  | ⟨1, _⟩ => show win0_2.index t 1 * 512 + 1 * l.val = l.val; rw [h1.2]; omega

theorem iblk3 (c : Dev nD) (t : Fin cfg0.N) (r : Fin 256) (l : Fin 512) (h : 256 * t.val + r.val < 24576) :
    (iblk m c 3 t : Vec Ideal S256x512 .bf16) (ix2 r l) = V m c main_v12 (ix2 ⟨256 * t.val + r.val, h⟩ l) := by
  obtain ⟨-, -, h1, -⟩ := idx_facts t
  unfold iblk
  rw [View.read_apply]
  show V m c main_v12 _ = V m c main_v12 _
  congr 1
  funext a
  apply Fin.ext
  match a with
  | ⟨0, _⟩ => show win0_3.index t 0 * 256 + 1 * r.val = 256 * t.val + r.val; rw [h1.1]; omega
  | ⟨1, _⟩ => show win0_3.index t 1 * 512 + 1 * l.val = l.val; rw [h1.2]; omega

theorem iblk0 (c : Dev nD) (t : Fin cfg0.N) (a : Fin 8) :
    (iblk m c 0 t : Vec Ideal S8 .f32) (ix1 a) = sinks m c (ix1 a) := by
  obtain ⟨-, -, -, -, h0⟩ := idx_facts t
  unfold iblk
  rw [View.read_apply]
  show V m c main_arg0 _ = sinks m c _
  rw [show V m c main_arg0 = sinks m c from V_main_arg0 m c]
  congr 1
  funext a'
  apply Fin.ext
  match a' with
  | ⟨0, _⟩ => show win0_0.index t 0 * 8 + 1 * a.val = a.val; rw [h0]; omega

/-- Head pair `p`'s half `h` at query row `r`: the 256 keys of `r`'s own sequence, laid out. -/
def sideAt (c : Dev nD) (r : Fin 8192) (p : Fin 4) (h : Fin 2) (d : Fin 128) : EReal :=
  halfOf (K := Fin 256) (fun _ s => s) (fun a => sinks m c (ix1 a))
    (fun l => queries m c (ix2 ⟨r.val, by omega⟩ l) * Ideal.ofBits .f32 0x3E000000#32)
    (fun n l => laidOut (keys m c) (ix2 ⟨256 * (r.val / 256) + n.val, by omega⟩ l))
    (fun n l => laidOut (values m c) (ix2 ⟨256 * (r.val / 256) + n.val, by omega⟩ l)) p h d

theorem side_eq (c : Dev nD) (t : Fin cfg0.N) (r : Fin 256) (r' : Fin 8192) (hr : r'.val = 256 * t.val + r.val)
    (p : Fin 4) (h : Fin 2) (d : Fin 128) :
    side (iblk m c 0 t) (iblk m c 1 t) (iblk m c 2 t) (iblk m c 3 t) p h r d = sideAt m c r' p h d := by
  have ht : t.val < 32 := t.isLt
  have hq : r'.val / 256 = t.val := by omega
  unfold side sideAt halfOf
  refine attend_congr (fun n => Finset.sum_congr rfl fun e _ => ?_) (iblk0 m c t _) fun n => ?_
  · rw [iblk1 m c t r _ (by omega), iblk2 m c t n _ (by omega), V_q, V_k]
    simp only [← hr, hq]
  · rw [iblk3 m c t n _ (by omega), V_v]
    simp only [hq]

/-- The kernel's result at row `r` and lane `l`. -/
theorem array_at (c : Dev nD) (r : Fin 8192) (l : Fin 512) :
    ((dats m 0 c).arrAt 4 cfg0.N : Vec Ideal S8192x512 .f32) (ix2 r l)
      = sideAt m c r ⟨l.val / 128, by omega⟩ 0 ⟨l.val % 128, by omega⟩
        + sideAt m c r ⟨l.val / 128, by omega⟩ 1 ⟨l.val % 128, by omega⟩ := by
  have ht : r.val / 256 < 32 := by omega
  obtain ⟨-, -, -, h4, -⟩ := idx_facts ⟨r.val / 256, ht⟩
  have e : (ix2 r l : S8192x512.Idx) = ((cfg0.win 4).blk ⟨r.val / 256, ht⟩).view.emb (ix2 (⟨r.val % 256, by omega⟩ : Fin 256) l) := by
    funext a
    apply Fin.ext
    match a with
    | ⟨0, _⟩ => show r.val = win0_4.index ⟨r.val / 256, ht⟩ 0 * 256 + 1 * (r.val % 256); rw [h4.1]; simp only; omega
    | ⟨1, _⟩ => show l.val = win0_4.index ⟨r.val / 256, ht⟩ 1 * 512 + 1 * l.val; rw [h4.2]; omega
  rw [e]
  refine ((dats m 0 c).arrAt_emb_eq_flushed 4 Value.disjoint4 ⟨r.val / 256, ht⟩ (flush0_4 _) _).trans ?_
  rw [cast_eq, Value.flushed4_A]
  refine (out_eq c _ _ _ _ _ _ _ _ _ _ _ _ _ _ _ _).trans ?_
  exact congrArg₂ (· + ·)
    (side_eq m c ⟨r.val / 256, ht⟩ ⟨r.val % 256, by omega⟩ r (by show r.val = 256 * (r.val / 256) + r.val % 256; omega) _ 0 _)
    (side_eq m c ⟨r.val / 256, ht⟩ ⟨r.val % 256, by omega⟩ r (by show r.val = 256 * (r.val / 256) + r.val % 256; omega) _ 1 _)

end Cert.CtxIdeal.Attn

end
-- ==== Proof.CtxRef.lean ====
/-
  What the reference of the context attention computes at one row and lane: the softmax of one query head against its key
  head, the sink the last of the scores (`ref_at`).
-/
module

public import proofs.«01_k».proof.Proof.Heads
public import proofs.«01_k».proof.Proof.Gen.CtxRefIdeal.Read
public import Idealize.ShloMosaic.Lib.Pointwise

@[expose] public section

set_option maxRecDepth 16384

noncomputable section

namespace Cert.CtxRefIdeal.Attn

open Cert.CtxRefIdeal Cert.CtxRefIdeal.Gen Cert.CtxRefIdeal.Read Cert.Attend Idealize.ShloMosaic Idealize.ShloMosaic.TcCoe Idealize.SL.Sem

theorem bot_f32 : Ideal.ofBits .f32 0xFF800000#32 = ⊥ := by
  simp [Ideal.ofBits, Ideal.ieee]

variable (x0 : Vec Ideal S8 .f32) (x1 : Vec Ideal S24576x512 .f32) (x2 x3 : Vec Ideal S24576x128 .f32)

/-- The scaled scores of one query, the sink after them. -/
def scores (b : Fin 32) (g : Fin 2) (j : Fin 4) (r : Fin 256) (n : Fin 257) : EReal :=
  val_main_v12 (F := Ideal) x0 x1 x2 (ix5 b g j r n)

theorem scores_at (b : Fin 32) (g : Fin 2) (j : Fin 4) (r : Fin 256) (n : Fin 257) :
    scores x0 x1 x2 b g j r n = if h : n.val < 256 then
      (∑ e : Fin 64, x2 (ix2 ⟨b.val * 256 + n.val, by omega⟩ ⟨g.val * 64 + e.val, by omega⟩)
        * x1 (ix2 ⟨b.val * 256 + r.val, by omega⟩ ⟨g.val * 256 + j.val * 64 + e.val, by omega⟩)) * Ideal.ofBits .f32 0x3E000000#32
      else x0 (ix1 ⟨g.val * 4 + j.val, by omega⟩) := by
  unfold scores val_main_v12 val_main_v9 val_main_v8 val_main_v7 val_main_v11 val_main_v10 val_main_v6 val_main_v3 val_main_v2 val_main_v1 val_main_v0 val_main_cst
  pointwise

theorem fold_at (i : S32x2x4x256.Idx) : val_main_v13 (F := Ideal) x0 x1 x2 i
    = Finset.univ.fold max (val_main_cst_0 (F := Ideal) (Shape.Idx.first h_S_)) (fun n : Fin 257 => val_main_v12 (F := Ideal) x0 x1 x2 (ix5 (i 0) (i 1) (i 2) (i 3) n)) := by
  unfold val_main_v13
  generalize val_main_v12 (F := Ideal) x0 x1 x2 = y
  generalize val_main_cst_0 (F := Ideal) = z
  pointwise

theorem peak_at (b : Fin 32) (g : Fin 2) (j : Fin 4) (r : Fin 256) :
    val_main_v15 (F := Ideal) x0 x1 x2 (ix4 b g j r) = max ⊥ (Finset.univ.fold max ⊥ (scores x0 x1 x2 b g j r)) := by
  rw [val_main_v15_apply, val_main_v14_apply, val_main_cst_1_apply, fold_at, val_main_cst_0_apply]
  refine Eq.trans (b := max (Ideal.ofBits .f32 0xFF800000#32) (Finset.univ.fold max (Ideal.ofBits .f32 0xFF800000#32) (scores x0 x1 x2 b g j r))) rfl ?_
  rw [bot_f32]

theorem exp_at (b : Fin 32) (g : Fin 2) (j : Fin 4) (r : Fin 256) (n : Fin 257) :
    val_main_v19 (F := Ideal) x0 x1 x2 (ix5 b g j r n)
      = Ideal.exp (scores x0 x1 x2 b g j r n - max ⊥ (Finset.univ.fold max ⊥ (scores x0 x1 x2 b g j r))) := by
  rw [← peak_at]
  unfold scores val_main_v19 val_main_v18 val_main_v17 val_main_v16
  generalize val_main_v12 (F := Ideal) x0 x1 x2 = y
  generalize val_main_v15 (F := Ideal) x0 x1 x2 = z
  pointwise

theorem total_at (b : Fin 32) (g : Fin 2) (j : Fin 4) (r : Fin 256) :
    val_main_v20 (F := Ideal) x0 x1 x2 (ix4 b g j r) = ∑ n : Fin 257, val_main_v19 (F := Ideal) x0 x1 x2 (ix5 b g j r n) := by
  rw [val_main_v20_apply, val_main_cst_2_apply]
  refine (congrArg (· + _) (show Ideal.ofBits .f32 0x00000000#32 = 0 by simp [Ideal.ofBits, Ideal.ieee])).trans ((zero_add _).trans (Finset.sum_congr rfl fun n _ => congrArg _ ?_))
  funext a
  match a with
  | ⟨0, _⟩ => rfl
  | ⟨1, _⟩ => rfl
  | ⟨2, _⟩ => rfl
  | ⟨3, _⟩ => rfl
  | ⟨4, _⟩ => rfl

theorem weight_at (b : Fin 32) (g : Fin 2) (j : Fin 4) (r : Fin 256) (n : Fin 256) :
    val_main_v24 (F := Ideal) x0 x1 x2 (ix5 b g j r n)
      = Ideal.div (Ideal.exp (scores x0 x1 x2 b g j r ⟨n.val, Nat.lt_succ_of_lt n.isLt⟩ - max ⊥ (Finset.univ.fold max ⊥ (scores x0 x1 x2 b g j r))))
        (∑ k, Ideal.exp (scores x0 x1 x2 b g j r k - max ⊥ (Finset.univ.fold max ⊥ (scores x0 x1 x2 b g j r)))) := by
  simp only [← exp_at]
  rw [← total_at]
  unfold val_main_v24 val_main_v23 val_main_v22 val_main_v21
  generalize val_main_v19 (F := Ideal) x0 x1 x2 = y
  generalize val_main_v20 (F := Ideal) x0 x1 x2 = z
  pointwise

theorem ref_at (r : Fin 8192) (p : Fin 4) (g : Fin 2) (d : Fin 64) :
    (val_main_v27 (F := Ideal) x0 x1 x2 x3 : Vec Ideal S8192x512 .f32) (ix2 r ⟨128 * p.val + 64 * g.val + d.val, by omega⟩)
      = headOf (K := Fin 256) (fun _ s => s) (Ideal.ofBits .f32 0x3E000000#32) (fun a => x0 (ix1 a))
        (fun l => x1 (ix2 ⟨r.val, by omega⟩ l)) (fun n l => x2 (ix2 ⟨256 * (r.val / 256) + n.val, by omega⟩ l))
        (fun n l => x3 (ix2 ⟨256 * (r.val / 256) + n.val, by omega⟩ l)) p g d := by
  unfold val_main_v27 val_main_v26 val_main_v25 val_main_v5 val_main_v4
  pointwise
  refine (Finset.sum_congr rfl fun n _ => congrArg (_ * ·) (weight_at x0 x1 x2 _ _ _ _ n)).trans ?_
  refine (softSum_last (scores x0 x1 x2 _ _ _ _) _).trans ?_
  unfold headOf
  have h1 : ∀ (a b : Fin 128) (a' b' : Fin 24576) (x : Vec Ideal S24576x128 .f32), a'.val = b'.val → a.val = b.val → x (ix2 a' a) = x (ix2 b' b) :=
    fun a b a' b' x e e' => by rw [Fin.ext e, Fin.ext e']
  have h2 : ∀ (a b : Fin 512) (a' b' : Fin 24576), a'.val = b'.val → a.val = b.val → x1 (ix2 a' a) = x1 (ix2 b' b) :=
    fun a b a' b' e e' => by rw [Fin.ext e, Fin.ext e']
  congr 1
  · funext n
    rw [scores_at, dif_pos n.isLt]
    refine congrArg (· * _) (Finset.sum_congr rfl fun e _ => congrArg₂ (· * ·) ?_ ?_)
    · apply h1 <;> simp only <;> omega
    · apply h2 <;> simp only <;> omega
  · rw [scores_at, dif_neg (by simp)]
    congr 2
    apply Fin.ext; simp only; omega
  · funext n
    apply h1 <;> simp only <;> omega

end Cert.CtxRefIdeal.Attn

end
-- ==== Proof.Finite.lean ====
/-
  What a precondition `jnp.all(jnp.abs(x) < inf)` says of each element: it is a real number.
-/
module

public import Idealize.ShloMosaic.Lib.ReduceAll
public import Idealize.ShloMosaic.Lib.StableHlo
public import Idealize.ShloMosaic.Lib.Pointwise
public import Idealize.ShloMosaic.PureOps.Ideal.Laws

@[expose] public section

noncomputable section

namespace Cert.Attend

open Idealize.ShloMosaic

theorem top_f32 : Ideal.ofBits .f32 0x7F800000#32 = ⊤ := by
  simp [Ideal.ofBits, Ideal.ieee]

theorem ne_of_abs_lt {x : EReal} (h : max x (-x) < ⊤) : x ≠ ⊤ ∧ x ≠ ⊥ := by
  constructor
  · rintro rfl; simp at h
  · rintro rfl; simp at h

theorem finite_of_all {s u : Shape} {axes : List (Fin s.rank)} (x : FVec Ideal s .f32) (hb : Shape.BroadcastsInDim (⟨0, ![]⟩ : Shape) s ![])
    (hr : s.ReducesTo axes ⟨0, ![]⟩) (init : IVec u 1) (hu : 0 < u.numel) (j : (⟨0, ![]⟩ : Shape).Idx)
    (h : Host.reduce IntOp.andi (cmpf .olt (Host.absf x) (broadcastInDim s ![] hb (constant (F := Ideal) ⟨0, ![]⟩ .f32 0x7F800000#32))) init hr hu j = 1#1)
    (i : s.Idx) : x i ≠ ⊤ ∧ x i ≠ ⊥ := by
  haveI : Subsingleton (⟨0, ![]⟩ : Shape).Idx := ⟨fun a b => funext fun k => k.elim0⟩
  have e := Host.reduce_andi_all _ _ _ _ _ h i
  apply ne_of_abs_lt
  rw [← top_f32]
  have e' : BitVec.ofBool (decide (max (x i) (-(x i)) < Ideal.ofBits .f32 0x7F800000#32)) = 1#1 := e
  by_contra hn
  rw [decide_eq_false hn] at e'
  exact absurd e' (by decide)

theorem and_one {a b : BitVec 1} (h : IntOp.andi a b = 1#1) : a = 1#1 ∧ b = 1#1 := by
  revert a b; decide

end Cert.Attend

end
-- ==== Proof.CtxEq.lean ====
/-
  The context attention's equation: where the sinks, queries and keys are real, the kernel's array is the reference's.
-/
module

public import proofs.«01_k».proof.Defs
public import proofs.«01_k».proof.Proof.CtxArray
public import proofs.«01_k».proof.Proof.CtxRef
public import proofs.«01_k».proof.Proof.Finite
public import proofs.«01_k».proof.Proof.Gen.CtxRefIdeal.Run
public import proofs.«01_k».proof.Proof.Gen.Pre_ctx_finite

@[expose] public section

noncomputable section

namespace Cert.CtxIdeal.Attn

open Cert.CtxIdeal Cert.CtxIdeal.Gen Cert.Attend Idealize.ShloMosaic Idealize.ShloMosaic.TcCoe Idealize.SL.Sem

/-- The scale is a power of two, so neither negative nor infinite. -/
theorem scale_real : 0 ≤ Ideal.ofBits .f32 0x3E000000#32 ∧ Ideal.ofBits .f32 0x3E000000#32 ≠ ⊤ := by
  have h : Ideal.ofBits .f32 0x3E000000#32 = ((0.125 : ℝ) : EReal) := by
    simp [Ideal.ofBits, Ideal.ieee]
    rw [← EReal.coe_mul]; norm_num
  rw [h]
  exact ⟨EReal.coe_nonneg.mpr (by norm_num), EReal.coe_ne_top _⟩

/-- What the precondition says of the arguments' elements. -/
theorem finite_args (x0 : Vec Ideal S8 .f32) (x1 : Vec Ideal S24576x512 .f32) (x2 x3 : Vec Ideal S24576x128 .f32)
    (h : Cert.Pre_ctx_finite.fn (F := Ideal) x0 x1 x2 x3 = fun _ => 1#1) :
    (∀ i, x0 i ≠ ⊤ ∧ x0 i ≠ ⊥) ∧ (∀ i, x1 i ≠ ⊤ ∧ x1 i ≠ ⊥) ∧ (∀ i, x2 i ≠ ⊤ ∧ x2 i ≠ ⊥) := by
  have e := congrFun h (fun k => k.elim0)
  obtain ⟨e01, e2⟩ := and_one e
  obtain ⟨e0, e1⟩ := and_one e01
  exact ⟨finite_of_all x0 _ _ _ _ _ e0, finite_of_all x1 _ _ _ _ _ e1, finite_of_all x2 _ _ _ _ _ e2⟩

variable (m : (ℓ : Loc nD τ sig) → Buf (Elt Ideal) ℓ)

theorem equation (c : Dev nD) (h : Cert.Pre_ctx_finite.fn (F := Ideal) (sinks m c) (queries m c) (keys m c) (values m c) = fun _ => 1#1) :
    ((dats m 0 c).arrAt 4 cfg0.N : Vec Ideal S8192x512 .f32)
      = Cert.CtxRefIdeal.Read.val_main_v27 (F := Ideal) (sinks m c) (queries m c) (keys m c) (values m c) := by
  obtain ⟨h0, h1, h2⟩ := finite_args _ _ _ _ h
  funext i
  have hi : i = ix2 (i 0) (i 1) := by funext a; match a with | ⟨0, _⟩ => rfl | ⟨1, _⟩ => rfl
  have hl : (i 1).val < 512 := (i 1).isLt
  have h1' : i 1 = (⟨128 * ((i 1).val / 128) + 64 * ((i 1).val % 128 / 64) + (i 1).val % 64, by omega⟩ : Fin 512) := by
    apply Fin.ext; simp only; omega
  have e := Cert.CtxRefIdeal.Attn.ref_at (sinks m c) (queries m c) (keys m c) (values m c) (i 0)
    ⟨(i 1).val / 128, by omega⟩ ⟨(i 1).val % 128 / 64, by omega⟩ ⟨(i 1).val % 64, by omega⟩
  rw [hi]
  refine (array_at m c (i 0) (i 1)).trans ?_
  refine Eq.trans ?_ ((congrArg (fun l : Fin 512 => Cert.CtxRefIdeal.Read.val_main_v27 (F := Ideal) (sinks m c) (queries m c) (keys m c) (values m c) (ix2 (i 0) l)) h1').trans e).symm
  have hd : (⟨(i 1).val % 128, by omega⟩ : Fin 128) = ⟨64 * ((i 1).val % 128 / 64) + (i 1).val % 64, by omega⟩ := by
    apply Fin.ext; simp only; omega
  rw [hd]
  exact pair_eq (fun _ s => s) scale_real.1 scale_real.2 (laidOut_rows (keys m c) _) (laidOut_rows (values m c) _)
    (fun _ _ hs => hs) (fun a => h0 _) (fun a => h1 _) (fun n a => h2 _) _ ⟨(i 1).val % 128 / 64, by omega⟩ ⟨(i 1).val % 64, by omega⟩

theorem algebraic : Cert.algebraic_CtxIdeal_CtxRefIdeal_pre_ctx_finite (hCtxIdeal := Cert.CtxIdeal.Gen.facts)
    (hCtxRefIdeal := Cert.CtxRefIdeal.Gen.facts) (hPre_ctx_finite := Cert.Pre_ctx_finite.Gen.facts) := by
  intro m g m' g' hpre hargs
  refine ⟨fun c => (dats m 0 c).arrAt 4 cfg0.N, Cert.CtxIdeal.Value.run_blocks (F := Ideal) m g, ?_⟩
  refine (θ_run (Cert.CtxRefIdeal.defs (F := Ideal)) _ _).mono (fun r h c => ?_) (Cert.CtxRefIdeal.Value.run (F := Ideal) m' g')
  obtain ⟨hv, hk⟩ := h c
  refine ⟨hv.trans ?_, hk⟩
  rw [Cert.CtxRefIdeal.Read.val_main_v27_eq, (hargs c).1, (hargs c).2.1, (hargs c).2.2.1, (hargs c).2.2.2]
  exact (equation m c (hpre c)).symm

end Cert.CtxIdeal.Attn

end
-- ==== Proof.Gated.lean ====
/-
  The elementwise mathematics that the token layers share: the root mean square norm with its modulation, the gated hidden
  unit, and the splits of the long sums.
-/
module

public import Idealize.ShloMosaic.PureOps.Ideal
public import Mathlib.Algebra.BigOperators.Fin

@[expose] public section

noncomputable section

namespace Cert.Gated

open Idealize.ShloMosaic

theorem one_f32 : Ideal.ofBits .f32 0x3F800000#32 = 1 := by
  simp [Ideal.ofBits, Ideal.ieee]
  rw [← EReal.coe_mul]; norm_num
theorem zero_f32 : Ideal.ofBits .f32 0x00000000#32 = 0 := by simp [Ideal.ofBits, Ideal.ieee]

/-- The group of modulation rows that a token row uses: one for the 8192 rows of context, then one per 4096 rows. -/
def groupOf (r : Fin 24576) : Fin 8 := if r.val < 8192 then 0 else ⟨1 + (r.val - 8192) / 4096, by omega⟩

/-- A row over its root mean square, at column `d`. -/
def normed (x : Fin 1024 → EReal) (d : Fin 1024) : EReal :=
  x d * Ideal.rsqrt (Ideal.div (∑ k, x k * x k) (Ideal.ofBits .f32 0x44800000#32) + Ideal.ofBits .f32 0x358637BD#32)

/-- The same with its gains `g`, scaled by one plus `scale` and moved by `shift`. -/
def modulated (x g shift scale : Fin 1024 → EReal) (d : Fin 1024) : EReal :=
  normed x d * g d * (1 + scale d) + shift d

/-- One hidden unit: the gate through the sigmoid unit, times the other product. -/
def gated (h wg wu : Fin 1024 → EReal) : EReal :=
  (∑ k, h k * wg k) * Ideal.logistic (∑ k, h k * wg k) * ∑ k, h k * wu k

/-- A sum over 1408 columns in its five pieces. -/
theorem sum_1408 (f : Fin 1408 → EReal) :
    ∑ i, f i = (∑ i : Fin 256, f ⟨i.val, by omega⟩) + (∑ i : Fin 256, f ⟨256 + i.val, by omega⟩)
      + (∑ i : Fin 256, f ⟨512 + i.val, by omega⟩) + (∑ i : Fin 256, f ⟨768 + i.val, by omega⟩)
      + ∑ i : Fin 384, f ⟨1024 + i.val, by omega⟩ := by
  show ∑ i : Fin (256 + 256 + 256 + 256 + 384), f i = _
  rw [Fin.sum_univ_add, Fin.sum_univ_add, Fin.sum_univ_add, Fin.sum_univ_add]
  rfl

/-- A sum over 2816 columns in its two halves. -/
theorem sum_2816 (f : Fin 2816 → EReal) :
    ∑ i, f i = (∑ i : Fin 1408, f ⟨i.val, by omega⟩) + ∑ i : Fin 1408, f ⟨1408 + i.val, by omega⟩ := by
  show ∑ i : Fin (1408 + 1408), f i = _
  rw [Fin.sum_univ_add]
  rfl

end Cert.Gated

end
-- ==== Proof.FfnBlock.lean ====
/- What one step of the dense layer leaves in its scratches and its result block. -/
module

public import proofs.«01_k».proof.Proof.Gated
public import proofs.«01_k».proof.Proof.Gen.FfnIdeal.Frame
public import Idealize.ShloMosaic.Lib.Pointwise
public import Idealize.ShloMosaic.Lib.Pipeline.Value

@[expose] public section

set_option maxRecDepth 16384

noncomputable section

namespace Cert.FfnIdeal.Dense

open Cert.FfnIdeal Cert.FfnIdeal.Gen Cert.Gated Idealize.ShloMosaic Idealize.ShloMosaic.TcCoe Idealize.SL.Sem

theorem hz : (fun a => (![0, 0] : Fin 2 → Nat) a) = fun _ => 0 := funext fun a => by fin_cases a <;> rfl

/-- The modulated rows of a tile, from the tile, the gains, the shift and the scale. -/
def rows (x0 : Vec Ideal S1024x1024 .f32) (x1 x2 : Vec Ideal S1x1x1x1x1024 .f32) (x4 : Vec Ideal S1x1024 .f32) :
    FVec Ideal S1024x1024 .bf16 :=
  k0_pay3 x0 (View.ld x4 (Rect.unit ![0, 0] ![1, 1024] inb_S1x1024_S1x1024_0_0))
    (View.ld x1 (Rect.unit ![0, 0, 0, 0, 0] ![1, 1, 1, 1, 1024] inb_S1x1x1x1x1024_S1x1x1x1x1024_0_0_0_0_0))
    (View.ld x2 (Rect.unit ![0, 0, 0, 0, 0] ![1, 1, 1, 1, 1024] inb_S1x1x1x1x1024_S1x1x1x1x1024_0_0_0_0_0))

/-- The sum `acc` with the products of 1408 hidden columns added. -/
def step (acc : Vec Ideal S1024x1024 .f32) (h : Vec Ideal S1024x1024 .bf16) (x5 x6 : Vec Ideal S1024x1408 .bf16)
    (x7 : Vec Ideal S1408x1024 .bf16) : FVec Ideal S1024x1024 .f32 :=
  k0_pay1 acc
    (k0_pay10 h
      (k0_pay5 h (View.ld x5 (Rect.unit ![0, 256] ![1024, 256] inb_S1024x1408_S1024x256_0_256)))
      (k0_pay6 h (View.ld x6 (Rect.unit ![0, 256] ![1024, 256] inb_S1024x1408_S1024x256_0_256)))
      (k0_pay7 h (View.ld x5 (Rect.unit ![0, 0] ![1024, 256] inb_S1024x1408_S1024x256_0_0))
        (View.ld x6 (Rect.unit ![0, 0] ![1024, 256] inb_S1024x1408_S1024x256_0_0))
        (View.ld x7 (Rect.unit ![0, 0] ![256, 1024] inb_S1408x1024_S256x1024_0_0)))
      (k0_pay8 h (View.ld x5 (Rect.unit ![0, 512] ![1024, 256] inb_S1024x1408_S1024x256_0_512)))
      (k0_pay9 h (View.ld x6 (Rect.unit ![0, 512] ![1024, 256] inb_S1024x1408_S1024x256_0_512)))
      (View.ld x7 (Rect.unit ![256, 0] ![256, 1024] inb_S1408x1024_S256x1024_256_0))
      (View.ld x5 (Rect.unit ![0, 768] ![1024, 256] inb_S1024x1408_S1024x256_0_768))
      (View.ld x6 (Rect.unit ![0, 768] ![1024, 256] inb_S1024x1408_S1024x256_0_768))
      (View.ld x7 (Rect.unit ![512, 0] ![256, 1024] inb_S1408x1024_S256x1024_512_0))
      (View.ld x7 (Rect.unit ![768, 0] ![256, 1024] inb_S1408x1024_S256x1024_768_0)))
    (k0_pay11 h (View.ld x5 (Rect.unit ![0, 1024] ![1024, 384] inb_S1024x1408_S1024x384_0_1024))
      (View.ld x6 (Rect.unit ![0, 1024] ![1024, 384] inb_S1024x1408_S1024x384_0_1024)))
    (View.ld x7 (Rect.unit ![1024, 0] ![384, 1024] inb_S1408x1024_S384x1024_1024_0))

/-- A tile plus its gated sum. -/
def closing (x0 : Vec Ideal S1024x1024 .f32) (x3 : Vec Ideal S1x1x1x1x1024 .f32) (acc : Vec Ideal S1024x1024 .f32) :
    FVec Ideal S1024x1024 .f32 :=
  k0_pay2 x0 (View.ld x3 (Rect.unit ![0, 0, 0, 0, 0] ![1, 1, 1, 1, 1024] inb_S1x1x1x1x1024_S1x1x1x1x1024_0_0_0_0_0)) acc

/-- The first point of a tile keeps the modulated rows … -/
theorem rows_A (c : Dev nD) (i : grid0.Coords) (a2 : Memref sig .tc .vmem S1024x1024 .f32) (h2 : a2.IsWhole)
    (a3 : Memref sig .tc .vmem S1x1x1x1x1024 .f32) (h3 : a3.IsWhole) (a4 : Memref sig .tc .vmem S1x1x1x1x1024 .f32) (h4 : a4.IsWhole)
    (a5 : Memref sig .tc .vmem S1x1x1x1x1024 .f32) (h5 : a5.IsWhole) (a6 : Memref sig .tc .vmem S1x1024 .f32) (h6 : a6.IsWhole)
    (a7 : Memref sig .tc .vmem S1024x1408 .bf16) (h7 : a7.IsWhole) (a8 : Memref sig .tc .vmem S1024x1408 .bf16) (h8 : a8.IsWhole)
    (a9 : Memref sig .tc .vmem S1408x1024 .bf16) (h9 : a9.IsWhole) (a10 : Memref sig .tc .vmem S1024x1024 .f32) (h10 : a10.IsWhole)
    (a11 : Memref sig .tc .vmem S1024x1024 .bf16) (h11 : a11.IsWhole) (a12 : Memref sig .tc .vmem S1024x1024 .f32) (h12 : a12.IsWhole)
    (hc0 : cond0_0 i) (hc1 : ¬cond0_1 i) (x0 : Vec Ideal S1024x1024 .f32) (x1 x2 x3 : Vec Ideal S1x1x1x1x1024 .f32)
    (x4 : Vec Ideal S1x1024 .f32) (x5 x6 : Vec Ideal S1024x1408 .bf16) (x7 : Vec Ideal S1408x1024 .bf16) :
    sout0_A_0 c i a2 h2 a3 h3 a4 h4 a5 h5 a6 h6 a7 h7 a8 h8 a9 h9 a10 h10 a11 h11 a12 h12 hc0 hc1 x0 x1 x2 x3 x4 x5 x6 x7
      = rows x0 x1 x2 x4 := by
  unfold sout0_A_0
  rw [View.read_writes_eq_canon _ _ _ (scover0_A_0 c i a2 h2 a3 h3 a4 h4 a5 h5 a6 h6 a7 h7 a8 h8 a9 h9 a10 h10 a11 h11 a12 h12 hc0 hc1 x0 x1 x2 x3 x4 x5 x6 x7)]
  unfold kernelRun0_A
  dsimp only
  sl_unfold_words
  rw [View.canon_cons_unit_zero (S := S1024x1024) hz]
  simp only [View.readCov_unit_zero (S := S1024x1024) _ hz, View.readAt_eq_ld, h2.read_unread, h3.read_unread, h4.read_unread, h5.read_unread, h6.read_unread, h7.read_unread, h8.read_unread, h9.read_unread, h11.read_unread, h12.read_unread, View.ld_unit_zero (S := S1024x1024) hz]
  rfl

/-- … and the sum over the first half of the hidden columns. -/
theorem sum_A (c : Dev nD) (i : grid0.Coords) (a2 : Memref sig .tc .vmem S1024x1024 .f32) (h2 : a2.IsWhole)
    (a3 : Memref sig .tc .vmem S1x1x1x1x1024 .f32) (h3 : a3.IsWhole) (a4 : Memref sig .tc .vmem S1x1x1x1x1024 .f32) (h4 : a4.IsWhole)
    (a5 : Memref sig .tc .vmem S1x1x1x1x1024 .f32) (h5 : a5.IsWhole) (a6 : Memref sig .tc .vmem S1x1024 .f32) (h6 : a6.IsWhole)
    (a7 : Memref sig .tc .vmem S1024x1408 .bf16) (h7 : a7.IsWhole) (a8 : Memref sig .tc .vmem S1024x1408 .bf16) (h8 : a8.IsWhole)
    (a9 : Memref sig .tc .vmem S1408x1024 .bf16) (h9 : a9.IsWhole) (a10 : Memref sig .tc .vmem S1024x1024 .f32) (h10 : a10.IsWhole)
    (a11 : Memref sig .tc .vmem S1024x1024 .bf16) (h11 : a11.IsWhole) (a12 : Memref sig .tc .vmem S1024x1024 .f32) (h12 : a12.IsWhole)
    (hc0 : cond0_0 i) (hc1 : ¬cond0_1 i) (x0 : Vec Ideal S1024x1024 .f32) (x1 x2 x3 : Vec Ideal S1x1x1x1x1024 .f32)
    (x4 : Vec Ideal S1x1024 .f32) (x5 x6 : Vec Ideal S1024x1408 .bf16) (x7 : Vec Ideal S1408x1024 .bf16) :
    sout0_A_1 c i a2 h2 a3 h3 a4 h4 a5 h5 a6 h6 a7 h7 a8 h8 a9 h9 a10 h10 a11 h11 a12 h12 hc0 hc1 x0 x1 x2 x3 x4 x5 x6 x7
      = step (k0_pay4 (F := Ideal)) (rows x0 x1 x2 x4) x5 x6 x7 := by
  unfold sout0_A_1
  rw [View.read_writes_eq_canon _ _ _ (scover0_A_1 c i a2 h2 a3 h3 a4 h4 a5 h5 a6 h6 a7 h7 a8 h8 a9 h9 a10 h10 a11 h11 a12 h12 hc0 hc1 x0 x1 x2 x3 x4 x5 x6 x7)]
  unfold kernelRun0_A
  dsimp only
  sl_unfold_words
  rw [View.canon_cons_unit_zero (S := S1024x1024) hz]
  simp only [View.readCov_unit_zero (S := S1024x1024) _ hz, View.readAt_eq_ld, h2.read_unread, h3.read_unread, h4.read_unread, h5.read_unread, h6.read_unread, h7.read_unread, h8.read_unread, h9.read_unread, h11.read_unread, h12.read_unread, View.ld_unit_zero (S := S1024x1024) hz]
  rfl

/-- The second point closes the tile with the other half added. -/
theorem out_B (c : Dev nD) (i : grid0.Coords) (a2 : Memref sig .tc .vmem S1024x1024 .f32) (h2 : a2.IsWhole)
    (a3 : Memref sig .tc .vmem S1x1x1x1x1024 .f32) (h3 : a3.IsWhole) (a4 : Memref sig .tc .vmem S1x1x1x1x1024 .f32) (h4 : a4.IsWhole)
    (a5 : Memref sig .tc .vmem S1x1x1x1x1024 .f32) (h5 : a5.IsWhole) (a6 : Memref sig .tc .vmem S1x1024 .f32) (h6 : a6.IsWhole)
    (a7 : Memref sig .tc .vmem S1024x1408 .bf16) (h7 : a7.IsWhole) (a8 : Memref sig .tc .vmem S1024x1408 .bf16) (h8 : a8.IsWhole)
    (a9 : Memref sig .tc .vmem S1408x1024 .bf16) (h9 : a9.IsWhole) (a10 : Memref sig .tc .vmem S1024x1024 .f32) (h10 : a10.IsWhole)
    (a11 : Memref sig .tc .vmem S1024x1024 .bf16) (h11 : a11.IsWhole) (a12 : Memref sig .tc .vmem S1024x1024 .f32) (h12 : a12.IsWhole)
    (hc0 : ¬cond0_0 i) (hc1 : cond0_1 i) (x0 : Vec Ideal S1024x1024 .f32) (x1 x2 x3 : Vec Ideal S1x1x1x1x1024 .f32)
    (x4 : Vec Ideal S1x1024 .f32) (x5 x6 : Vec Ideal S1024x1408 .bf16) (x7 : Vec Ideal S1408x1024 .bf16) (xs0 : Vec Ideal S1024x1024 .bf16) (xs1 : Vec Ideal S1024x1024 .f32) :
    out0_B_8 c i a2 h2 a3 h3 a4 h4 a5 h5 a6 h6 a7 h7 a8 h8 a9 h9 a10 h10 a11 h11 a12 h12 hc0 hc1 x0 x1 x2 x3 x4 x5 x6 x7 xs0 xs1
      = closing x0 x3 (step xs1 xs0 x5 x6 x7) := by
  unfold out0_B_8
  rw [View.read_writes_eq_canon _ _ _ (cover0_B_8 c i a2 h2 a3 h3 a4 h4 a5 h5 a6 h6 a7 h7 a8 h8 a9 h9 a10 h10 a11 h11 a12 h12 hc0 hc1 x0 x1 x2 x3 x4 x5 x6 x7 xs0 xs1)]
  unfold kernelRun0_B
  dsimp only
  sl_unfold_words
  rw [View.canon_cons_unit_zero (S := S1024x1024) hz]
  simp only [View.readCov_unit_zero (S := S1024x1024) _ hz, View.readAt_eq_ld, h2.read_unread, h3.read_unread, h4.read_unread, h5.read_unread, h6.read_unread, h7.read_unread, h8.read_unread, h9.read_unread, h11.read_unread, h12.read_unread, View.ld_unit_zero (S := S1024x1024) hz]
  rfl

theorem rows_at (x0 : Vec Ideal S1024x1024 .f32) (x1 x2 : Vec Ideal S1x1x1x1x1024 .f32) (x4 : Vec Ideal S1x1024 .f32)
    (r d : Fin 1024) : rows x0 x1 x2 x4 (ix2 r d)
      = modulated (fun k => x0 (ix2 r k)) (fun k => x4 (ix2 0 k)) (fun k => x1 (ix5 0 0 0 0 k)) (fun k => x2 (ix5 0 0 0 0 k)) d := by
  pointwise [rows, k0_pay3]
  rfl

theorem closing_at (x0 : Vec Ideal S1024x1024 .f32) (x3 : Vec Ideal S1x1x1x1x1024 .f32) (acc : Vec Ideal S1024x1024 .f32)
    (r d : Fin 1024) : closing x0 x3 acc (ix2 r d) = x0 (ix2 r d) + x3 (ix5 0 0 0 0 d) * acc (ix2 r d) := by
  pointwise [closing, k0_pay2]

theorem step_at (acc : Vec Ideal S1024x1024 .f32) (h : Vec Ideal S1024x1024 .bf16) (x5 x6 : Vec Ideal S1024x1408 .bf16)
    (x7 : Vec Ideal S1408x1024 .bf16) (r d : Fin 1024) :
    step acc h x5 x6 x7 (ix2 r d) = acc (ix2 r d)
      + ∑ i : Fin 1408, gated (fun k => h (ix2 r k)) (fun k => x5 (ix2 k i)) (fun k => x6 (ix2 k i)) * x7 (ix2 i d) := by
  rw [sum_1408]
  pointwise [step, k0_pay1, k0_pay10, k0_pay11, k0_pay5, k0_pay6, k0_pay7, k0_pay8, k0_pay9]
  rfl

end Cert.FfnIdeal.Dense

end
-- ==== Proof.FfnArray.lean ====
/- What the dense layer leaves in its result array: the entry of a row and a column, from the arguments. -/
module

public import proofs.«01_k».proof.Proof.FfnBlock
public import Idealize.ShloMosaic.Lib.StableHlo.ReadAt

@[expose] public section

set_option maxRecDepth 16384

noncomputable section

namespace Cert.FfnIdeal.Dense

open Cert.FfnIdeal Cert.FfnIdeal.Gen Cert.Gated Idealize.ShloMosaic Idealize.ShloMosaic.TcCoe Idealize.SL.Sem
open Idealize.ShloMosaic.Pipeline (Dat)

variable (m : (ℓ : Loc nD τ sig) → Buf (Elt Ideal) ℓ)

/-- The arguments: the token rows, the modulation, the gains and the three weight matrices. -/
def tokens (c : Dev nD) : Vec Ideal S24576x1024 .f32 := m ((c : Thread nD τ).loc main_arg0)
def mods (c : Dev nD) : Vec Ideal S4x8x6x1x1024 .f32 := m ((c : Thread nD τ).loc main_arg1)
def gains (c : Dev nD) : Vec Ideal S1024 .f32 := m ((c : Thread nD τ).loc main_arg2)
def wgate (c : Dev nD) : Vec Ideal S1024x2816 .f32 := m ((c : Thread nD τ).loc main_arg3)
def wup (c : Dev nD) : Vec Ideal S1024x2816 .f32 := m ((c : Thread nD τ).loc main_arg4)
def wdown (c : Dev nD) : Vec Ideal S2816x1024 .f32 := m ((c : Thread nD τ).loc main_arg5)

theorem V_gains (c : Dev nD) (k : Fin 1024) : (V m c main_v0 : Vec Ideal S1x1024 .f32) (ix2 0 k) = gains m c (ix1 k) := by
  unfold V
  after_reads_at
  rfl

theorem V_gate (c : Dev nD) (k : Fin 1024) (i : Fin 2816) :
    (V m c main_v1 : Vec Ideal S1024x2816 .bf16) (ix2 k i) = wgate m c (ix2 k i) := by
  unfold V
  after_reads_at
  rfl

theorem V_up (c : Dev nD) (k : Fin 1024) (i : Fin 2816) :
    (V m c main_v2 : Vec Ideal S1024x2816 .bf16) (ix2 k i) = wup m c (ix2 k i) := by
  unfold V
  after_reads_at
  rfl

theorem V_down (c : Dev nD) (i : Fin 2816) (d : Fin 1024) :
    (V m c main_v3 : Vec Ideal S2816x1024 .bf16) (ix2 i d) = wdown m c (ix2 i d) := by
  unfold V
  after_reads_at
  rfl

/-- The group of modulation rows that a tile of 1024 rows uses. -/
def tileGroup (q : Nat) : Nat := if q < 8 then 0 else 1 + (q - 8) / 4

theorem idx_rows : ∀ t : Fin grid0.N, (win0_0.index t 0 = t.val / 2 ∧ win0_0.index t 1 = 0)
    ∧ (win0_8.index t 0 = t.val / 2 ∧ win0_8.index t 1 = 0) ∧ (win0_4.index t 0 = 0 ∧ win0_4.index t 1 = 0) := by decide +kernel

theorem idx_mods : ∀ t : Fin grid0.N,
    (win0_1.index t 0 = 0 ∧ win0_1.index t 1 = tileGroup (t.val / 2) ∧ win0_1.index t 2 = 3 ∧ win0_1.index t 3 = 0 ∧ win0_1.index t 4 = 0)
    ∧ (win0_2.index t 0 = 0 ∧ win0_2.index t 1 = tileGroup (t.val / 2) ∧ win0_2.index t 2 = 4 ∧ win0_2.index t 3 = 0 ∧ win0_2.index t 4 = 0)
    ∧ (win0_3.index t 0 = 0 ∧ win0_3.index t 1 = tileGroup (t.val / 2) ∧ win0_3.index t 2 = 5 ∧ win0_3.index t 3 = 0 ∧ win0_3.index t 4 = 0) := by
  decide +kernel

theorem idx_weights : ∀ t : Fin grid0.N, (win0_5.index t 0 = 0 ∧ win0_5.index t 1 = t.val % 2)
    ∧ (win0_6.index t 0 = 0 ∧ win0_6.index t 1 = t.val % 2) ∧ (win0_7.index t 0 = t.val % 2 ∧ win0_7.index t 1 = 0) := by decide +kernel

theorem iblk0 (c : Dev nD) (t : Fin cfg0.N) (r d : Fin 1024) (h : 1024 * (t.val / 2) + r.val < 24576) :
    (iblk m c 0 t : Vec Ideal S1024x1024 .f32) (ix2 r d) = tokens m c (ix2 ⟨1024 * (t.val / 2) + r.val, h⟩ d) := by
  obtain ⟨h1, -⟩ := idx_rows t
  unfold iblk
  rw [View.read_apply]
  show V m c main_arg0 _ = tokens m c _
  rw [show V m c main_arg0 = tokens m c from V_main_arg0 m c]
  congr 1
  funext a
  apply Fin.ext
  match a with
  | ⟨0, _⟩ => show win0_0.index t 0 * 1024 + 1 * r.val = 1024 * (t.val / 2) + r.val; rw [h1.1]; omega
  | ⟨1, _⟩ => show win0_0.index t 1 * 1024 + 1 * d.val = d.val; rw [h1.2]; omega

theorem iblk4 (c : Dev nD) (t : Fin cfg0.N) (k : Fin 1024) :
    (iblk m c 4 t : Vec Ideal S1x1024 .f32) (ix2 0 k) = gains m c (ix1 k) := by
  obtain ⟨-, -, h1⟩ := idx_rows t
  rw [← V_gains]
  unfold iblk
  rw [View.read_apply]
  show V m c main_v0 _ = V m c main_v0 _
  congr 1
  funext a
  apply Fin.ext
  match a with
  | ⟨0, _⟩ => show win0_4.index t 0 * 1 + 1 * 0 = 0; rw [h1.1]
  | ⟨1, _⟩ => show win0_4.index t 1 * 1024 + 1 * k.val = k.val; rw [h1.2]; omega

theorem iblk1 (c : Dev nD) (t : Fin cfg0.N) (k : Fin 1024) (g : Fin 8) (hg : g.val = tileGroup (t.val / 2)) :
    (iblk m c 1 t : Vec Ideal S1x1x1x1x1024 .f32) (ix5 0 0 0 0 k) = mods m c (ix5 0 g 3 0 k) := by
  obtain ⟨⟨h0, h1, h2, h3, h4⟩, -, -⟩ := idx_mods t
  unfold iblk
  rw [View.read_apply]
  show V m c main_arg1 _ = mods m c _
  rw [show V m c main_arg1 = mods m c from V_main_arg1 m c]
  congr 1
  funext a
  apply Fin.ext
  match a with
  | ⟨0, _⟩ => show win0_1.index t 0 * 1 + 1 * 0 = 0; rw [h0]
  | ⟨1, _⟩ => show win0_1.index t 1 * 1 + 1 * 0 = g.val; rw [h1, hg]; omega
  | ⟨2, _⟩ => show win0_1.index t 2 * 1 + 1 * 0 = 3; rw [h2]
  | ⟨3, _⟩ => show win0_1.index t 3 * 1 + 1 * 0 = 0; rw [h3]
  | ⟨4, _⟩ => show win0_1.index t 4 * 1024 + 1 * k.val = k.val; rw [h4]; omega

theorem iblk2 (c : Dev nD) (t : Fin cfg0.N) (k : Fin 1024) (g : Fin 8) (hg : g.val = tileGroup (t.val / 2)) :
    (iblk m c 2 t : Vec Ideal S1x1x1x1x1024 .f32) (ix5 0 0 0 0 k) = mods m c (ix5 0 g 4 0 k) := by
  obtain ⟨-, ⟨h0, h1, h2, h3, h4⟩, -⟩ := idx_mods t
  unfold iblk
  rw [View.read_apply]
  show V m c main_arg1 _ = mods m c _
  rw [show V m c main_arg1 = mods m c from V_main_arg1 m c]
  congr 1
  funext a
  apply Fin.ext
  match a with
  | ⟨0, _⟩ => show win0_2.index t 0 * 1 + 1 * 0 = 0; rw [h0]
  | ⟨1, _⟩ => show win0_2.index t 1 * 1 + 1 * 0 = g.val; rw [h1, hg]; omega
  | ⟨2, _⟩ => show win0_2.index t 2 * 1 + 1 * 0 = 4; rw [h2]
  | ⟨3, _⟩ => show win0_2.index t 3 * 1 + 1 * 0 = 0; rw [h3]
  | ⟨4, _⟩ => show win0_2.index t 4 * 1024 + 1 * k.val = k.val; rw [h4]; omega

theorem iblk3 (c : Dev nD) (t : Fin cfg0.N) (k : Fin 1024) (g : Fin 8) (hg : g.val = tileGroup (t.val / 2)) :
    (iblk m c 3 t : Vec Ideal S1x1x1x1x1024 .f32) (ix5 0 0 0 0 k) = mods m c (ix5 0 g 5 0 k) := by
  obtain ⟨-, -, ⟨h0, h1, h2, h3, h4⟩⟩ := idx_mods t
  unfold iblk
  rw [View.read_apply]
  show V m c main_arg1 _ = mods m c _
  rw [show V m c main_arg1 = mods m c from V_main_arg1 m c]
  congr 1
  funext a
  apply Fin.ext
  match a with
  | ⟨0, _⟩ => show win0_3.index t 0 * 1 + 1 * 0 = 0; rw [h0]
  | ⟨1, _⟩ => show win0_3.index t 1 * 1 + 1 * 0 = g.val; rw [h1, hg]; omega
  | ⟨2, _⟩ => show win0_3.index t 2 * 1 + 1 * 0 = 5; rw [h2]
  | ⟨3, _⟩ => show win0_3.index t 3 * 1 + 1 * 0 = 0; rw [h3]
  | ⟨4, _⟩ => show win0_3.index t 4 * 1024 + 1 * k.val = k.val; rw [h4]; omega

theorem iblk5 (c : Dev nD) (t : Fin cfg0.N) (k : Fin 1024) (i : Fin 1408) :
    (iblk m c 5 t : Vec Ideal S1024x1408 .bf16) (ix2 k i) = wgate m c (ix2 k ⟨1408 * (t.val % 2) + i.val, by omega⟩) := by
  obtain ⟨h1, -, -⟩ := idx_weights t
  rw [← V_gate]
  unfold iblk
  rw [View.read_apply]
  show V m c main_v1 _ = V m c main_v1 _
  congr 1
  funext a
  apply Fin.ext
  match a with
  | ⟨0, _⟩ => show win0_5.index t 0 * 1024 + 1 * k.val = k.val; rw [h1.1]; omega
  | ⟨1, _⟩ => show win0_5.index t 1 * 1408 + 1 * i.val = 1408 * (t.val % 2) + i.val; rw [h1.2]; omega

theorem iblk6 (c : Dev nD) (t : Fin cfg0.N) (k : Fin 1024) (i : Fin 1408) :
    (iblk m c 6 t : Vec Ideal S1024x1408 .bf16) (ix2 k i) = wup m c (ix2 k ⟨1408 * (t.val % 2) + i.val, by omega⟩) := by
  obtain ⟨-, h1, -⟩ := idx_weights t
  rw [← V_up]
  unfold iblk
  rw [View.read_apply]
  show V m c main_v2 _ = V m c main_v2 _
  congr 1
  funext a
  apply Fin.ext
  match a with
  | ⟨0, _⟩ => show win0_6.index t 0 * 1024 + 1 * k.val = k.val; rw [h1.1]; omega
  | ⟨1, _⟩ => show win0_6.index t 1 * 1408 + 1 * i.val = 1408 * (t.val % 2) + i.val; rw [h1.2]; omega

theorem iblk7 (c : Dev nD) (t : Fin cfg0.N) (i : Fin 1408) (d : Fin 1024) :
    (iblk m c 7 t : Vec Ideal S1408x1024 .bf16) (ix2 i d) = wdown m c (ix2 ⟨1408 * (t.val % 2) + i.val, by omega⟩ d) := by
  obtain ⟨-, -, h1⟩ := idx_weights t
  rw [← V_down]
  unfold iblk
  rw [View.read_apply]
  show V m c main_v3 _ = V m c main_v3 _
  congr 1
  funext a
  apply Fin.ext
  match a with
  | ⟨0, _⟩ => show win0_7.index t 0 * 1408 + 1 * i.val = 1408 * (t.val % 2) + i.val; rw [h1.1]; omega
  | ⟨1, _⟩ => show win0_7.index t 1 * 1024 + 1 * d.val = d.val; rw [h1.2]; omega

/-- What the first point of a tile leaves in the two scratches. -/
theorem first (c : Dev nD) (t : Fin cfg0.N) (h0 : t.val % 2 = 0) :
    (outsAt0 m c t.val t.isLt).2.1 = rows (iblk m c 0 t) (iblk m c 1 t) (iblk m c 2 t) (iblk m c 4 t)
    ∧ (outsAt0 m c t.val t.isLt).2.2 = step (k0_pay4 (F := Ideal))
      (rows (iblk m c 0 t) (iblk m c 1 t) (iblk m c 2 t) (iblk m c 4 t)) (iblk m c 5 t) (iblk m c 6 t) (iblk m c 7 t) := by
  rw [outsAt0_A m c t h0 (by omega)]
  dsimp only
  rw [rows_A, sum_A]
  exact ⟨rfl, rfl⟩

/-- What the second point of a tile writes back, the first point being `s`. -/
theorem second (c : Dev nD) (s t : Fin cfg0.N) (h0 : s.val % 2 = 0) (h1 : t.val = s.val + 1) :
    (outsAt0 m c t.val t.isLt).1 = closing (iblk m c 0 t) (iblk m c 3 t) (step (step (k0_pay4 (F := Ideal))
        (rows (iblk m c 0 s) (iblk m c 1 s) (iblk m c 2 s) (iblk m c 4 s)) (iblk m c 5 s) (iblk m c 6 s) (iblk m c 7 s))
      (rows (iblk m c 0 s) (iblk m c 1 s) (iblk m c 2 s) (iblk m c 4 s)) (iblk m c 5 t) (iblk m c 6 t) (iblk m c 7 t)) := by
  have e : ∀ h, outsAt0 m c (t.val - 1) h = outsAt0 m c s.val s.isLt := by
    rw [show t.val - 1 = s.val by omega]; exact fun _ => rfl
  rw [outsAt0_B m c t (by omega) (by omega)]
  dsimp only
  rw [out_B, e, (first m c s h0).1, (first m c s h0).2]

theorem flush_odd : ∀ t : Fin grid0.N, t.val % 2 = 1 → win0_8.flush t = true := by decide +kernel

theorem idx_inj : ∀ t t' : Fin grid0.N, win0_8.flush t = true → win0_8.flush t' = true → win0_8.index t = win0_8.index t' → t = t' := by
  decide +kernel

theorem disjoint : ∀ t t' : Fin cfg0.N, (cfg0.win 8).flush t = true → (cfg0.win 8).flush t' = true → t ≠ t' →
    Disjoint ((cfg0.win 8).blk t).view.set ((cfg0.win 8).blk t').view.set :=
  fun t t' hf hf' hne => (cfg0.win 8).disjoint_blk fun h => hne (idx_inj t t' hf hf' h)

theorem flushed_at (c : Dev nD) (t : Fin cfg0.N) :
    (dats m 0 c).flushed 8 t = (cfg0.win 8).cut (grid0.coords t) ((outsAt0 m c t.val t.isLt).1) := by
  show (cfg0.win 8).cut (grid0.coords t) ((dats m 0 c).after 8 t) = _
  rw [after0_8]

/-- The rows of a token after the norm and the modulation. -/
def hidden (c : Dev nD) (r : Fin 24576) : Fin 1024 → EReal :=
  modulated (fun k => tokens m c (ix2 r k)) (fun k => gains m c (ix1 k)) (fun k => mods m c (ix5 0 (groupOf r) 3 0 k))
    (fun k => mods m c (ix5 0 (groupOf r) 4 0 k))

theorem group_tile (r : Fin 24576) : (groupOf r).val = tileGroup (r.val / 1024) := by
  unfold groupOf tileGroup
  split_ifs with h h' h'
  · rfl
  · exfalso; omega
  · exfalso; omega
  · show 1 + (r.val - 8192) / 4096 = 1 + (r.val / 1024 - 8) / 4; omega

theorem rows_eq (c : Dev nD) (s : Fin cfg0.N) (r : Fin 24576) (hr : r.val / 1024 = s.val / 2) (d : Fin 1024) :
    rows (iblk m c 0 s) (iblk m c 1 s) (iblk m c 2 s) (iblk m c 4 s) (ix2 ⟨r.val % 1024, by omega⟩ d) = hidden m c r d := by
  have hg : (groupOf r).val = tileGroup (s.val / 2) := by rw [group_tile, hr]
  have hr' : (⟨1024 * (s.val / 2) + r.val % 1024, by omega⟩ : Fin 24576) = r := Fin.ext (by simp only; omega)
  rw [rows_at]
  unfold hidden
  congr 1
  · funext k; rw [iblk0 m c s _ _ (by omega), hr']
  · funext k; rw [iblk4]
  · funext k; rw [iblk1 m c s k _ hg]
  · funext k; rw [iblk2 m c s k _ hg]

/-- The kernel's result at row `r` and column `d`. -/
theorem array_at (c : Dev nD) (r : Fin 24576) (d : Fin 1024) :
    ((dats m 0 c).arrAt 8 cfg0.N : Vec Ideal S24576x1024 .f32) (ix2 r d)
      = tokens m c (ix2 r d) + mods m c (ix5 0 (groupOf r) 5 0 d) * ∑ i : Fin 2816,
        gated (hidden m c r) (fun k => wgate m c (ix2 k i)) (fun k => wup m c (ix2 k i)) * wdown m c (ix2 i d) := by
  have hN : cfg0.N = 48 := N_0
  obtain ⟨s, hs⟩ : ∃ s : Fin cfg0.N, s.val = 2 * (r.val / 1024) := ⟨⟨2 * (r.val / 1024), by omega⟩, rfl⟩
  obtain ⟨t, ht⟩ : ∃ t : Fin cfg0.N, t.val = 2 * (r.val / 1024) + 1 := ⟨⟨2 * (r.val / 1024) + 1, by omega⟩, rfl⟩
  obtain ⟨-, h8, -⟩ := idx_rows t
  have e : (ix2 r d : S24576x1024.Idx) = ((cfg0.win 8).blk t).view.emb (ix2 (⟨r.val % 1024, by omega⟩ : Fin 1024) d) := by
    funext a
    apply Fin.ext
    match a with
    | ⟨0, _⟩ => show r.val = win0_8.index t 0 * 1024 + 1 * (r.val % 1024); rw [h8.1]; omega
    | ⟨1, _⟩ => show d.val = win0_8.index t 1 * 1024 + 1 * d.val; rw [h8.2]; omega
  have hg : (groupOf r).val = tileGroup (t.val / 2) := by rw [group_tile, show t.val / 2 = r.val / 1024 by omega]
  have hr' : (⟨1024 * (t.val / 2) + r.val % 1024, by omega⟩ : Fin 24576) = r := Fin.ext (by simp only; omega)
  rw [e]
  refine ((dats m 0 c).arrAt_emb_eq_flushed 8 disjoint t (flush_odd t (by omega)) _).trans ?_
  rw [cast_eq, flushed_at]
  refine (congrFun (second m c s t (by omega) (by omega)) (ix2 ⟨r.val % 1024, by omega⟩ d)).trans ?_
  rw [closing_at, step_at, step_at, iblk0 m c t _ _ (by omega), hr', iblk3 m c t d _ hg, sum_2816]
  simp only [rows_eq m c s r (by omega), iblk5, iblk6, iblk7, show s.val % 2 = 0 by omega, show t.val % 2 = 1 by omega, Nat.mul_zero, Nat.zero_add, Nat.mul_one]
  rw [show k0_pay4 (F := Ideal) (ix2 ⟨r.val % 1024, by omega⟩ d) = 0 by pointwise [k0_pay4], zero_add, ← e]

/-- The run: the result array, the arguments kept. -/
theorem run (ρ : Dev nD → PrngReg) : θ_run (defs (F := Ideal)) (onTc (τ := τ) (main (F := Ideal))) ⟨m, fun _ => 0, ρ⟩ fun r => ∀ c : Dev nD,
      r.2.mem ((c : Thread nD τ).loc main_v4) = (dats m 0 c).arrAt 8 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) := by
  refine (θ_run defs _ _).mono (fun r h c => ⟨(h c).1 8, ?_, ?_, ?_, ?_, ?_, ?_⟩) (run_main m ρ)
  · exact ((h c).1 0).trans (((dats m 0 c).arrAt_in 0 rfl _).trans ((A_eq m c 0).trans (V_main_arg0 m c)))
  · exact ((h c).1 3).trans (((dats m 0 c).arrAt_in 3 rfl _).trans ((A_eq m c 3).trans (V_main_arg1 m c)))
  · exact ((h c).2 main_arg2 (Pipeline.mem_restRefs_of main_arg2 (by decide) (by decide))).trans (V_main_arg2 m c)
  · exact ((h c).2 main_arg3 (Pipeline.mem_restRefs_of main_arg3 (by decide) (by decide))).trans (V_main_arg3 m c)
  · exact ((h c).2 main_arg4 (Pipeline.mem_restRefs_of main_arg4 (by decide) (by decide))).trans (V_main_arg4 m c)
  · exact ((h c).2 main_arg5 (Pipeline.mem_restRefs_of main_arg5 (by decide) (by decide))).trans (V_main_arg5 m c)

end Cert.FfnIdeal.Dense

end
-- ==== Proof.FfnRef.lean ====
/- What the reference of the dense layer computes at one row and column. -/
module

public import proofs.«01_k».proof.Proof.Gated
public import proofs.«01_k».proof.Proof.Gen.FfnRefIdeal.Read
public import Idealize.ShloMosaic.Lib.Pointwise

@[expose] public section

set_option maxRecDepth 16384

noncomputable section

namespace Cert.FfnRefIdeal.Dense

open Cert.FfnRefIdeal Cert.FfnRefIdeal.Gen Cert.FfnRefIdeal.Read Cert.Gated Idealize.ShloMosaic Idealize.ShloMosaic.TcCoe Idealize.SL.Sem

variable (x0 : Vec Ideal S24576x1024 .f32) (x1 : Vec Ideal S4x8x6x1x1024 .f32) (x2 : Vec Ideal S1024 .f32)
  (x3 x4 : Vec Ideal S1024x2816 .f32) (x5 : Vec Ideal S2816x1024 .f32)

theorem shift_at (r : Fin 24576) (d : Fin 1024) :
    (val_main_v7 (F := Ideal) x1 : Vec Ideal S24576x1024 .f32) (ix2 r d) = x1 (ix5 0 (groupOf r) 3 0 d) := by
  unfold val_main_v7 val_main_v6 val_main_v5 val_main_v4 val_main_v3 val_main_v2 val_main_v1 val_main_v0
  pointwise
  unfold groupOf
  split_ifs <;> rfl

theorem scale_at (r : Fin 24576) (d : Fin 1024) :
    (val_main_v15 (F := Ideal) x1 : Vec Ideal S24576x1024 .f32) (ix2 r d) = x1 (ix5 0 (groupOf r) 4 0 d) := by
  unfold val_main_v15 val_main_v14 val_main_v13 val_main_v12 val_main_v11 val_main_v10 val_main_v9 val_main_v8
  pointwise
  unfold groupOf
  split_ifs <;> rfl

theorem gate_at (r : Fin 24576) (d : Fin 1024) :
    (val_main_v40 (F := Ideal) x1 : Vec Ideal S24576x1024 .f32) (ix2 r d) = x1 (ix5 0 (groupOf r) 5 0 d) := by
  unfold val_main_v40 val_main_v39 val_main_v38 val_main_v37 val_main_v36 val_main_v35 val_main_v34 val_main_v33
  pointwise
  unfold groupOf
  split_ifs <;> rfl

theorem norm_at (r : Fin 24576) (d : Fin 1024) :
    (val_main_v25 (F := Ideal) x0 : Vec Ideal S24576x1024 .f32) (ix2 r d) = normed (fun k => x0 (ix2 r k)) d := by
  unfold val_main_v25 val_main_v24 val_main_v23 val_main_v22 val_main_v21 val_main_v20 val_main_v19 val_main_v18 val_main_v17 val_main_v16 val_main_cst val_main_cst_0 val_main_cst_1
  pointwise
  rfl

theorem rows_at (r : Fin 24576) (d : Fin 1024) :
    (val_main_v32 (F := Ideal) x0 x1 x2 : Vec Ideal S24576x1024 .f32) (ix2 r d)
      = modulated (fun k => x0 (ix2 r k)) (fun k => x2 (ix1 k)) (fun k => x1 (ix5 0 (groupOf r) 3 0 k))
        (fun k => x1 (ix5 0 (groupOf r) 4 0 k)) d := by
  rw [val_main_v32_apply, val_main_v31_apply, val_main_v30_apply, val_main_v28_apply, norm_at, shift_at, scale_at]
  unfold val_main_v27 val_main_v26 val_main_v29 val_main_cst_2
  pointwise
  rfl

theorem hidden_at (r : Fin 24576) (i : Fin 2816) :
    (val_main_v44 (F := Ideal) x0 x1 x2 x3 x4 : Vec Ideal S24576x2816 .f32) (ix2 r i)
      = gated (modulated (fun k => x0 (ix2 r k)) (fun k => x2 (ix1 k)) (fun k => x1 (ix5 0 (groupOf r) 3 0 k))
        (fun k => x1 (ix5 0 (groupOf r) 4 0 k))) (fun k => x3 (ix2 k i)) (fun k => x4 (ix2 k i)) := by
  unfold gated
  simp only [← rows_at]
  unfold val_main_v44 val_main_v43 val_main_v42 val_main_call0_v5 val_main_call0_v4 val_main_call0_cst_0 val_main_call0_v3 val_main_call0_v2 val_main_call0_cst val_main_call0_v1 val_main_call0_v0 val_main_v41
  generalize val_main_v32 (F := Ideal) x0 x1 x2 = h
  pointwise
  rfl

theorem ref_at (r : Fin 24576) (d : Fin 1024) :
    (val_main_v47 (F := Ideal) x0 x1 x2 x3 x4 x5 : Vec Ideal S24576x1024 .f32) (ix2 r d)
      = x0 (ix2 r d) + x1 (ix5 0 (groupOf r) 5 0 d)
        * ∑ i, gated (modulated (fun k => x0 (ix2 r k)) (fun k => x2 (ix1 k)) (fun k => x1 (ix5 0 (groupOf r) 3 0 k))
          (fun k => x1 (ix5 0 (groupOf r) 4 0 k))) (fun k => x3 (ix2 k i)) (fun k => x4 (ix2 k i)) * x5 (ix2 i d) := by
  simp only [← hidden_at]
  rw [← gate_at x1, val_main_v47_apply, val_main_v46_apply]
  unfold val_main_v45
  generalize val_main_v44 (F := Ideal) x0 x1 x2 x3 x4 = h
  pointwise

end Cert.FfnRefIdeal.Dense

end
-- ==== Proof.FfnEq.lean ====
/- The dense layer's equation: the kernel's array is the reference's, for every argument. -/
module

public import proofs.«01_k».proof.Defs
public import proofs.«01_k».proof.Proof.FfnArray
public import proofs.«01_k».proof.Proof.FfnRef
public import proofs.«01_k».proof.Proof.Gen.FfnRefIdeal.Run

@[expose] public section

noncomputable section

namespace Cert.FfnIdeal.Dense

open Cert.FfnIdeal Cert.FfnIdeal.Gen Cert.Gated Idealize.ShloMosaic Idealize.ShloMosaic.TcCoe Idealize.SL.Sem

variable (m : (ℓ : Loc nD τ sig) → Buf (Elt Ideal) ℓ)

theorem equation (c : Dev nD) : ((dats m 0 c).arrAt 8 cfg0.N : Vec Ideal S24576x1024 .f32)
    = Cert.FfnRefIdeal.Read.val_main_v47 (F := Ideal) (tokens m c) (mods m c) (gains m c) (wgate m c) (wup m c) (wdown m c) := by
  funext i
  have hi : i = ix2 (i 0) (i 1) := by funext a; match a with | ⟨0, _⟩ => rfl | ⟨1, _⟩ => rfl
  rw [hi]
  exact (array_at m c (i 0) (i 1)).trans
    (Cert.FfnRefIdeal.Dense.ref_at (tokens m c) (mods m c) (gains m c) (wgate m c) (wup m c) (wdown m c) (i 0) (i 1)).symm

theorem algebraic : Cert.algebraic_FfnIdeal_FfnRefIdeal (hFfnIdeal := Cert.FfnIdeal.Gen.facts)
    (hFfnRefIdeal := Cert.FfnRefIdeal.Gen.facts) := by
  intro m g m' g' _ hargs
  refine ⟨fun c => (dats m 0 c).arrAt 8 cfg0.N, run m g, ?_⟩
  refine (θ_run (Cert.FfnRefIdeal.defs (F := Ideal)) _ _).mono (fun r h c => ?_) (Cert.FfnRefIdeal.Value.run (F := Ideal) m' g')
  obtain ⟨hv, hk⟩ := h c
  refine ⟨hv.trans ?_, hk⟩
  rw [Cert.FfnRefIdeal.Read.val_main_v47_eq, (hargs c).1, (hargs c).2.1, (hargs c).2.2.1, (hargs c).2.2.2.1, (hargs c).2.2.2.2.1, (hargs c).2.2.2.2.2]
  exact (equation m c).symm

end Cert.FfnIdeal.Dense

end
-- ==== Proof.Lanes.lean ====
/-
  The mathematics of a head: its norm, the rotation of its pairs, and what the lanes of a block of two heads hold of it.
-/
module

public import Idealize.ShloMosaic.PureOps.Ideal
public import Mathlib.Algebra.BigOperators.Fin

@[expose] public section

noncomputable section

namespace Cert.Lanes

open Idealize.ShloMosaic

/-- A head of 64 entries over its root mean square, times its gain, at entry `d`. -/
def headNormed (x g : Fin 64 → EReal) (d : Fin 64) : EReal :=
  x d * Ideal.rsqrt (Ideal.div (∑ k, x k * x k) (Ideal.ofBits .f32 0x42800000#32) + Ideal.ofBits .f32 0x358637BD#32) * g d

/-- The pair of entries that holds `d`, turned by the angle whose cosine and sine are those of the pair. -/
def turned (y : Fin 64 → EReal) (c s : Fin 32 → EReal) (d : Fin 64) : EReal :=
  if d.val % 2 = 0 then y d * c ⟨d.val / 2, by omega⟩ - y ⟨d.val / 2 * 2 + 1, by omega⟩ * s ⟨d.val / 2, by omega⟩
  else y ⟨d.val / 2 * 2, by omega⟩ * s ⟨d.val / 2, by omega⟩ + y d * c ⟨d.val / 2, by omega⟩

/-- The norm over a block of two heads, at lane `l`: each half by its own sum. -/
def pairNormed (x g : Fin 128 → EReal) (l : Fin 128) : EReal :=
  x l * (if l.val < 64 then
      Ideal.rsqrt (Ideal.div (∑ k : Fin 128, if k.val < 64 then x k * x k else 0) (Ideal.ofBits .f32 0x42800000#32) + Ideal.ofBits .f32 0x358637BD#32)
    else
      Ideal.rsqrt (Ideal.div (∑ k : Fin 128, if 64 ≤ k.val then x k * x k else 0) (Ideal.ofBits .f32 0x42800000#32) + Ideal.ofBits .f32 0x358637BD#32)) * g l

/-- The rotation over a block of two heads, at lane `l`: a lane times its cosine plus its neighbour times its signed sine. -/
def pairTurned (y c s : Fin 128 → EReal) (l : Fin 128) : EReal :=
  y l * c l + (if l.val % 2 = 0 then y ⟨(l.val + 128 - 127) % 128, by omega⟩ else y ⟨(l.val + 128 - 1) % 128, by omega⟩) * s l

theorem low_sum (f : Fin 128 → EReal) : (∑ k : Fin 128, if k.val < 64 then f k else 0) = ∑ k : Fin 64, f ⟨k.val, by omega⟩ := by
  show (∑ k : Fin (64 + 64), if k.val < 64 then f k else 0) = _
  rw [Fin.sum_univ_add]
  simp
  rfl

theorem high_sum (f : Fin 128 → EReal) : (∑ k : Fin 128, if 64 ≤ k.val then f k else 0) = ∑ k : Fin 64, f ⟨64 + k.val, by omega⟩ := by
  show (∑ k : Fin (64 + 64), if 64 ≤ k.val then f k else 0) = _
  rw [Fin.sum_univ_add]
  have h : ∀ i : Fin 64, ¬64 ≤ i.val := fun i => by omega
  simp [h]
  rfl

/-- Each half of the block's norm is the norm of its head. -/
theorem pairNormed_eq (x g : Fin 128 → EReal) (h : Fin 2) (d : Fin 64) :
    pairNormed x g ⟨64 * h.val + d.val, by omega⟩
      = headNormed (fun k => x ⟨64 * h.val + k.val, by omega⟩) (fun k => g ⟨64 * h.val + k.val, by omega⟩) d := by
  unfold pairNormed headNormed
  rw [low_sum (fun k => x k * x k), high_sum (fun k => x k * x k)]
  match h with
  | ⟨0, _⟩ => simp
  | ⟨1, _⟩ => simp

/-- Each half of the block's rotation is its head's, where the lanes' tables are the pairs' cosines and signed sines. -/
theorem pairTurned_eq (y c s : Fin 128 → EReal) (cc ss : Fin 32 → EReal) (h : Fin 2) (d : Fin 64)
    (hc : c ⟨64 * h.val + d.val, by omega⟩ = cc ⟨d.val / 2, by omega⟩)
    (hs : s ⟨64 * h.val + d.val, by omega⟩ = if d.val % 2 = 0 then -ss ⟨d.val / 2, by omega⟩ else ss ⟨d.val / 2, by omega⟩) :
    pairTurned y c s ⟨64 * h.val + d.val, by omega⟩ = turned (fun k => y ⟨64 * h.val + k.val, by omega⟩) cc ss d := by
  unfold pairTurned turned
  rw [hc, hs]
  by_cases hd : d.val % 2 = 0
  · have h1 : (64 * h.val + d.val) % 2 = 0 := by omega
    have e : (⟨(64 * h.val + d.val + 128 - 127) % 128, by omega⟩ : Fin 128) = ⟨64 * h.val + (d.val / 2 * 2 + 1), by omega⟩ :=
      Fin.ext (by simp only; omega)
    simp only [hd, h1, if_true, e, mul_neg, sub_eq_add_neg]
  · have h1 : ¬(64 * h.val + d.val) % 2 = 0 := by omega
    have e : (⟨(64 * h.val + d.val + 128 - 1) % 128, by omega⟩ : Fin 128) = ⟨64 * h.val + d.val / 2 * 2, by omega⟩ :=
      Fin.ext (by simp only; omega)
    simp only [hd, h1, if_false, e]
    rw [add_comm]

/-- Where the cosines are one and the sines zero the rotation leaves the block as it is. -/
theorem pairTurned_still (y c s : Fin 128 → EReal) (l : Fin 128) (hc : c l = 1) (hs : s l = 0) : pairTurned y c s l = y l := by
  unfold pairTurned
  rw [hc, hs, mul_one, mul_zero, add_zero]

end Cert.Lanes

end
-- ==== Proof.ProjBlock.lean ====
/- What one step of the input projection leaves in its six result blocks. -/
module

public import proofs.«01_k».proof.Proof.Gated
public import proofs.«01_k».proof.Proof.Lanes
public import proofs.«01_k».proof.Proof.Gen.ProjIdeal.Value
public import Idealize.ShloMosaic.Lib.Pointwise
public import Idealize.ShloMosaic.Lib.Pipeline.Value

@[expose] public section

set_option maxRecDepth 16384

noncomputable section

namespace Cert.ProjIdeal.Entry

open Cert.ProjIdeal Cert.ProjIdeal.Gen Cert.Gated Cert.Lanes Idealize.ShloMosaic Idealize.ShloMosaic.TcCoe Idealize.SL.Sem

/-! ### Which lanes a comparison of lane numbers picks -/

theorem pick_low {n : Nat} (hn : n < 128) (a b : EReal) :
    Scalar.select (α := EReal) (IntOp.cmpi CmpIPredicate.slt (BitVec.ofNat 32 n) 64#32) a b = if n < 64 then a else b := by
  have h : ∀ k : Fin 128, IntOp.cmpi CmpIPredicate.slt (BitVec.ofNat 32 k.val) 64#32 = if k.val < 64 then 1#1 else 0#1 := by decide
  rw [h ⟨n, hn⟩]
  show Scalar.select (if n < 64 then 1#1 else 0#1) a b = _
  split_ifs <;> rfl

theorem pick_high {n : Nat} (hn : n < 128) (a b : EReal) :
    Scalar.select (α := EReal) (IntOp.cmpi CmpIPredicate.sge (BitVec.ofNat 32 n) 64#32) a b = if 64 ≤ n then a else b := by
  have h : ∀ k : Fin 128, IntOp.cmpi CmpIPredicate.sge (BitVec.ofNat 32 k.val) 64#32 = if 64 ≤ k.val then 1#1 else 0#1 := by decide
  rw [h ⟨n, hn⟩]
  show Scalar.select (if 64 ≤ n then 1#1 else 0#1) a b = _
  split_ifs <;> rfl

theorem pick_even {n : Nat} (hn : n < 128) (a b : EReal) :
    Scalar.select (α := EReal) (IntOp.cmpi CmpIPredicate.eq (IntOp.andi (BitVec.ofNat 32 n) 1#32) 0#32) a b
      = if n % 2 = 0 then a else b := by
  have h : ∀ k : Fin 128, IntOp.cmpi CmpIPredicate.eq (IntOp.andi (BitVec.ofNat 32 k.val) 1#32) 0#32 = if k.val % 2 = 0 then 1#1 else 0#1 := by decide
  rw [h ⟨n, hn⟩]
  show Scalar.select (if n % 2 = 0 then 1#1 else 0#1) a b = _
  split_ifs <;> rfl

theorem pay18_at (c s x : FVec Ideal S512x128 .f32) (g : FVec Ideal S1x128 .f32) (r : Fin 512) (l : Fin 128) :
    k0_pay18 c s g x (iota .tc S512x128 32 [1] iota_S512x128_d1_w32) (ix2 r l)
      = pairTurned (pairNormed (fun k => x (ix2 r k)) (fun k => g (ix2 0 k))) (fun k => c (ix2 r k)) (fun k => s (ix2 r k)) l := by
  pointwise [k0_pay18]
  unfold pairTurned pairNormed
  simp only [← pick_low (Fin.is_lt _), ← pick_low (Nat.mod_lt _ (by decide : 128 > 0)), ← pick_high (Fin.is_lt _), ← pick_even (Fin.is_lt _)]

theorem pay37_at (x : FVec Ideal S512x256 .f32) (g : FVec Ideal S1x128 .f32) (r : Fin 512) (l : Fin 128) :
    k0_pay37 g (k0_pay31 x) (k0_pay33 x) (k0_pay34 x) k0_pay35 (k0_pay36 (F := Ideal)) (ix2 r l)
      = pairNormed (fun k => x (ix2 r ⟨k.val, by omega⟩)) (fun k => g (ix2 0 k)) l := by
  pointwise [k0_pay37, k0_pay31, k0_pay33, k0_pay34, k0_pay32, k0_pay35, k0_pay36]
  unfold pairNormed
  simp only [← pick_low (Fin.is_lt _), ← pick_high (Fin.is_lt _)]

theorem q0_at (v25 : FVec Ideal S512x1024 .bf16) (w : Vec Ideal S1024x1536 .bf16) (c s : FVec Ideal S512x128 .f32) (g : FVec Ideal S1x128 .f32) (r : Fin 512) (l : Fin 128) :
    k0_pay19 (k0_pay18 c s g (k0_pay17 v25 w) (iota .tc S512x128 32 [1] iota_S512x128_d1_w32)) (Ideal.ofBits .f32 0x3E000000#32) (ix2 r l)
      = pairTurned (pairNormed (fun k => k0_pay8 v25 w (ix2 r ⟨0 + k.val, by omega⟩)) (fun k => g (ix2 0 k))) (fun k => c (ix2 r k)) (fun k => s (ix2 r k)) l
        * Ideal.ofBits .f32 0x3E000000#32 := by
  have h : ∀ k, k0_pay17 v25 w (ix2 r k) = k0_pay8 v25 w (ix2 r ⟨0 + k.val, by omega⟩) := by
    intro k
    unfold k0_pay17
    generalize k0_pay8 v25 w = y
    pointwise
  simp only [← h]
  rw [← pay18_at]
  rfl

theorem q1_at (x : FVec Ideal S512x512 .f32) (c s : FVec Ideal S512x128 .f32) (g : FVec Ideal S1x128 .f32) (r : Fin 512) (l : Fin 128) :
    k0_pay22 c s (k0_pay20 x g) k0_pay21 (ix2 r l)
      = pairTurned (pairNormed (fun k => x (ix2 r ⟨128 + k.val, by omega⟩)) (fun k => g (ix2 0 k))) (fun k => c (ix2 r k)) (fun k => s (ix2 r k)) l
        * Ideal.ofBits .f32 0x3E000000#32 := by
  pointwise [k0_pay22, k0_pay20, k0_pay21]
  unfold pairTurned pairNormed
  simp only [← pick_low (Fin.is_lt _), ← pick_low (Nat.mod_lt _ (by decide : 128 > 0)), ← pick_high (Fin.is_lt _), ← pick_even (Fin.is_lt _)]

theorem q2_at (x : FVec Ideal S512x512 .f32) (c s : FVec Ideal S512x128 .f32) (g : FVec Ideal S1x128 .f32) (r : Fin 512) (l : Fin 128) :
    k0_pay24 c s g (k0_pay23 x) (ix2 r l)
      = pairTurned (pairNormed (fun k => x (ix2 r ⟨256 + k.val, by omega⟩)) (fun k => g (ix2 0 k))) (fun k => c (ix2 r k)) (fun k => s (ix2 r k)) l
        * Ideal.ofBits .f32 0x3E000000#32 := by
  pointwise [k0_pay24, k0_pay23]
  unfold pairTurned pairNormed
  simp only [← pick_low (Fin.is_lt _), ← pick_low (Nat.mod_lt _ (by decide : 128 > 0)), ← pick_high (Fin.is_lt _), ← pick_even (Fin.is_lt _)]

theorem q3_at (x : FVec Ideal S512x512 .f32) (c s : FVec Ideal S512x128 .f32) (g : FVec Ideal S1x128 .f32) (r : Fin 512) (l : Fin 128) :
    k0_pay30 c s g (k0_pay25 x) k0_pay27 (k0_pay28 x) (k0_pay29 x) (Ideal.ofBits .f32 0x358637BD#32) (ix2 r l)
      = pairTurned (pairNormed (fun k => x (ix2 r ⟨384 + k.val, by omega⟩)) (fun k => g (ix2 0 k))) (fun k => c (ix2 r k)) (fun k => s (ix2 r k)) l
        * Ideal.ofBits .f32 0x3E000000#32 := by
  pointwise [k0_pay30, k0_pay25, k0_pay26, k0_pay27, k0_pay28, k0_pay29]
  unfold pairTurned pairNormed
  simp only [← pick_low (Fin.is_lt _), ← pick_low (Nat.mod_lt _ (by decide : 128 > 0)), ← pick_high (Fin.is_lt _), ← pick_even (Fin.is_lt _)]

/-! ### The entries of the six blocks -/

/-- The modulated row `r` of a tile. -/
def hidden (x0 : Vec Ideal S512x1024 .f32) (x1 x2 : Vec Ideal S1x1x1x1x1024 .f32) (x3 : Vec Ideal S1x1024 .f32) (r : Fin 512) : Fin 1024 → EReal :=
  modulated (fun k => x0 (ix2 r k)) (fun k => x3 (ix2 0 k)) (fun k => x1 (ix5 0 0 0 0 k)) (fun k => x2 (ix5 0 0 0 0 k))

/-- Its product with column `j` of the weights. -/
def entry (x0 : Vec Ideal S512x1024 .f32) (x1 x2 : Vec Ideal S1x1x1x1x1024 .f32) (x3 : Vec Ideal S1x1024 .f32) (x4 : Vec Ideal S1024x7680 .bf16)
    (r : Fin 512) (j : Fin 7680) : EReal := ∑ k, hidden x0 x1 x2 x3 r k * x4 (ix2 k j)

/-- Two heads laid out twice each: in the lower and in the upper half of a block of lanes. -/
def spread (y : Fin 128 → EReal) (j : Fin 512) : EReal :=
  if j.val % 128 / 64 = j.val / 128 % 2 then y ⟨64 * (j.val / 256) + j.val % 64, by omega⟩ else 0

theorem rows_at (x0 : Vec Ideal S512x1024 .f32) (x1 x2 : Vec Ideal S1x1x1x1x1024 .f32) (x3 : Vec Ideal S1x1024 .f32) (r : Fin 512) (d : Fin 1024) :
    k0_pay2 (View.ld x0 r0_0) (View.ld x3 r0_1) (View.ld x1 r0_2) (View.ld x2 r0_2) (ix2 r d) = hidden x0 x1 x2 x3 r d := by
  pointwise [k0_pay2]
  rfl

variable (x0 : Vec Ideal S512x1024 .f32) (x1 x2 : Vec Ideal S1x1x1x1x1024 .f32) (x3 : Vec Ideal S1x1024 .f32) (x4 : Vec Ideal S1024x7680 .bf16)
  (x5 x6 : Vec Ideal S512x128 .f32) (x7 x8 : Vec Ideal S1x128 .f32)

theorem pay56_at (r : Fin 512) (d : Fin 1024) : k0_pay56 x0 x1 x2 x3 x4 x5 x6 x7 x8 (ix2 r d) = hidden x0 x1 x2 x3 r d :=
  rows_at x0 x1 x2 x3 r d

theorem emb_at {w n : Nat} (off : Nat) (h : ∀ a, (![0, off] : Fin 2 → Nat) a + (![512, w] : Fin 2 → Nat) a ≤ (⟨2, ![512, n]⟩ : Shape).size a)
    (h' : off + w ≤ n) (r : Fin 512) (d : Fin w) :
    (Rect.unit (s := ⟨2, ![512, n]⟩) ![0, off] ![512, w] h).emb (ix2 r d) = ix2 r ⟨off + d.val, by omega⟩ := by
  funext a
  apply Fin.ext
  match a with
  | ⟨0, _⟩ => show 0 + 1 * r.val = r.val; omega
  | ⟨1, _⟩ => show off + 1 * d.val = off + d.val; omega

theorem out9_at (r : Fin 512) (j : Fin 7680) :
    out0_9 x0 x1 x2 x3 x4 x5 x6 x7 x8 (ix2 r j) = entry x0 x1 x2 x3 x4 r j := by
  have hh := pay56_at x0 x1 x2 x3 x4 x5 x6 x7 x8
  unfold out0_9
  generalize k0_pay56 x0 x1 x2 x3 x4 x5 x6 x7 x8 = u at hh ⊢
  refine View.canon_apply_of_pieces (Val := Elt Ideal) (fun y => (entry x0 x1 x2 x3 x4 (y 0) (y 1))) _ ?_ (ix2 r j) (cover0_9 _ _ _ _ _ (ix2 r j))
  simp only [List.mem_cons, List.not_mem_nil, or_false]
  rintro p (rfl | rfl | rfl | rfl | rfl) x
  all_goals obtain ⟨r, d, rfl⟩ : ∃ (r : Fin 512) (d : Fin 1536), x = ix2 r d := ⟨x 0, x 1, eq_ix2 x⟩
  · rw [emb_at 6144 _ (by omega)]
    show _ = entry x0 x1 x2 x3 x4 r ⟨6144 + d.val, _⟩
    pointwise [k0_pay11, k0_pay10, hh]
    rfl
  · rw [emb_at 4608 _ (by omega)]
    show _ = entry x0 x1 x2 x3 x4 r ⟨4608 + d.val, _⟩
    pointwise [k0_pay9, hh]
    rfl
  · rw [emb_at 3072 _ (by omega)]
    show _ = entry x0 x1 x2 x3 x4 r ⟨3072 + d.val, _⟩
    pointwise [k0_pay7, k0_pay6, hh]
    rfl
  · rw [emb_at 1536 _ (by omega)]
    show _ = entry x0 x1 x2 x3 x4 r ⟨1536 + d.val, _⟩
    pointwise [k0_pay5, k0_pay4, hh]
    rfl
  · rw [emb_at 0 _ (by omega)]
    show _ = entry x0 x1 x2 x3 x4 r ⟨0 + d.val, _⟩
    pointwise [k0_pay3, rows_at]
    rfl

theorem pay57_at (r : Fin 512) (j : Fin 512) :
    k0_pay57 x0 x1 x2 x3 x4 x5 x6 x7 x8 (ix2 r j) = entry x0 x1 x2 x3 x4 r ⟨3072 + j.val, by omega⟩ := by
  have hh := pay56_at x0 x1 x2 x3 x4 x5 x6 x7 x8
  unfold k0_pay57
  generalize k0_pay56 x0 x1 x2 x3 x4 x5 x6 x7 x8 = u at hh ⊢
  pointwise [k0_pay8, k0_pay6, hh]
  rfl

theorem pay58_at (r : Fin 512) (j : Fin 256) :
    k0_pay58 x0 x1 x2 x3 x4 x5 x6 x7 x8 (ix2 r j) = entry x0 x1 x2 x3 x4 r ⟨7168 + j.val, by omega⟩ := by
  have hh := pay56_at x0 x1 x2 x3 x4 x5 x6 x7 x8
  unfold k0_pay58
  generalize k0_pay56 x0 x1 x2 x3 x4 x5 x6 x7 x8 = u at hh ⊢
  pointwise [k0_pay12, k0_pay10, hh]
  have e : (⟨6144 + (1024 + j.val), by omega⟩ : Fin 7680) = ⟨7168 + j.val, by omega⟩ := Fin.ext (by simp only; omega)
  exact (rfl : _ = entry x0 x1 x2 x3 x4 r _).trans (congrArg (entry x0 x1 x2 x3 x4 r) e)

/-- The normed queries, turned and scaled, from their column `j`. -/
def query (r : Fin 512) (j : Fin 512) : EReal :=
  pairTurned (pairNormed (fun k => entry x0 x1 x2 x3 x4 r ⟨3072 + (128 * (j.val / 128) + k.val), by omega⟩) (fun k => x7 (ix2 0 k)))
    (fun k => x5 (ix2 r k)) (fun k => x6 (ix2 r k)) ⟨j.val % 128, by omega⟩ * Ideal.ofBits .f32 0x3E000000#32

/-- The normed keys, -/
def key (r : Fin 512) : Fin 128 → EReal :=
  pairNormed (fun k => entry x0 x1 x2 x3 x4 r ⟨7168 + k.val, by omega⟩) (fun k => x8 (ix2 0 k))

/-- the same turned, -/
def turnedKey (r : Fin 512) : Fin 128 → EReal :=
  pairTurned (key x0 x1 x2 x3 x4 x8 r) (fun k => x5 (ix2 r k)) (fun k => x6 (ix2 r k))

/-- and the values. -/
def value (r : Fin 512) (l : Fin 128) : EReal := entry x0 x1 x2 x3 x4 r ⟨7296 + l.val, by omega⟩

theorem query_at (r : Fin 512) (p : Fin 4) (l : Fin 128) (j : Fin 512) (h : j.val = 128 * p.val + l.val) :
    query x0 x1 x2 x3 x4 x5 x6 x7 r j
      = pairTurned (pairNormed (fun k => entry x0 x1 x2 x3 x4 r ⟨3072 + (128 * p.val + k.val), by omega⟩) (fun k => x7 (ix2 0 k)))
        (fun k => x5 (ix2 r k)) (fun k => x6 (ix2 r k)) l * Ideal.ofBits .f32 0x3E000000#32 := by
  have h1 : j.val / 128 = p.val := by omega
  have h2 : (⟨j.val % 128, by omega⟩ : Fin 128) = l := Fin.ext (by simp only; omega)
  unfold query
  simp only [h1, h2]

theorem out10_at (r : Fin 512) (j : Fin 512) :
    out0_10 x0 x1 x2 x3 x4 x5 x6 x7 x8 (ix2 r j) = query x0 x1 x2 x3 x4 x5 x6 x7 r j := by
  have hh := pay57_at x0 x1 x2 x3 x4 x5 x6 x7 x8
  have h5 : k0_pay59 x0 x1 x2 x3 x4 x5 x6 x7 x8 = x5 := by
    unfold k0_pay59 k0_pay13; funext y; obtain ⟨a, b, rfl⟩ : ∃ (a : Fin 512) (b : Fin 128), y = ix2 a b := ⟨y 0, y 1, eq_ix2 y⟩; pointwise
  have h6 : k0_pay60 x0 x1 x2 x3 x4 x5 x6 x7 x8 = x6 := by
    unfold k0_pay60 k0_pay14; funext y; obtain ⟨a, b, rfl⟩ : ∃ (a : Fin 512) (b : Fin 128), y = ix2 a b := ⟨y 0, y 1, eq_ix2 y⟩; pointwise
  have h7 : k0_pay61 x0 x1 x2 x3 x4 x5 x6 x7 x8 = x7 := by
    unfold k0_pay61 k0_pay15; funext y; obtain ⟨a, b, rfl⟩ : ∃ (a : Fin 1) (b : Fin 128), y = ix2 a b := ⟨y 0, y 1, eq_ix2 y⟩; pointwise; rw [Subsingleton.elim a 0]
  unfold out0_10
  rw [h5, h6, h7]
  have hq := q0_at (k0_pay56 x0 x1 x2 x3 x4 x5 x6 x7 x8) (View.ld x4 r0_7) x5 x6 x7
  have hh' : ∀ (r j : Fin 512), k0_pay8 (k0_pay56 x0 x1 x2 x3 x4 x5 x6 x7 x8) (View.ld x4 r0_7) (ix2 r j) = entry x0 x1 x2 x3 x4 r ⟨3072 + j.val, by omega⟩ := hh
  simp only [hh'] at hq
  generalize k0_pay57 x0 x1 x2 x3 x4 x5 x6 x7 x8 = u at hh ⊢
  refine View.canon_apply_of_pieces (Val := Elt Ideal) (fun y => (query x0 x1 x2 x3 x4 x5 x6 x7 (y 0) (y 1))) _ ?_ (ix2 r j) (cover0_10 _ _ _ _ (ix2 r j))
  simp only [List.mem_cons, List.not_mem_nil, or_false]
  rintro p (rfl | rfl | rfl | rfl) x
  all_goals obtain ⟨r, d, rfl⟩ : ∃ (r : Fin 512) (d : Fin 128), x = ix2 r d := ⟨x 0, x 1, eq_ix2 x⟩
  · rw [emb_at 384 _ (by omega)]
    show _ = query x0 x1 x2 x3 x4 x5 x6 x7 r ⟨384 + d.val, _⟩
    rw [query_at x0 x1 x2 x3 x4 x5 x6 x7 r 3 d _ rfl]
    refine (q3_at u x5 x6 x7 r d).trans ?_
    simp only [hh]
    rfl
  · rw [emb_at 256 _ (by omega)]
    show _ = query x0 x1 x2 x3 x4 x5 x6 x7 r ⟨256 + d.val, _⟩
    rw [query_at x0 x1 x2 x3 x4 x5 x6 x7 r 2 d _ rfl]
    refine (q2_at u x5 x6 x7 r d).trans ?_
    simp only [hh]
    rfl
  · rw [emb_at 128 _ (by omega)]
    show _ = query x0 x1 x2 x3 x4 x5 x6 x7 r ⟨128 + d.val, _⟩
    rw [query_at x0 x1 x2 x3 x4 x5 x6 x7 r 1 d _ rfl]
    refine (q1_at u x5 x6 x7 r d).trans ?_
    simp only [hh]
    rfl
  · rw [emb_at 0 _ (by omega)]
    show _ = query x0 x1 x2 x3 x4 x5 x6 x7 r ⟨0 + d.val, _⟩
    rw [query_at x0 x1 x2 x3 x4 x5 x6 x7 r 0 d _ rfl]
    exact hq r d

theorem hz : (fun a => (![0, 0] : Fin 2 → Nat) a) = fun _ => 0 := funext fun a => by fin_cases a <;> rfl

theorem key_at (r : Fin 512) (l : Fin 128) :
    k0_pay37 (k0_pay62 x0 x1 x2 x3 x4 x5 x6 x7 x8) (k0_pay63 x0 x1 x2 x3 x4 x5 x6 x7 x8) (k0_pay64 x0 x1 x2 x3 x4 x5 x6 x7 x8)
      (k0_pay65 x0 x1 x2 x3 x4 x5 x6 x7 x8) (k0_pay66 x0 x1 x2 x3 x4 x5 x6 x7 x8) (k0_pay67 x0 x1 x2 x3 x4 x5 x6 x7 x8) (ix2 r l)
      = key x0 x1 x2 x3 x4 x8 r l := by
  have hh := pay58_at x0 x1 x2 x3 x4 x5 x6 x7 x8
  have h8 : k0_pay62 x0 x1 x2 x3 x4 x5 x6 x7 x8 = x8 := by
    unfold k0_pay62 k0_pay16; funext y; obtain ⟨a, b, rfl⟩ : ∃ (a : Fin 1) (b : Fin 128), y = ix2 a b := ⟨y 0, y 1, eq_ix2 y⟩; pointwise; rw [Subsingleton.elim a 0]
  rw [h8]
  unfold k0_pay63 k0_pay64 k0_pay65 k0_pay66 k0_pay67
  rw [pay37_at]
  simp only [hh]
  rfl

theorem value_at (r : Fin 512) (l : Fin 128) :
    k0_pay68 x0 x1 x2 x3 x4 x5 x6 x7 x8 (ix2 r l) = value x0 x1 x2 x3 x4 r l := by
  have hh := pay58_at x0 x1 x2 x3 x4 x5 x6 x7 x8
  unfold k0_pay68
  generalize k0_pay58 x0 x1 x2 x3 x4 x5 x6 x7 x8 = u at hh ⊢
  pointwise [k0_pay38, hh]
  have e : (⟨7168 + (128 + l.val), by omega⟩ : Fin 7680) = ⟨7296 + l.val, by omega⟩ := Fin.ext (by simp only; omega)
  exact (rfl : _ = entry x0 x1 x2 x3 x4 r _).trans (congrArg (entry x0 x1 x2 x3 x4 r) e)

theorem out13_at (r : Fin 512) (l : Fin 128) : out0_13 x0 x1 x2 x3 x4 x5 x6 x7 x8 (ix2 r l) = key x0 x1 x2 x3 x4 x8 r l := by
  unfold out0_13
  rw [View.canon_cons_unit_zero (S := S512x128) hz]
  exact key_at x0 x1 x2 x3 x4 x5 x6 x7 x8 r l

theorem out14_at (r : Fin 512) (l : Fin 128) : out0_14 x0 x1 x2 x3 x4 x5 x6 x7 x8 (ix2 r l) = value x0 x1 x2 x3 x4 r l := by
  unfold out0_14
  rw [View.canon_cons_unit_zero (S := S512x128) hz]
  exact value_at x0 x1 x2 x3 x4 x5 x6 x7 x8 r l

theorem turnedKey_at (r : Fin 512) (l : Fin 128) :
    k0_pay39 (k0_pay59 x0 x1 x2 x3 x4 x5 x6 x7 x8) (k0_pay60 x0 x1 x2 x3 x4 x5 x6 x7 x8) (k0_pay62 x0 x1 x2 x3 x4 x5 x6 x7 x8)
      (k0_pay63 x0 x1 x2 x3 x4 x5 x6 x7 x8) (k0_pay64 x0 x1 x2 x3 x4 x5 x6 x7 x8)
      (k0_pay65 x0 x1 x2 x3 x4 x5 x6 x7 x8) (k0_pay66 x0 x1 x2 x3 x4 x5 x6 x7 x8) (k0_pay67 x0 x1 x2 x3 x4 x5 x6 x7 x8) (ix2 r l)
      = turnedKey x0 x1 x2 x3 x4 x5 x6 x8 r l := by
  have hh := key_at x0 x1 x2 x3 x4 x5 x6 x7 x8
  have h5 : k0_pay59 x0 x1 x2 x3 x4 x5 x6 x7 x8 = x5 := by
    unfold k0_pay59 k0_pay13; funext y; obtain ⟨a, b, rfl⟩ : ∃ (a : Fin 512) (b : Fin 128), y = ix2 a b := ⟨y 0, y 1, eq_ix2 y⟩; pointwise
  have h6 : k0_pay60 x0 x1 x2 x3 x4 x5 x6 x7 x8 = x6 := by
    unfold k0_pay60 k0_pay14; funext y; obtain ⟨a, b, rfl⟩ : ∃ (a : Fin 512) (b : Fin 128), y = ix2 a b := ⟨y 0, y 1, eq_ix2 y⟩; pointwise
  rw [h5, h6]
  unfold k0_pay39
  generalize k0_pay37 (k0_pay62 x0 x1 x2 x3 x4 x5 x6 x7 x8) (k0_pay63 x0 x1 x2 x3 x4 x5 x6 x7 x8) (k0_pay64 x0 x1 x2 x3 x4 x5 x6 x7 x8)
      (k0_pay65 x0 x1 x2 x3 x4 x5 x6 x7 x8) (k0_pay66 x0 x1 x2 x3 x4 x5 x6 x7 x8) (k0_pay67 x0 x1 x2 x3 x4 x5 x6 x7 x8) = u at hh ⊢
  pointwise [hh]
  unfold turnedKey pairTurned
  simp only [← pick_even (Fin.is_lt _)]

/-- Block `p` of 128 lanes of the spread heads. -/
theorem spread_at (y : Fin 128 → EReal) (p : Fin 4) (d : Fin 128) (j : Fin 512) (h : j.val = 128 * p.val + d.val) :
    spread y j = if d.val / 64 = p.val % 2 then y ⟨64 * (p.val / 2) + d.val % 64, by omega⟩ else 0 := by
  have h1 : j.val % 128 = d.val := by omega
  have h2 : j.val / 128 = p.val := by omega
  have h3 : j.val / 256 = p.val / 2 := by omega
  have h4 : j.val % 64 = d.val % 64 := by omega
  unfold spread
  simp only [h1, h2, h3, h4]

theorem spread_low (y : Fin 128 → EReal) (d : Fin 128) (j : Fin 512) (h : j.val = 0 + d.val) :
    (if d.val < 64 then y d else 0) = spread y j := by
  rw [spread_at y 0 d j (by simp [h])]
  by_cases hd : d.val < 64
  · rw [if_pos hd, if_pos (by simp; omega)]; congr 1; apply Fin.ext; simp; omega
  · rw [if_neg hd, if_neg (by simp; omega)]

theorem spread_low_up (y : Fin 128 → EReal) (d : Fin 128) (j : Fin 512) (h : j.val = 128 + d.val) :
    (if 64 ≤ d.val then y ⟨(d.val + 128 - 64) % 128, by omega⟩ else 0) = spread y j := by
  rw [spread_at y 1 d j (by simp [h])]
  by_cases hd : 64 ≤ d.val
  · rw [if_pos hd, if_pos (by simp; omega)]; congr 1; apply Fin.ext; simp; omega
  · rw [if_neg hd, if_neg (by simp; omega)]

theorem spread_high_down (y : Fin 128 → EReal) (d : Fin 128) (j : Fin 512) (h : j.val = 256 + d.val) :
    (if d.val < 64 then y ⟨(d.val + 128 - 64) % 128, by omega⟩ else 0) = spread y j := by
  rw [spread_at y 2 d j (by simp [h])]
  by_cases hd : d.val < 64
  · rw [if_pos hd, if_pos (by simp; omega)]; congr 1; apply Fin.ext; simp; omega
  · rw [if_neg hd, if_neg (by simp; omega)]

theorem spread_high (y : Fin 128 → EReal) (d : Fin 128) (j : Fin 512) (h : j.val = 384 + d.val) :
    (if 64 ≤ d.val then y d else 0) = spread y j := by
  rw [spread_at y 3 d j (by simp [h])]
  by_cases hd : 64 ≤ d.val
  · rw [if_pos hd, if_pos (by simp; omega)]; congr 1; apply Fin.ext; simp; omega
  · rw [if_neg hd, if_neg (by simp; omega)]

theorem out12_at (r : Fin 512) (j : Fin 512) :
    out0_12 x0 x1 x2 x3 x4 x5 x6 x7 x8 (ix2 r j) = spread (value x0 x1 x2 x3 x4 r) j := by
  have hh := value_at x0 x1 x2 x3 x4 x5 x6 x7 x8
  unfold out0_12
  generalize k0_pay68 x0 x1 x2 x3 x4 x5 x6 x7 x8 = u at hh ⊢
  refine View.canon_apply_of_pieces (Val := Elt Ideal) (fun y => (spread (value x0 x1 x2 x3 x4 (y 0)) (y 1))) _ ?_ (ix2 r j) (cover0_12 _ _ _ _ (ix2 r j))
  simp only [List.mem_cons, List.not_mem_nil, or_false]
  rintro p (rfl | rfl | rfl | rfl) x
  all_goals obtain ⟨r, d, rfl⟩ : ∃ (r : Fin 512) (d : Fin 128), x = ix2 r d := ⟨x 0, x 1, eq_ix2 x⟩
  · rw [emb_at 384 _ (by omega)]
    show _ = spread (value x0 x1 x2 x3 x4 r) ⟨384 + d.val, _⟩
    rw [← spread_high _ d _ rfl]
    pointwise [k0_pay1, k0_pay48, k0_pay47, hh]
    simp only [← pick_high (Fin.is_lt _)]
  · rw [emb_at 256 _ (by omega)]
    show _ = spread (value x0 x1 x2 x3 x4 r) ⟨256 + d.val, _⟩
    rw [← spread_high_down _ d _ rfl]
    pointwise [k0_pay54, k0_pay45, k0_pay46, hh]
    simp only [← pick_low (Fin.is_lt _)]
  · rw [emb_at 128 _ (by omega)]
    show _ = spread (value x0 x1 x2 x3 x4 r) ⟨128 + d.val, _⟩
    rw [← spread_low_up _ d _ rfl]
    pointwise [k0_pay52, k0_pay45, k0_pay47, hh]
    simp only [← pick_high (Fin.is_lt _)]
  · rw [emb_at 0 _ (by omega)]
    show _ = spread (value x0 x1 x2 x3 x4 r) ⟨0 + d.val, _⟩
    rw [← spread_low _ d _ rfl]
    pointwise [k0_pay50, k0_pay46, hh]
    simp only [← pick_low (Fin.is_lt _)]

theorem out11_at (r : Fin 512) (j : Fin 512) :
    out0_11 x0 x1 x2 x3 x4 x5 x6 x7 x8 (ix2 r j) = spread (turnedKey x0 x1 x2 x3 x4 x5 x6 x8 r) j := by
  have hh := turnedKey_at x0 x1 x2 x3 x4 x5 x6 x7 x8
  unfold out0_11 k0_pay40 k0_pay43 k0_pay44 k0_pay40
  generalize k0_pay39 (k0_pay59 x0 x1 x2 x3 x4 x5 x6 x7 x8) (k0_pay60 x0 x1 x2 x3 x4 x5 x6 x7 x8) (k0_pay62 x0 x1 x2 x3 x4 x5 x6 x7 x8)
      (k0_pay63 x0 x1 x2 x3 x4 x5 x6 x7 x8) (k0_pay64 x0 x1 x2 x3 x4 x5 x6 x7 x8)
      (k0_pay65 x0 x1 x2 x3 x4 x5 x6 x7 x8) (k0_pay66 x0 x1 x2 x3 x4 x5 x6 x7 x8) (k0_pay67 x0 x1 x2 x3 x4 x5 x6 x7 x8) = u at hh ⊢
  refine View.canon_apply_of_pieces (Val := Elt Ideal) (fun y => (spread (turnedKey x0 x1 x2 x3 x4 x5 x6 x8 (y 0)) (y 1))) _ ?_ (ix2 r j) (cover0_11 _ _ _ _ (ix2 r j))
  simp only [List.mem_cons, List.not_mem_nil, or_false]
  rintro p (rfl | rfl | rfl | rfl) x
  all_goals obtain ⟨r, d, rfl⟩ : ∃ (r : Fin 512) (d : Fin 128), x = ix2 r d := ⟨x 0, x 1, eq_ix2 x⟩
  · rw [emb_at 384 _ (by omega)]
    show _ = spread (turnedKey x0 x1 x2 x3 x4 x5 x6 x8 r) ⟨384 + d.val, _⟩
    rw [← spread_high _ d _ rfl]
    pointwise [k0_pay55, k0_pay42, hh]
    simp only [← pick_high (Fin.is_lt _)]
  · rw [emb_at 256 _ (by omega)]
    show _ = spread (turnedKey x0 x1 x2 x3 x4 x5 x6 x8 r) ⟨256 + d.val, _⟩
    rw [← spread_high_down _ d _ rfl]
    pointwise [k0_pay53, k0_pay41, hh]
    simp only [← pick_low (Fin.is_lt _)]
  · rw [emb_at 128 _ (by omega)]
    show _ = spread (turnedKey x0 x1 x2 x3 x4 x5 x6 x8 r) ⟨128 + d.val, _⟩
    rw [← spread_low_up _ d _ rfl]
    pointwise [k0_pay51, k0_pay42, hh]
    simp only [← pick_high (Fin.is_lt _)]
  · rw [emb_at 0 _ (by omega)]
    show _ = spread (turnedKey x0 x1 x2 x3 x4 x5 x6 x8 r) ⟨0 + d.val, _⟩
    rw [← spread_low _ d _ rfl]
    pointwise [k0_pay49, k0_pay41, hh]
    simp only [← pick_low (Fin.is_lt _)]

end Cert.ProjIdeal.Entry

end
-- ==== Proof.ProjArray.lean ====
/- What the input projection leaves in its six result arrays: each entry, from the arguments. -/
module

public import proofs.«01_k».proof.Proof.ProjBlock
public import Idealize.ShloMosaic.Lib.StableHlo.ReadAt

@[expose] public section

set_option maxRecDepth 16384

noncomputable section

namespace Cert.ProjIdeal.Entry

open Cert.ProjIdeal Cert.ProjIdeal.Gen Cert.Gated Cert.Lanes Idealize.ShloMosaic Idealize.ShloMosaic.TcCoe Idealize.SL.Sem
open Idealize.ShloMosaic.Pipeline (Dat)

variable (m : (ℓ : Loc nD τ sig) → Buf (Elt Ideal) ℓ)

/-- The arguments: the token rows, the modulation, the gains, the weights, the angles' cosines and sines, and the gains of queries and keys. -/
def tokens (c : Dev nD) : Vec Ideal S24576x1024 .f32 := m ((c : Thread nD τ).loc main_arg0)
def mods (c : Dev nD) : Vec Ideal S4x8x6x1x1024 .f32 := m ((c : Thread nD τ).loc main_arg1)
def gains (c : Dev nD) : Vec Ideal S1024 .f32 := m ((c : Thread nD τ).loc main_arg2)
def weights (c : Dev nD) : Vec Ideal S1024x7440 .f32 := m ((c : Thread nD τ).loc main_arg3)
def cosines (c : Dev nD) : Vec Ideal S4096x32 .f32 := m ((c : Thread nD τ).loc main_arg4)
def sines (c : Dev nD) : Vec Ideal S4096x32 .f32 := m ((c : Thread nD τ).loc main_arg5)
def qgains (c : Dev nD) : Vec Ideal S64 .f32 := m ((c : Thread nD τ).loc main_arg6)
def kgains (c : Dev nD) : Vec Ideal S64 .f32 := m ((c : Thread nD τ).loc main_arg7)

/-- The weights' columns in the order of the result's columns, zeros after them. -/
def column (w : Vec Ideal S1024x7440 .f32) (k : Fin 1024) (j : Fin 7680) : EReal :=
  if h : j.val < 1536 then w (ix2 k ⟨j.val, by omega⟩)
  else if h : j.val < 3072 then w (ix2 k ⟨2304 + (j.val - 1536), by omega⟩)
  else if h : j.val < 3584 then w (ix2 k ⟨1536 + (j.val - 3072), by omega⟩)
  else if h : j.val < 4096 then w (ix2 k ⟨3840 + (j.val - 3584), by omega⟩)
  else if h : j.val < 7168 then w (ix2 k ⟨4368 + (j.val - 4096), by omega⟩)
  else if h : j.val < 7424 then w (ix2 k ⟨2048 + (j.val - 7168), by omega⟩)
  else if h : j.val < 7440 then w (ix2 k ⟨4352 + (j.val - 7424), by omega⟩)
  else 0

theorem V_gains (c : Dev nD) (k : Fin 1024) : (V m c main_v17 : Vec Ideal S1x1024 .f32) (ix2 0 k) = gains m c (ix1 k) := by
  unfold V
  after_reads_at
  rfl

theorem V_qgains (c : Dev nD) (l : Fin 128) : (V m c main_v31 : Vec Ideal S1x128 .f32) (ix2 0 l) = qgains m c (ix1 ⟨l.val % 64, by omega⟩) := by
  unfold V
  after_reads_at
  rfl

theorem V_kgains (c : Dev nD) (l : Fin 128) : (V m c main_v35 : Vec Ideal S1x128 .f32) (ix2 0 l) = kgains m c (ix1 ⟨l.val % 64, by omega⟩) := by
  unfold V
  after_reads_at
  rfl

/-- A table over the rows of the latent tokens, laid out over two heads, its first 512 rows `x`. -/
def table (x : FVec Ideal S512x64 .f32) (y : FVec Ideal S4096x64 .f32) : FVec Ideal S4608x128 .f32 :=
  shapeCast S4608x128
    (broadcastInDim S1x4608x2x64 ![0, 1, 2, 3] bcast_S1x4608x1x64_S1x4608x2x64_0_1_2_3
      (shapeCast S1x4608x1x64 (concatenate S4608x64 0 [⟨S512x64, x⟩, ⟨S4096x64, y⟩] concatenates_S512x64_S4096x64_S4608x64_d0)
        shapeCasts_S4608x64_S1x4608x1x64))
    shapeCasts_S1x4608x2x64_S4608x128

theorem table_at (x : FVec Ideal S512x64 .f32) (y : FVec Ideal S4096x64 .f32) (r : Fin 4608) (l : Fin 128) :
    table x y (ix2 r l) = if h : r.val < 512 then x (ix2 ⟨r.val, h⟩ ⟨l.val % 64, by omega⟩)
      else y (ix2 ⟨r.val - 512, by omega⟩ ⟨l.val % 64, by omega⟩) := by
  unfold table
  pointwise

/-- The cosines of the pairs, each twice. -/
def cosTable (x : FVec Ideal S4096x32 .f32) : FVec Ideal S4096x64 .f32 :=
  shapeCast S4096x64 (broadcastInDim S4096x32x2 ![0, 1] bcast_S4096x32_S4096x32x2_0_1 x) shapeCasts_S4096x32x2_S4096x64

/-- The sines of the pairs, the first with its sign turned. -/
def sinTable (x : FVec Ideal S4096x32 .f32) : FVec Ideal S4096x64 .f32 :=
  shapeCast S4096x64 (concatenate S4096x32x2 2
    [⟨S4096x32x1, broadcastInDim S4096x32x1 ![0, 1] bcast_S4096x32_S4096x32x1_0_1 (Host.negf x)⟩,
      ⟨S4096x32x1, broadcastInDim S4096x32x1 ![0, 1] bcast_S4096x32_S4096x32x1_0_1 x⟩]
    concatenates_S4096x32x1_S4096x32x1_S4096x32x2_d2) shapeCasts_S4096x32x2_S4096x64

theorem cosTable_at (x : FVec Ideal S4096x32 .f32) (r : Fin 4096) (d : Fin 64) : cosTable x (ix2 r d) = x (ix2 r ⟨d.val / 2, by omega⟩) := by
  unfold cosTable
  pointwise

theorem sinTable_at (x : FVec Ideal S4096x32 .f32) (r : Fin 4096) (d : Fin 64) :
    sinTable x (ix2 r d) = if d.val % 2 = 0 then -x (ix2 r ⟨d.val / 2, by omega⟩) else x (ix2 r ⟨d.val / 2, by omega⟩) := by
  unfold sinTable
  pointwise
  by_cases h : d.val % 2 < 1
  · exact (dif_pos h).trans (if_pos (by omega)).symm
  · exact (dif_neg h).trans (if_neg (by omega)).symm

theorem V_cos (c : Dev nD) : (V m c main_v13 : Vec Ideal S4608x128 .f32)
    = table (broadcastInDim (s := S_) S512x64 ![] bcast_S_S512x64 (constant (F := Ideal) S_ .f32 0x3F800000#32)) (cosTable (cosines m c)) := by
  have h7 : (StableHlo.upto hostOps0 (fun b => m (c, b)) 9 (Proc.tc.devRef main_v7) : Vec Ideal S512x64 .f32)
      = broadcastInDim (s := S_) S512x64 ![] bcast_S_S512x64 (constant (F := Ideal) S_ .f32 0x3F800000#32) := by
    after_reads_simp
  have h1 : (StableHlo.upto hostOps0 (fun b => m (c, b)) 9 (Proc.tc.devRef main_v1) : Vec Ideal S4096x64 .f32) = cosTable (cosines m c) := by
    after_reads_simp; rfl
  unfold V
  after_reads_simp
  refine (?_ : _ = table (StableHlo.upto hostOps0 (fun b => m (c, b)) 9 (Proc.tc.devRef main_v7)) (StableHlo.upto hostOps0 (fun b => m (c, b)) 9 (Proc.tc.devRef main_v1))).trans ?_
  · rfl
  · rw [h7, h1]

theorem V_sin (c : Dev nD) : (V m c main_v16 : Vec Ideal S4608x128 .f32)
    = table (broadcastInDim (s := S_) S512x64 ![] bcast_S_S512x64 (constant (F := Ideal) S_ .f32 0x00000000#32)) (sinTable (sines m c)) := by
  have h3 : (StableHlo.upto hostOps0 (fun b => m (c, b)) 5 (Proc.tc.devRef main_v3) : Vec Ideal S4096x32x1 .f32)
      = broadcastInDim S4096x32x1 ![0, 1] bcast_S4096x32_S4096x32x1_0_1 (Host.negf (F := Ideal) (φ := .f32) (sines m c)) := by
    after_reads_simp; rfl
  have h4 : (StableHlo.upto hostOps0 (fun b => m (c, b)) 5 (Proc.tc.devRef main_v4) : Vec Ideal S4096x32x1 .f32)
      = broadcastInDim S4096x32x1 ![0, 1] bcast_S4096x32_S4096x32x1_0_1 (sines m c) := by
    after_reads_simp; rfl
  have h9 : (StableHlo.upto hostOps0 (fun b => m (c, b)) 12 (Proc.tc.devRef main_v9) : Vec Ideal S512x64 .f32)
      = broadcastInDim (s := S_) S512x64 ![] bcast_S_S512x64 (constant (F := Ideal) S_ .f32 0x00000000#32) := by
    after_reads_simp
  have h6 : (StableHlo.upto hostOps0 (fun b => m (c, b)) 12 (Proc.tc.devRef main_v6) : Vec Ideal S4096x64 .f32) = sinTable (sines m c) := by
    after_reads_simp
    rw [h3, h4]; rfl
  unfold V
  after_reads_simp
  refine (?_ : _ = table (StableHlo.upto hostOps0 (fun b => m (c, b)) 12 (Proc.tc.devRef main_v9)) (StableHlo.upto hostOps0 (fun b => m (c, b)) 12 (Proc.tc.devRef main_v6))).trans ?_
  · rfl
  · rw [h9, h6]

/-- Eight blocks of columns side by side. -/
def joined (a b : FVec Ideal S1024x1536 .f32) (q z : FVec Ideal S1024x512 .f32) (g : FVec Ideal S1024x3072 .f32) (kv : FVec Ideal S1024x256 .f32)
    (e : FVec Ideal S1024x16 .f32) (o : FVec Ideal S1024x240 .f32) : FVec Ideal S1024x7680 .bf16 :=
  truncf .bf16 (concatenate S1024x7680 1 [⟨S1024x1536, a⟩, ⟨S1024x1536, b⟩, ⟨S1024x512, q⟩, ⟨S1024x512, z⟩, ⟨S1024x3072, g⟩, ⟨S1024x256, kv⟩, ⟨S1024x16, e⟩, ⟨S1024x240, o⟩]
    concatenates_S1024x1536_S1024x1536_S1024x512_S1024x512_S1024x3072_S1024x256_S1024x16_S1024x240_S1024x7680_d1) bitsLt_bf16_f32

/-- The weights' columns put in the order of the result's. -/
def ordered (w : Vec Ideal S1024x7440 .f32) : FVec Ideal S1024x7680 .bf16 :=
  joined (extractStridedSlice S1024x1536 ![0, 0] w slices_S1024x7440_S1024x1536_0_0)
    (extractStridedSlice S1024x1536 ![0, 2304] w slices_S1024x7440_S1024x1536_0_2304)
    (extractStridedSlice S1024x512 ![0, 1536] w slices_S1024x7440_S1024x512_0_1536)
    (extractStridedSlice S1024x512 ![0, 3840] w slices_S1024x7440_S1024x512_0_3840)
    (extractStridedSlice S1024x3072 ![0, 4368] w slices_S1024x7440_S1024x3072_0_4368)
    (extractStridedSlice S1024x256 ![0, 2048] w slices_S1024x7440_S1024x256_0_2048)
    (extractStridedSlice S1024x16 ![0, 4352] w slices_S1024x7440_S1024x16_0_4352)
    (broadcastInDim (s := S_) S1024x240 ![] bcast_S_S1024x240 (constant (F := Ideal) S_ .f32 0x00000000#32))

theorem column_of (w : Vec Ideal S1024x7440 .f32) (k : Fin 1024) (j : Fin 7680) (n : Fin 7440)
    (h : (j.val < 1536 ∧ n.val = j.val) ∨ (1536 ≤ j.val ∧ j.val < 3072 ∧ n.val = 2304 + (j.val - 1536))
      ∨ (3072 ≤ j.val ∧ j.val < 3584 ∧ n.val = 1536 + (j.val - 3072)) ∨ (3584 ≤ j.val ∧ j.val < 4096 ∧ n.val = 3840 + (j.val - 3584))
      ∨ (4096 ≤ j.val ∧ j.val < 7168 ∧ n.val = 4368 + (j.val - 4096)) ∨ (7168 ≤ j.val ∧ j.val < 7424 ∧ n.val = 2048 + (j.val - 7168))
      ∨ (7424 ≤ j.val ∧ j.val < 7440 ∧ n.val = 4352 + (j.val - 7424))) : w (ix2 k n) = column w k j := by
  have hw : ∀ a : Fin 7440, n.val = a.val → w (ix2 k n) = w (ix2 k a) := fun a e => by rw [Fin.ext e]
  have hn := n.isLt
  unfold column
  rcases h with h | h | h | h | h | h | h
  · rw [dif_pos (by omega)]; exact hw _ (by simp only; omega)
  · rw [dif_neg (by omega), dif_pos (by omega)]; exact hw _ (by simp only; omega)
  · rw [dif_neg (by omega), dif_neg (by omega), dif_pos (by omega)]; exact hw _ (by simp only; omega)
  · rw [dif_neg (by omega), dif_neg (by omega), dif_neg (by omega), dif_pos (by omega)]; exact hw _ (by simp only; omega)
  · rw [dif_neg (by omega), dif_neg (by omega), dif_neg (by omega), dif_neg (by omega), dif_pos (by omega)]; exact hw _ (by simp only; omega)
  · rw [dif_neg (by omega), dif_neg (by omega), dif_neg (by omega), dif_neg (by omega), dif_neg (by omega), dif_pos (by omega)]
    exact hw _ (by simp only; omega)
  · rw [dif_neg (by omega), dif_neg (by omega), dif_neg (by omega), dif_neg (by omega), dif_neg (by omega), dif_neg (by omega), dif_pos (by omega)]
    exact hw _ (by simp only; omega)

theorem column_end (w : Vec Ideal S1024x7440 .f32) (k : Fin 1024) (j : Fin 7680) (h : 7440 ≤ j.val) : column w k j = 0 := by
  unfold column
  rw [dif_neg (by omega), dif_neg (by omega), dif_neg (by omega), dif_neg (by omega), dif_neg (by omega), dif_neg (by omega), dif_neg (by omega)]

theorem joined_at (a b : FVec Ideal S1024x1536 .f32) (q z : FVec Ideal S1024x512 .f32) (g : FVec Ideal S1024x3072 .f32) (kv : FVec Ideal S1024x256 .f32)
    (e : FVec Ideal S1024x16 .f32) (o : FVec Ideal S1024x240 .f32) (k : Fin 1024) (j : Fin 7680) :
    joined a b q z g kv e o (ix2 k j) =
      if h0 : j.val < 1536 then a (ix2 k ⟨j.val, h0⟩) else
      if h1 : j.val - 1536 < 1536 then b (ix2 k ⟨j.val - 1536, h1⟩) else
      if h2 : j.val - 1536 - 1536 < 512 then q (ix2 k ⟨j.val - 1536 - 1536, h2⟩) else
      if h3 : j.val - 1536 - 1536 - 512 < 512 then z (ix2 k ⟨j.val - 1536 - 1536 - 512, h3⟩) else
      if h4 : j.val - 1536 - 1536 - 512 - 512 < 3072 then g (ix2 k ⟨j.val - 1536 - 1536 - 512 - 512, h4⟩) else
      if h5 : j.val - 1536 - 1536 - 512 - 512 - 3072 < 256 then kv (ix2 k ⟨j.val - 1536 - 1536 - 512 - 512 - 3072, h5⟩) else
      if h6 : j.val - 1536 - 1536 - 512 - 512 - 3072 - 256 < 16 then e (ix2 k ⟨j.val - 1536 - 1536 - 512 - 512 - 3072 - 256, h6⟩) else
      o (ix2 k ⟨j.val - 1536 - 1536 - 512 - 512 - 3072 - 256 - 16, by omega⟩) := by
  unfold joined
  pointwise

theorem cols0_at (w : Vec Ideal S1024x7440 .f32) (k : Fin 1024) (x : Fin 1536) :
    extractStridedSlice S1024x1536 ![0, 0] w slices_S1024x7440_S1024x1536_0_0 (ix2 k x) = w (ix2 k ⟨0 + x.val, by omega⟩) := by
  pointwise

theorem cols2304_at (w : Vec Ideal S1024x7440 .f32) (k : Fin 1024) (x : Fin 1536) :
    extractStridedSlice S1024x1536 ![0, 2304] w slices_S1024x7440_S1024x1536_0_2304 (ix2 k x) = w (ix2 k ⟨2304 + x.val, by omega⟩) := by
  pointwise

theorem cols1536_at (w : Vec Ideal S1024x7440 .f32) (k : Fin 1024) (x : Fin 512) :
    extractStridedSlice S1024x512 ![0, 1536] w slices_S1024x7440_S1024x512_0_1536 (ix2 k x) = w (ix2 k ⟨1536 + x.val, by omega⟩) := by
  pointwise

theorem cols3840_at (w : Vec Ideal S1024x7440 .f32) (k : Fin 1024) (x : Fin 512) :
    extractStridedSlice S1024x512 ![0, 3840] w slices_S1024x7440_S1024x512_0_3840 (ix2 k x) = w (ix2 k ⟨3840 + x.val, by omega⟩) := by
  pointwise

theorem cols4368_at (w : Vec Ideal S1024x7440 .f32) (k : Fin 1024) (x : Fin 3072) :
    extractStridedSlice S1024x3072 ![0, 4368] w slices_S1024x7440_S1024x3072_0_4368 (ix2 k x) = w (ix2 k ⟨4368 + x.val, by omega⟩) := by
  pointwise

theorem cols2048_at (w : Vec Ideal S1024x7440 .f32) (k : Fin 1024) (x : Fin 256) :
    extractStridedSlice S1024x256 ![0, 2048] w slices_S1024x7440_S1024x256_0_2048 (ix2 k x) = w (ix2 k ⟨2048 + x.val, by omega⟩) := by
  pointwise

theorem cols4352_at (w : Vec Ideal S1024x7440 .f32) (k : Fin 1024) (x : Fin 16) :
    extractStridedSlice S1024x16 ![0, 4352] w slices_S1024x7440_S1024x16_0_4352 (ix2 k x) = w (ix2 k ⟨4352 + x.val, by omega⟩) := by
  pointwise

theorem ordered_at (w : Vec Ideal S1024x7440 .f32) (k : Fin 1024) (j : Fin 7680) : ordered w (ix2 k j) = column w k j := by
  unfold ordered
  rw [joined_at]
  by_cases h0 : j.val < 1536
  · rw [dif_pos h0, cols0_at]
    exact column_of w k j _ (Or.inl ⟨h0, show 0 + j.val = j.val by omega⟩)
  rw [dif_neg h0]
  by_cases h1 : j.val - 1536 < 1536
  · rw [dif_pos h1, cols2304_at]
    exact column_of w k j _ (Or.inr (Or.inl ⟨by omega, by omega, show 2304 + (j.val - 1536) = 2304 + (j.val - 1536) by omega⟩))
  rw [dif_neg h1]
  by_cases h2 : j.val - 1536 - 1536 < 512
  · rw [dif_pos h2, cols1536_at]
    exact column_of w k j _ (Or.inr (Or.inr (Or.inl ⟨by omega, by omega, show 1536 + (j.val - 1536 - 1536) = 1536 + (j.val - 3072) by omega⟩)))
  rw [dif_neg h2]
  by_cases h3 : j.val - 1536 - 1536 - 512 < 512
  · rw [dif_pos h3, cols3840_at]
    exact column_of w k j _ (Or.inr (Or.inr (Or.inr (Or.inl ⟨by omega, by omega, show 3840 + (j.val - 1536 - 1536 - 512) = 3840 + (j.val - 3584) by omega⟩))))
  rw [dif_neg h3]
  by_cases h4 : j.val - 1536 - 1536 - 512 - 512 < 3072
  · rw [dif_pos h4, cols4368_at]
    exact column_of w k j _ (Or.inr (Or.inr (Or.inr (Or.inr (Or.inl ⟨by omega, by omega, show 4368 + (j.val - 1536 - 1536 - 512 - 512) = 4368 + (j.val - 4096) by omega⟩)))))
  rw [dif_neg h4]
  by_cases h5 : j.val - 1536 - 1536 - 512 - 512 - 3072 < 256
  · rw [dif_pos h5, cols2048_at]
    exact column_of w k j _ (Or.inr (Or.inr (Or.inr (Or.inr (Or.inr (Or.inl ⟨by omega, by omega, show 2048 + (j.val - 1536 - 1536 - 512 - 512 - 3072) = 2048 + (j.val - 7168) by omega⟩))))))
  rw [dif_neg h5]
  by_cases h6 : j.val - 1536 - 1536 - 512 - 512 - 3072 - 256 < 16
  · rw [dif_pos h6, cols4352_at]
    exact column_of w k j _ (Or.inr (Or.inr (Or.inr (Or.inr (Or.inr (Or.inr (⟨by omega, by omega, show 4352 + (j.val - 1536 - 1536 - 512 - 512 - 3072 - 256) = 4352 + (j.val - 7424) by omega⟩)))))))
  rw [dif_neg h6]
  rw [column_end w k j (by omega)]
  pointwise

theorem V_weights (c : Dev nD) : (V m c main_v27 : Vec Ideal S1024x7680 .bf16) = ordered (weights m c) := by
  have h0 : (StableHlo.upto hostOps0 (fun b => m (c, b)) 29 (Proc.tc.devRef main_v19) : Vec Ideal S1024x1536 .f32)
      = extractStridedSlice S1024x1536 ![0, 0] (weights m c) slices_S1024x7440_S1024x1536_0_0 := by
    after_reads_simp; rfl
  have h1 : (StableHlo.upto hostOps0 (fun b => m (c, b)) 29 (Proc.tc.devRef main_v20) : Vec Ideal S1024x1536 .f32)
      = extractStridedSlice S1024x1536 ![0, 2304] (weights m c) slices_S1024x7440_S1024x1536_0_2304 := by
    after_reads_simp; rfl
  have h2 : (StableHlo.upto hostOps0 (fun b => m (c, b)) 29 (Proc.tc.devRef main_v21) : Vec Ideal S1024x512 .f32)
      = extractStridedSlice S1024x512 ![0, 1536] (weights m c) slices_S1024x7440_S1024x512_0_1536 := by
    after_reads_simp; rfl
  have h3 : (StableHlo.upto hostOps0 (fun b => m (c, b)) 29 (Proc.tc.devRef main_v22) : Vec Ideal S1024x512 .f32)
      = extractStridedSlice S1024x512 ![0, 3840] (weights m c) slices_S1024x7440_S1024x512_0_3840 := by
    after_reads_simp; rfl
  have h4 : (StableHlo.upto hostOps0 (fun b => m (c, b)) 29 (Proc.tc.devRef main_v23) : Vec Ideal S1024x3072 .f32)
      = extractStridedSlice S1024x3072 ![0, 4368] (weights m c) slices_S1024x7440_S1024x3072_0_4368 := by
    after_reads_simp; rfl
  have h5 : (StableHlo.upto hostOps0 (fun b => m (c, b)) 29 (Proc.tc.devRef main_v24) : Vec Ideal S1024x256 .f32)
      = extractStridedSlice S1024x256 ![0, 2048] (weights m c) slices_S1024x7440_S1024x256_0_2048 := by
    after_reads_simp; rfl
  have h6 : (StableHlo.upto hostOps0 (fun b => m (c, b)) 29 (Proc.tc.devRef main_v25) : Vec Ideal S1024x16 .f32)
      = extractStridedSlice S1024x16 ![0, 4352] (weights m c) slices_S1024x7440_S1024x16_0_4352 := by
    after_reads_simp; rfl
  have h7 : (StableHlo.upto hostOps0 (fun b => m (c, b)) 29 (Proc.tc.devRef main_v18) : Vec Ideal S1024x240 .f32)
      = broadcastInDim (s := S_) S1024x240 ![] bcast_S_S1024x240 (constant (F := Ideal) S_ .f32 0x00000000#32) := by
    after_reads_simp
  unfold V
  after_reads_simp
  refine (?_ : _ = joined (StableHlo.upto hostOps0 (fun b => m (c, b)) 29 (Proc.tc.devRef main_v19)) (StableHlo.upto hostOps0 (fun b => m (c, b)) 29 (Proc.tc.devRef main_v20))
    (StableHlo.upto hostOps0 (fun b => m (c, b)) 29 (Proc.tc.devRef main_v21)) (StableHlo.upto hostOps0 (fun b => m (c, b)) 29 (Proc.tc.devRef main_v22))
    (StableHlo.upto hostOps0 (fun b => m (c, b)) 29 (Proc.tc.devRef main_v23)) (StableHlo.upto hostOps0 (fun b => m (c, b)) 29 (Proc.tc.devRef main_v24))
    (StableHlo.upto hostOps0 (fun b => m (c, b)) 29 (Proc.tc.devRef main_v25)) (StableHlo.upto hostOps0 (fun b => m (c, b)) 29 (Proc.tc.devRef main_v18))).trans ?_
  · rfl
  · rw [h0, h1, h2, h3, h4, h5, h6, h7]; rfl

/-! ### The blocks that a step reads -/

/-- The group of modulation rows that a tile of 512 rows uses, -/
def tileGroup (i : Nat) : Nat := if i < 16 then 0 else 1 + (i - 16) / 8

/-- and its tile of the tables. -/
def tileTable (i : Nat) : Nat := if i < 16 then 0 else 1 + (i - 16) % 8

theorem idx_rows : ∀ t : Fin grid0.N, (win0_0.index t 0 = t.val ∧ win0_0.index t 1 = 0)
    ∧ (win0_5.index t 0 = tileTable t.val ∧ win0_5.index t 1 = 0) ∧ (win0_6.index t 0 = tileTable t.val ∧ win0_6.index t 1 = 0) := by decide +kernel

theorem idx_mods : ∀ t : Fin grid0.N,
    (win0_1.index t 0 = 0 ∧ win0_1.index t 1 = tileGroup t.val ∧ win0_1.index t 2 = 0 ∧ win0_1.index t 3 = 0 ∧ win0_1.index t 4 = 0)
    ∧ (win0_2.index t 0 = 0 ∧ win0_2.index t 1 = tileGroup t.val ∧ win0_2.index t 2 = 1 ∧ win0_2.index t 3 = 0 ∧ win0_2.index t 4 = 0) := by
  decide +kernel

theorem idx_whole : ∀ t : Fin grid0.N, (win0_3.index t 0 = 0 ∧ win0_3.index t 1 = 0) ∧ (win0_4.index t 0 = 0 ∧ win0_4.index t 1 = 0)
    ∧ (win0_7.index t 0 = 0 ∧ win0_7.index t 1 = 0) ∧ (win0_8.index t 0 = 0 ∧ win0_8.index t 1 = 0) := by decide +kernel

theorem idx_out : ∀ t : Fin grid0.N, (win0_9.index t 0 = t.val ∧ win0_9.index t 1 = 0) ∧ (win0_10.index t 0 = t.val ∧ win0_10.index t 1 = 0)
    ∧ (win0_11.index t 0 = t.val ∧ win0_11.index t 1 = 0) ∧ (win0_12.index t 0 = t.val ∧ win0_12.index t 1 = 0)
    ∧ (win0_13.index t 0 = t.val ∧ win0_13.index t 1 = 0) ∧ (win0_14.index t 0 = t.val ∧ win0_14.index t 1 = 0) := by decide +kernel

theorem flush_all : ∀ t : Fin grid0.N, win0_9.flush t = true ∧ win0_10.flush t = true ∧ win0_11.flush t = true ∧ win0_12.flush t = true
    ∧ win0_13.flush t = true ∧ win0_14.flush t = true := by decide +kernel

theorem iblk0 (c : Dev nD) (t : Fin cfg0.N) (r : Fin 512) (d : Fin 1024) (h : 512 * t.val + r.val < 24576) :
    (iblk m c 0 t : Vec Ideal S512x1024 .f32) (ix2 r d) = tokens m c (ix2 ⟨512 * t.val + r.val, h⟩ d) := by
  obtain ⟨h1, -⟩ := idx_rows t
  unfold iblk
  rw [View.read_apply]
  show V m c main_arg0 _ = tokens m c _
  rw [show V m c main_arg0 = tokens m c from V_main_arg0 m c]
  congr 1
  funext a
  apply Fin.ext
  match a with
  | ⟨0, _⟩ => show win0_0.index t 0 * 512 + 1 * r.val = 512 * t.val + r.val; rw [h1.1]; omega
  | ⟨1, _⟩ => show win0_0.index t 1 * 1024 + 1 * d.val = d.val; rw [h1.2]; omega

theorem iblk1 (c : Dev nD) (t : Fin cfg0.N) (k : Fin 1024) (g : Fin 8) (hg : g.val = tileGroup t.val) :
    (iblk m c 1 t : Vec Ideal S1x1x1x1x1024 .f32) (ix5 0 0 0 0 k) = mods m c (ix5 0 g 0 0 k) := by
  obtain ⟨⟨h0, h1, h2, h3, h4⟩, -⟩ := idx_mods t
  unfold iblk
  rw [View.read_apply]
  show V m c main_arg1 _ = mods m c _
  rw [show V m c main_arg1 = mods m c from V_main_arg1 m c]
  congr 1
  funext a
  apply Fin.ext
  match a with
  | ⟨0, _⟩ => show win0_1.index t 0 * 1 + 1 * 0 = 0; rw [h0]
  | ⟨1, _⟩ => show win0_1.index t 1 * 1 + 1 * 0 = g.val; rw [h1, hg]; omega
  | ⟨2, _⟩ => show win0_1.index t 2 * 1 + 1 * 0 = 0; rw [h2]
  | ⟨3, _⟩ => show win0_1.index t 3 * 1 + 1 * 0 = 0; rw [h3]
  | ⟨4, _⟩ => show win0_1.index t 4 * 1024 + 1 * k.val = k.val; rw [h4]; omega

theorem iblk2 (c : Dev nD) (t : Fin cfg0.N) (k : Fin 1024) (g : Fin 8) (hg : g.val = tileGroup t.val) :
    (iblk m c 2 t : Vec Ideal S1x1x1x1x1024 .f32) (ix5 0 0 0 0 k) = mods m c (ix5 0 g 1 0 k) := by
  obtain ⟨-, ⟨h0, h1, h2, h3, h4⟩⟩ := idx_mods t
  unfold iblk
  rw [View.read_apply]
  show V m c main_arg1 _ = mods m c _
  rw [show V m c main_arg1 = mods m c from V_main_arg1 m c]
  congr 1
  funext a
  apply Fin.ext
  match a with
  | ⟨0, _⟩ => show win0_2.index t 0 * 1 + 1 * 0 = 0; rw [h0]
  | ⟨1, _⟩ => show win0_2.index t 1 * 1 + 1 * 0 = g.val; rw [h1, hg]; omega
  | ⟨2, _⟩ => show win0_2.index t 2 * 1 + 1 * 0 = 1; rw [h2]
  | ⟨3, _⟩ => show win0_2.index t 3 * 1 + 1 * 0 = 0; rw [h3]
  | ⟨4, _⟩ => show win0_2.index t 4 * 1024 + 1 * k.val = k.val; rw [h4]; omega

theorem iblk3 (c : Dev nD) (t : Fin cfg0.N) (k : Fin 1024) :
    (iblk m c 3 t : Vec Ideal S1x1024 .f32) (ix2 0 k) = gains m c (ix1 k) := by
  obtain ⟨h1, -⟩ := idx_whole t
  rw [← V_gains]
  unfold iblk
  rw [View.read_apply]
  show V m c main_v17 _ = V m c main_v17 _
  congr 1
  funext a
  apply Fin.ext
  match a with
  | ⟨0, _⟩ => show win0_3.index t 0 * 1 + 1 * 0 = 0; rw [h1.1]
  | ⟨1, _⟩ => show win0_3.index t 1 * 1024 + 1 * k.val = k.val; rw [h1.2]; omega

theorem iblk4 (c : Dev nD) (t : Fin cfg0.N) (k : Fin 1024) (j : Fin 7680) :
    (iblk m c 4 t : Vec Ideal S1024x7680 .bf16) (ix2 k j) = column (weights m c) k j := by
  obtain ⟨-, h1, -⟩ := idx_whole t
  rw [← ordered_at, ← V_weights]
  unfold iblk
  rw [View.read_apply]
  show V m c main_v27 _ = V m c main_v27 _
  congr 1
  funext a
  apply Fin.ext
  match a with
  | ⟨0, _⟩ => show win0_4.index t 0 * 1024 + 1 * k.val = k.val; rw [h1.1]; omega
  | ⟨1, _⟩ => show win0_4.index t 1 * 7680 + 1 * j.val = j.val; rw [h1.2]; omega

theorem iblk5 (c : Dev nD) (t : Fin cfg0.N) (r : Fin 512) (l : Fin 128) (h : 512 * tileTable t.val + r.val < 4608) :
    (iblk m c 5 t : Vec Ideal S512x128 .f32) (ix2 r l) = V m c main_v13 (ix2 ⟨512 * tileTable t.val + r.val, h⟩ l) := by
  obtain ⟨-, h1, -⟩ := idx_rows t
  unfold iblk
  rw [View.read_apply]
  show V m c main_v13 _ = V m c main_v13 _
  congr 1
  funext a
  apply Fin.ext
  match a with
  | ⟨0, _⟩ => show win0_5.index t 0 * 512 + 1 * r.val = 512 * tileTable t.val + r.val; rw [h1.1]; omega
  | ⟨1, _⟩ => show win0_5.index t 1 * 128 + 1 * l.val = l.val; rw [h1.2]; omega

theorem iblk6 (c : Dev nD) (t : Fin cfg0.N) (r : Fin 512) (l : Fin 128) (h : 512 * tileTable t.val + r.val < 4608) :
    (iblk m c 6 t : Vec Ideal S512x128 .f32) (ix2 r l) = V m c main_v16 (ix2 ⟨512 * tileTable t.val + r.val, h⟩ l) := by
  obtain ⟨-, -, h1⟩ := idx_rows t
  unfold iblk
  rw [View.read_apply]
  show V m c main_v16 _ = V m c main_v16 _
  congr 1
  funext a
  apply Fin.ext
  match a with
  | ⟨0, _⟩ => show win0_6.index t 0 * 512 + 1 * r.val = 512 * tileTable t.val + r.val; rw [h1.1]; omega
  | ⟨1, _⟩ => show win0_6.index t 1 * 128 + 1 * l.val = l.val; rw [h1.2]; omega

theorem iblk7 (c : Dev nD) (t : Fin cfg0.N) (l : Fin 128) :
    (iblk m c 7 t : Vec Ideal S1x128 .f32) (ix2 0 l) = qgains m c (ix1 ⟨l.val % 64, by omega⟩) := by
  obtain ⟨-, -, h1, -⟩ := idx_whole t
  rw [← V_qgains]
  unfold iblk
  rw [View.read_apply]
  show V m c main_v31 _ = V m c main_v31 _
  congr 1
  funext a
  apply Fin.ext
  match a with
  | ⟨0, _⟩ => show win0_7.index t 0 * 1 + 1 * 0 = 0; rw [h1.1]
  | ⟨1, _⟩ => show win0_7.index t 1 * 128 + 1 * l.val = l.val; rw [h1.2]; omega

theorem iblk8 (c : Dev nD) (t : Fin cfg0.N) (l : Fin 128) :
    (iblk m c 8 t : Vec Ideal S1x128 .f32) (ix2 0 l) = kgains m c (ix1 ⟨l.val % 64, by omega⟩) := by
  obtain ⟨-, -, -, h1⟩ := idx_whole t
  rw [← V_kgains]
  unfold iblk
  rw [View.read_apply]
  show V m c main_v35 _ = V m c main_v35 _
  congr 1
  funext a
  apply Fin.ext
  match a with
  | ⟨0, _⟩ => show win0_8.index t 0 * 1 + 1 * 0 = 0; rw [h1.1]
  | ⟨1, _⟩ => show win0_8.index t 1 * 128 + 1 * l.val = l.val; rw [h1.2]; omega

/-! ### The entries of the six arrays -/

/-- The rows of a token after the norm and the modulation. -/
def rowAt (c : Dev nD) (r : Fin 24576) : Fin 1024 → EReal :=
  modulated (fun k => tokens m c (ix2 r k)) (fun k => gains m c (ix1 k)) (fun k => mods m c (ix5 0 (groupOf r) 0 0 k))
    (fun k => mods m c (ix5 0 (groupOf r) 1 0 k))

/-- Their product with column `j`. -/
def entryAt (c : Dev nD) (r : Fin 24576) (j : Fin 7680) : EReal := ∑ k, rowAt m c r k * column (weights m c) k j

/-- A head turned by the angles of its row: the rows of context stay as they are. -/
def turnedAt (c : Dev nD) (r : Fin 24576) (y : Fin 64 → EReal) (d : Fin 64) : EReal :=
  if r.val < 8192 then y d
  else turned y (fun k => cosines m c (ix2 ⟨(r.val - 8192) % 4096, by omega⟩ k)) (fun k => sines m c (ix2 ⟨(r.val - 8192) % 4096, by omega⟩ k)) d

/-- The normed head `h` of the queries, -/
def queryAt (c : Dev nD) (r : Fin 24576) (h : Fin 8) : Fin 64 → EReal :=
  headNormed (fun k => entryAt m c r ⟨3072 + (64 * h.val + k.val), by omega⟩) (fun k => qgains m c (ix1 k))

/-- of the keys. -/
def keyAt (c : Dev nD) (r : Fin 24576) (h : Fin 2) : Fin 64 → EReal :=
  headNormed (fun k => entryAt m c r ⟨7168 + (64 * h.val + k.val), by omega⟩) (fun k => kgains m c (ix1 k))

theorem headNormed_congr {x x' g g' : Fin 64 → EReal} (hx : ∀ k, x k = x' k) (hg : ∀ k, g k = g' k) (d : Fin 64) :
    headNormed x g d = headNormed x' g' d := by
  rw [show x = x' from funext hx, show g = g' from funext hg]

theorem turnedAt_congr (c : Dev nD) (r : Fin 24576) {y y' : Fin 64 → EReal} (h : ∀ k, y k = y' k) (d : Fin 64) :
    turnedAt m c r y d = turnedAt m c r y' d := by
  rw [show y = y' from funext h]

theorem spread_congr {y y' : Fin 128 → EReal} (h : ∀ k, y k = y' k) (j : Fin 512) : spread y j = spread y' j := by
  rw [show y = y' from funext h]

theorem entryAt_congr (c : Dev nD) (r : Fin 24576) {j j' : Fin 7680} (h : j.val = j'.val) : entryAt m c r j = entryAt m c r j' := by
  rw [Fin.ext h]

theorem group_tile (r : Fin 24576) : (groupOf r).val = tileGroup (r.val / 512) := by
  unfold groupOf tileGroup
  split_ifs with h h' h'
  · rfl
  · exfalso; omega
  · exfalso; omega
  · show 1 + (r.val - 8192) / 4096 = 1 + (r.val / 512 - 16) / 8; omega

section tile

variable (c : Dev nD) (t : Fin cfg0.N) (r : Fin 24576) (hr : r.val / 512 = t.val)
include hr

theorem hidden_eq : hidden (iblk m c 0 t) (iblk m c 1 t) (iblk m c 2 t) (iblk m c 3 t) ⟨r.val % 512, by omega⟩ = rowAt m c r := by
  have hg : (groupOf r).val = tileGroup t.val := by rw [group_tile, hr]
  have hr' : (⟨512 * t.val + r.val % 512, by omega⟩ : Fin 24576) = r := Fin.ext (by simp only; omega)
  unfold hidden rowAt
  congr 1
  · funext k; rw [iblk0 m c t _ _ (by omega), hr']
  · funext k; rw [iblk3]
  · funext k; rw [iblk1 m c t k _ hg]
  · funext k; rw [iblk2 m c t k _ hg]

theorem entry_eq (j : Fin 7680) :
    entry (iblk m c 0 t) (iblk m c 1 t) (iblk m c 2 t) (iblk m c 3 t) (iblk m c 4 t) ⟨r.val % 512, by omega⟩ j = entryAt m c r j := by
  unfold entry entryAt
  rw [hidden_eq m c t r hr]
  simp only [iblk4]

theorem turned_eq (y : Fin 128 → EReal) (h : Fin 2) (d : Fin 64) :
    pairTurned y (fun k => (iblk m c 5 t : Vec Ideal S512x128 .f32) (ix2 ⟨r.val % 512, by omega⟩ k))
      (fun k => (iblk m c 6 t : Vec Ideal S512x128 .f32) (ix2 ⟨r.val % 512, by omega⟩ k)) ⟨64 * h.val + d.val, by omega⟩
      = turnedAt m c r (fun k => y ⟨64 * h.val + k.val, by omega⟩) d := by
  have hT : 512 * tileTable t.val + r.val % 512 < 4608 := by unfold tileTable; split_ifs <;> omega
  have hd : (⟨(64 * h.val + d.val) % 64, by omega⟩ : Fin 64) = d := Fin.ext (by simp only; omega)
  unfold turnedAt
  by_cases hc : r.val < 8192
  · have h0 : 512 * tileTable t.val + r.val % 512 < 512 := by unfold tileTable; split_ifs <;> omega
    rw [if_pos hc]
    refine pairTurned_still _ _ _ _ ?_ ?_
    · rw [iblk5 m c t _ _ hT, V_cos, table_at, dif_pos h0]
      pointwise
    · rw [iblk6 m c t _ _ hT, V_sin, table_at, dif_pos h0]
      pointwise
  · have h0 : ¬512 * tileTable t.val + r.val % 512 < 512 := by unfold tileTable; split_ifs <;> omega
    have e : (⟨512 * tileTable t.val + r.val % 512 - 512, by omega⟩ : Fin 4096) = ⟨(r.val - 8192) % 4096, by omega⟩ :=
      Fin.ext (by simp only; unfold tileTable; split_ifs <;> omega)
    rw [if_neg hc]
    refine pairTurned_eq y _ _ _ _ h d ?_ ?_
    · rw [iblk5 m c t _ _ hT, V_cos, table_at, dif_neg h0, hd, cosTable_at, e]
    · rw [iblk6 m c t _ _ hT, V_sin, table_at, dif_neg h0, hd, sinTable_at, e]

theorem queryHead_eq (p : Fin 4) (h : Fin 2) (d : Fin 64) :
    pairNormed (fun k => entry (iblk m c 0 t) (iblk m c 1 t) (iblk m c 2 t) (iblk m c 3 t) (iblk m c 4 t) ⟨r.val % 512, by omega⟩
      ⟨3072 + (128 * p.val + k.val), by omega⟩) (fun k => (iblk m c 7 t : Vec Ideal S1x128 .f32) (ix2 0 k)) ⟨64 * h.val + d.val, by omega⟩
      = queryAt m c r ⟨2 * p.val + h.val, by omega⟩ d := by
  rw [pairNormed_eq]
  unfold queryAt
  refine headNormed_congr (fun k => ?_) (fun k => ?_) d
  · exact (entry_eq m c t r hr _).trans (entryAt_congr m c r (by simp only; omega))
  · have e : (⟨(64 * h.val + k.val) % 64, by omega⟩ : Fin 64) = k := Fin.ext (by simp only; omega)
    rw [iblk7]
    exact congrArg (fun z : Fin 64 => qgains m c (ix1 z)) e

theorem query_eq (p : Fin 4) (h : Fin 2) (d : Fin 64) (j : Fin 512) (hj : j.val = 128 * p.val + (64 * h.val + d.val)) :
    query (iblk m c 0 t) (iblk m c 1 t) (iblk m c 2 t) (iblk m c 3 t) (iblk m c 4 t) (iblk m c 5 t) (iblk m c 6 t) (iblk m c 7 t) ⟨r.val % 512, by omega⟩ j
      = turnedAt m c r (queryAt m c r ⟨2 * p.val + h.val, by omega⟩) d * Ideal.ofBits .f32 0x3E000000#32 := by
  rw [query_at _ _ _ _ _ _ _ _ _ p (⟨64 * h.val + d.val, by omega⟩ : Fin 128) j hj]
  rw [turned_eq m c t r hr]
  rw [turnedAt_congr m c r (fun k => queryHead_eq m c t r hr p h k) d]

theorem key_eq (h : Fin 2) (d : Fin 64) :
    key (iblk m c 0 t) (iblk m c 1 t) (iblk m c 2 t) (iblk m c 3 t) (iblk m c 4 t) (iblk m c 8 t) ⟨r.val % 512, by omega⟩ ⟨64 * h.val + d.val, by omega⟩
      = keyAt m c r h d := by
  unfold key
  rw [pairNormed_eq]
  unfold keyAt
  refine headNormed_congr (fun k => ?_) (fun k => ?_) d
  · exact entry_eq m c t r hr _
  · have e : (⟨(64 * h.val + k.val) % 64, by omega⟩ : Fin 64) = k := Fin.ext (by simp only; omega)
    rw [iblk8]
    exact congrArg (fun z : Fin 64 => kgains m c (ix1 z)) e

theorem turnedKey_eq (h : Fin 2) (d : Fin 64) :
    turnedKey (iblk m c 0 t) (iblk m c 1 t) (iblk m c 2 t) (iblk m c 3 t) (iblk m c 4 t) (iblk m c 5 t) (iblk m c 6 t) (iblk m c 8 t) ⟨r.val % 512, by omega⟩
      ⟨64 * h.val + d.val, by omega⟩ = turnedAt m c r (keyAt m c r h) d := by
  unfold turnedKey
  rw [turned_eq m c t r hr]
  exact turnedAt_congr m c r (fun k => key_eq m c t r hr h k) d

theorem value_eq (l : Fin 128) :
    value (iblk m c 0 t) (iblk m c 1 t) (iblk m c 2 t) (iblk m c 3 t) (iblk m c 4 t) ⟨r.val % 512, by omega⟩ l
      = entryAt m c r ⟨7296 + l.val, by omega⟩ := entry_eq m c t r hr _

end tile

theorem array9_at (c : Dev nD) (r : Fin 24576) (j : Fin 7680) :
    ((dats m 0 c).arrAt 9 cfg0.N : Vec Ideal S24576x7680 .bf16) (ix2 r j) = entryAt m c r j := by
  have hN : cfg0.N = 48 := N_0
  obtain ⟨t, ht⟩ : ∃ t : Fin cfg0.N, r.val / 512 = t.val := ⟨⟨r.val / 512, by omega⟩, rfl⟩
  obtain ⟨hi, -⟩ := idx_out t
  have e : (ix2 r j : S24576x7680.Idx) = ((cfg0.win 9).blk t).view.emb (ix2 (⟨r.val % 512, by omega⟩ : Fin 512) j) := by
    funext a
    apply Fin.ext
    match a with
    | ⟨0, _⟩ => show r.val = win0_9.index t 0 * 512 + 1 * (r.val % 512); rw [hi.1]; omega
    | ⟨1, _⟩ => show j.val = win0_9.index t 1 * 7680 + 1 * j.val; rw [hi.2]; omega
  rw [e]
  refine ((dats m 0 c).arrAt_emb_eq_flushed 9 Value.disjoint9 t (flush_all t).1 _).trans ?_
  rw [cast_eq, Value.flushed9]
  refine (out9_at _ _ _ _ _ _ _ _ _ (⟨r.val % 512, by omega⟩ : Fin 512) j).trans ?_
  exact entry_eq m c t r ht j

theorem array10_at (c : Dev nD) (r : Fin 24576) (j : Fin 512) :
    ((dats m 0 c).arrAt 10 cfg0.N : Vec Ideal S24576x512 .bf16) (ix2 r j)
      = turnedAt m c r (queryAt m c r ⟨j.val / 64, by omega⟩) ⟨j.val % 64, by omega⟩ * Ideal.ofBits .f32 0x3E000000#32 := by
  have hj : (⟨j.val / 64, by omega⟩ : Fin 8) = ⟨2 * (⟨j.val / 128, by omega⟩ : Fin 4).val + (⟨j.val / 64 % 2, by omega⟩ : Fin 2).val, by simp only; omega⟩ :=
    Fin.ext (by simp only; omega)
  have hN : cfg0.N = 48 := N_0
  obtain ⟨t, ht⟩ : ∃ t : Fin cfg0.N, r.val / 512 = t.val := ⟨⟨r.val / 512, by omega⟩, rfl⟩
  obtain ⟨-, hi, -⟩ := idx_out t
  have e : (ix2 r j : S24576x512.Idx) = ((cfg0.win 10).blk t).view.emb (ix2 (⟨r.val % 512, by omega⟩ : Fin 512) j) := by
    funext a
    apply Fin.ext
    match a with
    | ⟨0, _⟩ => show r.val = win0_10.index t 0 * 512 + 1 * (r.val % 512); rw [hi.1]; omega
    | ⟨1, _⟩ => show j.val = win0_10.index t 1 * 512 + 1 * j.val; rw [hi.2]; omega
  rw [e]
  refine ((dats m 0 c).arrAt_emb_eq_flushed 10 Value.disjoint10 t (flush_all t).2.1 _).trans ?_
  rw [cast_eq, Value.flushed10]
  refine (out10_at _ _ _ _ _ _ _ _ _ (⟨r.val % 512, by omega⟩ : Fin 512) j).trans ?_
  rw [hj]
  exact query_eq m c t r ht ⟨j.val / 128, by omega⟩ ⟨j.val / 64 % 2, by omega⟩ ⟨j.val % 64, by omega⟩ j (by simp only; omega)

theorem array11_at (c : Dev nD) (r : Fin 24576) (j : Fin 512) :
    ((dats m 0 c).arrAt 11 cfg0.N : Vec Ideal S24576x512 .bf16) (ix2 r j)
      = spread (fun l => turnedAt m c r (keyAt m c r ⟨l.val / 64, by omega⟩) ⟨l.val % 64, by omega⟩) j := by
  have hN : cfg0.N = 48 := N_0
  obtain ⟨t, ht⟩ : ∃ t : Fin cfg0.N, r.val / 512 = t.val := ⟨⟨r.val / 512, by omega⟩, rfl⟩
  obtain ⟨-, -, hi, -⟩ := idx_out t
  have e : (ix2 r j : S24576x512.Idx) = ((cfg0.win 11).blk t).view.emb (ix2 (⟨r.val % 512, by omega⟩ : Fin 512) j) := by
    funext a
    apply Fin.ext
    match a with
    | ⟨0, _⟩ => show r.val = win0_11.index t 0 * 512 + 1 * (r.val % 512); rw [hi.1]; omega
    | ⟨1, _⟩ => show j.val = win0_11.index t 1 * 512 + 1 * j.val; rw [hi.2]; omega
  rw [e]
  refine ((dats m 0 c).arrAt_emb_eq_flushed 11 Value.disjoint11 t (flush_all t).2.2.1 _).trans ?_
  rw [cast_eq, Value.flushed11]
  refine (out11_at _ _ _ _ _ _ _ _ _ (⟨r.val % 512, by omega⟩ : Fin 512) j).trans ?_
  refine spread_congr (fun l => ?_) j
  have e : l = ⟨64 * (⟨l.val / 64, by omega⟩ : Fin 2).val + (⟨l.val % 64, by omega⟩ : Fin 64).val, by simp only; omega⟩ :=
    Fin.ext (by simp only; omega)
  exact (congrArg (turnedKey _ _ _ _ _ _ _ _ _) e).trans (turnedKey_eq m c t r ht _ _)

theorem array12_at (c : Dev nD) (r : Fin 24576) (j : Fin 512) :
    ((dats m 0 c).arrAt 12 cfg0.N : Vec Ideal S24576x512 .bf16) (ix2 r j)
      = spread (fun l => entryAt m c r ⟨7296 + l.val, by omega⟩) j := by
  have hN : cfg0.N = 48 := N_0
  obtain ⟨t, ht⟩ : ∃ t : Fin cfg0.N, r.val / 512 = t.val := ⟨⟨r.val / 512, by omega⟩, rfl⟩
  obtain ⟨-, -, -, hi, -⟩ := idx_out t
  have e : (ix2 r j : S24576x512.Idx) = ((cfg0.win 12).blk t).view.emb (ix2 (⟨r.val % 512, by omega⟩ : Fin 512) j) := by
    funext a
    apply Fin.ext
    match a with
    | ⟨0, _⟩ => show r.val = win0_12.index t 0 * 512 + 1 * (r.val % 512); rw [hi.1]; omega
    | ⟨1, _⟩ => show j.val = win0_12.index t 1 * 512 + 1 * j.val; rw [hi.2]; omega
  rw [e]
  refine ((dats m 0 c).arrAt_emb_eq_flushed 12 Value.disjoint12 t (flush_all t).2.2.2.1 _).trans ?_
  rw [cast_eq, Value.flushed12]
  refine (out12_at _ _ _ _ _ _ _ _ _ (⟨r.val % 512, by omega⟩ : Fin 512) j).trans ?_
  exact spread_congr (fun l => value_eq m c t r ht l) j

theorem array13_at (c : Dev nD) (r : Fin 24576) (h : Fin 2) (d : Fin 64) :
    ((dats m 0 c).arrAt 13 cfg0.N : Vec Ideal S24576x128 .f32) (ix2 r ⟨64 * h.val + d.val, by omega⟩) = keyAt m c r h d := by
  have hN : cfg0.N = 48 := N_0
  obtain ⟨t, ht⟩ : ∃ t : Fin cfg0.N, r.val / 512 = t.val := ⟨⟨r.val / 512, by omega⟩, rfl⟩
  obtain ⟨-, -, -, -, hi, -⟩ := idx_out t
  have e : (ix2 r ⟨64 * h.val + d.val, by omega⟩ : S24576x128.Idx)
      = ((cfg0.win 13).blk t).view.emb (ix2 (⟨r.val % 512, by omega⟩ : Fin 512) (⟨64 * h.val + d.val, by omega⟩ : Fin 128)) := by
    funext a
    apply Fin.ext
    match a with
    | ⟨0, _⟩ => show r.val = win0_13.index t 0 * 512 + 1 * (r.val % 512); rw [hi.1]; omega
    | ⟨1, _⟩ => show 64 * h.val + d.val = win0_13.index t 1 * 128 + 1 * (64 * h.val + d.val); rw [hi.2]; omega
  rw [e]
  refine ((dats m 0 c).arrAt_emb_eq_flushed 13 Value.disjoint13 t (flush_all t).2.2.2.2.1 _).trans ?_
  rw [cast_eq, Value.flushed13]
  refine (out13_at _ _ _ _ _ _ _ _ _ (⟨r.val % 512, by omega⟩ : Fin 512) (⟨64 * h.val + d.val, by omega⟩ : Fin 128)).trans ?_
  exact key_eq m c t r ht h d

theorem array14_at (c : Dev nD) (r : Fin 24576) (l : Fin 128) :
    ((dats m 0 c).arrAt 14 cfg0.N : Vec Ideal S24576x128 .f32) (ix2 r l) = entryAt m c r ⟨7296 + l.val, by omega⟩ := by
  have hN : cfg0.N = 48 := N_0
  obtain ⟨t, ht⟩ : ∃ t : Fin cfg0.N, r.val / 512 = t.val := ⟨⟨r.val / 512, by omega⟩, rfl⟩
  obtain ⟨-, -, -, -, -, hi⟩ := idx_out t
  have e : (ix2 r l : S24576x128.Idx) = ((cfg0.win 14).blk t).view.emb (ix2 (⟨r.val % 512, by omega⟩ : Fin 512) l) := by
    funext a
    apply Fin.ext
    match a with
    | ⟨0, _⟩ => show r.val = win0_14.index t 0 * 512 + 1 * (r.val % 512); rw [hi.1]; omega
    | ⟨1, _⟩ => show l.val = win0_14.index t 1 * 128 + 1 * l.val; rw [hi.2]; omega
  rw [e]
  refine ((dats m 0 c).arrAt_emb_eq_flushed 14 Value.disjoint14 t (flush_all t).2.2.2.2.2 _).trans ?_
  rw [cast_eq, Value.flushed14]
  refine (out14_at _ _ _ _ _ _ _ _ _ (⟨r.val % 512, by omega⟩ : Fin 512) l).trans ?_
  exact value_eq m c t r ht l

end Cert.ProjIdeal.Entry

end
-- ==== Proof.ProjRef.lean ====
/- What the reference of the projection computes at one row and column. -/
module

public import proofs.«01_k».proof.Proof.Gated
public import proofs.«01_k».proof.Proof.Lanes
public import proofs.«01_k».proof.Proof.Gen.ProjRefIdeal.Read
public import Idealize.ShloMosaic.Lib.Pointwise

@[expose] public section

set_option maxRecDepth 16384

noncomputable section

namespace Cert.ProjRefIdeal.Entry

open Cert.ProjRefIdeal Cert.ProjRefIdeal.Gen Cert.ProjRefIdeal.Read Cert.Gated Cert.Lanes Idealize.ShloMosaic Idealize.ShloMosaic.TcCoe Idealize.SL.Sem

variable (x0 : Vec Ideal S24576x1024 .f32) (x1 : Vec Ideal S4x8x6x1x1024 .f32) (x2 : Vec Ideal S1024 .f32) (x3 : Vec Ideal S1024x7440 .f32)
  (x4 x5 : Vec Ideal S4096x32 .f32) (x6 x7 : Vec Ideal S64 .f32)

theorem shift_at (r : Fin 24576) (d : Fin 1024) :
    (val_main_v7 (F := Ideal) x1 : Vec Ideal S24576x1024 .f32) (ix2 r d) = x1 (ix5 0 (groupOf r) 0 0 d) := by
  unfold val_main_v7 val_main_v6 val_main_v5 val_main_v4 val_main_v3 val_main_v2 val_main_v1 val_main_v0
  pointwise
  unfold groupOf
  split_ifs <;> rfl

theorem scale_at (r : Fin 24576) (d : Fin 1024) :
    (val_main_v15 (F := Ideal) x1 : Vec Ideal S24576x1024 .f32) (ix2 r d) = x1 (ix5 0 (groupOf r) 1 0 d) := by
  unfold val_main_v15 val_main_v14 val_main_v13 val_main_v12 val_main_v11 val_main_v10 val_main_v9 val_main_v8
  pointwise
  unfold groupOf
  split_ifs <;> rfl

theorem norm_at (r : Fin 24576) (d : Fin 1024) :
    (val_main_v25 (F := Ideal) x0 : Vec Ideal S24576x1024 .f32) (ix2 r d) = normed (fun k => x0 (ix2 r k)) d := by
  unfold val_main_v25 val_main_v24 val_main_v23 val_main_v22 val_main_v21 val_main_v20 val_main_v19 val_main_v18 val_main_v17 val_main_v16 val_main_cst val_main_cst_0 val_main_cst_1
  pointwise
  rfl

theorem rows_at (r : Fin 24576) (d : Fin 1024) :
    (val_main_v32 (F := Ideal) x0 x1 x2 : Vec Ideal S24576x1024 .f32) (ix2 r d)
      = modulated (fun k => x0 (ix2 r k)) (fun k => x2 (ix1 k)) (fun k => x1 (ix5 0 (groupOf r) 0 0 k))
        (fun k => x1 (ix5 0 (groupOf r) 1 0 k)) d := by
  rw [val_main_v32_apply, val_main_v31_apply, val_main_v30_apply, val_main_v28_apply, norm_at, shift_at, scale_at]
  unfold val_main_v27 val_main_v26 val_main_v29 val_main_cst_2
  pointwise
  rfl

/-- The product of a row with column `n` of the weights. -/
def product (r : Fin 24576) (n : Fin 7440) : EReal :=
  ∑ k, modulated (fun k => x0 (ix2 r k)) (fun k => x2 (ix1 k)) (fun k => x1 (ix5 0 (groupOf r) 0 0 k)) (fun k => x1 (ix5 0 (groupOf r) 1 0 k)) k * x3 (ix2 k n)

theorem product_at (r : Fin 24576) (n : Fin 7440) :
    (val_main_v33 (F := Ideal) x0 x1 x2 x3 : Vec Ideal S24576x7440 .f32) (ix2 r n) = product x0 x1 x2 x3 r n := by
  unfold product
  simp only [← rows_at]
  unfold val_main_v33
  generalize val_main_v32 (F := Ideal) x0 x1 x2 = h
  pointwise

/-- A row of 7440 columns in the result's order. -/
def arranged (p : Fin 7440 → EReal) (j : Fin 7680) : EReal :=
  if h0 : j.val < 1536 then p ⟨j.val, by omega⟩ else
  if h1 : j.val - 1536 < 1536 then p ⟨2304 + (j.val - 1536), by omega⟩ else
  if h2 : j.val - 1536 - 1536 < 512 then p ⟨1536 + (j.val - 1536 - 1536), by omega⟩ else
  if h3 : j.val - 1536 - 1536 - 512 < 512 then p ⟨3840 + (j.val - 1536 - 1536 - 512), by omega⟩ else
  if h4 : j.val - 1536 - 1536 - 512 - 512 < 3072 then p ⟨4368 + (j.val - 1536 - 1536 - 512 - 512), by omega⟩ else
  if h5 : j.val - 1536 - 1536 - 512 - 512 - 3072 < 128 then p ⟨2048 + (j.val - 1536 - 1536 - 512 - 512 - 3072), by omega⟩ else
  if h6 : j.val - 1536 - 1536 - 512 - 512 - 3072 - 128 < 128 then p ⟨2176 + (j.val - 1536 - 1536 - 512 - 512 - 3072 - 128), by omega⟩ else
  if h7 : j.val - 1536 - 1536 - 512 - 512 - 3072 - 128 - 128 < 16 then p ⟨4352 + (j.val - 1536 - 1536 - 512 - 512 - 3072 - 128 - 128), by omega⟩ else
  0

theorem arranged_at (r : Fin 24576) (j : Fin 7680) :
    (val_main_v43 (F := Ideal) x0 x1 x2 x3 : Vec Ideal S24576x7680 .f32) (ix2 r j) = arranged (product x0 x1 x2 x3 r) j := by
  rw [show product x0 x1 x2 x3 r = fun n => (val_main_v33 (F := Ideal) x0 x1 x2 x3 : Vec Ideal S24576x7440 .f32) (ix2 r n) from
    funext fun n => (product_at x0 x1 x2 x3 r n).symm]
  unfold val_main_v43 val_main_v34 val_main_v35 val_main_v36 val_main_v37 val_main_v38 val_main_v39 val_main_v40 val_main_v41 val_main_v42 val_main_cst_3 arranged
  generalize val_main_v33 (F := Ideal) x0 x1 x2 x3 = y
  pointwise

theorem q_at (r : Fin 24576) (h : Fin 8) (k : Fin 64) :
    (val_main_v44 (F := Ideal) x0 x1 x2 x3 : Vec Ideal S24576x8x64 .f32) (ix3 r h k) = product x0 x1 x2 x3 r ⟨1536 + (64 * h.val + k.val), by omega⟩ := by
  rw [← product_at]
  unfold val_main_v44 val_main_v35
  generalize val_main_v33 (F := Ideal) x0 x1 x2 x3 = y
  pointwise
  exact congrArg (fun z : Fin 7440 => y (ix2 r z)) (Fin.ext (show 1536 + (h.val * 64 + k.val) = 1536 + (64 * h.val + k.val) by omega))

theorem k_at (r : Fin 24576) (h : Fin 2) (k : Fin 64) :
    (val_main_v58 (F := Ideal) x0 x1 x2 x3 : Vec Ideal S24576x2x64 .f32) (ix3 r h k) = product x0 x1 x2 x3 r ⟨2048 + (64 * h.val + k.val), by omega⟩ := by
  rw [← product_at]
  unfold val_main_v58 val_main_v36
  generalize val_main_v33 (F := Ideal) x0 x1 x2 x3 = y
  pointwise
  exact congrArg (fun z : Fin 7440 => y (ix2 r z)) (Fin.ext (show 2048 + (h.val * 64 + k.val) = 2048 + (64 * h.val + k.val) by omega))

theorem v_at (r : Fin 24576) (l : Fin 128) :
    (val_main_v37 (F := Ideal) x0 x1 x2 x3 : Vec Ideal S24576x128 .f32) (ix2 r l) = product x0 x1 x2 x3 r ⟨2176 + l.val, by omega⟩ := by
  rw [← product_at]
  unfold val_main_v37
  generalize val_main_v33 (F := Ideal) x0 x1 x2 x3 = y
  pointwise

theorem qn_at (r : Fin 24576) (h : Fin 8) (d : Fin 64) :
    (val_main_v57 (F := Ideal) x0 x1 x2 x3 x6 : Vec Ideal S24576x8x64 .f32) (ix3 r h d)
      = headNormed (fun k => product x0 x1 x2 x3 r ⟨1536 + (64 * h.val + k.val), by omega⟩) (fun k => x6 (ix1 k)) d := by
  simp only [← q_at]
  unfold val_main_v57 val_main_v56 val_main_v55 val_main_v54 val_main_v53 val_main_v52 val_main_v51 val_main_v50 val_main_v49 val_main_v48 val_main_v47 val_main_v46 val_main_v45 val_main_cst_4 val_main_cst_5 val_main_cst_6
  generalize val_main_v44 (F := Ideal) x0 x1 x2 x3 = y
  pointwise
  rfl

theorem kn_at (r : Fin 24576) (h : Fin 2) (d : Fin 64) :
    (val_main_v71 (F := Ideal) x0 x1 x2 x3 x7 : Vec Ideal S24576x2x64 .f32) (ix3 r h d)
      = headNormed (fun k => product x0 x1 x2 x3 r ⟨2048 + (64 * h.val + k.val), by omega⟩) (fun k => x7 (ix1 k)) d := by
  simp only [← k_at]
  unfold val_main_v71 val_main_v70 val_main_v69 val_main_v68 val_main_v67 val_main_v66 val_main_v65 val_main_v64 val_main_v63 val_main_v62 val_main_v61 val_main_v60 val_main_v59 val_main_cst_7 val_main_cst_8 val_main_cst_9
  generalize val_main_v58 (F := Ideal) x0 x1 x2 x3 = y
  pointwise
  rfl

theorem q_first (b : Fin 4) (t : Fin 4096) (h : Fin 8) (i : Fin 32) :
    (val_main_v76 (F := Ideal) x0 x1 x2 x3 x6 : Vec Ideal S4x4096x8x32 .f32) (ix4 b t h i)
      = val_main_v57 (F := Ideal) x0 x1 x2 x3 x6 (ix3 ⟨8192 + (b.val * 4096 + t.val), by omega⟩ h ⟨i.val * 2, by omega⟩) := by
  unfold val_main_v76 val_main_v75 val_main_v74 val_main_v73 val_main_v72
  generalize val_main_v57 (F := Ideal) x0 x1 x2 x3 x6 = y
  pointwise

theorem q_second (b : Fin 4) (t : Fin 4096) (h : Fin 8) (i : Fin 32) :
    (val_main_v78 (F := Ideal) x0 x1 x2 x3 x6 : Vec Ideal S4x4096x8x32 .f32) (ix4 b t h i)
      = val_main_v57 (F := Ideal) x0 x1 x2 x3 x6 (ix3 ⟨8192 + (b.val * 4096 + t.val), by omega⟩ h ⟨i.val * 2 + 1, by omega⟩) := by
  unfold val_main_v78 val_main_v77 val_main_v74 val_main_v73 val_main_v72
  generalize val_main_v57 (F := Ideal) x0 x1 x2 x3 x6 = y
  pointwise

theorem q_even (b : Fin 4) (t : Fin 4096) (h : Fin 8) (i : Fin 32) :
    (val_main_v87 (F := Ideal) x0 x1 x2 x3 x4 x5 x6 : Vec Ideal S4x4096x8x32 .f32) (ix4 b t h i)
      = val_main_v76 (F := Ideal) x0 x1 x2 x3 x6 (ix4 b t h i) * x4 (ix2 t i) - val_main_v78 (F := Ideal) x0 x1 x2 x3 x6 (ix4 b t h i) * x5 (ix2 t i) := by
  unfold val_main_v87 val_main_v83 val_main_v86 val_main_v82 val_main_v85 val_main_v81 val_main_v84 val_main_v79 val_main_v80
  generalize val_main_v76 (F := Ideal) x0 x1 x2 x3 x6 = y
  generalize val_main_v78 (F := Ideal) x0 x1 x2 x3 x6 = z
  pointwise

theorem q_odd (b : Fin 4) (t : Fin 4096) (h : Fin 8) (i : Fin 32) :
    (val_main_v94 (F := Ideal) x0 x1 x2 x3 x4 x5 x6 : Vec Ideal S4x4096x8x32 .f32) (ix4 b t h i)
      = val_main_v76 (F := Ideal) x0 x1 x2 x3 x6 (ix4 b t h i) * x5 (ix2 t i) + val_main_v78 (F := Ideal) x0 x1 x2 x3 x6 (ix4 b t h i) * x4 (ix2 t i) := by
  unfold val_main_v94 val_main_v90 val_main_v93 val_main_v89 val_main_v92 val_main_v88 val_main_v91 val_main_v79 val_main_v80
  generalize val_main_v76 (F := Ideal) x0 x1 x2 x3 x6 = y
  generalize val_main_v78 (F := Ideal) x0 x1 x2 x3 x6 = z
  pointwise

theorem q_pair (r : Fin 16384) (h : Fin 8) (d : Fin 64) :
    (val_main_v100 (F := Ideal) x0 x1 x2 x3 x4 x5 x6 : Vec Ideal S16384x8x64 .f32) (ix3 r h d)
      = if d.val % 2 < 1 then val_main_v87 (F := Ideal) x0 x1 x2 x3 x4 x5 x6 (ix4 ⟨r.val / 4096, by omega⟩ ⟨r.val % 4096, by omega⟩ h ⟨d.val / 2, by omega⟩)
        else val_main_v94 (F := Ideal) x0 x1 x2 x3 x4 x5 x6 (ix4 ⟨r.val / 4096, by omega⟩ ⟨r.val % 4096, by omega⟩ h ⟨d.val / 2, by omega⟩) := by
  unfold val_main_v100 val_main_v98 val_main_v97 val_main_v96 val_main_v95
  generalize val_main_v87 (F := Ideal) x0 x1 x2 x3 x4 x5 x6 = y
  generalize val_main_v94 (F := Ideal) x0 x1 x2 x3 x4 x5 x6 = z
  pointwise
  by_cases hd : d.val % 2 < 1
  · exact (dif_pos hd).trans (if_pos hd).symm
  · exact (dif_neg hd).trans (if_neg hd).symm

theorem q_joined (r : Fin 24576) (h : Fin 8) (d : Fin 64) :
    (val_main_v101 (F := Ideal) x0 x1 x2 x3 x4 x5 x6 : Vec Ideal S24576x8x64 .f32) (ix3 r h d)
      = if hr : r.val < 8192 then val_main_v57 (F := Ideal) x0 x1 x2 x3 x6 (ix3 r h d)
        else val_main_v100 (F := Ideal) x0 x1 x2 x3 x4 x5 x6 (ix3 ⟨r.val - 8192, by omega⟩ h d) := by
  unfold val_main_v101 val_main_v99
  generalize val_main_v100 (F := Ideal) x0 x1 x2 x3 x4 x5 x6 = z
  generalize val_main_v57 (F := Ideal) x0 x1 x2 x3 x6 = y
  pointwise

theorem q_turned (r : Fin 24576) (h : Fin 8) (d : Fin 64) :
    (val_main_v101 (F := Ideal) x0 x1 x2 x3 x4 x5 x6 : Vec Ideal S24576x8x64 .f32) (ix3 r h d)
      = if r.val < 8192 then val_main_v57 (F := Ideal) x0 x1 x2 x3 x6 (ix3 r h d)
        else turned (fun k => val_main_v57 (F := Ideal) x0 x1 x2 x3 x6 (ix3 r h k)) (fun k => x4 (ix2 ⟨(r.val - 8192) % 4096, by omega⟩ k))
          (fun k => x5 (ix2 ⟨(r.val - 8192) % 4096, by omega⟩ k)) d := by
  rw [q_joined]
  by_cases hr : r.val < 8192
  · rw [dif_pos hr, if_pos hr]
  · have e : (⟨8192 + ((r.val - 8192) / 4096 * 4096 + (r.val - 8192) % 4096), by omega⟩ : Fin 24576) = r := Fin.ext (by simp only; omega)
    rw [dif_neg hr, if_neg hr, q_pair, q_even, q_odd, q_first, q_second]
    unfold turned
    simp only [e]
    generalize val_main_v57 (F := Ideal) x0 x1 x2 x3 x6 = y
    by_cases hd : d.val % 2 < 1
    · have e0 : (⟨d.val / 2 * 2, by omega⟩ : Fin 64) = d := Fin.ext (by simp only; omega)
      rw [if_pos hd, if_pos (by omega), e0]
    · have e1 : (⟨d.val / 2 * 2 + 1, by omega⟩ : Fin 64) = d := Fin.ext (by simp only; omega)
      rw [if_neg hd, if_neg (by omega), e1]

theorem k_first (b : Fin 4) (t : Fin 4096) (h : Fin 2) (i : Fin 32) :
    (val_main_v109 (F := Ideal) x0 x1 x2 x3 x7 : Vec Ideal S4x4096x2x32 .f32) (ix4 b t h i)
      = val_main_v71 (F := Ideal) x0 x1 x2 x3 x7 (ix3 ⟨8192 + (b.val * 4096 + t.val), by omega⟩ h ⟨i.val * 2, by omega⟩) := by
  unfold val_main_v109 val_main_v108 val_main_v107 val_main_v106 val_main_v105
  generalize val_main_v71 (F := Ideal) x0 x1 x2 x3 x7 = y
  pointwise

theorem k_second (b : Fin 4) (t : Fin 4096) (h : Fin 2) (i : Fin 32) :
    (val_main_v111 (F := Ideal) x0 x1 x2 x3 x7 : Vec Ideal S4x4096x2x32 .f32) (ix4 b t h i)
      = val_main_v71 (F := Ideal) x0 x1 x2 x3 x7 (ix3 ⟨8192 + (b.val * 4096 + t.val), by omega⟩ h ⟨i.val * 2 + 1, by omega⟩) := by
  unfold val_main_v111 val_main_v110 val_main_v107 val_main_v106 val_main_v105
  generalize val_main_v71 (F := Ideal) x0 x1 x2 x3 x7 = y
  pointwise

theorem k_even (b : Fin 4) (t : Fin 4096) (h : Fin 2) (i : Fin 32) :
    (val_main_v120 (F := Ideal) x0 x1 x2 x3 x4 x5 x7 : Vec Ideal S4x4096x2x32 .f32) (ix4 b t h i)
      = val_main_v109 (F := Ideal) x0 x1 x2 x3 x7 (ix4 b t h i) * x4 (ix2 t i) - val_main_v111 (F := Ideal) x0 x1 x2 x3 x7 (ix4 b t h i) * x5 (ix2 t i) := by
  unfold val_main_v120 val_main_v116 val_main_v119 val_main_v115 val_main_v118 val_main_v114 val_main_v117 val_main_v112 val_main_v113
  generalize val_main_v109 (F := Ideal) x0 x1 x2 x3 x7 = y
  generalize val_main_v111 (F := Ideal) x0 x1 x2 x3 x7 = z
  pointwise

theorem k_odd (b : Fin 4) (t : Fin 4096) (h : Fin 2) (i : Fin 32) :
    (val_main_v127 (F := Ideal) x0 x1 x2 x3 x4 x5 x7 : Vec Ideal S4x4096x2x32 .f32) (ix4 b t h i)
      = val_main_v109 (F := Ideal) x0 x1 x2 x3 x7 (ix4 b t h i) * x5 (ix2 t i) + val_main_v111 (F := Ideal) x0 x1 x2 x3 x7 (ix4 b t h i) * x4 (ix2 t i) := by
  unfold val_main_v127 val_main_v123 val_main_v126 val_main_v122 val_main_v125 val_main_v121 val_main_v124 val_main_v112 val_main_v113
  generalize val_main_v109 (F := Ideal) x0 x1 x2 x3 x7 = y
  generalize val_main_v111 (F := Ideal) x0 x1 x2 x3 x7 = z
  pointwise

theorem k_pair (r : Fin 16384) (h : Fin 2) (d : Fin 64) :
    (val_main_v133 (F := Ideal) x0 x1 x2 x3 x4 x5 x7 : Vec Ideal S16384x2x64 .f32) (ix3 r h d)
      = if d.val % 2 < 1 then val_main_v120 (F := Ideal) x0 x1 x2 x3 x4 x5 x7 (ix4 ⟨r.val / 4096, by omega⟩ ⟨r.val % 4096, by omega⟩ h ⟨d.val / 2, by omega⟩)
        else val_main_v127 (F := Ideal) x0 x1 x2 x3 x4 x5 x7 (ix4 ⟨r.val / 4096, by omega⟩ ⟨r.val % 4096, by omega⟩ h ⟨d.val / 2, by omega⟩) := by
  unfold val_main_v133 val_main_v131 val_main_v130 val_main_v129 val_main_v128
  generalize val_main_v120 (F := Ideal) x0 x1 x2 x3 x4 x5 x7 = y
  generalize val_main_v127 (F := Ideal) x0 x1 x2 x3 x4 x5 x7 = z
  pointwise
  by_cases hd : d.val % 2 < 1
  · exact (dif_pos hd).trans (if_pos hd).symm
  · exact (dif_neg hd).trans (if_neg hd).symm

theorem k_joined (r : Fin 24576) (h : Fin 2) (d : Fin 64) :
    (val_main_v134 (F := Ideal) x0 x1 x2 x3 x4 x5 x7 : Vec Ideal S24576x2x64 .f32) (ix3 r h d)
      = if hr : r.val < 8192 then val_main_v71 (F := Ideal) x0 x1 x2 x3 x7 (ix3 r h d)
        else val_main_v133 (F := Ideal) x0 x1 x2 x3 x4 x5 x7 (ix3 ⟨r.val - 8192, by omega⟩ h d) := by
  unfold val_main_v134 val_main_v132
  generalize val_main_v133 (F := Ideal) x0 x1 x2 x3 x4 x5 x7 = z
  generalize val_main_v71 (F := Ideal) x0 x1 x2 x3 x7 = y
  pointwise

theorem k_turned (r : Fin 24576) (h : Fin 2) (d : Fin 64) :
    (val_main_v134 (F := Ideal) x0 x1 x2 x3 x4 x5 x7 : Vec Ideal S24576x2x64 .f32) (ix3 r h d)
      = if r.val < 8192 then val_main_v71 (F := Ideal) x0 x1 x2 x3 x7 (ix3 r h d)
        else turned (fun k => val_main_v71 (F := Ideal) x0 x1 x2 x3 x7 (ix3 r h k)) (fun k => x4 (ix2 ⟨(r.val - 8192) % 4096, by omega⟩ k))
          (fun k => x5 (ix2 ⟨(r.val - 8192) % 4096, by omega⟩ k)) d := by
  rw [k_joined]
  by_cases hr : r.val < 8192
  · rw [dif_pos hr, if_pos hr]
  · have e : (⟨8192 + ((r.val - 8192) / 4096 * 4096 + (r.val - 8192) % 4096), by omega⟩ : Fin 24576) = r := Fin.ext (by simp only; omega)
    rw [dif_neg hr, if_neg hr, k_pair, k_even, k_odd, k_first, k_second]
    unfold turned
    simp only [e]
    generalize val_main_v71 (F := Ideal) x0 x1 x2 x3 x7 = y
    by_cases hd : d.val % 2 < 1
    · have e0 : (⟨d.val / 2 * 2, by omega⟩ : Fin 64) = d := Fin.ext (by simp only; omega)
      rw [if_pos hd, if_pos (by omega), e0]
    · have e1 : (⟨d.val / 2 * 2 + 1, by omega⟩ : Fin 64) = d := Fin.ext (by simp only; omega)
      rw [if_neg hd, if_neg (by omega), e1]

/-! ### The results -/

theorem out_q (r : Fin 24576) (j : Fin 512) :
    (val_main_v157 (F := Ideal) x0 x1 x2 x3 x4 x5 x6 : Vec Ideal S24576x512 .bf16) (ix2 r j)
      = val_main_v101 (F := Ideal) x0 x1 x2 x3 x4 x5 x6 (ix3 r ⟨j.val / 64, by omega⟩ ⟨j.val % 64, by omega⟩) * Ideal.ofBits .f32 0x3E000000#32 := by
  unfold val_main_v157 val_main_v104 val_main_v103 val_main_v102 val_main_cst_10
  generalize val_main_v101 (F := Ideal) x0 x1 x2 x3 x4 x5 x6 = y
  pointwise

/-- A head's four places among the eight of the result. -/
def placed (y : Fin 2 → Fin 64 → EReal) (j : Fin 512) : EReal :=
  if j.val % 128 / 64 = j.val / 128 % 2 then y ⟨j.val / 256, by omega⟩ ⟨j.val % 64, by omega⟩ else 0

theorem placed_eq (y : Fin 2 → Fin 64 → EReal) (j : Fin 512) : (
      if h0 : j.val < 64 then y 0 ⟨j.val, by omega⟩ else
      if h1 : j.val - 64 < 64 then 0 else
      if h2 : j.val - 64 - 64 < 64 then 0 else
      if h3 : j.val - 64 - 64 - 64 < 64 then y 0 ⟨j.val - 64 - 64 - 64, by omega⟩ else
      if h4 : j.val - 64 - 64 - 64 - 64 < 64 then y 1 ⟨j.val - 64 - 64 - 64 - 64, by omega⟩ else
      if h5 : j.val - 64 - 64 - 64 - 64 - 64 < 64 then 0 else
      if h6 : j.val - 64 - 64 - 64 - 64 - 64 - 64 < 64 then 0 else
      y 1 ⟨j.val - 64 - 64 - 64 - 64 - 64 - 64 - 64, by omega⟩) = placed y j := by
  have hy : ∀ (h h' : Fin 2) (d d' : Fin 64), h.val = h'.val → d.val = d'.val → y h d = y h' d' := fun h h' d d' e e' => by rw [Fin.ext e, Fin.ext e']
  unfold placed
  by_cases h0 : j.val < 64
  · rw [dif_pos h0]
    rw [if_pos (by omega)]
    exact hy _ _ _ _ (show 0 = j.val / 256 by omega) (show j.val = j.val % 64 by omega)
  rw [dif_neg h0]
  by_cases h1 : j.val - 64 < 64
  · rw [dif_pos h1]
    rw [if_neg (by omega)]
  rw [dif_neg h1]
  by_cases h2 : j.val - 64 - 64 < 64
  · rw [dif_pos h2]
    rw [if_neg (by omega)]
  rw [dif_neg h2]
  by_cases h3 : j.val - 64 - 64 - 64 < 64
  · rw [dif_pos h3]
    rw [if_pos (by omega)]
    exact hy _ _ _ _ (show 0 = j.val / 256 by omega) (show j.val - 64 - 64 - 64 = j.val % 64 by omega)
  rw [dif_neg h3]
  by_cases h4 : j.val - 64 - 64 - 64 - 64 < 64
  · rw [dif_pos h4]
    rw [if_pos (by omega)]
    exact hy _ _ _ _ (show 1 = j.val / 256 by omega) (show j.val - 64 - 64 - 64 - 64 = j.val % 64 by omega)
  rw [dif_neg h4]
  by_cases h5 : j.val - 64 - 64 - 64 - 64 - 64 < 64
  · rw [dif_pos h5]
    rw [if_neg (by omega)]
  rw [dif_neg h5]
  by_cases h6 : j.val - 64 - 64 - 64 - 64 - 64 - 64 < 64
  · rw [dif_pos h6]
    rw [if_neg (by omega)]
  rw [dif_neg h6]
  rw [if_pos (by omega)]
  exact hy _ _ _ _ (show 1 = j.val / 256 by omega) (show j.val - 64 - 64 - 64 - 64 - 64 - 64 - 64 = j.val % 64 by omega)

theorem out_k (r : Fin 24576) (j : Fin 512) :
    (val_main_v158 (F := Ideal) x0 x1 x2 x3 x4 x5 x7 : Vec Ideal S24576x512 .bf16) (ix2 r j)
      = placed (fun h d => val_main_v134 (F := Ideal) x0 x1 x2 x3 x4 x5 x7 (ix3 r h d)) j := by
  unfold val_main_v158 val_main_v144 val_main_v143 val_main_v142 val_main_v141 val_main_v140 val_main_v139 val_main_v138 val_main_v137 val_main_v136 val_main_v135 val_main_cst_11
  generalize val_main_v134 (F := Ideal) x0 x1 x2 x3 x4 x5 x7 = y
  pointwise
  exact placed_eq (fun h d => y (ix3 r h d)) j

theorem vh_at (r : Fin 24576) (h : Fin 2) (d : Fin 64) :
    (val_main_v145 (F := Ideal) x0 x1 x2 x3 : Vec Ideal S24576x2x64 .f32) (ix3 r h d) = product x0 x1 x2 x3 r ⟨2176 + (64 * h.val + d.val), by omega⟩ := by
  refine Eq.trans ?_ (v_at x0 x1 x2 x3 r ⟨64 * h.val + d.val, by omega⟩)
  unfold val_main_v145
  generalize val_main_v37 (F := Ideal) x0 x1 x2 x3 = y
  pointwise
  exact congrArg (fun z : Fin 128 => y (ix2 r z)) (Fin.ext (show h.val * 64 + d.val = 64 * h.val + d.val by omega))

theorem out_v (r : Fin 24576) (j : Fin 512) :
    (val_main_v159 (F := Ideal) x0 x1 x2 x3 : Vec Ideal S24576x512 .bf16) (ix2 r j)
      = placed (fun h d => val_main_v145 (F := Ideal) x0 x1 x2 x3 (ix3 r h d)) j := by
  unfold val_main_v159 val_main_v155 val_main_v154 val_main_v153 val_main_v152 val_main_v151 val_main_v150 val_main_v149 val_main_v148 val_main_v147 val_main_v146 val_main_cst_12
  generalize val_main_v145 (F := Ideal) x0 x1 x2 x3 = y
  pointwise
  exact placed_eq (fun h d => y (ix3 r h d)) j

theorem out_kn (r : Fin 24576) (h : Fin 2) (d : Fin 64) :
    (val_main_v160 (F := Ideal) x0 x1 x2 x3 x7 : Vec Ideal S24576x128 .f32) (ix2 r ⟨64 * h.val + d.val, by omega⟩)
      = val_main_v71 (F := Ideal) x0 x1 x2 x3 x7 (ix3 r h d) := by
  unfold val_main_v160
  generalize val_main_v71 (F := Ideal) x0 x1 x2 x3 x7 = y
  pointwise

end Cert.ProjRefIdeal.Entry

end
-- ==== Proof.ProjEq.lean ====
/- The projection's equation: the kernel's six arrays are the reference's, for every argument. -/
module

public import proofs.«01_k».proof.Defs
public import proofs.«01_k».proof.Proof.ProjArray
public import proofs.«01_k».proof.Proof.ProjRef
public import proofs.«01_k».proof.Proof.Gen.ProjRefIdeal.Run

@[expose] public section

noncomputable section

namespace Cert.ProjIdeal.Entry

open Cert.ProjIdeal Cert.ProjIdeal.Gen Cert.Gated Cert.Lanes Idealize.ShloMosaic Idealize.ShloMosaic.TcCoe Idealize.SL.Sem
open Cert.ProjRefIdeal.Entry (product arranged placed)

variable (m : (ℓ : Loc nD τ sig) → Buf (Elt Ideal) ℓ)

/-- Column `n` of the weights gives the entry at the place of the result to which the column goes. -/
theorem entry_of (c : Dev nD) (r : Fin 24576) (j : Fin 7680) (n : Fin 7440)
    (h : (j.val < 1536 ∧ n.val = j.val) ∨ (1536 ≤ j.val ∧ j.val < 3072 ∧ n.val = 2304 + (j.val - 1536))
      ∨ (3072 ≤ j.val ∧ j.val < 3584 ∧ n.val = 1536 + (j.val - 3072)) ∨ (3584 ≤ j.val ∧ j.val < 4096 ∧ n.val = 3840 + (j.val - 3584))
      ∨ (4096 ≤ j.val ∧ j.val < 7168 ∧ n.val = 4368 + (j.val - 4096)) ∨ (7168 ≤ j.val ∧ j.val < 7424 ∧ n.val = 2048 + (j.val - 7168))
      ∨ (7424 ≤ j.val ∧ j.val < 7440 ∧ n.val = 4352 + (j.val - 7424))) :
    product (tokens m c) (mods m c) (gains m c) (weights m c) r n = entryAt m c r j := by
  unfold entryAt
  simp only [← column_of (weights m c) _ j n h]
  rfl

theorem arranged_eq (c : Dev nD) (r : Fin 24576) (j : Fin 7680) :
    arranged (product (tokens m c) (mods m c) (gains m c) (weights m c) r) j = entryAt m c r j := by
  unfold arranged
  by_cases h0 : j.val < 1536
  · rw [dif_pos h0]
    exact entry_of m c r j _ (Or.inl ⟨h0, rfl⟩)
  rw [dif_neg h0]
  by_cases h1 : j.val - 1536 < 1536
  · rw [dif_pos h1]
    exact entry_of m c r j _ (Or.inr (Or.inl ⟨by omega, by omega, rfl⟩))
  rw [dif_neg h1]
  by_cases h2 : j.val - 1536 - 1536 < 512
  · rw [dif_pos h2]
    exact entry_of m c r j _ (Or.inr (Or.inr (Or.inl ⟨by omega, by omega, by simp only; omega⟩)))
  rw [dif_neg h2]
  by_cases h3 : j.val - 1536 - 1536 - 512 < 512
  · rw [dif_pos h3]
    exact entry_of m c r j _ (Or.inr (Or.inr (Or.inr (Or.inl ⟨by omega, by omega, by simp only; omega⟩))))
  rw [dif_neg h3]
  by_cases h4 : j.val - 1536 - 1536 - 512 - 512 < 3072
  · rw [dif_pos h4]
    exact entry_of m c r j _ (Or.inr (Or.inr (Or.inr (Or.inr (Or.inl ⟨by omega, by omega, by simp only; omega⟩)))))
  rw [dif_neg h4]
  by_cases h5 : j.val - 1536 - 1536 - 512 - 512 - 3072 < 128
  · rw [dif_pos h5]
    exact entry_of m c r j _ (Or.inr (Or.inr (Or.inr (Or.inr (Or.inr (Or.inl ⟨by omega, by omega, by simp only; omega⟩))))))
  rw [dif_neg h5]
  by_cases h6 : j.val - 1536 - 1536 - 512 - 512 - 3072 - 128 < 128
  · rw [dif_pos h6]
    exact entry_of m c r j _ (Or.inr (Or.inr (Or.inr (Or.inr (Or.inr (Or.inl ⟨by omega, by omega, by simp only; omega⟩))))))
  rw [dif_neg h6]
  by_cases h7 : j.val - 1536 - 1536 - 512 - 512 - 3072 - 128 - 128 < 16
  · rw [dif_pos h7]
    exact entry_of m c r j _ (Or.inr (Or.inr (Or.inr (Or.inr (Or.inr (Or.inr (⟨by omega, by omega, by simp only; omega⟩)))))))
  rw [dif_neg h7]
  unfold entryAt
  simp only [column_end (weights m c) _ j (by omega), mul_zero, Finset.sum_const_zero]

theorem queryHead (c : Dev nD) (r : Fin 24576) (h : Fin 8) (d : Fin 64) :
    Cert.ProjRefIdeal.Read.val_main_v57 (F := Ideal) (tokens m c) (mods m c) (gains m c) (weights m c) (qgains m c) (ix3 r h d) = queryAt m c r h d := by
  refine (Cert.ProjRefIdeal.Entry.qn_at (tokens m c) (mods m c) (gains m c) (weights m c) (qgains m c) r h d).trans ?_
  unfold queryAt
  exact headNormed_congr (fun k => entry_of m c r _ _ (Or.inr (Or.inr (Or.inl ⟨by simp only; omega, by simp only; omega, by simp only; omega⟩)))) (fun k => rfl) d

theorem keyHead (c : Dev nD) (r : Fin 24576) (h : Fin 2) (d : Fin 64) :
    Cert.ProjRefIdeal.Read.val_main_v71 (F := Ideal) (tokens m c) (mods m c) (gains m c) (weights m c) (kgains m c) (ix3 r h d) = keyAt m c r h d := by
  refine (Cert.ProjRefIdeal.Entry.kn_at (tokens m c) (mods m c) (gains m c) (weights m c) (kgains m c) r h d).trans ?_
  unfold keyAt
  exact headNormed_congr (fun k => entry_of m c r _ _ (Or.inr (Or.inr (Or.inr (Or.inr (Or.inr (Or.inl ⟨by simp only; omega, by simp only; omega, by simp only; omega⟩))))))) (fun k => rfl) d

theorem valueLane (c : Dev nD) (r : Fin 24576) (l : Fin 128) :
    product (tokens m c) (mods m c) (gains m c) (weights m c) r ⟨2176 + l.val, by omega⟩ = entryAt m c r ⟨7296 + l.val, by omega⟩ :=
  entry_of m c r _ _ (Or.inr (Or.inr (Or.inr (Or.inr (Or.inr (Or.inl ⟨by simp only; omega, by simp only; omega, by simp only; omega⟩))))))

theorem spread_placed (y : Fin 128 → EReal) (z : Fin 2 → Fin 64 → EReal) (h : ∀ (h : Fin 2) (d : Fin 64), y ⟨64 * h.val + d.val, by omega⟩ = z h d)
    (j : Fin 512) : spread y j = placed z j := by
  unfold spread placed
  rw [← h]

theorem equation9 (c : Dev nD) : ((dats m 0 c).arrAt 9 cfg0.N : Vec Ideal S24576x7680 .bf16)
    = Cert.ProjRefIdeal.Read.val_main_v156 (F := Ideal) (tokens m c) (mods m c) (gains m c) (weights m c) := by
  funext i
  obtain ⟨r, j, rfl⟩ : ∃ (r : Fin 24576) (j : Fin 7680), i = ix2 r j := ⟨i 0, i 1, by funext a; match a with | ⟨0, _⟩ => rfl | ⟨1, _⟩ => rfl⟩
  refine (array9_at m c r j).trans (Eq.symm ?_)
  refine (?_ : _ = _).trans (arranged_eq m c r j)
  exact Cert.ProjRefIdeal.Entry.arranged_at (tokens m c) (mods m c) (gains m c) (weights m c) r j

theorem equation10 (c : Dev nD) : ((dats m 0 c).arrAt 10 cfg0.N : Vec Ideal S24576x512 .bf16)
    = Cert.ProjRefIdeal.Read.val_main_v157 (F := Ideal) (tokens m c) (mods m c) (gains m c) (weights m c) (cosines m c) (sines m c) (qgains m c) := by
  funext i
  obtain ⟨r, j, rfl⟩ : ∃ (r : Fin 24576) (j : Fin 512), i = ix2 r j := ⟨i 0, i 1, by funext a; match a with | ⟨0, _⟩ => rfl | ⟨1, _⟩ => rfl⟩
  refine (array10_at m c r j).trans (Eq.symm ?_)
  refine (Cert.ProjRefIdeal.Entry.out_q (tokens m c) (mods m c) (gains m c) (weights m c) (cosines m c) (sines m c) (qgains m c) r j).trans ?_
  refine congrArg (· * Ideal.ofBits .f32 0x3E000000#32) ?_
  refine (Cert.ProjRefIdeal.Entry.q_turned (tokens m c) (mods m c) (gains m c) (weights m c) (cosines m c) (sines m c) (qgains m c) r _ _).trans ?_
  refine Eq.trans ?_ (turnedAt_congr m c r (queryHead m c r ⟨j.val / 64, by omega⟩) ⟨j.val % 64, by omega⟩)
  rfl

theorem turnedHead (c : Dev nD) (r : Fin 24576) (h : Fin 2) (d : Fin 64) :
    Cert.ProjRefIdeal.Read.val_main_v134 (F := Ideal) (tokens m c) (mods m c) (gains m c) (weights m c) (cosines m c) (sines m c) (kgains m c) (ix3 r h d) = turnedAt m c r (keyAt m c r h) d := by
  refine (Cert.ProjRefIdeal.Entry.k_turned (tokens m c) (mods m c) (gains m c) (weights m c) (cosines m c) (sines m c) (kgains m c) r h d).trans ?_
  refine Eq.trans ?_ (turnedAt_congr m c r (keyHead m c r h) d)
  rfl

theorem equation11 (c : Dev nD) : ((dats m 0 c).arrAt 11 cfg0.N : Vec Ideal S24576x512 .bf16)
    = Cert.ProjRefIdeal.Read.val_main_v158 (F := Ideal) (tokens m c) (mods m c) (gains m c) (weights m c) (cosines m c) (sines m c) (kgains m c) := by
  funext i
  obtain ⟨r, j, rfl⟩ : ∃ (r : Fin 24576) (j : Fin 512), i = ix2 r j := ⟨i 0, i 1, by funext a; match a with | ⟨0, _⟩ => rfl | ⟨1, _⟩ => rfl⟩
  refine (array11_at m c r j).trans (Eq.symm ?_)
  refine (Cert.ProjRefIdeal.Entry.out_k (tokens m c) (mods m c) (gains m c) (weights m c) (cosines m c) (sines m c) (kgains m c) r j).trans (Eq.symm ?_)
  refine spread_placed _ _ (fun h d => ?_) j
  refine Eq.trans ?_ (turnedHead m c r h d).symm
  have e1 : (⟨(64 * h.val + d.val) / 64, by omega⟩ : Fin 2) = h := Fin.ext (by simp only; omega)
  have e2 : (⟨(64 * h.val + d.val) % 64, by omega⟩ : Fin 64) = d := Fin.ext (by simp only; omega)
  simp only [e1, e2]

theorem equation12 (c : Dev nD) : ((dats m 0 c).arrAt 12 cfg0.N : Vec Ideal S24576x512 .bf16)
    = Cert.ProjRefIdeal.Read.val_main_v159 (F := Ideal) (tokens m c) (mods m c) (gains m c) (weights m c) := by
  funext i
  obtain ⟨r, j, rfl⟩ : ∃ (r : Fin 24576) (j : Fin 512), i = ix2 r j := ⟨i 0, i 1, by funext a; match a with | ⟨0, _⟩ => rfl | ⟨1, _⟩ => rfl⟩
  refine (array12_at m c r j).trans (Eq.symm ?_)
  refine (Cert.ProjRefIdeal.Entry.out_v (tokens m c) (mods m c) (gains m c) (weights m c) r j).trans (Eq.symm ?_)
  refine spread_placed _ _ (fun h d => ?_) j
  refine Eq.trans ?_ (Cert.ProjRefIdeal.Entry.vh_at (tokens m c) (mods m c) (gains m c) (weights m c) r h d).symm
  exact (valueLane m c r ⟨64 * h.val + d.val, by omega⟩).symm

theorem equation13 (c : Dev nD) : ((dats m 0 c).arrAt 13 cfg0.N : Vec Ideal S24576x128 .f32)
    = Cert.ProjRefIdeal.Read.val_main_v160 (F := Ideal) (tokens m c) (mods m c) (gains m c) (weights m c) (kgains m c) := by
  funext i
  obtain ⟨r, h, d, rfl⟩ : ∃ (r : Fin 24576) (h : Fin 2) (d : Fin 64), i = ix2 r (⟨64 * h.val + d.val, by omega⟩ : Fin 128) := by
    have hl : (i 1).val < 128 := (i 1).isLt
    refine ⟨i 0, ⟨(i 1).val / 64, by omega⟩, ⟨(i 1).val % 64, by omega⟩, ?_⟩
    funext a
    match a with
    | ⟨0, _⟩ => rfl
    | ⟨1, _⟩ => exact Fin.ext (show (i 1).val = 64 * ((i 1).val / 64) + (i 1).val % 64 by omega)
  refine (array13_at m c r h d).trans (Eq.symm ?_)
  exact (Cert.ProjRefIdeal.Entry.out_kn (tokens m c) (mods m c) (gains m c) (weights m c) (kgains m c) r h d).trans (keyHead m c r h d)

theorem equation14 (c : Dev nD) : ((dats m 0 c).arrAt 14 cfg0.N : Vec Ideal S24576x128 .f32)
    = Cert.ProjRefIdeal.Read.val_main_v37 (F := Ideal) (tokens m c) (mods m c) (gains m c) (weights m c) := by
  funext i
  obtain ⟨r, j, rfl⟩ : ∃ (r : Fin 24576) (j : Fin 128), i = ix2 r j := ⟨i 0, i 1, by funext a; match a with | ⟨0, _⟩ => rfl | ⟨1, _⟩ => rfl⟩
  refine (array14_at m c r j).trans (Eq.symm ?_)
  exact (Cert.ProjRefIdeal.Entry.v_at (tokens m c) (mods m c) (gains m c) (weights m c) r j).trans (valueLane m c r j)

/-! ### The reference's results, from arguments that the kernel's are equal to -/

variable (W : Valuation Cert.ProjRefIdeal.τ Cert.ProjRefIdeal.sig (Elt Ideal)) (c : Dev nD)
  (b0 : W (Proc.devRef .tc Cert.ProjRefIdeal.main_arg0) = tokens m c)
  (b1 : W (Proc.devRef .tc Cert.ProjRefIdeal.main_arg1) = mods m c)
  (b2 : W (Proc.devRef .tc Cert.ProjRefIdeal.main_arg2) = gains m c)
  (b3 : W (Proc.devRef .tc Cert.ProjRefIdeal.main_arg3) = weights m c)
  (b4 : W (Proc.devRef .tc Cert.ProjRefIdeal.main_arg4) = cosines m c)
  (b5 : W (Proc.devRef .tc Cert.ProjRefIdeal.main_arg5) = sines m c)
  (b6 : W (Proc.devRef .tc Cert.ProjRefIdeal.main_arg6) = qgains m c)
  (b7 : W (Proc.devRef .tc Cert.ProjRefIdeal.main_arg7) = kgains m c)

include b0 b1 b2 b3 in
theorem result9 : Cert.ProjRefIdeal.Read.val_main_v156 (F := Ideal) (W (Proc.devRef .tc Cert.ProjRefIdeal.main_arg0)) (W (Proc.devRef .tc Cert.ProjRefIdeal.main_arg1)) (W (Proc.devRef .tc Cert.ProjRefIdeal.main_arg2)) (W (Proc.devRef .tc Cert.ProjRefIdeal.main_arg3)) = (dats m 0 c).arrAt 9 cfg0.N := by
  rw [b0, b1, b2, b3]
  exact (equation9 m c).symm

include b0 b1 b2 b3 b4 b5 b6 in
theorem result10 : Cert.ProjRefIdeal.Read.val_main_v157 (F := Ideal) (W (Proc.devRef .tc Cert.ProjRefIdeal.main_arg0)) (W (Proc.devRef .tc Cert.ProjRefIdeal.main_arg1)) (W (Proc.devRef .tc Cert.ProjRefIdeal.main_arg2)) (W (Proc.devRef .tc Cert.ProjRefIdeal.main_arg3)) (W (Proc.devRef .tc Cert.ProjRefIdeal.main_arg4)) (W (Proc.devRef .tc Cert.ProjRefIdeal.main_arg5)) (W (Proc.devRef .tc Cert.ProjRefIdeal.main_arg6)) = (dats m 0 c).arrAt 10 cfg0.N := by
  rw [b0, b1, b2, b3, b4, b5, b6]
  exact (equation10 m c).symm

include b0 b1 b2 b3 b4 b5 b7 in
theorem result11 : Cert.ProjRefIdeal.Read.val_main_v158 (F := Ideal) (W (Proc.devRef .tc Cert.ProjRefIdeal.main_arg0)) (W (Proc.devRef .tc Cert.ProjRefIdeal.main_arg1)) (W (Proc.devRef .tc Cert.ProjRefIdeal.main_arg2)) (W (Proc.devRef .tc Cert.ProjRefIdeal.main_arg3)) (W (Proc.devRef .tc Cert.ProjRefIdeal.main_arg4)) (W (Proc.devRef .tc Cert.ProjRefIdeal.main_arg5)) (W (Proc.devRef .tc Cert.ProjRefIdeal.main_arg7)) = (dats m 0 c).arrAt 11 cfg0.N := by
  rw [b0, b1, b2, b3, b4, b5, b7]
  exact (equation11 m c).symm

include b0 b1 b2 b3 in
theorem result12 : Cert.ProjRefIdeal.Read.val_main_v159 (F := Ideal) (W (Proc.devRef .tc Cert.ProjRefIdeal.main_arg0)) (W (Proc.devRef .tc Cert.ProjRefIdeal.main_arg1)) (W (Proc.devRef .tc Cert.ProjRefIdeal.main_arg2)) (W (Proc.devRef .tc Cert.ProjRefIdeal.main_arg3)) = (dats m 0 c).arrAt 12 cfg0.N := by
  rw [b0, b1, b2, b3]
  exact (equation12 m c).symm

include b0 b1 b2 b3 b7 in
theorem result13 : Cert.ProjRefIdeal.Read.val_main_v160 (F := Ideal) (W (Proc.devRef .tc Cert.ProjRefIdeal.main_arg0)) (W (Proc.devRef .tc Cert.ProjRefIdeal.main_arg1)) (W (Proc.devRef .tc Cert.ProjRefIdeal.main_arg2)) (W (Proc.devRef .tc Cert.ProjRefIdeal.main_arg3)) (W (Proc.devRef .tc Cert.ProjRefIdeal.main_arg7)) = (dats m 0 c).arrAt 13 cfg0.N := by
  rw [b0, b1, b2, b3, b7]
  exact (equation13 m c).symm

include b0 b1 b2 b3 in
theorem result14 : Cert.ProjRefIdeal.Read.val_main_v37 (F := Ideal) (W (Proc.devRef .tc Cert.ProjRefIdeal.main_arg0)) (W (Proc.devRef .tc Cert.ProjRefIdeal.main_arg1)) (W (Proc.devRef .tc Cert.ProjRefIdeal.main_arg2)) (W (Proc.devRef .tc Cert.ProjRefIdeal.main_arg3)) = (dats m 0 c).arrAt 14 cfg0.N := by
  rw [b0, b1, b2, b3]
  exact (equation14 m c).symm

set_option maxHeartbeats 2000000 in
theorem algebraic : Cert.algebraic_ProjIdeal_ProjRefIdeal (hProjIdeal := Cert.ProjIdeal.Gen.facts)
    (hProjRefIdeal := Cert.ProjRefIdeal.Gen.facts) := by
  intro m g m' g' _ hargs
  refine ⟨fun c => (dats m 0 c).arrAt 9 cfg0.N, fun c => (dats m 0 c).arrAt 10 cfg0.N, fun c => (dats m 0 c).arrAt 11 cfg0.N,
    fun c => (dats m 0 c).arrAt 12 cfg0.N, fun c => (dats m 0 c).arrAt 13 cfg0.N, fun c => (dats m 0 c).arrAt 14 cfg0.N, Value.run_blocks m g, ?_⟩
  refine (θ_run (Cert.ProjRefIdeal.defs (F := Ideal)) _ _).mono (fun r h c => ?_) (Cert.ProjRefIdeal.Value.run (F := Ideal) m' g')
  obtain ⟨h0, h1, h2, h3, h4, h5, hk⟩ := h c
  obtain ⟨a0, a1, a2, a3, a4, a5, a6, a7⟩ := hargs c
  have b0 : StableHlo.launchContents m' c (Proc.tc.devRef Cert.ProjRefIdeal.main_arg0) = tokens m c := a0
  have b1 : StableHlo.launchContents m' c (Proc.tc.devRef Cert.ProjRefIdeal.main_arg1) = mods m c := a1
  have b2 : StableHlo.launchContents m' c (Proc.tc.devRef Cert.ProjRefIdeal.main_arg2) = gains m c := a2
  have b3 : StableHlo.launchContents m' c (Proc.tc.devRef Cert.ProjRefIdeal.main_arg3) = weights m c := a3
  have b4 : StableHlo.launchContents m' c (Proc.tc.devRef Cert.ProjRefIdeal.main_arg4) = cosines m c := a4
  have b5 : StableHlo.launchContents m' c (Proc.tc.devRef Cert.ProjRefIdeal.main_arg5) = sines m c := a5
  have b6 : StableHlo.launchContents m' c (Proc.tc.devRef Cert.ProjRefIdeal.main_arg6) = qgains m c := a6
  have b7 : StableHlo.launchContents m' c (Proc.tc.devRef Cert.ProjRefIdeal.main_arg7) = kgains m c := a7
  clear h
  refine ⟨h0.trans ?_, h1.trans ?_, h2.trans ?_, h3.trans ?_, h4.trans ?_, h5.trans ?_, hk⟩
  · exact (Cert.ProjRefIdeal.Read.val_main_v156_eq _).trans (result9 m _ c b0 b1 b2 b3)
  · exact (Cert.ProjRefIdeal.Read.val_main_v157_eq _).trans (result10 m _ c b0 b1 b2 b3 b4 b5 b6)
  · exact (Cert.ProjRefIdeal.Read.val_main_v158_eq _).trans (result11 m _ c b0 b1 b2 b3 b4 b5 b7)
  · exact (Cert.ProjRefIdeal.Read.val_main_v159_eq _).trans (result12 m _ c b0 b1 b2 b3)
  · exact (Cert.ProjRefIdeal.Read.val_main_v160_eq _).trans (result13 m _ c b0 b1 b2 b3 b7)
  · exact (Cert.ProjRefIdeal.Read.val_main_v37_eq _).trans (result14 m _ c b0 b1 b2 b3)

end Cert.ProjIdeal.Entry

end
-- ==== Proof.MoeStep.lean ====
/- The arithmetic of one point of the expert layer. -/
module

public import proofs.«01_k».proof.Proof.Gen.MoeIdeal.Frame
public import proofs.«01_k».proof.Proof.Gen.MoeIdeal.Skeleton
public import Idealize.ShloMosaic.Lib.Pipeline.Value

@[expose] public section

set_option maxRecDepth 16384

noncomputable section

namespace Cert.MoeIdeal.Experts

open Cert.MoeIdeal Cert.MoeIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev cond0 (i : grid0.Coords) : Prop := (Scalar.cmpi .ne (Scalar.extui (Scalar.cmpi .eq (BitVec.ofNat 32 (i 1).val) 0#32)) 0#32) = 1#1
abbrev cond7 (i : grid0.Coords) : Prop := k0_cond7 i = 1#1

/-- The modulated rows of a tile, from the tile, the gains, the shift and the scale. -/
def rows (x2 : Vec F S1024x1024 .f32) (x3 x4 : Vec F S1x1x1x1x1024 .f32) (x6 : Vec F S1x1024 .f32) : FVec F S1024x1024 .bf16 :=
  k0_pay6 x2 (View.ld x6 (Rect.unit ![0, 0] S1x1024.size inb_S1x1024_S1x1024_0_0)) (View.ld x3 (Rect.unit ![0, 0, 0, 0, 0] S1x1x1x1x1024.size inb_S1x1x1x1x1024_S1x1x1x1x1024_0_0_0_0_0)) (View.ld x4 (Rect.unit ![0, 0, 0, 0, 0] S1x1x1x1x1024.size inb_S1x1x1x1x1024_S1x1x1x1x1024_0_0_0_0_0))

/-- The logits of a tile before the bias is added. -/
def products (x2 : Vec F S1024x1024 .f32) (x3 x4 : Vec F S1x1x1x1x1024 .f32) (x6 : Vec F S1x1024 .f32) (x7 : Vec F S16x1024 .f32) :
    FVec F S16x1024 .f32 :=
  k0_pay7 x2 (View.ld x6 (Rect.unit ![0, 0] S1x1024.size inb_S1x1024_S1x1024_0_0)) (View.ld x3 (Rect.unit ![0, 0, 0, 0, 0] S1x1x1x1x1024.size inb_S1x1x1x1x1024_S1x1x1x1x1024_0_0_0_0_0)) (View.ld x4 (Rect.unit ![0, 0, 0, 0, 0] S1x1x1x1x1024.size inb_S1x1x1x1x1024_S1x1x1x1x1024_0_0_0_0_0)) (View.ld x7 (Rect.unit ![0, 0] S16x1024.size inb_S16x1024_S16x1024_0_0))

/-- The bias of each expert. -/
def bias (x8 : Vec F S16x128 .f32) : FVec F S16x1 .f32 := View.ld x8 (Rect.unit ![0, 0] S16x1.size inb_S16x128_S16x1_0_0)

/-- The number of each row of the logits. -/
def number : IVec S16x1024 32 := iota .tc S16x1024 32 [0] iota_S16x1024_d0_w32

/-- The weight of each expert on each row of a tile. -/
def weights (y : FVec F S16x1024 .f32) (z : FVec F S16x1 .f32) : FVec F S1x16x1024 .f32 := k0_pay60 (k0_pay14 number y z)

/-- The place of each row of a tile among the rows an expert takes, or minus one. -/
def places (y : FVec F S16x1024 .f32) (z : FVec F S16x1 .f32) (x9 : Vec F S1024x1024 .bf16) : FVec F S1x16x1024 .f32 :=
  k0_pay61 (k0_pay10 number y z) (k0_pay13 number y z) x9

/-- The two planes of a tile's routing: the weights, then the places. -/
def routing (x2 : Vec F S1024x1024 .f32) (x3 x4 : Vec F S1x1x1x1x1024 .f32) (x6 : Vec F S1x1024 .f32) (x7 : Vec F S16x1024 .f32)
    (x8 : Vec F S16x128 .f32) (x9 : Vec F S1024x1024 .bf16) : Vec F S2x16x1024 .f32 :=
  View.canon (Val := Elt F) [⟨(Rect.unit ![1, 0, 0] S1x16x1024.size inb_S2x16x1024_S1x16x1024_1_0_0), places (products x2 x3 x4 x6 x7) (bias x8) x9⟩,
    ⟨(Rect.unit ![0, 0, 0] S1x16x1024.size inb_S2x16x1024_S1x16x1024_0_0_0), weights (products x2 x3 x4 x6 x7) (bias x8)⟩]

/-- The sum `acc` with the products of block 0 of an expert's rows added, when the expert has so many rows. -/
def block0 (i : grid0.Coords) (p q : Vec F S1x16x1024 .f32) (h : Vec F S1024x1024 .bf16) (wg wu wd : Vec F S1x1024x1024 .bf16)
    (acc : Vec F S1024x1024 .f32) : Vec F S1024x1024 .f32 :=
  let k := k0_pay65 i q
  if Scalar.cmpi .ne (Scalar.extui (Scalar.cmpf .ogt (k0_pay66 i q) (Scalar.ofBits .f32 0x00000000#32))) 0#32 = 1#1 then
    k0_pay67 i p (k0_pay15 k) (k0_pay16 k)
      (k0_pay21 (k0_pay17 k h) (k0_pay18 k h (View.ld wg (Rect.unit ![0, 0, 256] S1x1024x256.size inb_S1x1024x1024_S1x1024x256_0_0_256))) (k0_pay19 k h (View.ld wu (Rect.unit ![0, 0, 256] S1x1024x256.size inb_S1x1024x1024_S1x1024x256_0_0_256)))
        (k0_pay20 k h (View.ld wg (Rect.unit ![0, 0, 0] S1x1024x256.size inb_S1x1024x1024_S1x1024x256_0_0_0)) (View.ld wu (Rect.unit ![0, 0, 0] S1x1024x256.size inb_S1x1024x1024_S1x1024x256_0_0_0)) (View.ld wd (Rect.unit ![0, 0, 0] S1x256x1024.size inb_S1x1024x1024_S1x256x1024_0_0_0)))
        (View.ld wg (Rect.unit ![0, 0, 512] S1x1024x256.size inb_S1x1024x1024_S1x1024x256_0_0_512)) (View.ld wu (Rect.unit ![0, 0, 512] S1x1024x256.size inb_S1x1024x1024_S1x1024x256_0_0_512)) (View.ld wd (Rect.unit ![0, 256, 0] S1x256x1024.size inb_S1x1024x1024_S1x256x1024_0_256_0)) (View.ld wd (Rect.unit ![0, 512, 0] S1x256x1024.size inb_S1x1024x1024_S1x256x1024_0_512_0)))
      (k0_pay22 (k0_pay17 k h) (View.ld wg (Rect.unit ![0, 0, 768] S1x1024x256.size inb_S1x1024x1024_S1x1024x256_0_0_768)) (View.ld wu (Rect.unit ![0, 0, 768] S1x1024x256.size inb_S1x1024x1024_S1x1024x256_0_0_768)))
      (k0_pay23 (View.ld wd (Rect.unit ![0, 768, 0] S1x256x1024.size inb_S1x1024x1024_S1x256x1024_0_768_0))) (constant S256x1024 .f32 0x00000000#32) acc
  else acc

/-- The sum `acc` with the products of block 1 of an expert's rows added, when the expert has so many rows. -/
def block1 (i : grid0.Coords) (p q : Vec F S1x16x1024 .f32) (h : Vec F S1024x1024 .bf16) (wg wu wd : Vec F S1x1024x1024 .bf16)
    (acc : Vec F S1024x1024 .f32) : Vec F S1024x1024 .f32 :=
  let k := k0_pay65 i q
  if Scalar.cmpi .ne (Scalar.extui (Scalar.cmpf .ogt (k0_pay66 i q) (Scalar.ofBits .f32 0x43800000#32))) 0#32 = 1#1 then
    k0_pay68 i p (k0_pay24 k) (k0_pay25 k)
      (k0_pay30 (k0_pay26 k h) (k0_pay27 k h (View.ld wg (Rect.unit ![0, 0, 256] S1x1024x256.size inb_S1x1024x1024_S1x1024x256_0_0_256))) (k0_pay28 k h (View.ld wu (Rect.unit ![0, 0, 256] S1x1024x256.size inb_S1x1024x1024_S1x1024x256_0_0_256)))
        (k0_pay29 k h (View.ld wg (Rect.unit ![0, 0, 0] S1x1024x256.size inb_S1x1024x1024_S1x1024x256_0_0_0)) (View.ld wu (Rect.unit ![0, 0, 0] S1x1024x256.size inb_S1x1024x1024_S1x1024x256_0_0_0)) (View.ld wd (Rect.unit ![0, 0, 0] S1x256x1024.size inb_S1x1024x1024_S1x256x1024_0_0_0)))
        (View.ld wg (Rect.unit ![0, 0, 512] S1x1024x256.size inb_S1x1024x1024_S1x1024x256_0_0_512)) (View.ld wu (Rect.unit ![0, 0, 512] S1x1024x256.size inb_S1x1024x1024_S1x1024x256_0_0_512)) (View.ld wd (Rect.unit ![0, 256, 0] S1x256x1024.size inb_S1x1024x1024_S1x256x1024_0_256_0)) (View.ld wd (Rect.unit ![0, 512, 0] S1x256x1024.size inb_S1x1024x1024_S1x256x1024_0_512_0)))
      (k0_pay31 (k0_pay26 k h) (View.ld wg (Rect.unit ![0, 0, 768] S1x1024x256.size inb_S1x1024x1024_S1x1024x256_0_0_768)) (View.ld wu (Rect.unit ![0, 0, 768] S1x1024x256.size inb_S1x1024x1024_S1x1024x256_0_0_768)))
      (k0_pay32 (View.ld wd (Rect.unit ![0, 768, 0] S1x256x1024.size inb_S1x1024x1024_S1x256x1024_0_768_0))) (constant S128x1024 .f32 0x00000000#32) acc
  else acc

/-- The sum `acc` with the products of block 2 of an expert's rows added, when the expert has so many rows. -/
def block2 (i : grid0.Coords) (p q : Vec F S1x16x1024 .f32) (h : Vec F S1024x1024 .bf16) (wg wu wd : Vec F S1x1024x1024 .bf16)
    (acc : Vec F S1024x1024 .f32) : Vec F S1024x1024 .f32 :=
  let k := k0_pay65 i q
  if Scalar.cmpi .ne (Scalar.extui (Scalar.cmpf .ogt (k0_pay66 i q) (Scalar.ofBits .f32 0x43C00000#32))) 0#32 = 1#1 then
    k0_pay1 (k0_pay64 i p) (k0_pay33 k) (k0_pay34 k)
      (k0_pay39 (k0_pay35 k h) (k0_pay36 k h (View.ld wg (Rect.unit ![0, 0, 256] S1x1024x256.size inb_S1x1024x1024_S1x1024x256_0_0_256))) (k0_pay37 k h (View.ld wu (Rect.unit ![0, 0, 256] S1x1024x256.size inb_S1x1024x1024_S1x1024x256_0_0_256)))
        (k0_pay38 k h (View.ld wg (Rect.unit ![0, 0, 0] S1x1024x256.size inb_S1x1024x1024_S1x1024x256_0_0_0)) (View.ld wu (Rect.unit ![0, 0, 0] S1x1024x256.size inb_S1x1024x1024_S1x1024x256_0_0_0)) (View.ld wd (Rect.unit ![0, 0, 0] S1x256x1024.size inb_S1x1024x1024_S1x256x1024_0_0_0)))
        (View.ld wg (Rect.unit ![0, 0, 512] S1x1024x256.size inb_S1x1024x1024_S1x1024x256_0_0_512)) (View.ld wu (Rect.unit ![0, 0, 512] S1x1024x256.size inb_S1x1024x1024_S1x1024x256_0_0_512)) (View.ld wd (Rect.unit ![0, 256, 0] S1x256x1024.size inb_S1x1024x1024_S1x256x1024_0_256_0)) (View.ld wd (Rect.unit ![0, 512, 0] S1x256x1024.size inb_S1x1024x1024_S1x256x1024_0_512_0)))
      (k0_pay40 (k0_pay35 k h) (View.ld wg (Rect.unit ![0, 0, 768] S1x1024x256.size inb_S1x1024x1024_S1x1024x256_0_0_768)) (View.ld wu (Rect.unit ![0, 0, 768] S1x1024x256.size inb_S1x1024x1024_S1x1024x256_0_0_768)))
      (k0_pay41 (View.ld wd (Rect.unit ![0, 768, 0] S1x256x1024.size inb_S1x1024x1024_S1x256x1024_0_768_0))) (constant S128x1024 .f32 0x00000000#32) acc
  else acc

/-- The sum `acc` with the products of block 3 of an expert's rows added, when the expert has so many rows. -/
def block3 (i : grid0.Coords) (p q : Vec F S1x16x1024 .f32) (h : Vec F S1024x1024 .bf16) (wg wu wd : Vec F S1x1024x1024 .bf16)
    (acc : Vec F S1024x1024 .f32) : Vec F S1024x1024 .f32 :=
  let k := k0_pay65 i q
  if Scalar.cmpi .ne (Scalar.extui (Scalar.cmpf .ogt (k0_pay66 i q) (Scalar.ofBits .f32 0x44000000#32))) 0#32 = 1#1 then
    k0_pay2 (k0_pay64 i p) (k0_pay42 k) (k0_pay43 k)
      (k0_pay48 (k0_pay44 k h) (k0_pay45 k h (View.ld wg (Rect.unit ![0, 0, 256] S1x1024x256.size inb_S1x1024x1024_S1x1024x256_0_0_256))) (k0_pay46 k h (View.ld wu (Rect.unit ![0, 0, 256] S1x1024x256.size inb_S1x1024x1024_S1x1024x256_0_0_256)))
        (k0_pay47 k h (View.ld wg (Rect.unit ![0, 0, 0] S1x1024x256.size inb_S1x1024x1024_S1x1024x256_0_0_0)) (View.ld wu (Rect.unit ![0, 0, 0] S1x1024x256.size inb_S1x1024x1024_S1x1024x256_0_0_0)) (View.ld wd (Rect.unit ![0, 0, 0] S1x256x1024.size inb_S1x1024x1024_S1x256x1024_0_0_0)))
        (View.ld wg (Rect.unit ![0, 0, 512] S1x1024x256.size inb_S1x1024x1024_S1x1024x256_0_0_512)) (View.ld wu (Rect.unit ![0, 0, 512] S1x1024x256.size inb_S1x1024x1024_S1x1024x256_0_0_512)) (View.ld wd (Rect.unit ![0, 256, 0] S1x256x1024.size inb_S1x1024x1024_S1x256x1024_0_256_0)) (View.ld wd (Rect.unit ![0, 512, 0] S1x256x1024.size inb_S1x1024x1024_S1x256x1024_0_512_0)))
      (k0_pay49 (k0_pay44 k h) (View.ld wg (Rect.unit ![0, 0, 768] S1x1024x256.size inb_S1x1024x1024_S1x1024x256_0_0_768)) (View.ld wu (Rect.unit ![0, 0, 768] S1x1024x256.size inb_S1x1024x1024_S1x1024x256_0_0_768)))
      (k0_pay50 (View.ld wd (Rect.unit ![0, 768, 0] S1x256x1024.size inb_S1x1024x1024_S1x256x1024_0_768_0))) (constant S256x1024 .f32 0x00000000#32) acc
  else acc

/-- The sum `acc` with the products of block 4 of an expert's rows added, when the expert has so many rows. -/
def block4 (i : grid0.Coords) (p q : Vec F S1x16x1024 .f32) (h : Vec F S1024x1024 .bf16) (wg wu wd : Vec F S1x1024x1024 .bf16)
    (acc : Vec F S1024x1024 .f32) : Vec F S1024x1024 .f32 :=
  let k := k0_pay65 i q
  if Scalar.cmpi .ne (Scalar.extui (Scalar.cmpf .ogt (k0_pay66 i q) (Scalar.ofBits .f32 0x44400000#32))) 0#32 = 1#1 then
    k0_pay3 (k0_pay64 i p) (k0_pay51 k) (k0_pay52 k)
      (k0_pay57 (k0_pay53 k h) (k0_pay54 k h (View.ld wg (Rect.unit ![0, 0, 256] S1x1024x256.size inb_S1x1024x1024_S1x1024x256_0_0_256))) (k0_pay55 k h (View.ld wu (Rect.unit ![0, 0, 256] S1x1024x256.size inb_S1x1024x1024_S1x1024x256_0_0_256)))
        (k0_pay56 k h (View.ld wg (Rect.unit ![0, 0, 0] S1x1024x256.size inb_S1x1024x1024_S1x1024x256_0_0_0)) (View.ld wu (Rect.unit ![0, 0, 0] S1x1024x256.size inb_S1x1024x1024_S1x1024x256_0_0_0)) (View.ld wd (Rect.unit ![0, 0, 0] S1x256x1024.size inb_S1x1024x1024_S1x256x1024_0_0_0)))
        (View.ld wg (Rect.unit ![0, 0, 512] S1x1024x256.size inb_S1x1024x1024_S1x1024x256_0_0_512)) (View.ld wu (Rect.unit ![0, 0, 512] S1x1024x256.size inb_S1x1024x1024_S1x1024x256_0_0_512)) (View.ld wd (Rect.unit ![0, 256, 0] S1x256x1024.size inb_S1x1024x1024_S1x256x1024_0_256_0)) (View.ld wd (Rect.unit ![0, 512, 0] S1x256x1024.size inb_S1x1024x1024_S1x256x1024_0_512_0)))
      (k0_pay58 (k0_pay53 k h) (View.ld wg (Rect.unit ![0, 0, 768] S1x1024x256.size inb_S1x1024x1024_S1x1024x256_0_0_768)) (View.ld wu (Rect.unit ![0, 0, 768] S1x1024x256.size inb_S1x1024x1024_S1x1024x256_0_0_768)))
      (k0_pay59 (View.ld wd (Rect.unit ![0, 768, 0] S1x256x1024.size inb_S1x1024x1024_S1x256x1024_0_768_0))) (constant S256x1024 .f32 0x00000000#32) acc
  else acc

/-- The sum `acc` with everything one expert adds. -/
def step (i : grid0.Coords) (y : Vec F S2x16x1024 .f32) (h : Vec F S1024x1024 .bf16) (wg wu wd : Vec F S1x1024x1024 .bf16)
    (acc : Vec F S1024x1024 .f32) : Vec F S1024x1024 .f32 :=
  let p := View.ld y (Rect.unit ![0, 0, 0] S1x16x1024.size inb_S2x16x1024_S1x16x1024_0_0_0)
  let q := View.ld y (Rect.unit ![1, 0, 0] S1x16x1024.size inb_S2x16x1024_S1x16x1024_1_0_0)
  block4 i p q h wg wu wd (block3 i p q h wg wu wd (block2 i p q h wg wu wd (block1 i p q h wg wu wd (block0 i p q h wg wu wd acc))))

/-- A tile plus its gated sum. -/
def closing (x2 : Vec F S1024x1024 .f32) (x5 : Vec F S1x1x1x1x1024 .f32) (acc : Vec F S1024x1024 .f32) : FVec F S1024x1024 .f32 :=
  k0_pay4 x2 (View.ld x5 (Rect.unit ![0, 0, 0, 0, 0] S1x1x1x1x1024.size inb_S1x1x1x1x1024_S1x1x1x1x1024_0_0_0_0_0)) acc

theorem hz : (fun a => (![0, 0] : Fin 2 → Nat) a) = fun _ => 0 := funext fun a => by fin_cases a <;> rfl

/-- What a tile holds after a choice between two contents. -/
theorem read_choice {κ : Kind} (v : View sig κ .vmem S1024x1024 .f32) (c : Prop) {_d : Decidable c} (f g : v.ty.Contents (Elt F)) :
    v.read (Elt F) (if _h : c then f else g) = if c then v.read (Elt F) f else v.read (Elt F) g := by
  by_cases h : c <;> simp [h]

/-- What a tile holds after it has been stored whole. -/
theorem read_stored {κ : Kind} {e : EltTy} (v : View sig κ .vmem S1024x1024 e) (f : v.ty.Contents (Elt F)) (x : Vec F S1024x1024 e)
    (L : List (View.Piece (Elt F) S1024x1024 e)) :
    v.read (Elt F) (v.writes (Elt F) f (⟨(Rect.unit ![0, 0] S1024x1024.size inb_S1024x1024_S1024x1024_0_0), x⟩ :: L)) = x := by
  refine (View.read_writes_eq_canon v f _ fun y => ⟨_, List.mem_cons_self, ?_⟩).trans (View.canon_cons_unit_zero (S := S1024x1024) hz _ _ _)
  rw [Rect.mem_set_unit]
  intro a
  have : (![0, 0] : Fin 2 → Nat) a = 0 := congrFun hz a
  exact ⟨by rw [this]; exact Nat.zero_le _, by rw [this, Nat.zero_add]; exact (y a).isLt⟩

end Cert.MoeIdeal.Experts

end
-- ==== Proof.MoeFirst.lean ====
/- The body of the expert layer at one kind of point. -/
module

public import proofs.«01_k».proof.Proof.MoeStep

@[expose] public section

set_option maxRecDepth 16384

noncomputable section

namespace Cert.MoeIdeal.Experts

open Cert.MoeIdeal Cert.MoeIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The two planes make up the whole of the routing. -/
theorem planes_cover (p q : Vec F S1x16x1024 .f32) (y : S2x16x1024.Idx) :
    ∃ r ∈ ([⟨(Rect.unit ![1, 0, 0] S1x16x1024.size inb_S2x16x1024_S1x16x1024_1_0_0), q⟩, ⟨(Rect.unit ![0, 0, 0] S1x16x1024.size inb_S2x16x1024_S1x16x1024_0_0_0), p⟩] : List (View.Piece (Elt F) S2x16x1024 .f32)), y ∈ r.1.set := by
  have h : (y 0).val < 2 := (y 0).isLt
  by_cases h0 : (y 0).val = 0
  · refine ⟨_, List.mem_cons_of_mem _ (List.mem_singleton.mpr rfl), ?_⟩
    rw [Rect.mem_set_unit]
    intro a
    match a with
    | ⟨0, _⟩ => exact ⟨Nat.zero_le _, by show (y 0).val < 0 + 1; omega⟩
    | ⟨1, _⟩ => exact ⟨Nat.zero_le _, by show (y 1).val < 0 + 16; have := (y 1).isLt; show (y 1).val < 16; exact this⟩
    | ⟨2, _⟩ => exact ⟨Nat.zero_le _, by show (y 2).val < 0 + 1024; have := (y 2).isLt; show (y 2).val < 1024; exact this⟩
  · refine ⟨_, List.mem_cons_self, ?_⟩
    rw [Rect.mem_set_unit]
    intro a
    match a with
    | ⟨0, _⟩ => exact ⟨by show 1 ≤ (y 0).val; omega, by show (y 0).val < 1 + 1; omega⟩
    | ⟨1, _⟩ => exact ⟨Nat.zero_le _, by show (y 1).val < 0 + 16; have := (y 1).isLt; show (y 1).val < 16; exact this⟩
    | ⟨2, _⟩ => exact ⟨Nat.zero_le _, by show (y 2).val < 0 + 1024; have := (y 2).isLt; show (y 2).val < 1024; exact this⟩

/-- What a plane of the routing holds. -/
theorem read_planes {κ : Kind} (v : View sig κ .vmem S2x16x1024 .f32) (p q : Vec F S1x16x1024 .f32) (r : Rect S2x16x1024) :
    v.readCov ([⟨((Rect.unit ![1, 0, 0] S1x16x1024.size inb_S2x16x1024_S1x16x1024_1_0_0) : Rect S2x16x1024), q⟩, ⟨((Rect.unit ![0, 0, 0] S1x16x1024.size inb_S2x16x1024_S1x16x1024_0_0_0) : Rect S2x16x1024), p⟩] : List (View.Piece (Elt F) S2x16x1024 .f32)) r.toLoadRect
      = View.ld (View.canon [⟨((Rect.unit ![1, 0, 0] S1x16x1024.size inb_S2x16x1024_S1x16x1024_1_0_0) : Rect S2x16x1024), q⟩, ⟨((Rect.unit ![0, 0, 0] S1x16x1024.size inb_S2x16x1024_S1x16x1024_0_0_0) : Rect S2x16x1024), p⟩]) r :=
  View.readCov_eq_canon_ld v _ r (planes_cover p q)

set_option maxHeartbeats 1500000 in
/-- The body at the first point of a tile: what it is given and what it leaves. -/
theorem run_first (c : Dev nD) (i : grid0.Coords) (a2 : Memref sig .tc .vmem S1024x1024 .f32) (h2 : a2.IsWhole)
    (a3 : Memref sig .tc .vmem S1x1x1x1x1024 .f32) (h3 : a3.IsWhole)
    (a4 : Memref sig .tc .vmem S1x1x1x1x1024 .f32) (h4 : a4.IsWhole)
    (a5 : Memref sig .tc .vmem S1x1x1x1x1024 .f32) (h5 : a5.IsWhole)
    (a6 : Memref sig .tc .vmem S1x1024 .f32) (h6 : a6.IsWhole)
    (a7 : Memref sig .tc .vmem S16x1024 .f32) (h7 : a7.IsWhole)
    (a8 : Memref sig .tc .vmem S16x128 .f32) (h8 : a8.IsWhole)
    (a9 : Memref sig .tc .vmem S1024x1024 .bf16) (h9 : a9.IsWhole)
    (a10 : Memref sig .tc .vmem S1x1024x1024 .bf16) (h10 : a10.IsWhole)
    (a11 : Memref sig .tc .vmem S1x1024x1024 .bf16) (h11 : a11.IsWhole)
    (a12 : Memref sig .tc .vmem S1x1024x1024 .bf16) (h12 : a12.IsWhole)
    (a13 : Memref sig .tc .vmem S1024x1024 .f32) (h13 : a13.IsWhole)
    (a14 : Memref sig .tc .vmem S1024x1024 .bf16) (h14 : a14.IsWhole)
    (a15 : Memref sig .tc .vmem S2x16x1024 .f32) (h15 : a15.IsWhole)
    (a16 : Memref sig .tc .vmem S1024x1024 .f32) (h16 : a16.IsWhole)
    (hc0 : cond0 i) (hc7 : ¬cond7 i) (x2 : Vec F S1024x1024 .f32) (x3 : Vec F S1x1x1x1x1024 .f32) (x4 : Vec F S1x1x1x1x1024 .f32) (x5 : Vec F S1x1x1x1x1024 .f32) (x6 : Vec F S1x1024 .f32) (x7 : Vec F S16x1024 .f32) (x8 : Vec F S16x128 .f32) (x9 : Vec F S1024x1024 .bf16) (x10 : Vec F S1x1024x1024 .bf16) (x11 : Vec F S1x1024x1024 .bf16) (x12 : Vec F S1x1024x1024 .bf16) (x13 : Vec F S1024x1024 .f32)
    (E : Set ℕ) (K : PUnit → sProp 𝕄) :
    iprop(owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9 ∗ owns (c : Thread nD τ) a10 fullShare x10 ∗ owns (c : Thread nD τ) a11 fullShare x11 ∗ owns (c : Thread nD τ) a12 fullShare x12 ∗ owns (c : Thread nD τ) a13 fullShare x13 ∗ (∃ d, owns (c : Thread nD τ) a14 fullShare d) ∗ (∃ d, owns (c : Thread nD τ) a15 fullShare d) ∗ (∃ d, owns (c : Thread nD τ) a16 fullShare d) ∗
      (iprop(owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9 ∗ owns (c : Thread nD τ) a10 fullShare x10 ∗ owns (c : Thread nD τ) a11 fullShare x11 ∗ owns (c : Thread nD τ) a12 fullShare x12 ∗ owns (c : Thread nD τ) a13 fullShare x13 ∗ owns (c : Thread nD τ) a14 fullShare (rows x2 x3 x4 x6) ∗ owns (c : Thread nD τ) a15 fullShare (routing x2 x3 x4 x6 x7 x8 x9) ∗ owns (c : Thread nD τ) a16 fullShare (step i (routing x2 x3 x4 x6 x7 x8 x9) (rows x2 x3 x4 x6) x10 x11 x12 (k0_pay62 (F := F)))) -∗ K ⟨⟩))
    ⊢ wp frame (wpE (defs₀ (F := F)) Variants.none c none) E (cc0_moe_ffn i a2 h2 a3 h3 a4 h4 a5 h5 a6 h6 a7 h7 a8 h8 a9 h9 a10 h10 a11 h11 a12 h12 a13 h13 a14 h14 a15 h15 a16 h16) K := by
  simp only [cc0_moe_ffn_eq_skeleton]; unfold cc0_moe_ffn_skel
  simp only [k0_part13_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, ⟨%d15, %f15, -, H15⟩, ⟨%d16, %f16, -, H16⟩, Hk⟩
  obtain rfl := h2.eq_unread hf2; obtain rfl := h3.eq_unread hf3; obtain rfl := h4.eq_unread hf4; obtain rfl := h5.eq_unread hf5; obtain rfl := h6.eq_unread hf6; obtain rfl := h7.eq_unread hf7; obtain rfl := h8.eq_unread hf8; obtain rfl := h9.eq_unread hf9; obtain rfl := h10.eq_unread hf10; obtain rfl := h11.eq_unread hf11; obtain rfl := h12.eq_unread hf12; obtain rfl := h13.eq_unread hf13
  sl_exec (disch := first | sl_exact hc0 | sl_exact hc7)
  sl_step
  iapply Hk
  isplitl [H2]
  · iexists _; isplitr
    swap
    · iexact H2
    · ipureintro
      exact h2.read_unread _
  isplitl [H3]
  · iexists _; isplitr
    swap
    · iexact H3
    · ipureintro
      exact h3.read_unread _
  isplitl [H4]
  · iexists _; isplitr
    swap
    · iexact H4
    · ipureintro
      exact h4.read_unread _
  isplitl [H5]
  · iexists _; isplitr
    swap
    · iexact H5
    · ipureintro
      exact h5.read_unread _
  isplitl [H6]
  · iexists _; isplitr
    swap
    · iexact H6
    · ipureintro
      exact h6.read_unread _
  isplitl [H7]
  · iexists _; isplitr
    swap
    · iexact H7
    · ipureintro
      exact h7.read_unread _
  isplitl [H8]
  · iexists _; isplitr
    swap
    · iexact H8
    · ipureintro
      exact h8.read_unread _
  isplitl [H9]
  · iexists _; isplitr
    swap
    · iexact H9
    · ipureintro
      exact h9.read_unread _
  isplitl [H10]
  · iexists _; isplitr
    swap
    · iexact H10
    · ipureintro
      exact h10.read_unread _
  isplitl [H11]
  · iexists _; isplitr
    swap
    · iexact H11
    · ipureintro
      exact h11.read_unread _
  isplitl [H12]
  · iexists _; isplitr
    swap
    · iexact H12
    · ipureintro
      exact h12.read_unread _
  isplitl [H13]
  · iexists _; isplitr
    swap
    · iexact H13
    · ipureintro
      exact h13.read_unread _
  isplitl [H14]
  · iexists _; isplitr
    swap
    · iexact H14
    · ipureintro
      refine (read_stored _ _ _ _).trans ?_
      sl_unfold_words
      simp only [View.readAt_eq_ld, h2.read_unread, h3.read_unread, h4.read_unread, h5.read_unread, h6.read_unread, h7.read_unread, h8.read_unread, h9.read_unread, h10.read_unread, h11.read_unread, h12.read_unread, h13.read_unread, h14.read_unread, h15.read_unread, h16.read_unread, View.ld_unit_zero (S := S1024x1024) hz]
      rfl
  isplitl [H15]
  · iexists _; isplitr
    swap
    · iexact H15
    · ipureintro
      refine (View.read_writes_eq_canon _ _ _ ?_).trans ?_
      · exact planes_cover _ _
      sl_unfold_words
      simp only [View.readCov_unit_zero (S := S1024x1024) _ hz, View.readAt_eq_ld, h2.read_unread, h3.read_unread, h4.read_unread, h5.read_unread, h6.read_unread, h7.read_unread, h8.read_unread, h9.read_unread, h10.read_unread, h11.read_unread, h12.read_unread, h13.read_unread, h14.read_unread, h15.read_unread, h16.read_unread, View.ld_unit_zero (S := S1024x1024) hz]
      rfl
  iexists _; isplitr
  swap
  · iexact H16
  · ipureintro
    sl_unfold_words
    simp only [View.readCov_unit_zero (S := S1024x1024) _ hz, View.readAt_eq_ld, h2.read_unread, h3.read_unread, h4.read_unread, h5.read_unread, h6.read_unread, h7.read_unread, h8.read_unread, h9.read_unread, h10.read_unread, h11.read_unread, h12.read_unread, h13.read_unread, h14.read_unread, h15.read_unread, h16.read_unread, View.ld_unit_zero (S := S1024x1024) hz]
    repeat rw [read_choice]
    repeat rw [read_stored]
    try simp only [h16.read_unread, View.ld_unit_zero (S := S1024x1024) hz]
    repeat rw [read_planes]
    unfold step block0 block1 block2 block3 block4 routing weights places products bias number rows
    dsimp only

end Cert.MoeIdeal.Experts

end
-- ==== Proof.MoeMid.lean ====
/- The body of the expert layer at one kind of point. -/
module

public import proofs.«01_k».proof.Proof.MoeStep

@[expose] public section

set_option maxRecDepth 16384

noncomputable section

namespace Cert.MoeIdeal.Experts

open Cert.MoeIdeal Cert.MoeIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1500000 in
/-- The body at the middle points of a tile: what it is given and what it leaves. -/
theorem run_middle (c : Dev nD) (i : grid0.Coords) (a2 : Memref sig .tc .vmem S1024x1024 .f32) (h2 : a2.IsWhole)
    (a3 : Memref sig .tc .vmem S1x1x1x1x1024 .f32) (h3 : a3.IsWhole)
    (a4 : Memref sig .tc .vmem S1x1x1x1x1024 .f32) (h4 : a4.IsWhole)
    (a5 : Memref sig .tc .vmem S1x1x1x1x1024 .f32) (h5 : a5.IsWhole)
    (a6 : Memref sig .tc .vmem S1x1024 .f32) (h6 : a6.IsWhole)
    (a7 : Memref sig .tc .vmem S16x1024 .f32) (h7 : a7.IsWhole)
    (a8 : Memref sig .tc .vmem S16x128 .f32) (h8 : a8.IsWhole)
    (a9 : Memref sig .tc .vmem S1024x1024 .bf16) (h9 : a9.IsWhole)
    (a10 : Memref sig .tc .vmem S1x1024x1024 .bf16) (h10 : a10.IsWhole)
    (a11 : Memref sig .tc .vmem S1x1024x1024 .bf16) (h11 : a11.IsWhole)
    (a12 : Memref sig .tc .vmem S1x1024x1024 .bf16) (h12 : a12.IsWhole)
    (a13 : Memref sig .tc .vmem S1024x1024 .f32) (h13 : a13.IsWhole)
    (a14 : Memref sig .tc .vmem S1024x1024 .bf16) (h14 : a14.IsWhole)
    (a15 : Memref sig .tc .vmem S2x16x1024 .f32) (h15 : a15.IsWhole)
    (a16 : Memref sig .tc .vmem S1024x1024 .f32) (h16 : a16.IsWhole)
    (hc0 : ¬cond0 i) (hc7 : ¬cond7 i) (x2 : Vec F S1024x1024 .f32) (x3 : Vec F S1x1x1x1x1024 .f32) (x4 : Vec F S1x1x1x1x1024 .f32) (x5 : Vec F S1x1x1x1x1024 .f32) (x6 : Vec F S1x1024 .f32) (x7 : Vec F S16x1024 .f32) (x8 : Vec F S16x128 .f32) (x9 : Vec F S1024x1024 .bf16) (x10 : Vec F S1x1024x1024 .bf16) (x11 : Vec F S1x1024x1024 .bf16) (x12 : Vec F S1x1024x1024 .bf16) (x13 : Vec F S1024x1024 .f32) (x14 : Vec F S1024x1024 .bf16) (x15 : Vec F S2x16x1024 .f32) (x16 : Vec F S1024x1024 .f32)
    (E : Set ℕ) (K : PUnit → sProp 𝕄) :
    iprop(owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9 ∗ owns (c : Thread nD τ) a10 fullShare x10 ∗ owns (c : Thread nD τ) a11 fullShare x11 ∗ owns (c : Thread nD τ) a12 fullShare x12 ∗ owns (c : Thread nD τ) a13 fullShare x13 ∗ owns (c : Thread nD τ) a14 fullShare x14 ∗ owns (c : Thread nD τ) a15 fullShare x15 ∗ owns (c : Thread nD τ) a16 fullShare x16 ∗
      (iprop(owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9 ∗ owns (c : Thread nD τ) a10 fullShare x10 ∗ owns (c : Thread nD τ) a11 fullShare x11 ∗ owns (c : Thread nD τ) a12 fullShare x12 ∗ owns (c : Thread nD τ) a13 fullShare x13 ∗ owns (c : Thread nD τ) a14 fullShare x14 ∗ owns (c : Thread nD τ) a15 fullShare x15 ∗ owns (c : Thread nD τ) a16 fullShare (step i x15 x14 x10 x11 x12 x16)) -∗ K ⟨⟩))
    ⊢ wp frame (wpE (defs₀ (F := F)) Variants.none c none) E (cc0_moe_ffn i a2 h2 a3 h3 a4 h4 a5 h5 a6 h6 a7 h7 a8 h8 a9 h9 a10 h10 a11 h11 a12 h12 a13 h13 a14 h14 a15 h15 a16 h16) K := by
  simp only [cc0_moe_ffn_eq_skeleton]; unfold cc0_moe_ffn_skel
  simp only [k0_part13_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, Hk⟩
  obtain rfl := h2.eq_unread hf2; obtain rfl := h3.eq_unread hf3; obtain rfl := h4.eq_unread hf4; obtain rfl := h5.eq_unread hf5; obtain rfl := h6.eq_unread hf6; obtain rfl := h7.eq_unread hf7; obtain rfl := h8.eq_unread hf8; obtain rfl := h9.eq_unread hf9; obtain rfl := h10.eq_unread hf10; obtain rfl := h11.eq_unread hf11; obtain rfl := h12.eq_unread hf12; obtain rfl := h13.eq_unread hf13; obtain rfl := h14.eq_unread hf14; obtain rfl := h15.eq_unread hf15; obtain rfl := h16.eq_unread hf16
  sl_exec (disch := first | sl_exact hc0 | sl_exact hc7)
  sl_step
  iapply Hk
  isplitl [H2]
  · iexists _; isplitr
    swap
    · iexact H2
    · ipureintro
      exact h2.read_unread _
  isplitl [H3]
  · iexists _; isplitr
    swap
    · iexact H3
    · ipureintro
      exact h3.read_unread _
  isplitl [H4]
  · iexists _; isplitr
    swap
    · iexact H4
    · ipureintro
      exact h4.read_unread _
  isplitl [H5]
  · iexists _; isplitr
    swap
    · iexact H5
    · ipureintro
      exact h5.read_unread _
  isplitl [H6]
  · iexists _; isplitr
    swap
    · iexact H6
    · ipureintro
      exact h6.read_unread _
  isplitl [H7]
  · iexists _; isplitr
    swap
    · iexact H7
    · ipureintro
      exact h7.read_unread _
  isplitl [H8]
  · iexists _; isplitr
    swap
    · iexact H8
    · ipureintro
      exact h8.read_unread _
  isplitl [H9]
  · iexists _; isplitr
    swap
    · iexact H9
    · ipureintro
      exact h9.read_unread _
  isplitl [H10]
  · iexists _; isplitr
    swap
    · iexact H10
    · ipureintro
      exact h10.read_unread _
  isplitl [H11]
  · iexists _; isplitr
    swap
    · iexact H11
    · ipureintro
      exact h11.read_unread _
  isplitl [H12]
  · iexists _; isplitr
    swap
    · iexact H12
    · ipureintro
      exact h12.read_unread _
  isplitl [H13]
  · iexists _; isplitr
    swap
    · iexact H13
    · ipureintro
      exact h13.read_unread _
  isplitl [H14]
  · iexists _; isplitr
    swap
    · iexact H14
    · ipureintro
      exact h14.read_unread _
  isplitl [H15]
  · iexists _; isplitr
    swap
    · iexact H15
    · ipureintro
      exact h15.read_unread _
  iexists _; isplitr
  swap
  · iexact H16
  · ipureintro
    sl_unfold_words
    simp only [View.readCov_unit_zero (S := S1024x1024) _ hz, View.readCov_eq_canon_ld, View.readAt_eq_ld, h2.read_unread, h3.read_unread, h4.read_unread, h5.read_unread, h6.read_unread, h7.read_unread, h8.read_unread, h9.read_unread, h10.read_unread, h11.read_unread, h12.read_unread, h13.read_unread, h14.read_unread, h15.read_unread, h16.read_unread, View.ld_unit_zero (S := S1024x1024) hz]
    repeat rw [read_choice]
    repeat rw [read_stored]
    try simp only [h16.read_unread, View.ld_unit_zero (S := S1024x1024) hz]
    rfl

end Cert.MoeIdeal.Experts

end
-- ==== Proof.MoeLast.lean ====
/- The body of the expert layer at one kind of point. -/
module

public import proofs.«01_k».proof.Proof.MoeStep

@[expose] public section

set_option maxRecDepth 16384

noncomputable section

namespace Cert.MoeIdeal.Experts

open Cert.MoeIdeal Cert.MoeIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1500000 in
/-- The body at the last point of a tile: what it is given and what it leaves. -/
theorem run_last (c : Dev nD) (i : grid0.Coords) (a2 : Memref sig .tc .vmem S1024x1024 .f32) (h2 : a2.IsWhole)
    (a3 : Memref sig .tc .vmem S1x1x1x1x1024 .f32) (h3 : a3.IsWhole)
    (a4 : Memref sig .tc .vmem S1x1x1x1x1024 .f32) (h4 : a4.IsWhole)
    (a5 : Memref sig .tc .vmem S1x1x1x1x1024 .f32) (h5 : a5.IsWhole)
    (a6 : Memref sig .tc .vmem S1x1024 .f32) (h6 : a6.IsWhole)
    (a7 : Memref sig .tc .vmem S16x1024 .f32) (h7 : a7.IsWhole)
    (a8 : Memref sig .tc .vmem S16x128 .f32) (h8 : a8.IsWhole)
    (a9 : Memref sig .tc .vmem S1024x1024 .bf16) (h9 : a9.IsWhole)
    (a10 : Memref sig .tc .vmem S1x1024x1024 .bf16) (h10 : a10.IsWhole)
    (a11 : Memref sig .tc .vmem S1x1024x1024 .bf16) (h11 : a11.IsWhole)
    (a12 : Memref sig .tc .vmem S1x1024x1024 .bf16) (h12 : a12.IsWhole)
    (a13 : Memref sig .tc .vmem S1024x1024 .f32) (h13 : a13.IsWhole)
    (a14 : Memref sig .tc .vmem S1024x1024 .bf16) (h14 : a14.IsWhole)
    (a15 : Memref sig .tc .vmem S2x16x1024 .f32) (h15 : a15.IsWhole)
    (a16 : Memref sig .tc .vmem S1024x1024 .f32) (h16 : a16.IsWhole)
    (hc0 : ¬cond0 i) (hc7 : cond7 i) (x2 : Vec F S1024x1024 .f32) (x3 : Vec F S1x1x1x1x1024 .f32) (x4 : Vec F S1x1x1x1x1024 .f32) (x5 : Vec F S1x1x1x1x1024 .f32) (x6 : Vec F S1x1024 .f32) (x7 : Vec F S16x1024 .f32) (x8 : Vec F S16x128 .f32) (x9 : Vec F S1024x1024 .bf16) (x10 : Vec F S1x1024x1024 .bf16) (x11 : Vec F S1x1024x1024 .bf16) (x12 : Vec F S1x1024x1024 .bf16) (x14 : Vec F S1024x1024 .bf16) (x15 : Vec F S2x16x1024 .f32) (x16 : Vec F S1024x1024 .f32)
    (E : Set ℕ) (K : PUnit → sProp 𝕄) :
    iprop(owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9 ∗ owns (c : Thread nD τ) a10 fullShare x10 ∗ owns (c : Thread nD τ) a11 fullShare x11 ∗ owns (c : Thread nD τ) a12 fullShare x12 ∗ (∃ d, owns (c : Thread nD τ) a13 fullShare d) ∗ owns (c : Thread nD τ) a14 fullShare x14 ∗ owns (c : Thread nD τ) a15 fullShare x15 ∗ owns (c : Thread nD τ) a16 fullShare x16 ∗
      (iprop(owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9 ∗ owns (c : Thread nD τ) a10 fullShare x10 ∗ owns (c : Thread nD τ) a11 fullShare x11 ∗ owns (c : Thread nD τ) a12 fullShare x12 ∗ owns (c : Thread nD τ) a13 fullShare (closing x2 x5 (step i x15 x14 x10 x11 x12 x16)) ∗ owns (c : Thread nD τ) a14 fullShare x14 ∗ owns (c : Thread nD τ) a15 fullShare x15 ∗ owns (c : Thread nD τ) a16 fullShare (step i x15 x14 x10 x11 x12 x16)) -∗ K ⟨⟩))
    ⊢ wp frame (wpE (defs₀ (F := F)) Variants.none c none) E (cc0_moe_ffn i a2 h2 a3 h3 a4 h4 a5 h5 a6 h6 a7 h7 a8 h8 a9 h9 a10 h10 a11 h11 a12 h12 a13 h13 a14 h14 a15 h15 a16 h16) K := by
  simp only [cc0_moe_ffn_eq_skeleton]; unfold cc0_moe_ffn_skel
  simp only [k0_part13_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%f14, %hf14, H14⟩, ⟨%f15, %hf15, H15⟩, ⟨%f16, %hf16, H16⟩, Hk⟩
  obtain rfl := h2.eq_unread hf2; obtain rfl := h3.eq_unread hf3; obtain rfl := h4.eq_unread hf4; obtain rfl := h5.eq_unread hf5; obtain rfl := h6.eq_unread hf6; obtain rfl := h7.eq_unread hf7; obtain rfl := h8.eq_unread hf8; obtain rfl := h9.eq_unread hf9; obtain rfl := h10.eq_unread hf10; obtain rfl := h11.eq_unread hf11; obtain rfl := h12.eq_unread hf12; obtain rfl := h14.eq_unread hf14; obtain rfl := h15.eq_unread hf15; obtain rfl := h16.eq_unread hf16
  sl_exec (disch := first | sl_exact hc0 | sl_exact hc7)
  sl_step
  iapply Hk
  isplitl [H2]
  · iexists _; isplitr
    swap
    · iexact H2
    · ipureintro
      exact h2.read_unread _
  isplitl [H3]
  · iexists _; isplitr
    swap
    · iexact H3
    · ipureintro
      exact h3.read_unread _
  isplitl [H4]
  · iexists _; isplitr
    swap
    · iexact H4
    · ipureintro
      exact h4.read_unread _
  isplitl [H5]
  · iexists _; isplitr
    swap
    · iexact H5
    · ipureintro
      exact h5.read_unread _
  isplitl [H6]
  · iexists _; isplitr
    swap
    · iexact H6
    · ipureintro
      exact h6.read_unread _
  isplitl [H7]
  · iexists _; isplitr
    swap
    · iexact H7
    · ipureintro
      exact h7.read_unread _
  isplitl [H8]
  · iexists _; isplitr
    swap
    · iexact H8
    · ipureintro
      exact h8.read_unread _
  isplitl [H9]
  · iexists _; isplitr
    swap
    · iexact H9
    · ipureintro
      exact h9.read_unread _
  isplitl [H10]
  · iexists _; isplitr
    swap
    · iexact H10
    · ipureintro
      exact h10.read_unread _
  isplitl [H11]
  · iexists _; isplitr
    swap
    · iexact H11
    · ipureintro
      exact h11.read_unread _
  isplitl [H12]
  · iexists _; isplitr
    swap
    · iexact H12
    · ipureintro
      exact h12.read_unread _
  isplitl [H13]
  · iexists _; isplitr
    swap
    · iexact H13
    · ipureintro
      refine (read_stored _ _ _ _).trans ?_
      sl_unfold_words
      simp only [View.readAt_eq_ld, h2.read_unread, h3.read_unread, h4.read_unread, h5.read_unread, h6.read_unread, h7.read_unread, h8.read_unread, h9.read_unread, h10.read_unread, h11.read_unread, h12.read_unread, h13.read_unread, h14.read_unread, h15.read_unread, h16.read_unread, View.ld_unit_zero (S := S1024x1024) hz]
      repeat rw [read_choice]
      repeat rw [read_stored]
      try simp only [h16.read_unread, View.ld_unit_zero (S := S1024x1024) hz]
      rfl
  isplitl [H14]
  · iexists _; isplitr
    swap
    · iexact H14
    · ipureintro
      exact h14.read_unread _
  isplitl [H15]
  · iexists _; isplitr
    swap
    · iexact H15
    · ipureintro
      exact h15.read_unread _
  iexists _; isplitr
  swap
  · iexact H16
  · ipureintro
    sl_unfold_words
    simp only [View.readCov_unit_zero (S := S1024x1024) _ hz, View.readCov_eq_canon_ld, View.readAt_eq_ld, h2.read_unread, h3.read_unread, h4.read_unread, h5.read_unread, h6.read_unread, h7.read_unread, h8.read_unread, h9.read_unread, h10.read_unread, h11.read_unread, h12.read_unread, h13.read_unread, h14.read_unread, h15.read_unread, h16.read_unread, View.ld_unit_zero (S := S1024x1024) hz]
    repeat rw [read_choice]
    repeat rw [read_stored]
    try simp only [h16.read_unread, View.ld_unit_zero (S := S1024x1024) hz]
    rfl

end Cert.MoeIdeal.Experts

end
-- ==== Proof.MoeFrame.lean ====
/- The expert layer runs: every point, then the whole launch. -/
module

public import proofs.«01_k».proof.Proof.MoeFirst
public import proofs.«01_k».proof.Proof.MoeMid
public import proofs.«01_k».proof.Proof.MoeLast
public import Idealize.ShloMosaic.Lib.Claim

@[expose] public section

set_option maxRecDepth 16384

noncomputable section

namespace Cert.MoeIdeal.Experts

open Cert.MoeIdeal Cert.MoeIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem hcond0 : ∀ t : Fin cfg0.N, cond0 (grid0.coords t) ↔ t.val % 8 = 0 :=
  (fun t => by
    have ht : t.val < 192 := Nat.lt_of_lt_of_eq t.isLt N_0
    have e1 : (grid0.coords t 1).val = t.val / 1 % 8 := Pipeline.Grid.coords_val t 1 (by decide) rfl
    simp only [cond0, e1]
    word_cmp
   : ∀ t : Fin grid0.N, cond0 (grid0.coords t) ↔ t.val % 8 = 0)

theorem hcond7 : ∀ t : Fin cfg0.N, cond7 (grid0.coords t) ↔ t.val % 8 = 7 :=
  (fun t => by
    have ht : t.val < 192 := Nat.lt_of_lt_of_eq t.isLt N_0
    have e1 : (grid0.coords t 1).val = t.val / 1 % 8 := Pipeline.Grid.coords_val t 1 (by decide) rfl
    simp only [cond7, k0_cond7, e1]
    word_cmp
   : ∀ t : Fin grid0.N, cond7 (grid0.coords t) ↔ t.val % 8 = 7)

theorem idle_11 : ∀ t : Fin cfg0.N, ¬t.val % 8 = 7 → cfg0.idle 11 (grid0.coords t) = true := by decide +kernel
theorem noFlush_11 : ∀ t : Fin cfg0.N, ¬t.val % 8 = 7 → (cfg0.win 11).flush t = false := by decide +kernel
theorem live_11 : ∀ t : Fin cfg0.N, t.val % 8 = 7 → cfg0.idle 11 (grid0.coords t) = false := by decide +kernel

/-- Each window's memref at a point. -/
abbrev mem0 (t : Fin cfg0.N) : Memref sig .tc .vmem S1024x1024 .f32 := win0_0.stage (cfg0.slots t 0)
abbrev mem1 (t : Fin cfg0.N) : Memref sig .tc .vmem S1x1x1x1x1024 .f32 := win0_1.stage (cfg0.slots t 1)
abbrev mem2 (t : Fin cfg0.N) : Memref sig .tc .vmem S1x1x1x1x1024 .f32 := win0_2.stage (cfg0.slots t 2)
abbrev mem3 (t : Fin cfg0.N) : Memref sig .tc .vmem S1x1x1x1x1024 .f32 := win0_3.stage (cfg0.slots t 3)
abbrev mem4 (t : Fin cfg0.N) : Memref sig .tc .vmem S1x1024 .f32 := win0_4.stage (cfg0.slots t 4)
abbrev mem5 (t : Fin cfg0.N) : Memref sig .tc .vmem S16x1024 .f32 := win0_5.stage (cfg0.slots t 5)
abbrev mem6 (t : Fin cfg0.N) : Memref sig .tc .vmem S16x128 .f32 := win0_6.stage (cfg0.slots t 6)
abbrev mem7 (t : Fin cfg0.N) : Memref sig .tc .vmem S1024x1024 .bf16 := win0_7.stage (cfg0.slots t 7)
abbrev mem8 (t : Fin cfg0.N) : Memref sig .tc .vmem S1x1024x1024 .bf16 := win0_8.stage (cfg0.slots t 8)
abbrev mem9 (t : Fin cfg0.N) : Memref sig .tc .vmem S1x1024x1024 .bf16 := win0_9.stage (cfg0.slots t 9)
abbrev mem10 (t : Fin cfg0.N) : Memref sig .tc .vmem S1x1024x1024 .bf16 := win0_10.stage (cfg0.slots t 10)
abbrev mem11 (t : Fin cfg0.N) : Memref sig .tc .vmem S1024x1024 .f32 := win0_11.stage (cfg0.slots t 11)
abbrev scr0 : Memref sig .tc .vmem S1024x1024 .bf16 := Memref.whole cc0_scratch0
abbrev scr1 : Memref sig .tc .vmem S2x16x1024 .f32 := Memref.whole cc0_scratch1
abbrev scr2 : Memref sig .tc .vmem S1024x1024 .f32 := Memref.whole cc0_scratch2

/-- What the first point of a tile leaves in the three scratches. -/
def opening (c : Dev nD) (t : Fin cfg0.N) : Vec F S1024x1024 .bf16 × Vec F S2x16x1024 .f32 × Vec F S1024x1024 .f32 :=
  (rows (iblk m c 0 t) (iblk m c 1 t) (iblk m c 2 t) (iblk m c 4 t),
   routing (iblk m c 0 t) (iblk m c 1 t) (iblk m c 2 t) (iblk m c 4 t) (iblk m c 5 t) (iblk m c 6 t) (iblk m c 7 t),
   step (grid0.coords t) (routing (iblk m c 0 t) (iblk m c 1 t) (iblk m c 2 t) (iblk m c 4 t) (iblk m c 5 t) (iblk m c 6 t) (iblk m c 7 t))
    (rows (iblk m c 0 t) (iblk m c 1 t) (iblk m c 2 t) (iblk m c 4 t)) (iblk m c 8 t) (iblk m c 9 t) (iblk m c 10 t) (k0_pay62 (F := F)))

/-- What a further point of a tile makes of the three scratches. -/
def further (c : Dev nD) (t : Fin cfg0.N) (s : Vec F S1024x1024 .bf16 × Vec F S2x16x1024 .f32 × Vec F S1024x1024 .f32) : Vec F S1024x1024 .bf16 × Vec F S2x16x1024 .f32 × Vec F S1024x1024 .f32 :=
  (s.1, s.2.1, step (grid0.coords t) s.2.1 s.1 (iblk m c 8 t) (iblk m c 9 t) (iblk m c 10 t) s.2.2)

/-- What the three scratches hold after point `n`. -/
def held (c : Dev nD) : (n : ℕ) → n < cfg0.N → Vec F S1024x1024 .bf16 × Vec F S2x16x1024 .f32 × Vec F S1024x1024 .f32
  | 0, h => opening m c ⟨0, h⟩
  | n + 1, h => if (n + 1) % 8 = 0 then opening m c ⟨n + 1, h⟩ else further m c ⟨n + 1, h⟩ (held c n (Nat.lt_of_succ_lt h))

theorem held_opening (c : Dev nD) (t : Fin cfg0.N) (h0 : t.val % 8 = 0) : held m c t.val t.isLt = opening m c t := by
  obtain ⟨n, hn⟩ := t
  cases n with
  | zero => rfl
  | succ n => exact if_pos h0

theorem held_further (c : Dev nD) (t : Fin cfg0.N) (h0 : ¬t.val % 8 = 0) :
    held m c t.val t.isLt = further m c t (held m c (t.val - 1) (by have := t.isLt; omega)) := by
  obtain ⟨n, hn⟩ := t
  cases n with
  | zero => exact absurd rfl h0
  | succ n => exact if_neg h0

/-- What a tile's last point leaves in the result block. -/
def result (c : Dev nD) (t : Fin cfg0.N) : Vec F S1024x1024 .f32 := closing (iblk m c 0 t) (iblk m c 3 t) (held m c t.val t.isLt).2.2

theorem launched (c : Dev nD) :
    (Pipeline.ΦA spec0 c : sProp 𝕄)
      = iprop(iprop((∃ d, owns (c : Thread nD τ) scr0 fullShare d) ∗ (∃ d, owns (c : Thread nD τ) scr1 fullShare d) ∗ (∃ d, owns (c : Thread nD τ) scr2 fullShare d)) ∗ (∃ r, prngReg c r)) := by
  unfold Pipeline.ΦA; rw [scopedRest0_eq]; simp only [scr0, scr1, scr2, owns_whole]; try rfl

/-- The three scratches at given contents, and the generator register. -/
def keeps (c : Dev nD) (s : Vec F S1024x1024 .bf16 × Vec F S2x16x1024 .f32 × Vec F S1024x1024 .f32) : sProp 𝕄 :=
  iprop(iprop(owns (c : Thread nD τ) scr0 fullShare s.1 ∗ owns (c : Thread nD τ) scr1 fullShare s.2.1 ∗ owns (c : Thread nD τ) scr2 fullShare s.2.2) ∗ (∃ r, prngReg c r))

/-- The invariant before point `n`. -/
def inv (c : Dev nD) : (n : ℕ) → n ≤ cfg0.N → sProp 𝕄
  | 0, _ => Pipeline.ΦA spec0 c
  | n + 1, h => keeps c (held m c n h)

theorem inv_zero (c : Dev nD) (n : ℕ) (h : n ≤ cfg0.N) (hz : n = 0) : inv m c n h = Pipeline.ΦA spec0 c := by
  subst hz; rfl

theorem inv_succ (c : Dev nD) (n : ℕ) (h : n < cfg0.N) : inv m c (n + 1) h = keeps c (held m c n h) := rfl

theorem inv_pos (c : Dev nD) (n : ℕ) (h : n ≤ cfg0.N) (hz : n ≠ 0) : inv m c n h = keeps c (held m c (n - 1) (by omega)) := by
  cases n with
  | zero => exact absurd rfl hz
  | succ n => rfl

theorem forget (c : Dev nD) (s : Vec F S1024x1024 .bf16 × Vec F S2x16x1024 .f32 × Vec F S1024x1024 .f32) : keeps c s ⊢ Pipeline.ΦA spec0 c := by
  rw [launched]
  unfold keeps
  iintro ⟨⟨H0, H1, H2⟩, Hg⟩
  isplitl [H0 H1 H2]
  · isplitl [H0]
    · iexists _; iexact H0
    isplitl [H1]
    · iexists _; iexact H1
    iexists _; iexact H2
  iexact Hg

/-- The invariant before any point gives back what the launch hands over. -/
theorem inv_forget (c : Dev nD) (n : ℕ) (h : n ≤ cfg0.N) : inv m c n h ⊢ Pipeline.ΦA spec0 c := by
  cases n with
  | zero => exact Idealize.SL.BI.Entails.refl _
  | succ n => exact forget c _

/-- The arrays, what each point leaves in each window's memref, and the invariant. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => result m c t
  Φ t := inv m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]

theorem inv_castSucc (c : Dev nD) (t : Fin cfg0.N) :
    (dats m 0 c).Φ t.castSucc = inv m c t.val (Nat.le_of_lt t.isLt) := by
  dsimp only [dats]; exact Pipeline.Dat.Φ_castSucc (inv m c) t

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = iblk m c 10 t := by dsimp only [dats]
theorem after_11 (c : Dev nD) (t : Fin cfg0.N) : (dats m 0 c).after 11 t = result m c t := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d
theorem before_8 (c : Dev nD) (t : Fin cfg0.N) (d) : (dats m 0 c).before 8 t d = iblk m c 8 t :=
  before0_8_of m (dats m 0 c) (A_eq m c 8) (after_8 m c) t d
theorem before_9 (c : Dev nD) (t : Fin cfg0.N) (d) : (dats m 0 c).before 9 t d = iblk m c 9 t :=
  before0_9_of m (dats m 0 c) (A_eq m c 9) (after_9 m c) t d
theorem before_10 (c : Dev nD) (t : Fin cfg0.N) (d) : (dats m 0 c).before 10 t d = iblk m c 10 t :=
  before0_10_of m (dats m 0 c) (A_eq m c 10) (after_10 m c) t d
theorem leaves_0 (c : Dev nD) (t : Fin cfg0.N) :
    (dats m 0 c).leavesExact 0 t = owns (c : Thread nD τ) (mem0 t) fullShare (iblk m c 0 t) := by
  unfold Dat.leavesExact; rw [show cfg0.idle 0 (grid0.coords t) = false from rfl, after_0]
theorem leaves_1 (c : Dev nD) (t : Fin cfg0.N) :
    (dats m 0 c).leavesExact 1 t = owns (c : Thread nD τ) (mem1 t) fullShare (iblk m c 1 t) := by
  unfold Dat.leavesExact; rw [show cfg0.idle 1 (grid0.coords t) = false from rfl, after_1]
theorem leaves_2 (c : Dev nD) (t : Fin cfg0.N) :
    (dats m 0 c).leavesExact 2 t = owns (c : Thread nD τ) (mem2 t) fullShare (iblk m c 2 t) := by
  unfold Dat.leavesExact; rw [show cfg0.idle 2 (grid0.coords t) = false from rfl, after_2]
theorem leaves_3 (c : Dev nD) (t : Fin cfg0.N) :
    (dats m 0 c).leavesExact 3 t = owns (c : Thread nD τ) (mem3 t) fullShare (iblk m c 3 t) := by
  unfold Dat.leavesExact; rw [show cfg0.idle 3 (grid0.coords t) = false from rfl, after_3]
theorem leaves_4 (c : Dev nD) (t : Fin cfg0.N) :
    (dats m 0 c).leavesExact 4 t = owns (c : Thread nD τ) (mem4 t) fullShare (iblk m c 4 t) := by
  unfold Dat.leavesExact; rw [show cfg0.idle 4 (grid0.coords t) = false from rfl, after_4]
theorem leaves_5 (c : Dev nD) (t : Fin cfg0.N) :
    (dats m 0 c).leavesExact 5 t = owns (c : Thread nD τ) (mem5 t) fullShare (iblk m c 5 t) := by
  unfold Dat.leavesExact; rw [show cfg0.idle 5 (grid0.coords t) = false from rfl, after_5]
theorem leaves_6 (c : Dev nD) (t : Fin cfg0.N) :
    (dats m 0 c).leavesExact 6 t = owns (c : Thread nD τ) (mem6 t) fullShare (iblk m c 6 t) := by
  unfold Dat.leavesExact; rw [show cfg0.idle 6 (grid0.coords t) = false from rfl, after_6]
theorem leaves_7 (c : Dev nD) (t : Fin cfg0.N) :
    (dats m 0 c).leavesExact 7 t = owns (c : Thread nD τ) (mem7 t) fullShare (iblk m c 7 t) := by
  unfold Dat.leavesExact; rw [show cfg0.idle 7 (grid0.coords t) = false from rfl, after_7]
theorem leaves_8 (c : Dev nD) (t : Fin cfg0.N) :
    (dats m 0 c).leavesExact 8 t = owns (c : Thread nD τ) (mem8 t) fullShare (iblk m c 8 t) := by
  unfold Dat.leavesExact; rw [show cfg0.idle 8 (grid0.coords t) = false from rfl, after_8]
theorem leaves_9 (c : Dev nD) (t : Fin cfg0.N) :
    (dats m 0 c).leavesExact 9 t = owns (c : Thread nD τ) (mem9 t) fullShare (iblk m c 9 t) := by
  unfold Dat.leavesExact; rw [show cfg0.idle 9 (grid0.coords t) = false from rfl, after_9]
theorem leaves_10 (c : Dev nD) (t : Fin cfg0.N) :
    (dats m 0 c).leavesExact 10 t = owns (c : Thread nD τ) (mem10 t) fullShare (iblk m c 10 t) := by
  unfold Dat.leavesExact; rw [show cfg0.idle 10 (grid0.coords t) = false from rfl, after_10]

/-- What the body is given at a point … -/
def given (c : Dev nD) (t : Fin cfg0.N) : sProp 𝕄 :=
  iprop((dats m 0 c).Φ t.castSucc ∗ (dats m 0 c).owesAt () t.castSucc
    ∗ (∃ d, owns (c : Thread nD τ) (mem0 t) fullShare ((dats m 0 c).before 0 t d))
    ∗ (∃ d, owns (c : Thread nD τ) (mem1 t) fullShare ((dats m 0 c).before 1 t d))
    ∗ (∃ d, owns (c : Thread nD τ) (mem2 t) fullShare ((dats m 0 c).before 2 t d))
    ∗ (∃ d, owns (c : Thread nD τ) (mem3 t) fullShare ((dats m 0 c).before 3 t d))
    ∗ (∃ d, owns (c : Thread nD τ) (mem4 t) fullShare ((dats m 0 c).before 4 t d))
    ∗ (∃ d, owns (c : Thread nD τ) (mem5 t) fullShare ((dats m 0 c).before 5 t d))
    ∗ (∃ d, owns (c : Thread nD τ) (mem6 t) fullShare ((dats m 0 c).before 6 t d))
    ∗ (∃ d, owns (c : Thread nD τ) (mem7 t) fullShare ((dats m 0 c).before 7 t d))
    ∗ (∃ d, owns (c : Thread nD τ) (mem8 t) fullShare ((dats m 0 c).before 8 t d))
    ∗ (∃ d, owns (c : Thread nD τ) (mem9 t) fullShare ((dats m 0 c).before 9 t d))
    ∗ (∃ d, owns (c : Thread nD τ) (mem10 t) fullShare ((dats m 0 c).before 10 t d))
    ∗ (∃ d, owns (c : Thread nD τ) (mem11 t) fullShare ((dats m 0 c).before 11 t d)))

/-- … and what it leaves. -/
def left (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t)

set_option maxHeartbeats 6400000 in
/-- The body at any point. -/
theorem sound_body (c : Dev nD) (t : Fin cfg0.N) :
    given m c t ⊢ wp Idealize.ShloMosaic.frame (wpE (defs₀ (F := F)) Variants.none c none) Set.univ (bodyAt0 t) (fun _ => left m c t) := by
  unfold given left bodyAt0
  rw [show (dats m 0 c).owesAt () t.succ = (dats m 0 c).owesAt () t.castSucc from rfl]
  rw [show (dats m 0 c).Φ t.succ = inv m c (t.val + 1) t.isLt from rfl, inv_succ]
  have hN : t.val < 192 := lt_of_lt_of_eq t.isLt (show cfg0.N = 192 from N_0)
  simp only [before_0, before_1, before_2, before_3, before_4, before_5, before_6, before_7, before_8, before_9, before_10]
  rw [leaves_0, leaves_1, leaves_2, leaves_3, leaves_4, leaves_5, leaves_6, leaves_7, leaves_8, leaves_9, leaves_10]
  rw [inv_castSucc m c t]
  by_cases h0 : t.val % 8 = 0
  · have h7 : ¬t.val % 8 = 7 := by omega
    rw [Dat.leavesExact_idle (dats m 0 c) 11 t (idle_11 t h7) (noFlush_11 t h7)]
    refine sep_mono (inv_forget m c t.val _) .rfl |>.trans ?_
    rw [launched, held_opening m c t h0]
    unfold keeps opening; dsimp only
    iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    iapply (run_first c (grid0.coords t) _ _ _ _ _ _ _ _ _ _ _ _ _ _ _ _ _ _ _ _ _ _ _ _ _ _ _ _ _ _ ((hcond0 t).mpr h0) (fun h => h7 ((hcond7 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [HS0]; · iexact HS0
    isplitl [HS1]; · iexact HS1
    isplitl [HS2]; · iexact HS2
    iintro ⟨H0, H1, H2, H3, H4, H5, H6, H7, H8, H9, H10, H11, HS0, HS1, HS2⟩
    isplitl [HS0 HS1 HS2 Hg]
    · isplitl [HS0 HS1 HS2]
      · isplitl [HS0]; · iexact HS0
        isplitl [HS1]; · iexact HS1
        iexact HS2
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexists _; iexact H11
  · have hz : t.val ≠ 0 := fun h => h0 (by rw [h])
    rw [inv_pos m c _ _ hz, held_further m c t h0]
    by_cases h7 : t.val % 8 = 7
    · rw [show (dats m 0 c).leavesExact 11 t = owns (c : Thread nD τ) (mem11 t) fullShare (result m c t) from by
        unfold Dat.leavesExact; rw [live_11 t h7, after_11]]
      unfold result
      rw [held_further m c t h0]
      generalize held m c (t.val - 1) _ = s
      unfold keeps further; dsimp only
      iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
      iapply (run_last c (grid0.coords t) _ _ _ _ _ _ _ _ _ _ _ _ _ _ _ _ _ _ _ _ _ _ _ _ _ _ _ _ _ _ (fun h => h0 ((hcond0 t).mp h)) ((hcond7 t).mpr h7) (iblk m c 0 t) (iblk m c 1 t) (iblk m c 2 t) (iblk m c 3 t) (iblk m c 4 t) (iblk m c 5 t) (iblk m c 6 t) (iblk m c 7 t) (iblk m c 8 t) (iblk m c 9 t) (iblk m c 10 t) _ _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexists _; iexact H11
      isplitl [HS0]; · iexact HS0
      isplitl [HS1]; · iexact HS1
      isplitl [HS2]; · iexact HS2
      iintro ⟨H0, H1, H2, H3, H4, H5, H6, H7, H8, H9, H10, H11, HS0, HS1, HS2⟩
      isplitl [HS0 HS1 HS2 Hg]
      · isplitl [HS0 HS1 HS2]
        · isplitl [HS0]; · iexact HS0
          isplitl [HS1]; · iexact HS1
          iexact HS2
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      iexact H11
    · rw [Dat.leavesExact_idle (dats m 0 c) 11 t (idle_11 t h7) (noFlush_11 t h7)]
      generalize held m c (t.val - 1) _ = s
      unfold keeps further; dsimp only
      iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
      iapply (run_middle c (grid0.coords t) _ _ _ _ _ _ _ _ _ _ _ _ _ _ _ _ _ _ _ _ _ _ _ _ _ _ _ _ _ _ (fun h => h0 ((hcond0 t).mp h)) (fun h => h7 ((hcond7 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) _ _ _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [HS0]; · iexact HS0
      isplitl [HS1]; · iexact HS1
      isplitl [HS2]; · iexact HS2
      iintro ⟨H0, H1, H2, H3, H4, H5, H6, H7, H8, H9, H10, H11, HS0, HS1, HS2⟩
      isplitl [HS0 HS1 HS2 Hg]
      · isplitl [HS0 HS1 HS2]
        · isplitl [HS0]; · iexact HS0
          isplitl [HS1]; · iexact HS1
          iexact HS2
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      iexists _; iexact H11

theorem body_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, body_row]
  exact triple_restated (sound_body m c t) rfl .rfl fun _ => .rfl

theorem hin (c : Dev nD) : Pipeline.ΦA spec0 c ⊢ (dats m 0 c).Φ 0 := by
  rw [show (dats m 0 c).Φ 0 = inv m c 0 (Nat.zero_le _) from rfl, inv_zero m c 0 _ rfl]
  try exact Idealize.SL.BI.Entails.refl _

theorem hout (c : Dev nD) : (dats m 0 c).Φ (Fin.last cfg0.N) ⊢ Pipeline.ΦA spec0 c := by
  rw [show (dats m 0 c).Φ (Fin.last cfg0.N) = inv m c (Fin.last cfg0.N).val (Nat.le_of_lt_succ (Fin.last cfg0.N).isLt) from rfl]
  exact inv_forget m c _ _

set_option backward.isDefEq.respectTransparency.types false in
/-- The launch: every array of the pipeline ends at what the proof data says, every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- The arguments end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (frame_of m ρ (dats m) (A_eq m) (run_main m ρ)) ((θ_run defs _ _).mono (fun _ h => h.2) (run_main_quiescent m ρ))

end Cert.MoeIdeal.Experts

end
-- ==== Proof.Routed.lean ====
/-
  Routing the rows of a tile to an expert: the two largest logits and their shares, the place of a row among the rows an
  expert takes, and what gathering those rows by their places, working on them and giving them back comes to.
-/
module

public import proofs.«01_k».proof.Proof.Gated
public import Idealize.ShloMosaic.Lib.Pointwise

@[expose] public section

set_option maxRecDepth 16384

noncomputable section

namespace Cert.Routed

open Idealize.ShloMosaic Cert.Gated

/-! ## Numbers -/

theorem half_f32 : Ideal.ofBits .f32 0x3F000000#32 = ((1 / 2 : ℝ) : EReal) := by
  simp [Ideal.ofBits, Ideal.ieee]
  rw [← EReal.coe_mul]; norm_num
theorem minus_f32 : Ideal.ofBits .f32 0xBF800000#32 = -1 := by
  simp [Ideal.ofBits, Ideal.ieee]
  rw [← EReal.coe_mul]; norm_num
theorem f32_256 : Ideal.ofBits .f32 0x43800000#32 = ((256 : ℕ) : EReal) := by
  simp [Ideal.ofBits, Ideal.ieee]
  rw [← EReal.coe_mul]; norm_num
  try rfl
theorem f32_384 : Ideal.ofBits .f32 0x43C00000#32 = ((384 : ℕ) : EReal) := by
  simp [Ideal.ofBits, Ideal.ieee]
  rw [← EReal.coe_mul]; norm_num
  try rfl
theorem f32_512 : Ideal.ofBits .f32 0x44000000#32 = ((512 : ℕ) : EReal) := by
  simp [Ideal.ofBits, Ideal.ieee]
  rw [← EReal.coe_mul]; norm_num
  try rfl
theorem f32_768 : Ideal.ofBits .f32 0x44400000#32 = ((768 : ℕ) : EReal) := by
  simp [Ideal.ofBits, Ideal.ieee]
  rw [← EReal.coe_mul]; norm_num
  try rfl

theorem pick_eq (a b : BitVec 32) (u v : EReal) : Scalar.select (IntOp.cmpi .eq a b) u v = if a = b then u else v := by
  by_cases h : a = b
  · simp [Scalar.select, IntOp.cmpi, h]
  · simp [Scalar.select, IntOp.cmpi, h, beq_eq_false_iff_ne.2 h]

theorem number_eq (x y : Fin 16) : BitVec.ofNat 32 x.val = BitVec.ofNat 32 y.val ↔ x = y := by
  constructor
  · intro h
    have := congrArg BitVec.toNat h
    simp only [BitVec.toNat_ofNat] at this
    exact Fin.ext (by omega)
  · rintro rfl; rfl

/-- The number of a row of a block that starts at row `n`. -/
theorem placed {R : ℕ} (hR : R ≤ 256) (n : ℕ) (hn : n < 1024) (r : Fin R) :
    (FloatOps.sitofp (F := Ideal) .f32 (IntOp.addi (BitVec.ofNat 32 r.val) (BitVec.ofNat 32 n)) : EReal) = ((n + r.val : ℕ) : EReal) := by
  have e : (IntOp.addi (BitVec.ofNat 32 r.val) (BitVec.ofNat 32 n)).toInt = ((n + r.val : ℕ) : ℤ) := by
    have h1 : (IntOp.addi (BitVec.ofNat 32 r.val) (BitVec.ofNat 32 n)).toNat = n + r.val := by
      show (BitVec.ofNat 32 r.val + BitVec.ofNat 32 n).toNat = _
      rw [BitVec.toNat_add, BitVec.toNat_ofNat, BitVec.toNat_ofNat]; omega
    rw [BitVec.toInt_eq_toNat_of_lt (by rw [h1]; omega), h1]
  show (((IntOp.addi (BitVec.ofNat 32 r.val) (BitVec.ofNat 32 n)).toInt : ℝ) : EReal) = _
  rw [e, Int.cast_natCast]
  rfl

/-! ## The two largest logits -/

/-- The largest of sixteen numbers. -/
def top (L : Fin 16 → EReal) : EReal := Finset.fold max (Ideal.ofBits .f32 0xFF800000#32) L Finset.univ

/-- The first place at which `m` stands, or sixteen. -/
def firstAt (L : Fin 16 → EReal) (m : EReal) : BitVec 32 :=
  Finset.fold IntOp.minsi 2147483647#32 (fun x => if L x = m then BitVec.ofNat 32 x.val else 16#32) Finset.univ

/-- The expert of the largest logit. -/
def one (L : Fin 16 → EReal) : BitVec 32 := firstAt L (top L)

/-- The logits without the largest. -/
def rest (L : Fin 16 → EReal) (x : Fin 16) : EReal := if BitVec.ofNat 32 x.val = one L then Ideal.ofBits .f32 0xFF800000#32 else L x

/-- The expert of the second largest logit. -/
def two (L : Fin 16 → EReal) : BitVec 32 := firstAt (rest L) (top (rest L))

/-- The share of an expert: the two largest logits weighed by their exponentials, the others nothing. -/
def share (L : Fin 16 → EReal) (e : Fin 16) : EReal :=
  (if BitVec.ofNat 32 e.val = one L then Ideal.div 1 (1 + Ideal.exp (top (rest L) - top L)) else 0)
    + if BitVec.ofNat 32 e.val = two L then Ideal.div (Ideal.exp (top (rest L) - top L)) (1 + Ideal.exp (top (rest L) - top L)) else 0

/-- Whether an expert is one of the two. -/
def takes (L : Fin 16 → EReal) (e : Fin 16) : Prop := BitVec.ofNat 32 e.val = one L ∨ BitVec.ofNat 32 e.val = two L

instance (L : Fin 16 → EReal) (e : Fin 16) : Decidable (takes L e) := by unfold takes; infer_instance

theorem share_zero (L : Fin 16 → EReal) (e : Fin 16) (h : ¬takes L e) : share L e = 0 := by
  unfold takes at h
  unfold share
  rw [if_neg fun h' => h (.inl h'), if_neg fun h' => h (.inr h'), add_zero]

/-! ## Places -/

theorem sum_if {α : Type} (S : Finset α) (p : α → Prop) [DecidablePred p] :
    ∑ x ∈ S, (if p x then (1 : EReal) else 0) = ((S.filter p).card : EReal) := by
  classical
  induction S using Finset.induction with
  | empty => simp
  | insert a S ha ih =>
    rw [Finset.sum_insert ha, ih, Finset.filter_insert]
    by_cases h : p a
    · rw [if_pos h, if_pos h, Finset.card_insert_of_notMem (by simp [ha]), Nat.cast_succ, add_comm]
    · rw [if_neg h, if_neg h, zero_add]

theorem minus_neg : ¬(0 : EReal) ≤ -1 := by
  show ¬((0 : ℝ) : EReal) ≤ ((-1 : ℝ) : EReal)
  rw [EReal.coe_le_coe_iff]; norm_num

theorem nat_nonneg (n : ℕ) : (0 : EReal) ≤ (n : EReal) := by
  have := EReal.natCast_le_iff.2 (Nat.zero_le n)
  rwa [Nat.cast_zero] at this

variable (s : Fin 1024 → Prop) [DecidablePred s]

/-- How many rows taken come before row `t`. -/
def rank (t : Fin 1024) : ℕ := (Finset.univ.filter fun x => s x ∧ x < t).card

/-- How many rows are taken. -/
def count : ℕ := (Finset.univ.filter s).card

/-- The place of a row: its rank if it is taken, else minus one. -/
def key (t : Fin 1024) : EReal := if s t then (rank s t : EReal) else -1

theorem rank_lt_count (t : Fin 1024) (h : s t) : rank s t < count s := by
  refine Finset.card_lt_card ((Finset.ssubset_iff_of_subset fun x hx => ?_).2 ⟨t, ?_, ?_⟩)
  · exact Finset.mem_filter.2 ⟨Finset.mem_univ _, (Finset.mem_filter.1 hx).2.1⟩
  · exact Finset.mem_filter.2 ⟨Finset.mem_univ _, h⟩
  · exact fun hx => lt_irrefl t (Finset.mem_filter.1 hx).2.2

theorem count_le : count s ≤ 1024 := (Finset.card_filter_le _ _).trans (by simp)

theorem rank_mono {t u : Fin 1024} (h : t < u) (ht : s t) : rank s t < rank s u := by
  refine Finset.card_lt_card ((Finset.ssubset_iff_of_subset fun x hx => ?_).2 ⟨t, ?_, ?_⟩)
  · have := (Finset.mem_filter.1 hx).2
    exact Finset.mem_filter.2 ⟨Finset.mem_univ _, this.1, this.2.trans h⟩
  · exact Finset.mem_filter.2 ⟨Finset.mem_univ _, ht, h⟩
  · exact fun hx => lt_irrefl t (Finset.mem_filter.1 hx).2.2

theorem rank_inj {t u : Fin 1024} (ht : s t) (hu : s u) (h : rank s t = rank s u) : t = u := by
  rcases lt_trichotomy t u with h1 | h1 | h1
  · exact absurd h (rank_mono s h1 ht).ne
  · exact h1
  · exact absurd h (rank_mono s h1 hu).ne'

theorem key_eq (x : Fin 1024) (n : ℕ) : key s x = (n : EReal) ↔ s x ∧ rank s x = n := by
  unfold key
  by_cases h : s x
  · rw [if_pos h, EReal.natCast_eq_iff]; exact ⟨fun e => ⟨h, e⟩, fun e => e.2⟩
  · rw [if_neg h]
    exact ⟨fun e => absurd (e ▸ nat_nonneg n) minus_neg, fun e => absurd e.1 h⟩

theorem key_nonneg (x : Fin 1024) : 0 ≤ key s x ↔ s x := by
  unfold key
  by_cases h : s x
  · rw [if_pos h]; exact ⟨fun _ => h, fun _ => nat_nonneg _⟩
  · rw [if_neg h]; exact ⟨fun e => absurd e minus_neg, fun e => absurd e h⟩

theorem sum_count : ∑ x, (if 0 ≤ key s x then (1 : EReal) else 0) = (count s : EReal) := by
  simp only [key_nonneg]
  exact sum_if _ _

theorem sum_rank (t : Fin 1024) :
    ∑ x, (if s x then (1 : EReal) else 0) * (if x < t then (1 : EReal) else 0) = (rank s t : EReal) := by
  unfold rank
  rw [← sum_if]
  refine Finset.sum_congr rfl fun x _ => ?_
  by_cases h1 : s x <;> by_cases h2 : x < t <;> simp [h1, h2]

/-! ## Gathering, working, giving back -/

/-- What a block of `R` places from `n` on gives back to row `t`: the rows at those places gathered, `G` of each scaled by its
    weight, each given to the row it came from. -/
def part (R n : ℕ) (k w : Fin 1024 → EReal) (h : Fin 1024 → Fin 1024 → EReal) (G : (Fin 1024 → EReal) → EReal) (t : Fin 1024) : EReal :=
  ∑ r : Fin R, (if k t = ((n + r.val : ℕ) : EReal) then (1 : EReal) else 0)
    * (G (fun c => ∑ x, (if k x = ((n + r.val : ℕ) : EReal) then (1 : EReal) else 0) * h x c)
      * ∑ x, if k x = ((n + r.val : ℕ) : EReal) then w x else 0)

theorem part_eq (R n : ℕ) (w : Fin 1024 → EReal) (h : Fin 1024 → Fin 1024 → EReal) (G : (Fin 1024 → EReal) → EReal) (t : Fin 1024) :
    part R n (key s) w h G t = if s t ∧ n ≤ rank s t ∧ rank s t < n + R then G (h t) * w t else 0 := by
  unfold part
  simp only [key_eq]
  by_cases hc : s t ∧ n ≤ rank s t ∧ rank s t < n + R
  · rw [if_pos hc]
    obtain ⟨h1, h2, h3⟩ := hc
    rw [Finset.sum_eq_single (⟨rank s t - n, by omega⟩ : Fin R)]
    · have e : ∀ x, (s x ∧ rank s x = n + (rank s t - n)) ↔ x = t := fun x =>
        ⟨fun hx => rank_inj s hx.1 h1 (by have := hx.2; omega), by rintro rfl; exact ⟨h1, by omega⟩⟩
      simp only [e, ite_mul, one_mul, zero_mul, Finset.sum_ite_eq', Finset.mem_univ, if_true]
    · intro r _ hr
      rw [if_neg, zero_mul]
      rintro ⟨-, h4⟩
      exact hr (Fin.ext (by show r.val = rank s t - n; omega))
    · exact fun h4 => absurd (Finset.mem_univ _) h4
  · rw [if_neg hc]
    refine Finset.sum_eq_zero fun r _ => ?_
    rw [if_neg, zero_mul]
    rintro ⟨h1, h2⟩
    exact hc ⟨h1, by omega, by have := r.isLt; omega⟩

/-- A block whose rows are worked on only if so many rows are taken. -/
theorem block_eq (R n : ℕ) (w : Fin 1024 → EReal) (h : Fin 1024 → Fin 1024 → EReal) (G : (Fin 1024 → EReal) → EReal) (t : Fin 1024) (acc : EReal) :
    (if (n : EReal) < (count s : EReal) then acc + part R n (key s) w h G t else acc)
      = acc + if s t ∧ n ≤ rank s t ∧ rank s t < n + R then G (h t) * w t else 0 := by
  by_cases hc : (n : EReal) < (count s : EReal)
  · rw [if_pos hc, part_eq]
  · rw [if_neg hc, if_neg, add_zero]
    rintro ⟨h1, h2, -⟩
    exact hc (EReal.natCast_lt_iff.2 (lt_of_le_of_lt h2 (rank_lt_count s t h1)))

/-- The five blocks together give every row taken its own, once. -/
theorem blocks_eq (t : Fin 1024) (acc v : EReal) :
    acc + (if s t ∧ 0 ≤ rank s t ∧ rank s t < 0 + 256 then v else 0) + (if s t ∧ 256 ≤ rank s t ∧ rank s t < 256 + 128 then v else 0)
      + (if s t ∧ 384 ≤ rank s t ∧ rank s t < 384 + 128 then v else 0) + (if s t ∧ 512 ≤ rank s t ∧ rank s t < 512 + 256 then v else 0)
      + (if s t ∧ 768 ≤ rank s t ∧ rank s t < 768 + 256 then v else 0) = acc + if s t then v else 0 := by
  by_cases h : s t
  · have h1 := rank_lt_count s t h
    have h2 := count_le s
    simp only [h, true_and, if_true]
    generalize rank s t = r at *
    split_ifs <;> first | omega | simp only [add_zero]
  · simp only [h, false_and, if_false, add_zero]

/-! ## An expert -/

/-- What an expert makes of a row, at column `d`. -/
def expert (wg wu wd : Fin 1024 → Fin 1024 → EReal) (d : Fin 1024) (h : Fin 1024 → EReal) : EReal :=
  ∑ i, gated h (fun k => wg k i) (fun k => wu k i) * wd i d

theorem expert_pieces (wg wu wd : Fin 1024 → Fin 1024 → EReal) (d : Fin 1024) (h : Fin 1024 → EReal) :
    expert wg wu wd d h
      = (∑ i : Fin 256, gated h (fun k => wg k ⟨i.val, by omega⟩) (fun k => wu k ⟨i.val, by omega⟩) * wd ⟨i.val, by omega⟩ d)
      + (∑ i : Fin 256, gated h (fun k => wg k ⟨256 + i.val, by omega⟩) (fun k => wu k ⟨256 + i.val, by omega⟩) * wd ⟨256 + i.val, by omega⟩ d)
      + (∑ i : Fin 256, gated h (fun k => wg k ⟨512 + i.val, by omega⟩) (fun k => wu k ⟨512 + i.val, by omega⟩) * wd ⟨512 + i.val, by omega⟩ d)
      + ∑ i : Fin 256, gated h (fun k => wg k ⟨768 + i.val, by omega⟩) (fun k => wu k ⟨768 + i.val, by omega⟩) * wd ⟨768 + i.val, by omega⟩ d := by
  unfold expert
  show ∑ i : Fin (256 + 256 + 256 + 256), _ = _
  rw [Fin.sum_univ_add, Fin.sum_univ_add, Fin.sum_univ_add]
  rfl

end Cert.Routed

end
-- ==== Proof.MoeRoute.lean ====
/- The routing of a tile's rows, at one expert and one row. -/
module

public import proofs.«01_k».proof.Proof.MoeStep
public import proofs.«01_k».proof.Proof.Routed
public import Idealize.ShloMosaic.Lib.Pointwise

@[expose] public section

set_option maxRecDepth 16384

noncomputable section

namespace Cert.MoeIdeal.Experts

open Cert.MoeIdeal Cert.MoeIdeal.Gen Cert.Gated Cert.Routed Idealize.ShloMosaic Idealize.ShloMosaic.TcCoe Idealize.SL.Sem

/-- The logits of row `t`, from the products and the bias. -/
def logits (y : FVec Ideal S16x1024 .f32) (z : FVec Ideal S16x1 .f32) (t : Fin 1024) (e : Fin 16) : EReal := y (ix2 e t) + z (ix2 e 0)

variable (y : FVec Ideal S16x1024 .f32) (z : FVec Ideal S16x1 .f32)

theorem top_at (t : Fin 1024) : k0_pay9 y z (ix2 0 t) = top (logits y z t) := by
  unfold k0_pay9 k0_pay8
  pointwise
  rfl

theorem one_at (t : Fin 1024) : k0_pay10 number y z (ix2 0 t) = one (logits y z t) := by
  unfold one
  rw [← top_at]
  unfold k0_pay10 k0_pay8
  generalize k0_pay9 y z = m1
  pointwise [number]
  rfl

theorem rest_at (e : Fin 16) (t : Fin 1024) : k0_pay11 number y z (ix2 e t) = rest (logits y z t) e := by
  unfold rest
  rw [← one_at, ← pick_eq]
  unfold k0_pay11 k0_pay8
  generalize k0_pay10 number y z = i1
  pointwise [number]
  rfl

theorem second_at (t : Fin 1024) : k0_pay12 number y z (ix2 0 t) = top (rest (logits y z t)) := by
  have e : rest (logits y z t) = fun x => k0_pay11 number y z (ix2 x t) := funext fun x => (rest_at y z x t).symm
  rw [e]
  unfold k0_pay12
  generalize k0_pay11 number y z = m1
  pointwise
  rfl

theorem two_at (t : Fin 1024) : k0_pay13 number y z (ix2 0 t) = two (logits y z t) := by
  unfold two
  rw [← second_at]
  have e : rest (logits y z t) = fun x => k0_pay11 number y z (ix2 x t) := funext fun x => (rest_at y z x t).symm
  rw [e]
  unfold k0_pay13
  generalize k0_pay12 number y z = m2
  generalize k0_pay11 number y z = m1
  pointwise [number]
  rfl

theorem weights_at (e : Fin 16) (t : Fin 1024) : weights y z (ix3 0 e t) = share (logits y z t) e := by
  unfold share
  rw [← one_at, ← two_at, ← second_at, ← top_at, ← pick_eq, ← pick_eq]
  unfold weights k0_pay60 k0_pay14
  generalize k0_pay9 y z = m1
  generalize k0_pay10 number y z = i1
  generalize k0_pay12 number y z = m2
  generalize k0_pay13 number y z = i2
  pointwise [number]

theorem half_lt_one : Ideal.ofBits .f32 0x3F000000#32 < 1 := by
  rw [half_f32]
  show ((1 / 2 : ℝ) : EReal) < ((1 : ℝ) : EReal)
  rw [EReal.coe_lt_coe_iff]; norm_num

theorem half_pos : ¬Ideal.ofBits .f32 0x3F000000#32 < 0 := by
  rw [half_f32]
  show ¬((1 / 2 : ℝ) : EReal) < ((0 : ℝ) : EReal)
  rw [EReal.coe_lt_coe_iff]; norm_num

/-- Whether an expert takes a row, as one or zero. -/
theorem taken (L : Fin 16 → EReal) (e : Fin 16) :
    Scalar.select (IntOp.cmpi .eq (BitVec.ofNat 32 e.val) (one L)) (1 : EReal)
      (Scalar.select (IntOp.cmpi .eq (BitVec.ofNat 32 e.val) (two L)) 1 0) = if takes L e then 1 else 0 := by
  rw [pick_eq, pick_eq]
  unfold takes
  by_cases h1 : BitVec.ofNat 32 e.val = one L <;> by_cases h2 : BitVec.ofNat 32 e.val = two L <;> simp [h1, h2]

theorem places_raw (i1 i2 : IVec S1x1024 32) (x9 : Vec Ideal S1024x1024 .bf16) (e : Fin 16) (t : Fin 1024) :
    k0_pay61 (F := Ideal) i1 i2 x9 (ix3 0 e t)
      = if Ideal.ofBits .f32 0x3F000000#32 < Scalar.select (IntOp.cmpi .eq (BitVec.ofNat 32 e.val) (i1 (ix2 0 t))) (1 : EReal)
          (Scalar.select (IntOp.cmpi .eq (BitVec.ofNat 32 e.val) (i2 (ix2 0 t))) 1 0)
        then ∑ x, Scalar.select (IntOp.cmpi .eq (BitVec.ofNat 32 e.val) (i1 (ix2 0 x))) (1 : EReal)
          (Scalar.select (IntOp.cmpi .eq (BitVec.ofNat 32 e.val) (i2 (ix2 0 x))) 1 0) * x9 (ix2 x t)
        else Ideal.ofBits .f32 0xBF800000#32 := by
  unfold k0_pay61
  pointwise

theorem places_at (x9 : Vec Ideal S1024x1024 .bf16) (h9 : ∀ k i, x9 (ix2 k i) = if k < i then 1 else 0) (e : Fin 16) (t : Fin 1024) :
    places y z x9 (ix3 0 e t) = key (fun x => takes (logits y z x) e) t := by
  unfold places
  rw [places_raw]
  simp only [one_at, two_at, taken, h9, minus_f32]
  rw [sum_rank (fun x => takes (logits y z x) e)]
  unfold key
  by_cases h : takes (logits y z t) e
  · rw [if_pos h, if_pos half_lt_one, if_pos h]
  · rw [if_neg h, if_neg half_pos, if_neg h]

theorem routing_weights (p q : FVec Ideal S1x16x1024 .f32) (e : Fin 16) (t : Fin 1024) :
    View.ld (View.canon (Val := Elt Ideal) ([⟨(Rect.unit ![1, 0, 0] S1x16x1024.size inb_S2x16x1024_S1x16x1024_1_0_0), q⟩,
      ⟨(Rect.unit ![0, 0, 0] S1x16x1024.size inb_S2x16x1024_S1x16x1024_0_0_0), p⟩] : List (View.Piece (Elt Ideal) S2x16x1024 .f32)))
      (Rect.unit ![0, 0, 0] S1x16x1024.size inb_S2x16x1024_S1x16x1024_0_0_0) (ix3 0 e t) = p (ix3 0 e t) := by
  refine (View.canon_cons_of_not_mem _ _ ?_).trans (View.canon_cons_emb _ _ _ _)
  rw [Rect.mem_set_unit]
  intro h
  exact absurd (h 0).1 (by show ¬1 ≤ 0 + 1 * 0; decide)

theorem routing_places (p q : FVec Ideal S1x16x1024 .f32) (e : Fin 16) (t : Fin 1024) :
    View.ld (View.canon (Val := Elt Ideal) ([⟨(Rect.unit ![1, 0, 0] S1x16x1024.size inb_S2x16x1024_S1x16x1024_1_0_0), q⟩,
      ⟨(Rect.unit ![0, 0, 0] S1x16x1024.size inb_S2x16x1024_S1x16x1024_0_0_0), p⟩] : List (View.Piece (Elt Ideal) S2x16x1024 .f32)))
      (Rect.unit ![1, 0, 0] S1x16x1024.size inb_S2x16x1024_S1x16x1024_1_0_0) (ix3 0 e t) = q (ix3 0 e t) :=
  View.canon_cons_emb _ _ _ _

end Cert.MoeIdeal.Experts

end
-- ==== Proof.MoeBlock.lean ====
/- The five blocks of an expert's rows, at one row and column. -/
module

public import proofs.«01_k».proof.Proof.MoeStep
public import proofs.«01_k».proof.Proof.Routed
public import Idealize.ShloMosaic.Lib.Pointwise

@[expose] public section

set_option maxRecDepth 16384

noncomputable section

namespace Cert.MoeIdeal.Experts

open Cert.MoeIdeal Cert.MoeIdeal.Gen Cert.Gated Cert.Routed Idealize.ShloMosaic Idealize.ShloMosaic.TcCoe Idealize.SL.Sem

theorem guard (n c : Ideal .f32) :
    Scalar.cmpi .ne (Scalar.extui (Scalar.cmpf .ogt n c)) 0#32 = 1#1 ↔ (c : EReal) < n := by
  rw [show Scalar.cmpf .ogt n c = BitVec.ofBool (decide ((c : EReal) < n)) from rfl]
  by_cases h : (c : EReal) < n
  · rw [decide_eq_true h]; exact ⟨fun _ => h, fun _ => by decide⟩
  · rw [decide_eq_false h]; exact ⟨fun e => absurd e (by decide), fun e => absurd e h⟩

/-- The plane `p` at the expert of a point. -/
theorem plane_at (i : grid0.Coords) (p : Vec Ideal S1x16x1024 .f32) (e : Fin 16) (he : (i 1).val = e.val) (t : Fin 1024) :
    k0_pay64 i p (ix2 0 t) = p (ix3 0 e t) := by
  have h : k0_pay64 i p (ix2 0 t)
      = ∑ x : Fin 16, Scalar.select (IntOp.cmpi .eq (BitVec.ofNat 32 x.val) (BitVec.ofNat 32 (i 1).val)) (p (ix3 0 x t)) (0 : EReal) := by
    unfold k0_pay64 k0_pay63
    pointwise
  rw [h, he]
  simp only [pick_eq, number_eq]
  rw [Finset.sum_ite_eq' Finset.univ e fun x => (p (ix3 0 x t) : EReal), if_pos (Finset.mem_univ _)]

theorem plane'_at (i : grid0.Coords) (p : Vec Ideal S1x16x1024 .f32) (e : Fin 16) (he : (i 1).val = e.val) (t : Fin 1024) :
    k0_pay65 i p (ix2 0 t) = p (ix3 0 e t) := by
  have h : k0_pay65 i p (ix2 0 t)
      = ∑ x : Fin 16, Scalar.select (IntOp.cmpi .eq (BitVec.ofNat 32 x.val) (BitVec.ofNat 32 (i 1).val)) (p (ix3 0 x t)) (0 : EReal) := by
    unfold k0_pay65 k0_pay63
    pointwise
  rw [h, he]
  simp only [pick_eq, number_eq]
  rw [Finset.sum_ite_eq' Finset.univ e fun x => (p (ix3 0 x t) : EReal), if_pos (Finset.mem_univ _)]

/-- How many places of a point's expert are no less than zero. -/
theorem taken_at (i : grid0.Coords) (q : Vec Ideal S1x16x1024 .f32) :
    k0_pay66 i q = ∑ x, (if (0 : EReal) ≤ k0_pay65 i q (ix2 0 x) then (1 : EReal) else 0) := by
  unfold k0_pay66
  generalize k0_pay65 i q = m1
  pointwise
  try rw [Fin.sum_univ_one]
  try rfl

theorem gathered0 (k : FVec Ideal S1x1024 .f32) (h : Vec Ideal S1024x1024 .bf16) (r : Fin 256) (d : Fin 1024) :
    k0_pay17 k h (ix2 r d) = ∑ x, (if k (ix2 0 x) = ((0 + r.val : ℕ) : EReal) then (1 : EReal) else 0) * h (ix2 x d) := by
  simp only [← placed (R := 256) (by decide) 0 (by decide)]
  unfold k0_pay17 k0_pay16 k0_pay15
  pointwise

theorem block0_at (i : grid0.Coords) (p q : Vec Ideal S1x16x1024 .f32) (h : Vec Ideal S1024x1024 .bf16) (wg wu wd : Vec Ideal S1x1024x1024 .bf16)
    (acc : Vec Ideal S1024x1024 .f32) (t d : Fin 1024) :
    block0 i p q h wg wu wd acc (ix2 t d) = if Ideal.ofBits .f32 0x00000000#32 < k0_pay66 i q then
      acc (ix2 t d) + part 256 0 (fun x => k0_pay65 i q (ix2 0 x)) (fun x => k0_pay64 i p (ix2 0 x)) (fun x k => h (ix2 x k))
        (expert (fun k j => wg (ix3 0 k j)) (fun k j => wu (ix3 0 k j)) (fun j d => wd (ix3 0 j d)) d) t else acc (ix2 t d) := by
  unfold block0 part
  dsimp only
  simp only [← gathered0 (k0_pay65 i q) h]
  generalize k0_pay66 i q = n
  by_cases hc : Ideal.ofBits .f32 0x00000000#32 < n
  · have hc' : Scalar.cmpi .ne (Scalar.extui (Scalar.cmpf .ogt n (FloatOps.ofBits (F := Ideal) .f32 0x00000000#32))) 0#32 = 1#1 := (guard _ _).2 hc
    rw [if_pos hc', if_pos hc]
    simp only [← placed (R := 256) (by decide) 0 (by decide), expert_pieces]
    unfold k0_pay67 k0_pay21 k0_pay20 k0_pay18 k0_pay19 k0_pay22 k0_pay23 k0_pay16 k0_pay15
    generalize k0_pay17 (k0_pay65 i q) h = hs
    generalize k0_pay65 i q = k
    generalize k0_pay64 i p = w
    pointwise
    rfl
  · have hc' : ¬Scalar.cmpi .ne (Scalar.extui (Scalar.cmpf .ogt n (FloatOps.ofBits (F := Ideal) .f32 0x00000000#32))) 0#32 = 1#1 :=
      fun h' => hc ((guard _ _).1 h')
    rw [if_neg hc', if_neg hc]

theorem gathered1 (k : FVec Ideal S1x1024 .f32) (h : Vec Ideal S1024x1024 .bf16) (r : Fin 128) (d : Fin 1024) :
    k0_pay26 k h (ix2 r d) = ∑ x, (if k (ix2 0 x) = ((256 + r.val : ℕ) : EReal) then (1 : EReal) else 0) * h (ix2 x d) := by
  simp only [← placed (R := 128) (by decide) 256 (by decide)]
  unfold k0_pay26 k0_pay25 k0_pay24
  pointwise

theorem block1_at (i : grid0.Coords) (p q : Vec Ideal S1x16x1024 .f32) (h : Vec Ideal S1024x1024 .bf16) (wg wu wd : Vec Ideal S1x1024x1024 .bf16)
    (acc : Vec Ideal S1024x1024 .f32) (t d : Fin 1024) :
    block1 i p q h wg wu wd acc (ix2 t d) = if Ideal.ofBits .f32 0x43800000#32 < k0_pay66 i q then
      acc (ix2 t d) + part 128 256 (fun x => k0_pay65 i q (ix2 0 x)) (fun x => k0_pay64 i p (ix2 0 x)) (fun x k => h (ix2 x k))
        (expert (fun k j => wg (ix3 0 k j)) (fun k j => wu (ix3 0 k j)) (fun j d => wd (ix3 0 j d)) d) t else acc (ix2 t d) := by
  unfold block1 part
  dsimp only
  simp only [← gathered1 (k0_pay65 i q) h]
  generalize k0_pay66 i q = n
  by_cases hc : Ideal.ofBits .f32 0x43800000#32 < n
  · have hc' : Scalar.cmpi .ne (Scalar.extui (Scalar.cmpf .ogt n (FloatOps.ofBits (F := Ideal) .f32 0x43800000#32))) 0#32 = 1#1 := (guard _ _).2 hc
    rw [if_pos hc', if_pos hc]
    simp only [← placed (R := 128) (by decide) 256 (by decide), expert_pieces]
    unfold k0_pay68 k0_pay30 k0_pay29 k0_pay27 k0_pay28 k0_pay31 k0_pay32 k0_pay25 k0_pay24
    generalize k0_pay26 (k0_pay65 i q) h = hs
    generalize k0_pay65 i q = k
    generalize k0_pay64 i p = w
    pointwise
    rfl
  · have hc' : ¬Scalar.cmpi .ne (Scalar.extui (Scalar.cmpf .ogt n (FloatOps.ofBits (F := Ideal) .f32 0x43800000#32))) 0#32 = 1#1 :=
      fun h' => hc ((guard _ _).1 h')
    rw [if_neg hc', if_neg hc]

theorem gathered2 (k : FVec Ideal S1x1024 .f32) (h : Vec Ideal S1024x1024 .bf16) (r : Fin 128) (d : Fin 1024) :
    k0_pay35 k h (ix2 r d) = ∑ x, (if k (ix2 0 x) = ((384 + r.val : ℕ) : EReal) then (1 : EReal) else 0) * h (ix2 x d) := by
  simp only [← placed (R := 128) (by decide) 384 (by decide)]
  unfold k0_pay35 k0_pay34 k0_pay33
  pointwise

theorem block2_at (i : grid0.Coords) (p q : Vec Ideal S1x16x1024 .f32) (h : Vec Ideal S1024x1024 .bf16) (wg wu wd : Vec Ideal S1x1024x1024 .bf16)
    (acc : Vec Ideal S1024x1024 .f32) (t d : Fin 1024) :
    block2 i p q h wg wu wd acc (ix2 t d) = if Ideal.ofBits .f32 0x43C00000#32 < k0_pay66 i q then
      acc (ix2 t d) + part 128 384 (fun x => k0_pay65 i q (ix2 0 x)) (fun x => k0_pay64 i p (ix2 0 x)) (fun x k => h (ix2 x k))
        (expert (fun k j => wg (ix3 0 k j)) (fun k j => wu (ix3 0 k j)) (fun j d => wd (ix3 0 j d)) d) t else acc (ix2 t d) := by
  unfold block2 part
  dsimp only
  simp only [← gathered2 (k0_pay65 i q) h]
  generalize k0_pay66 i q = n
  by_cases hc : Ideal.ofBits .f32 0x43C00000#32 < n
  · have hc' : Scalar.cmpi .ne (Scalar.extui (Scalar.cmpf .ogt n (FloatOps.ofBits (F := Ideal) .f32 0x43C00000#32))) 0#32 = 1#1 := (guard _ _).2 hc
    rw [if_pos hc', if_pos hc]
    simp only [← placed (R := 128) (by decide) 384 (by decide), expert_pieces]
    unfold k0_pay1 k0_pay39 k0_pay38 k0_pay36 k0_pay37 k0_pay40 k0_pay41 k0_pay34 k0_pay33
    generalize k0_pay35 (k0_pay65 i q) h = hs
    generalize k0_pay65 i q = k
    generalize k0_pay64 i p = w
    pointwise
    rfl
  · have hc' : ¬Scalar.cmpi .ne (Scalar.extui (Scalar.cmpf .ogt n (FloatOps.ofBits (F := Ideal) .f32 0x43C00000#32))) 0#32 = 1#1 :=
      fun h' => hc ((guard _ _).1 h')
    rw [if_neg hc', if_neg hc]

theorem gathered3 (k : FVec Ideal S1x1024 .f32) (h : Vec Ideal S1024x1024 .bf16) (r : Fin 256) (d : Fin 1024) :
    k0_pay44 k h (ix2 r d) = ∑ x, (if k (ix2 0 x) = ((512 + r.val : ℕ) : EReal) then (1 : EReal) else 0) * h (ix2 x d) := by
  simp only [← placed (R := 256) (by decide) 512 (by decide)]
  unfold k0_pay44 k0_pay43 k0_pay42
  pointwise

theorem block3_at (i : grid0.Coords) (p q : Vec Ideal S1x16x1024 .f32) (h : Vec Ideal S1024x1024 .bf16) (wg wu wd : Vec Ideal S1x1024x1024 .bf16)
    (acc : Vec Ideal S1024x1024 .f32) (t d : Fin 1024) :
    block3 i p q h wg wu wd acc (ix2 t d) = if Ideal.ofBits .f32 0x44000000#32 < k0_pay66 i q then
      acc (ix2 t d) + part 256 512 (fun x => k0_pay65 i q (ix2 0 x)) (fun x => k0_pay64 i p (ix2 0 x)) (fun x k => h (ix2 x k))
        (expert (fun k j => wg (ix3 0 k j)) (fun k j => wu (ix3 0 k j)) (fun j d => wd (ix3 0 j d)) d) t else acc (ix2 t d) := by
  unfold block3 part
  dsimp only
  simp only [← gathered3 (k0_pay65 i q) h]
  generalize k0_pay66 i q = n
  by_cases hc : Ideal.ofBits .f32 0x44000000#32 < n
  · have hc' : Scalar.cmpi .ne (Scalar.extui (Scalar.cmpf .ogt n (FloatOps.ofBits (F := Ideal) .f32 0x44000000#32))) 0#32 = 1#1 := (guard _ _).2 hc
    rw [if_pos hc', if_pos hc]
    simp only [← placed (R := 256) (by decide) 512 (by decide), expert_pieces]
    unfold k0_pay2 k0_pay48 k0_pay47 k0_pay45 k0_pay46 k0_pay49 k0_pay50 k0_pay43 k0_pay42
    generalize k0_pay44 (k0_pay65 i q) h = hs
    generalize k0_pay65 i q = k
    generalize k0_pay64 i p = w
    pointwise
    rfl
  · have hc' : ¬Scalar.cmpi .ne (Scalar.extui (Scalar.cmpf .ogt n (FloatOps.ofBits (F := Ideal) .f32 0x44000000#32))) 0#32 = 1#1 :=
      fun h' => hc ((guard _ _).1 h')
    rw [if_neg hc', if_neg hc]

theorem gathered4 (k : FVec Ideal S1x1024 .f32) (h : Vec Ideal S1024x1024 .bf16) (r : Fin 256) (d : Fin 1024) :
    k0_pay53 k h (ix2 r d) = ∑ x, (if k (ix2 0 x) = ((768 + r.val : ℕ) : EReal) then (1 : EReal) else 0) * h (ix2 x d) := by
  simp only [← placed (R := 256) (by decide) 768 (by decide)]
  unfold k0_pay53 k0_pay52 k0_pay51
  pointwise

theorem block4_at (i : grid0.Coords) (p q : Vec Ideal S1x16x1024 .f32) (h : Vec Ideal S1024x1024 .bf16) (wg wu wd : Vec Ideal S1x1024x1024 .bf16)
    (acc : Vec Ideal S1024x1024 .f32) (t d : Fin 1024) :
    block4 i p q h wg wu wd acc (ix2 t d) = if Ideal.ofBits .f32 0x44400000#32 < k0_pay66 i q then
      acc (ix2 t d) + part 256 768 (fun x => k0_pay65 i q (ix2 0 x)) (fun x => k0_pay64 i p (ix2 0 x)) (fun x k => h (ix2 x k))
        (expert (fun k j => wg (ix3 0 k j)) (fun k j => wu (ix3 0 k j)) (fun j d => wd (ix3 0 j d)) d) t else acc (ix2 t d) := by
  unfold block4 part
  dsimp only
  simp only [← gathered4 (k0_pay65 i q) h]
  generalize k0_pay66 i q = n
  by_cases hc : Ideal.ofBits .f32 0x44400000#32 < n
  · have hc' : Scalar.cmpi .ne (Scalar.extui (Scalar.cmpf .ogt n (FloatOps.ofBits (F := Ideal) .f32 0x44400000#32))) 0#32 = 1#1 := (guard _ _).2 hc
    rw [if_pos hc', if_pos hc]
    simp only [← placed (R := 256) (by decide) 768 (by decide), expert_pieces]
    unfold k0_pay3 k0_pay57 k0_pay56 k0_pay54 k0_pay55 k0_pay58 k0_pay59 k0_pay52 k0_pay51
    generalize k0_pay53 (k0_pay65 i q) h = hs
    generalize k0_pay65 i q = k
    generalize k0_pay64 i p = w
    pointwise
    rfl
  · have hc' : ¬Scalar.cmpi .ne (Scalar.extui (Scalar.cmpf .ogt n (FloatOps.ofBits (F := Ideal) .f32 0x44400000#32))) 0#32 = 1#1 :=
      fun h' => hc ((guard _ _).1 h')
    rw [if_neg hc', if_neg hc]

/-- What one expert adds: its row of the sum, scaled by the row's weight if the expert takes the row. -/
theorem step_planes (i : grid0.Coords) (y : Vec Ideal S2x16x1024 .f32) (h : Vec Ideal S1024x1024 .bf16) (wg wu wd : Vec Ideal S1x1024x1024 .bf16)
    (acc : Vec Ideal S1024x1024 .f32) (t d : Fin 1024) (e : Fin 16) (he : (i 1).val = e.val) (s : Fin 1024 → Prop) [DecidablePred s] (w : Fin 1024 → EReal)
    (hp : ∀ x, View.ld y (Rect.unit ![0, 0, 0] S1x16x1024.size inb_S2x16x1024_S1x16x1024_0_0_0) (ix3 0 e x) = w x)
    (hq : ∀ x, View.ld y (Rect.unit ![1, 0, 0] S1x16x1024.size inb_S2x16x1024_S1x16x1024_1_0_0) (ix3 0 e x) = key s x) :
    step i y h wg wu wd acc (ix2 t d) = acc (ix2 t d)
      + if s t then expert (fun k j => wg (ix3 0 k j)) (fun k j => wu (ix3 0 k j)) (fun j d => wd (ix3 0 j d)) d (fun k => h (ix2 t k)) * w t else 0 := by
  unfold step
  dsimp only
  generalize hP : View.ld y (Rect.unit ![0, 0, 0] S1x16x1024.size inb_S2x16x1024_S1x16x1024_0_0_0) = p
  generalize hQ : View.ld y (Rect.unit ![1, 0, 0] S1x16x1024.size inb_S2x16x1024_S1x16x1024_1_0_0) = q
  rw [hP] at hp
  rw [hQ] at hq
  have e1 : (fun x => k0_pay65 i q (ix2 0 x)) = key s := funext fun x => (plane'_at i q e he x).trans (hq x)
  have e2 : (fun x => k0_pay64 i p (ix2 0 x)) = w := funext fun x => (plane_at i p e he x).trans (hp x)
  have e3 : k0_pay66 i q = (count s : EReal) := by
    rw [taken_at, ← sum_count]
    exact Finset.sum_congr rfl fun x _ => by rw [← congrFun e1 x]
  have e0 : Ideal.ofBits .f32 0x00000000#32 = ((0 : ℕ) : EReal) := by rw [zero_f32, Nat.cast_zero]
  rw [block4_at, block3_at, block2_at, block1_at, block0_at, e1, e2, e3, e0, f32_256, f32_384, f32_512, f32_768]
  simp only [block_eq]
  exact blocks_eq s t _ _

end Cert.MoeIdeal.Experts

end
-- ==== Proof.Chosen.lean ====
/-
  The two experts of a token. The kernel keeps sixteen logits, eight of them minus infinity, and finds the two largest by
  two maxima; the reference sorts the eight and takes the first two, equal ones in order. With finite logits both choose
  the same two experts and give them the same shares.
-/
module

public import proofs.«01_k».proof.Proof.Routed
public import Idealize.ShloMosaic.Lib.SortFacts
public import Idealize.ShloMosaic.Lib.Pointwise

@[expose] public section

set_option maxRecDepth 16384

noncomputable section

namespace Cert.Routed

open Idealize.ShloMosaic Cert.Gated

theorem minus_infinity : Ideal.ofBits .f32 0xFF800000#32 = ⊥ := by
  simp [Ideal.ofBits, Ideal.ieee]

/-- Eight logits and eight of minus infinity. -/
def padded (L : Fin 8 → EReal) (e : Fin 16) : EReal := if h : e.val < 8 then L ⟨e.val, h⟩ else ⊥

/-- An expert among the sixteen rows. -/
abbrev wide (e : Fin 8) : Fin 16 := ⟨e.val, by omega⟩

theorem padded_wide (L : Fin 8 → EReal) (e : Fin 8) : padded L (wide e) = L e := by
  unfold padded
  rw [dif_pos e.isLt]

/-! ## A stable sort's order -/

/-- `b` comes before `c`: its number is larger, or the same and it stands earlier. -/
def Before {n : ℕ} (L : Fin n → EReal) (b c : Fin n) : Prop := L c < L b ∨ L c = L b ∧ b < c

variable {n : ℕ} (L : Fin n → EReal) (R : Fin n → Fin n → Bool) (hR : ∀ a b, R a b = true ↔ L b < L a)
include hR

theorem insert_before (a : Fin n) (l : List (Fin n)) (hl : l.Pairwise (Before L)) (ha : ∀ c ∈ l, a < c) :
    (insertBefore R a l).Pairwise (Before L) := by
  induction l with
  | nil => exact List.pairwise_singleton _ _
  | cons b l ih =>
    rw [List.pairwise_cons] at hl
    unfold insertBefore
    split
    · rename_i h
      refine List.pairwise_cons.mpr ⟨fun c hc => ?_, ih hl.2 fun c hc => ha c (List.mem_cons_of_mem _ hc)⟩
      rcases List.mem_cons.mp ((perm_insertBefore R a l).mem_iff.mp hc) with rfl | hc'
      · exact .inl ((hR _ _).1 h)
      · exact hl.1 c hc'
    · rename_i h
      have hab : L b ≤ L a := not_lt.1 fun hlt => h ((hR _ _).2 hlt)
      have first : ∀ c, L c ≤ L b → a < c → Before L a c := fun c h1 h2 => by
        rcases lt_or_eq_of_le (h1.trans hab) with h3 | h3
        · exact .inl h3
        · exact .inr ⟨h3, h2⟩
      refine List.pairwise_cons.mpr ⟨fun c hc => first c ?_ (ha c hc), List.pairwise_cons.mpr hl⟩
      rcases List.mem_cons.mp hc with rfl | hc'
      · exact le_refl _
      · rcases hl.1 c hc' with h3 | h3
        · exact h3.le
        · exact h3.1.le

theorem sort_before (l : List (Fin n)) (hl : l.Pairwise (· < ·)) : (stableSort R l).Pairwise (Before L) := by
  induction l with
  | nil => exact List.Pairwise.nil
  | cons a l ih =>
    rw [List.pairwise_cons] at hl
    unfold stableSort
    exact insert_before L R hR a _ (ih hl.2) fun c hc => hl.1 c ((perm_stableSort R l).mem_iff.mp hc)

theorem sorted_before (i j : Fin n) (hij : i < j) : Before L (sortedFrom R i) (sortedFrom R j) := by
  have hp := List.pairwise_iff_get.mp (sort_before L R hR (List.finRange n) (List.pairwise_lt_finRange n))
  unfold sortedFrom
  exact hp _ _ hij

omit hR

/-! ## Maxima and first places -/

theorem top_eq (P : Fin 16 → EReal) (a : Fin 16) (h : ∀ i, P i ≤ P a) : top P = P a := by
  unfold top
  apply le_antisymm
  · rw [Finset.fold_max_le]
    exact ⟨by rw [minus_infinity]; exact bot_le, fun i _ => h i⟩
  · rw [Finset.le_fold_max]
    exact .inr ⟨a, Finset.mem_univ _, le_refl _⟩

theorem min_word (x y : BitVec 32) : (IntOp.minsi x y).toInt = min x.toInt y.toInt ∧ (IntOp.minsi x y = x ∨ IntOp.minsi x y = y) := by
  unfold IntOp.minsi
  by_cases h : x.slt y
  · rw [if_pos h]
    have : x.toInt < y.toInt := by rw [BitVec.slt] at h; exact of_decide_eq_true h
    exact ⟨by omega, .inl rfl⟩
  · rw [if_neg h]
    have : ¬x.toInt < y.toInt := fun hlt => h (by rw [BitVec.slt]; exact decide_eq_true hlt)
    exact ⟨by omega, .inr rfl⟩

theorem fold_min (S : Finset (Fin 16)) (f : Fin 16 → BitVec 32) (b : BitVec 32) :
    (∀ i ∈ S, (Finset.fold IntOp.minsi b f S).toInt ≤ (f i).toInt)
      ∧ (Finset.fold IntOp.minsi b f S = b ∨ ∃ i ∈ S, Finset.fold IntOp.minsi b f S = f i) := by
  classical
  induction S using Finset.induction with
  | empty => exact ⟨fun i hi => absurd hi (Finset.notMem_empty i), .inl (Finset.fold_empty ..)⟩
  | insert a S ha ih =>
    rw [Finset.fold_insert ha]
    obtain ⟨h1, h2⟩ := min_word (f a) (Finset.fold IntOp.minsi b f S)
    constructor
    · intro i hi
      rw [h1]
      rcases Finset.mem_insert.1 hi with rfl | hi
      · exact min_le_left _ _
      · exact (min_le_right _ _).trans (ih.1 i hi)
    · rcases h2 with h2 | h2
      · exact .inr ⟨a, Finset.mem_insert_self _ _, h2⟩
      · rw [h2]
        rcases ih.2 with h3 | ⟨i, hi, h3⟩
        · exact .inl h3
        · exact .inr ⟨i, Finset.mem_insert_of_mem hi, h3⟩

theorem small_word (x : Fin 16) : (BitVec.ofNat 32 x.val).toInt = (x.val : ℤ) := by
  have hx := x.isLt
  rw [BitVec.toInt_eq_toNat_of_lt (by rw [BitVec.toNat_ofNat]; omega), BitVec.toNat_ofNat]
  congr 1; omega

theorem firstAt_eq (P : Fin 16 → EReal) (m : EReal) (a : Fin 16) (ha : P a = m) (h : ∀ i < a, P i ≠ m) :
    firstAt P m = BitVec.ofNat 32 a.val := by
  unfold firstAt
  obtain ⟨h1, h2⟩ := fold_min Finset.univ (fun x => if P x = m then BitVec.ofNat 32 x.val else 16#32) 2147483647#32
  have h3 := h1 a (Finset.mem_univ _)
  have hlt := a.isLt
  simp only [ha, if_true, small_word] at h3
  rcases h2 with h2 | ⟨i, -, h2⟩
  · rw [h2] at h3
    exact absurd h3 (by show ¬(2147483647 : ℤ) ≤ _; omega)
  · rw [h2] at h3 ⊢
    by_cases hi : P i = m
    · rw [if_pos hi, small_word] at h3
      rw [if_pos hi]
      have : ¬i < a := fun hlt' => h i hlt' hi
      rw [Fin.lt_def] at this
      rw [show i = a from Fin.ext (by omega)]
    · rw [if_neg hi] at h3
      exact absurd h3 (by show ¬(16 : ℤ) ≤ _; omega)

/-! ## The two chosen -/

theorem share_chosen (L : Fin 8 → EReal) (hf : ∀ e, L e ≠ ⊤ ∧ L e ≠ ⊥) (a b : Fin 8) (hab : a ≠ b)
    (ha : ∀ j, j ≠ a → Before L a j) (hb : ∀ j, j ≠ a → j ≠ b → Before L b j) (e : Fin 8) :
    share (padded L) (wide e)
      = (if BitVec.ofNat 32 e.val = BitVec.ofNat 32 a.val then Ideal.div 1 (1 + Ideal.exp (L b - L a)) else 0)
        + if BitVec.ofNat 32 e.val = BitVec.ofNat 32 b.val then Ideal.div (Ideal.exp (L b - L a)) (1 + Ideal.exp (L b - L a)) else 0 := by
  have le_of : ∀ {x y : Fin 8}, Before L x y → L y ≤ L x := fun h => h.elim le_of_lt fun h => h.1.le
  have cases : ∀ i : Fin 16, (∃ j : Fin 8, i = wide j) ∨ padded L i = ⊥ ∧ 8 ≤ i.val := fun i => by
    by_cases h : i.val < 8
    · exact .inl ⟨⟨i.val, h⟩, rfl⟩
    · exact .inr ⟨by unfold padded; rw [dif_neg h], by omega⟩
  have wide_inj : ∀ {x y : Fin 8}, wide x = wide y → x = y := fun h =>
    Fin.ext (congrArg (fun z : Fin 16 => z.val) h)
  have t1 : top (padded L) = L a := by
    rw [← padded_wide L a]
    refine top_eq _ _ fun i => ?_
    rcases cases i with ⟨j, rfl⟩ | ⟨h, -⟩
    · rw [padded_wide, padded_wide]
      by_cases hj : j = a
      · rw [hj]
      · exact le_of (ha j hj)
    · rw [h]; exact bot_le
  have o1 : one (padded L) = BitVec.ofNat 32 a.val := by
    unfold one
    rw [t1]
    refine firstAt_eq _ _ (wide a) (padded_wide L a) fun i hi => ?_
    rcases cases i with ⟨j, rfl⟩ | ⟨-, h⟩
    · rw [padded_wide]
      have hj : j.val < a.val := hi
      rcases ha j (fun h => by rw [h] at hj; omega) with h | h
      · exact h.ne
      · exact absurd h.2 (by rw [Fin.lt_def]; omega)
    · exact absurd hi (by rw [Fin.lt_def]; show ¬i.val < a.val; omega)
  have r1 : ∀ i, rest (padded L) i = if i = wide a then ⊥ else padded L i := fun i => by
    unfold rest
    rw [o1, minus_infinity]
    by_cases h : i = wide a
    · rw [if_pos h, if_pos ((number_eq i (wide a)).2 h)]
    · rw [if_neg h, if_neg fun h' => h ((number_eq i (wide a)).1 h')]
  have rb : rest (padded L) (wide b) = L b := by
    rw [r1, if_neg fun h => hab (wide_inj h).symm, padded_wide]
  have t2 : top (rest (padded L)) = L b := by
    rw [← rb]
    refine top_eq _ _ fun i => ?_
    rw [rb, r1]
    by_cases h : i = wide a
    · rw [if_pos h]; exact bot_le
    · rw [if_neg h]
      rcases cases i with ⟨j, rfl⟩ | ⟨h, -⟩
      · rw [padded_wide]
        by_cases hj : j = b
        · rw [hj]
        · exact le_of (hb j (fun h' => h (by rw [h'])) hj)
      · rw [h]; exact bot_le
  have o2 : two (padded L) = BitVec.ofNat 32 b.val := by
    unfold two
    rw [t2]
    refine firstAt_eq _ _ (wide b) rb fun i hi => ?_
    rw [r1]
    by_cases h : i = wide a
    · rw [if_pos h]; exact (hf b).2.symm
    · rw [if_neg h]
      rcases cases i with ⟨j, rfl⟩ | ⟨-, h⟩
      · rw [padded_wide]
        have hj : j.val < b.val := hi
        rcases hb j (fun h' => h (by rw [h'])) (fun h => by rw [h] at hj; omega) with h | h
        · exact h.ne
        · exact absurd h.2 (by rw [Fin.lt_def]; omega)
      · exact absurd hi (by rw [Fin.lt_def]; show ¬i.val < b.val; omega)
  unfold share
  rw [o1, o2, t1, t2]

/-- The order in which a sort from the largest down puts eight logits. -/
def order (L : Fin 8 → EReal) : Fin 8 → Fin 8 :=
  sortedFrom fun k k' => FloatOps.cmpfTotal (F := Ideal) (φ := .f32) .gt (L k) (L k') == 1#1

theorem greater (L : Fin 8 → EReal) (a b : Fin 8) :
    (FloatOps.cmpfTotal (F := Ideal) (φ := .f32) .gt (L a) (L b) == 1#1) = true ↔ L b < L a := by
  show (BitVec.ofBool (decide (L b < L a)) == 1#1) = true ↔ _
  by_cases h : L b < L a <;> simp [h]

/-- The softmax of the two largest logits, from the first two places of the order. -/
def soft (L : Fin 8 → EReal) (k : Fin 2) : EReal :=
  Ideal.div (Ideal.exp (L (order L ⟨k.val, by omega⟩) - max ⊥ (max (L (order L 0)) (L (order L 1)))))
    (∑ j : Fin 2, Ideal.exp (L (order L ⟨j.val, by omega⟩) - max ⊥ (max (L (order L 0)) (L (order L 1)))))

theorem exp_self (x : EReal) (h : x ≠ ⊤ ∧ x ≠ ⊥) : Ideal.exp (x - x) = 1 := by
  rw [EReal.sub_self h.1 h.2]
  show ((Real.exp 0 : ℝ) : EReal) = 1
  rw [Real.exp_zero]; rfl

theorem share_soft (L : Fin 8 → EReal) (hf : ∀ e, L e ≠ ⊤ ∧ L e ≠ ⊥) (e : Fin 8) :
    share (padded L) (wide e)
      = ∑ k : Fin 2, soft L k * if BitVec.ofNat 32 (order L ⟨k.val, by omega⟩).val = BitVec.ofNat 32 e.val then 1 else 0 := by
  have hs : ∀ i j : Fin 8, i < j → Before L (order L i) (order L j) := sorted_before L _ (greater L)
  have hsurj : ∀ j, ∃ i, order L i = j := sortedFrom_surjective _
  have hinj : Function.Injective (order L) := sortedFrom_injective _
  have ha : ∀ j, j ≠ order L 0 → Before L (order L 0) j := fun j hj => by
    obtain ⟨i, rfl⟩ := hsurj j
    exact hs 0 i (by rw [Fin.lt_def]; have : i ≠ 0 := fun h => hj (by rw [h]); have := Fin.val_ne_of_ne this; show 0 < i.val; exact Nat.pos_of_ne_zero this)
  have hb : ∀ j, j ≠ order L 0 → j ≠ order L 1 → Before L (order L 1) j := fun j h0 h1 => by
    obtain ⟨i, rfl⟩ := hsurj j
    have h0' : i.val ≠ 0 := fun h => h0 (congrArg _ (Fin.ext h))
    have h1' : i.val ≠ 1 := fun h => h1 (congrArg _ (Fin.ext h))
    exact hs 1 i (by rw [Fin.lt_def]; show 1 < i.val; omega)
  rw [share_chosen L hf (order L 0) (order L 1) (fun h => absurd (hinj h) (by decide)) ha hb e]
  have hm : max ⊥ (max (L (order L 0)) (L (order L 1))) = L (order L 0) := by
    rw [max_eq_right bot_le, max_eq_left]
    exact (hs 0 1 (by decide)).elim le_of_lt fun h => h.1.le
  rw [Fin.sum_univ_two]
  unfold soft
  rw [Fin.sum_univ_two, hm]
  show _ = Ideal.div (Ideal.exp (L (order L 0) - L (order L 0))) (Ideal.exp (L (order L 0) - L (order L 0)) + Ideal.exp (L (order L 1) - L (order L 0)))
      * (if BitVec.ofNat 32 (order L 0).val = BitVec.ofNat 32 e.val then 1 else 0)
    + Ideal.div (Ideal.exp (L (order L 1) - L (order L 0))) (Ideal.exp (L (order L 0) - L (order L 0)) + Ideal.exp (L (order L 1) - L (order L 0)))
      * (if BitVec.ofNat 32 (order L 1).val = BitVec.ofNat 32 e.val then 1 else 0)
  rw [exp_self _ (hf _), mul_ite, mul_ite, mul_one, mul_one, mul_zero, mul_zero]
  congr 1
  · exact if_congr eq_comm rfl rfl
  · exact if_congr eq_comm rfl rfl

/-! ## The reference's choice, read -/

theorem along_eq {N : ℕ} (r : Fin N) (k q : Fin 8) :
    (ix2 r k : (⟨2, ![N, 8]⟩ : Shape).Idx).along ⟨1, Nat.one_lt_two⟩ q = ix2 r q := by
  funext a
  match a with
  | ⟨0, _⟩ => rfl
  | ⟨1, _⟩ => rfl

theorem order_row {N : ℕ} (x : (⟨2, ![N, 8]⟩ : Shape).Idx → EReal) (r : Fin N) (k : Fin 8) :
    sortedFrom (fun a b : Fin 8 => FloatOps.cmpfTotal (F := Ideal) (φ := .f32) .gt
        (x ((ix2 r k : (⟨2, ![N, 8]⟩ : Shape).Idx).along ⟨1, Nat.one_lt_two⟩ a))
        (x ((ix2 r k : (⟨2, ![N, 8]⟩ : Shape).Idx).along ⟨1, Nat.one_lt_two⟩ b)) == 1#1) k
      = order (fun e => x (ix2 r e)) k := by
  unfold order
  refine congrArg (fun f => sortedFrom f k) (funext fun a => funext fun b => ?_)
  rw [along_eq, along_eq]

theorem sorted_values {N : ℕ} (x : (⟨2, ![N, 8]⟩ : Shape).Idx → EReal) (y : IVec ⟨2, ![N, 8]⟩ 32) (r : Fin N) (k : Fin 8) :
    (Host.sort2 (⟨2, ![N, 8]⟩ : Shape) 1 (fun l r : EReal × BitVec 32 => FloatOps.cmpfTotal (F := Ideal) (φ := .f32) .gt l.1 r.1) x y).1
      (ix2 r k) = x (ix2 r (order (fun e => x (ix2 r e)) k)) := by
  unfold Host.sort2
  rw [dif_pos Nat.one_lt_two]
  exact congrArg x ((along_eq r k _).trans (congrArg (ix2 r) (order_row x r k)))

theorem sorted_places {N : ℕ} (x : (⟨2, ![N, 8]⟩ : Shape).Idx → EReal) (y : IVec ⟨2, ![N, 8]⟩ 32) (r : Fin N) (k : Fin 8) :
    (Host.sort2 (⟨2, ![N, 8]⟩ : Shape) 1 (fun l r : EReal × BitVec 32 => FloatOps.cmpfTotal (F := Ideal) (φ := .f32) .gt l.1 r.1) x y).2
      (ix2 r k) = y (ix2 r (order (fun e => x (ix2 r e)) k)) := by
  unfold Host.sort2
  rw [dif_pos Nat.one_lt_two]
  exact congrArg y ((along_eq r k _).trans (congrArg (ix2 r) (order_row x r k)))

theorem slice_row {α : Type} {N : ℕ} (x : (⟨2, ![N, 8]⟩ : Shape).Idx → α) (h : (⟨2, ![N, 8]⟩ : Shape).Slices (fun _ => 0) ⟨2, ![N, 2]⟩)
    (r : Fin N) (k : Fin 2) :
    extractStridedSlice (s := ⟨2, ![N, 8]⟩) ⟨2, ![N, 2]⟩ (fun _ => 0) x h (ix2 r k) = x (ix2 r ⟨k.val, by omega⟩) := by
  unfold extractStridedSlice
  refine congrArg x (funext fun a => ?_)
  match a with
  | ⟨0, _⟩ => exact Fin.ext (Nat.zero_add _)
  | ⟨1, _⟩ => exact Fin.ext (Nat.zero_add _)

/-- Every element's place in its row. -/
def places (N : ℕ) : IVec ⟨2, ![N, 8]⟩ 32 :=
  fun i => if hd : 1 < 2 then iotaInDim ⟨2, ![N, 8]⟩ 32 ⟨1, hd⟩ i else 0#32

theorem top_values {N : ℕ} (x : (⟨2, ![N, 8]⟩ : Shape).Idx → EReal) (h : (⟨2, ![N, 8]⟩ : Shape).Slices (fun _ => 0) ⟨2, ![N, 2]⟩)
    (r : Fin N) (k : Fin 2) :
    (Host.topK (s := ⟨2, ![N, 8]⟩) ⟨2, ![N, 2]⟩ 1 (FloatOps.cmpfTotal (F := Ideal) (φ := .f32) .gt) x h).1 (ix2 r k)
      = x (ix2 r (order (fun e => x (ix2 r e)) ⟨k.val, by omega⟩)) := by
  exact (slice_row _ h r k).trans (sorted_values x (places N) r _)

theorem top_places {N : ℕ} (x : (⟨2, ![N, 8]⟩ : Shape).Idx → EReal) (h : (⟨2, ![N, 8]⟩ : Shape).Slices (fun _ => 0) ⟨2, ![N, 2]⟩)
    (r : Fin N) (k : Fin 2) :
    (Host.topK (s := ⟨2, ![N, 8]⟩) ⟨2, ![N, 2]⟩ 1 (FloatOps.cmpfTotal (F := Ideal) (φ := .f32) .gt) x h).2 (ix2 r k)
      = BitVec.ofNat 32 (order (fun e => x (ix2 r e)) ⟨k.val, by omega⟩).val := by
  refine ((slice_row _ h r k).trans (sorted_places x (places N) r _)).trans ?_
  unfold places
  rw [dif_pos Nat.one_lt_two]
  rfl

end Cert.Routed

end
-- ==== Proof.MoeArray.lean ====
/- What the expert layer leaves in its result array: the entry of a row and a column, from the arguments. -/
module

public import proofs.«01_k».proof.Proof.MoeFrame
public import proofs.«01_k».proof.Proof.MoeRoute
public import proofs.«01_k».proof.Proof.MoeBlock
public import proofs.«01_k».proof.Proof.Chosen
public import Idealize.ShloMosaic.Lib.StableHlo.ReadAt

@[expose] public section

set_option maxRecDepth 16384

noncomputable section

namespace Cert.MoeIdeal.Experts

open Cert.MoeIdeal Cert.MoeIdeal.Gen Cert.Gated Cert.Routed Idealize.ShloMosaic Idealize.ShloMosaic.TcCoe Idealize.SL.Sem

open Idealize.ShloMosaic.Pipeline (Dat)

/-! ## A tile -/

theorem rows_at (x2 : Vec Ideal S1024x1024 .f32) (x3 x4 : Vec Ideal S1x1x1x1x1024 .f32) (x6 : Vec Ideal S1x1024 .f32)
    (r d : Fin 1024) : rows x2 x3 x4 x6 (ix2 r d)
      = modulated (fun k => x2 (ix2 r k)) (fun k => x6 (ix2 0 k)) (fun k => x3 (ix5 0 0 0 0 k)) (fun k => x4 (ix5 0 0 0 0 k)) d := by
  pointwise [rows, k0_pay6, k0_pay5]
  rfl

theorem products_at (x2 : Vec Ideal S1024x1024 .f32) (x3 x4 : Vec Ideal S1x1x1x1x1024 .f32) (x6 : Vec Ideal S1x1024 .f32)
    (x7 : Vec Ideal S16x1024 .f32) (e : Fin 16) (t : Fin 1024) :
    products x2 x3 x4 x6 x7 (ix2 e t) = ∑ k, x7 (ix2 e k) * rows x2 x3 x4 x6 (ix2 t k) := by
  simp only [rows_at]
  pointwise [products, k0_pay7, k0_pay5]
  rfl

theorem bias_at (x8 : Vec Ideal S16x128 .f32) (e : Fin 16) : bias x8 (ix2 e 0) = x8 (ix2 e 0) := by
  pointwise [bias]

theorem closing_at (x2 : Vec Ideal S1024x1024 .f32) (x5 : Vec Ideal S1x1x1x1x1024 .f32) (acc : Vec Ideal S1024x1024 .f32)
    (r d : Fin 1024) : closing x2 x5 acc (ix2 r d) = x2 (ix2 r d) + x5 (ix5 0 0 0 0 d) * acc (ix2 r d) := by
  pointwise [closing, k0_pay4]

/-- What one expert adds to a row, the tile's routing being held. -/
theorem step_at (i : grid0.Coords) (x2 : Vec Ideal S1024x1024 .f32) (x3 x4 : Vec Ideal S1x1x1x1x1024 .f32) (x6 : Vec Ideal S1x1024 .f32)
    (x7 : Vec Ideal S16x1024 .f32) (x8 : Vec Ideal S16x128 .f32) (x9 : Vec Ideal S1024x1024 .bf16)
    (h9 : ∀ k i, x9 (ix2 k i) = if k < i then 1 else 0) (h : Vec Ideal S1024x1024 .bf16) (wg wu wd : Vec Ideal S1x1024x1024 .bf16)
    (acc : Vec Ideal S1024x1024 .f32) (t d : Fin 1024) (e : Fin 16) (he : (i 1).val = e.val) :
    step i (routing x2 x3 x4 x6 x7 x8 x9) h wg wu wd acc (ix2 t d) = acc (ix2 t d)
      + share (logits (products x2 x3 x4 x6 x7) (bias x8) t) e
        * expert (fun k j => wg (ix3 0 k j)) (fun k j => wu (ix3 0 k j)) (fun j d => wd (ix3 0 j d)) d (fun k => h (ix2 t k)) := by
  generalize hy : products x2 x3 x4 x6 x7 = y
  generalize hz : bias x8 = z
  refine (step_planes i _ h wg wu wd acc t d e he (fun x => takes (logits y z x) e) (fun x => share (logits y z x) e)
    (fun x => ?_) (fun x => ?_)).trans ?_
  · unfold routing
    rw [hy, hz]
    exact (routing_weights _ _ e x).trans (weights_at y z e x)
  · unfold routing
    rw [hy, hz]
    exact (routing_places _ _ e x).trans (places_at y z x9 h9 e x)
  · by_cases ht : takes (logits y z t) e
    · rw [if_pos ht, mul_comm]
    · rw [if_neg ht, share_zero _ _ ht, zero_mul]

/-! ## The arguments and the blocks of a point -/

variable (m : (ℓ : Loc nD τ sig) → Buf (Elt Ideal) ℓ)

/-- The arguments: the token rows, the modulation, the gains, the router with its bias, and the experts' three weight matrices. -/
def tokens (c : Dev nD) : Vec Ideal S24576x1024 .f32 := m ((c : Thread nD τ).loc main_arg0)
def mods (c : Dev nD) : Vec Ideal S4x8x6x1x1024 .f32 := m ((c : Thread nD τ).loc main_arg1)
def gains (c : Dev nD) : Vec Ideal S1024 .f32 := m ((c : Thread nD τ).loc main_arg2)
def router (c : Dev nD) : Vec Ideal S1024x8 .f32 := m ((c : Thread nD τ).loc main_arg3)
def offsets (c : Dev nD) : Vec Ideal S8 .f32 := m ((c : Thread nD τ).loc main_arg4)
def wgate (c : Dev nD) : Vec Ideal S8x1024x1024 .f32 := m ((c : Thread nD τ).loc main_arg5)
def wup (c : Dev nD) : Vec Ideal S8x1024x1024 .f32 := m ((c : Thread nD τ).loc main_arg6)
def wdown (c : Dev nD) : Vec Ideal S8x1024x1024 .f32 := m ((c : Thread nD τ).loc main_arg7)

theorem V_gains (c : Dev nD) (k : Fin 1024) : (V m c main_v5 : Vec Ideal S1x1024 .f32) (ix2 0 k) = gains m c (ix1 k) := by
  unfold V
  after_reads_at
  rfl

theorem V_router (c : Dev nD) (e : Fin 16) (k : Fin 1024) :
    (V m c main_v2 : Vec Ideal S16x1024 .f32) (ix2 e k) = if h : e.val < 8 then router m c (ix2 k ⟨e.val, h⟩) else (0 : EReal) := by
  unfold V
  after_reads_at
  pointwise
  split_ifs <;> rfl

theorem V_offsets (c : Dev nD) (e : Fin 16) :
    (V m c main_v7 : Vec Ideal S16x128 .f32) (ix2 e 0) = if h : e.val < 8 then offsets m c (ix1 ⟨e.val, h⟩) else (⊥ : EReal) := by
  unfold V
  after_reads_at
  pointwise
  split_ifs <;> first | rfl | exact minus_infinity

theorem order_at (k i : Fin 1024) :
    Scalar.select (IntOp.cmpi .sge (IntOp.addi (BitVec.ofNat 32 k.val) 0#32) (BitVec.ofNat 32 i.val)) (0 : EReal) 1 = if k < i then 1 else 0 := by
  have e : IntOp.cmpi .sge (IntOp.addi (BitVec.ofNat 32 k.val) 0#32) (BitVec.ofNat 32 i.val) = BitVec.ofBool (decide (i ≤ k)) := by
    show BitVec.ofBool (BitVec.sle (BitVec.ofNat 32 i.val) (BitVec.ofNat 32 k.val + 0#32)) = _
    rw [BitVec.add_zero]
    congr 1
    have h : ∀ x : Fin 1024, (BitVec.ofNat 32 x.val).toInt = (x.val : ℤ) := fun x => by
      have hx := x.isLt
      rw [BitVec.toInt_eq_toNat_of_lt (by rw [BitVec.toNat_ofNat]; omega), BitVec.toNat_ofNat]
      congr 1; omega
    unfold BitVec.sle
    rw [h, h]
    congr 1
    exact propext (by rw [Fin.le_def]; omega)
  rw [e]
  by_cases h : k < i
  · rw [if_pos h, decide_eq_false (by rw [Fin.le_def]; rw [Fin.lt_def] at h; omega)]; rfl
  · rw [if_neg h, decide_eq_true (by rw [Fin.le_def]; rw [Fin.lt_def] at h; omega)]; rfl

theorem V_order (c : Dev nD) (k i : Fin 1024) : (V m c main_v12 : Vec Ideal S1024x1024 .bf16) (ix2 k i) = if k < i then (1 : EReal) else 0 := by
  unfold V
  after_reads_at
  pointwise
  exact order_at k i

theorem V_gate (c : Dev nD) (e : Fin 8) (k i : Fin 1024) :
    (V m c main_v8 : Vec Ideal S8x1024x1024 .bf16) (ix3 e k i) = wgate m c (ix3 e k i) := by
  unfold V
  after_reads_at
  rfl

theorem V_up (c : Dev nD) (e : Fin 8) (k i : Fin 1024) :
    (V m c main_v9 : Vec Ideal S8x1024x1024 .bf16) (ix3 e k i) = wup m c (ix3 e k i) := by
  unfold V
  after_reads_at
  rfl

theorem V_down (c : Dev nD) (e : Fin 8) (k i : Fin 1024) :
    (V m c main_v10 : Vec Ideal S8x1024x1024 .bf16) (ix3 e k i) = wdown m c (ix3 e k i) := by
  unfold V
  after_reads_at
  rfl

/-- The group of modulation rows that a tile of 1024 rows uses. -/
def tileGroup (q : Nat) : Nat := if q < 8 then 0 else 1 + (q - 8) / 4

theorem idx_rows : ∀ t : Fin grid0.N, (win0_0.index t 0 = t.val / 8 ∧ win0_0.index t 1 = 0)
    ∧ (win0_11.index t 0 = t.val / 8 ∧ win0_11.index t 1 = 0) := by decide +kernel

theorem idx_whole : ∀ t : Fin grid0.N, (win0_4.index t 0 = 0 ∧ win0_4.index t 1 = 0) ∧ (win0_5.index t 0 = 0 ∧ win0_5.index t 1 = 0)
    ∧ (win0_6.index t 0 = 0 ∧ win0_6.index t 1 = 0) ∧ (win0_7.index t 0 = 0 ∧ win0_7.index t 1 = 0) := by decide +kernel

theorem idx_mods : ∀ t : Fin grid0.N,
    (win0_1.index t 0 = 1 ∧ win0_1.index t 1 = tileGroup (t.val / 8) ∧ win0_1.index t 2 = 3 ∧ win0_1.index t 3 = 0 ∧ win0_1.index t 4 = 0)
    ∧ (win0_2.index t 0 = 1 ∧ win0_2.index t 1 = tileGroup (t.val / 8) ∧ win0_2.index t 2 = 4 ∧ win0_2.index t 3 = 0 ∧ win0_2.index t 4 = 0)
    ∧ (win0_3.index t 0 = 1 ∧ win0_3.index t 1 = tileGroup (t.val / 8) ∧ win0_3.index t 2 = 5 ∧ win0_3.index t 3 = 0 ∧ win0_3.index t 4 = 0) := by
  decide +kernel

theorem idx_experts : ∀ t : Fin grid0.N, (win0_8.index t 0 = t.val % 8 ∧ win0_8.index t 1 = 0 ∧ win0_8.index t 2 = 0)
    ∧ (win0_9.index t 0 = t.val % 8 ∧ win0_9.index t 1 = 0 ∧ win0_9.index t 2 = 0)
    ∧ (win0_10.index t 0 = t.val % 8 ∧ win0_10.index t 1 = 0 ∧ win0_10.index t 2 = 0) := by decide +kernel

theorem iblk0 (c : Dev nD) (t : Fin cfg0.N) (r d : Fin 1024) (h : 1024 * (t.val / 8) + r.val < 24576) :
    (iblk m c 0 t : Vec Ideal S1024x1024 .f32) (ix2 r d) = tokens m c (ix2 ⟨1024 * (t.val / 8) + r.val, h⟩ d) := by
  obtain ⟨h1, -⟩ := idx_rows t
  unfold iblk
  rw [View.read_apply]
  show V m c main_arg0 _ = tokens m c _
  rw [show V m c main_arg0 = tokens m c from V_main_arg0 m c]
  congr 1
  funext a
  apply Fin.ext
  match a with
  | ⟨0, _⟩ => show win0_0.index t 0 * 1024 + 1 * r.val = 1024 * (t.val / 8) + r.val; rw [h1.1]; omega
  | ⟨1, _⟩ => show win0_0.index t 1 * 1024 + 1 * d.val = d.val; rw [h1.2]; omega

theorem iblk1 (c : Dev nD) (t : Fin cfg0.N) (k : Fin 1024) (g : Fin 8) (hg : g.val = tileGroup (t.val / 8)) :
    (iblk m c 1 t : Vec Ideal S1x1x1x1x1024 .f32) (ix5 0 0 0 0 k) = mods m c (ix5 1 g 3 0 k) := by
  obtain ⟨⟨h0, h1, h2, h3, h4⟩, -, -⟩ := idx_mods t
  unfold iblk
  rw [View.read_apply]
  show V m c main_arg1 _ = mods m c _
  rw [show V m c main_arg1 = mods m c from V_main_arg1 m c]
  congr 1
  funext a
  apply Fin.ext
  match a with
  | ⟨0, _⟩ => show win0_1.index t 0 * 1 + 1 * 0 = 1; rw [h0]
  | ⟨1, _⟩ => show win0_1.index t 1 * 1 + 1 * 0 = g.val; rw [h1, hg]; omega
  | ⟨2, _⟩ => show win0_1.index t 2 * 1 + 1 * 0 = 3; rw [h2]
  | ⟨3, _⟩ => show win0_1.index t 3 * 1 + 1 * 0 = 0; rw [h3]
  | ⟨4, _⟩ => show win0_1.index t 4 * 1024 + 1 * k.val = k.val; rw [h4]; omega

theorem iblk2 (c : Dev nD) (t : Fin cfg0.N) (k : Fin 1024) (g : Fin 8) (hg : g.val = tileGroup (t.val / 8)) :
    (iblk m c 2 t : Vec Ideal S1x1x1x1x1024 .f32) (ix5 0 0 0 0 k) = mods m c (ix5 1 g 4 0 k) := by
  obtain ⟨-, ⟨h0, h1, h2, h3, h4⟩, -⟩ := idx_mods t
  unfold iblk
  rw [View.read_apply]
  show V m c main_arg1 _ = mods m c _
  rw [show V m c main_arg1 = mods m c from V_main_arg1 m c]
  congr 1
  funext a
  apply Fin.ext
  match a with
  | ⟨0, _⟩ => show win0_2.index t 0 * 1 + 1 * 0 = 1; rw [h0]
  | ⟨1, _⟩ => show win0_2.index t 1 * 1 + 1 * 0 = g.val; rw [h1, hg]; omega
  | ⟨2, _⟩ => show win0_2.index t 2 * 1 + 1 * 0 = 4; rw [h2]
  | ⟨3, _⟩ => show win0_2.index t 3 * 1 + 1 * 0 = 0; rw [h3]
  | ⟨4, _⟩ => show win0_2.index t 4 * 1024 + 1 * k.val = k.val; rw [h4]; omega

theorem iblk3 (c : Dev nD) (t : Fin cfg0.N) (k : Fin 1024) (g : Fin 8) (hg : g.val = tileGroup (t.val / 8)) :
    (iblk m c 3 t : Vec Ideal S1x1x1x1x1024 .f32) (ix5 0 0 0 0 k) = mods m c (ix5 1 g 5 0 k) := by
  obtain ⟨-, -, ⟨h0, h1, h2, h3, h4⟩⟩ := idx_mods t
  unfold iblk
  rw [View.read_apply]
  show V m c main_arg1 _ = mods m c _
  rw [show V m c main_arg1 = mods m c from V_main_arg1 m c]
  congr 1
  funext a
  apply Fin.ext
  match a with
  | ⟨0, _⟩ => show win0_3.index t 0 * 1 + 1 * 0 = 1; rw [h0]
  | ⟨1, _⟩ => show win0_3.index t 1 * 1 + 1 * 0 = g.val; rw [h1, hg]; omega
  | ⟨2, _⟩ => show win0_3.index t 2 * 1 + 1 * 0 = 5; rw [h2]
  | ⟨3, _⟩ => show win0_3.index t 3 * 1 + 1 * 0 = 0; rw [h3]
  | ⟨4, _⟩ => show win0_3.index t 4 * 1024 + 1 * k.val = k.val; rw [h4]; omega

theorem iblk4 (c : Dev nD) (t : Fin cfg0.N) (k : Fin 1024) :
    (iblk m c 4 t : Vec Ideal S1x1024 .f32) (ix2 0 k) = gains m c (ix1 k) := by
  obtain ⟨h1, -, -, -⟩ := idx_whole t
  rw [← V_gains]
  unfold iblk
  rw [View.read_apply]
  show V m c main_v5 _ = V m c main_v5 _
  congr 1
  funext a
  apply Fin.ext
  match a with
  | ⟨0, _⟩ => show win0_4.index t 0 * 1 + 1 * 0 = 0; rw [h1.1]
  | ⟨1, _⟩ => show win0_4.index t 1 * 1024 + 1 * k.val = k.val; rw [h1.2]; omega

theorem iblk5 (c : Dev nD) (t : Fin cfg0.N) (e : Fin 16) (k : Fin 1024) :
    (iblk m c 5 t : Vec Ideal S16x1024 .f32) (ix2 e k) = if h : e.val < 8 then router m c (ix2 k ⟨e.val, h⟩) else (0 : EReal) := by
  obtain ⟨-, h1, -, -⟩ := idx_whole t
  rw [← V_router]
  unfold iblk
  rw [View.read_apply]
  show V m c main_v2 _ = V m c main_v2 _
  congr 1
  funext a
  apply Fin.ext
  match a with
  | ⟨0, _⟩ => show win0_5.index t 0 * 16 + 1 * e.val = e.val; rw [h1.1]; omega
  | ⟨1, _⟩ => show win0_5.index t 1 * 1024 + 1 * k.val = k.val; rw [h1.2]; omega

theorem iblk6 (c : Dev nD) (t : Fin cfg0.N) (e : Fin 16) :
    (iblk m c 6 t : Vec Ideal S16x128 .f32) (ix2 e 0) = if h : e.val < 8 then offsets m c (ix1 ⟨e.val, h⟩) else (⊥ : EReal) := by
  obtain ⟨-, -, h1, -⟩ := idx_whole t
  rw [← V_offsets]
  unfold iblk
  rw [View.read_apply]
  show V m c main_v7 _ = V m c main_v7 _
  congr 1
  funext a
  apply Fin.ext
  match a with
  | ⟨0, _⟩ => show win0_6.index t 0 * 16 + 1 * e.val = e.val; rw [h1.1]; omega
  | ⟨1, _⟩ => show win0_6.index t 1 * 128 + 1 * 0 = 0; rw [h1.2]

theorem iblk7 (c : Dev nD) (t : Fin cfg0.N) (k i : Fin 1024) :
    (iblk m c 7 t : Vec Ideal S1024x1024 .bf16) (ix2 k i) = if k < i then (1 : EReal) else 0 := by
  obtain ⟨-, -, -, h1⟩ := idx_whole t
  rw [← V_order m c]
  unfold iblk
  rw [View.read_apply]
  show V m c main_v12 _ = V m c main_v12 _
  congr 1
  funext a
  apply Fin.ext
  match a with
  | ⟨0, _⟩ => show win0_7.index t 0 * 1024 + 1 * k.val = k.val; rw [h1.1]; omega
  | ⟨1, _⟩ => show win0_7.index t 1 * 1024 + 1 * i.val = i.val; rw [h1.2]; omega

theorem iblk8 (c : Dev nD) (t : Fin cfg0.N) (e : Fin 8) (he : t.val % 8 = e.val) (k i : Fin 1024) :
    (iblk m c 8 t : Vec Ideal S1x1024x1024 .bf16) (ix3 0 k i) = wgate m c (ix3 e k i) := by
  obtain ⟨h1, -, -⟩ := idx_experts t
  rw [← V_gate]
  unfold iblk
  rw [View.read_apply]
  show V m c main_v8 _ = V m c main_v8 _
  congr 1
  funext a
  apply Fin.ext
  match a with
  | ⟨0, _⟩ => show win0_8.index t 0 * 1 + 1 * 0 = e.val; rw [h1.1]; omega
  | ⟨1, _⟩ => show win0_8.index t 1 * 1024 + 1 * k.val = k.val; rw [h1.2.1]; omega
  | ⟨2, _⟩ => show win0_8.index t 2 * 1024 + 1 * i.val = i.val; rw [h1.2.2]; omega

theorem iblk9 (c : Dev nD) (t : Fin cfg0.N) (e : Fin 8) (he : t.val % 8 = e.val) (k i : Fin 1024) :
    (iblk m c 9 t : Vec Ideal S1x1024x1024 .bf16) (ix3 0 k i) = wup m c (ix3 e k i) := by
  obtain ⟨-, h1, -⟩ := idx_experts t
  rw [← V_up]
  unfold iblk
  rw [View.read_apply]
  show V m c main_v9 _ = V m c main_v9 _
  congr 1
  funext a
  apply Fin.ext
  match a with
  | ⟨0, _⟩ => show win0_9.index t 0 * 1 + 1 * 0 = e.val; rw [h1.1]; omega
  | ⟨1, _⟩ => show win0_9.index t 1 * 1024 + 1 * k.val = k.val; rw [h1.2.1]; omega
  | ⟨2, _⟩ => show win0_9.index t 2 * 1024 + 1 * i.val = i.val; rw [h1.2.2]; omega

theorem iblk10 (c : Dev nD) (t : Fin cfg0.N) (e : Fin 8) (he : t.val % 8 = e.val) (k i : Fin 1024) :
    (iblk m c 10 t : Vec Ideal S1x1024x1024 .bf16) (ix3 0 k i) = wdown m c (ix3 e k i) := by
  obtain ⟨-, -, h1⟩ := idx_experts t
  rw [← V_down]
  unfold iblk
  rw [View.read_apply]
  show V m c main_v10 _ = V m c main_v10 _
  congr 1
  funext a
  apply Fin.ext
  match a with
  | ⟨0, _⟩ => show win0_10.index t 0 * 1 + 1 * 0 = e.val; rw [h1.1]; omega
  | ⟨1, _⟩ => show win0_10.index t 1 * 1024 + 1 * k.val = k.val; rw [h1.2.1]; omega
  | ⟨2, _⟩ => show win0_10.index t 2 * 1024 + 1 * i.val = i.val; rw [h1.2.2]; omega

/-! ## A tile's points -/

/-- The rows a tile keeps, its first point being `s` … -/
def tileRows (c : Dev nD) (s : Fin cfg0.N) : Vec Ideal S1024x1024 .bf16 := rows (iblk m c 0 s) (iblk m c 1 s) (iblk m c 2 s) (iblk m c 4 s)

/-- … its logits … -/
def tileLogits (c : Dev nD) (s : Fin cfg0.N) (t : Fin 1024) : Fin 16 → EReal :=
  logits (products (iblk m c 0 s) (iblk m c 1 s) (iblk m c 2 s) (iblk m c 4 s) (iblk m c 5 s)) (bias (iblk m c 6 s)) t

/-- … its routing … -/
def tileRouting (c : Dev nD) (s : Fin cfg0.N) : Vec Ideal S2x16x1024 .f32 :=
  routing (iblk m c 0 s) (iblk m c 1 s) (iblk m c 2 s) (iblk m c 4 s) (iblk m c 5 s) (iblk m c 6 s) (iblk m c 7 s)

/-- … and what expert `e` adds to its row `t`, column `d`. -/
def added (c : Dev nD) (s : Fin cfg0.N) (t d : Fin 1024) (e : Fin 8) : EReal :=
  share (tileLogits m c s t) ⟨e.val, by omega⟩
    * expert (fun k j => wgate m c (ix3 e k j)) (fun k j => wup m c (ix3 e k j)) (fun j d => wdown m c (ix3 e j d)) d (fun k => tileRows m c s (ix2 t k))

theorem point_at (c : Dev nD) (s u : Fin cfg0.N) (e : Fin 8) (he : u.val % 8 = e.val) (acc : Vec Ideal S1024x1024 .f32) (t d : Fin 1024) :
    step (grid0.coords u) (tileRouting m c s) (tileRows m c s) (iblk m c 8 u) (iblk m c 9 u) (iblk m c 10 u) acc (ix2 t d)
      = acc (ix2 t d) + added m c s t d e := by
  have hu : (grid0.coords u 1).val = e.val := by
    have e1 : (grid0.coords u 1).val = u.val / 1 % 8 := Pipeline.Grid.coords_val u 1 (by decide) rfl
    rw [e1, Nat.div_one, he]
  unfold tileRouting
  refine (step_at (grid0.coords u) (iblk m c 0 s) (iblk m c 1 s) (iblk m c 2 s) (iblk m c 4 s) (iblk m c 5 s) (iblk m c 6 s) (iblk m c 7 s)
    (iblk7 m c s) (tileRows m c s) (iblk m c 8 u) (iblk m c 9 u) (iblk m c 10 u) acc t d ⟨e.val, by omega⟩ hu).trans ?_
  simp only [iblk8 m c u e he, iblk9 m c u e he, iblk10 m c u e he]
  rfl

theorem held_first (c : Dev nD) (s : Fin cfg0.N) (h0 : s.val % 8 = 0) : held m c s.val s.isLt = (tileRows m c s, tileRouting m c s,
    step (grid0.coords s) (tileRouting m c s) (tileRows m c s) (iblk m c 8 s) (iblk m c 9 s) (iblk m c 10 s) (k0_pay62 (F := Ideal))) := by
  rw [held_opening m c s h0]
  unfold opening tileRows tileRouting
  rfl

theorem further_eq (c : Dev nD) (t : Fin cfg0.N) (a : Vec Ideal S1024x1024 .bf16) (b : Vec Ideal S2x16x1024 .f32) (acc : Vec Ideal S1024x1024 .f32) :
    further m c t (a, b, acc) = (a, b, step (grid0.coords t) b a (iblk m c 8 t) (iblk m c 9 t) (iblk m c 10 t) acc) := by
  unfold further
  dsimp only

theorem held_next (c : Dev nD) (s u v : Fin cfg0.N) (hv : v.val = u.val + 1) (h0 : ¬v.val % 8 = 0) (acc : Vec Ideal S1024x1024 .f32)
    (hu : held m c u.val u.isLt = (tileRows m c s, tileRouting m c s, acc)) : held m c v.val v.isLt = (tileRows m c s, tileRouting m c s,
      step (grid0.coords v) (tileRouting m c s) (tileRows m c s) (iblk m c 8 v) (iblk m c 9 v) (iblk m c 10 v) acc) := by
  have e : ∀ h, held m c (v.val - 1) h = held m c u.val u.isLt := by
    rw [show v.val - 1 = u.val by omega]; exact fun _ => rfl
  exact (held_further m c v h0).trans ((congrArg (further m c v) ((e _).trans hu)).trans (further_eq m c v _ _ acc))

/-- What the three scratches hold after each point of a tile. -/
theorem held_at (c : Dev nD) (s : Fin cfg0.N) (h0 : s.val % 8 = 0) (e : ℕ) : ∀ (he : e < 8) (u : Fin cfg0.N), u.val = s.val + e →
    ∃ acc : Vec Ideal S1024x1024 .f32, held m c u.val u.isLt = (tileRows m c s, tileRouting m c s, acc)
      ∧ ∀ t d : Fin 1024, acc (ix2 t d) = ∑ j : Fin (e + 1), added m c s t d ⟨j.val, by omega⟩ := by
  induction e with
  | zero =>
    intro he u hu
    obtain rfl : u = s := Fin.ext hu
    refine ⟨_, held_first m c u h0, fun t d => ?_⟩
    refine (point_at m c u u 0 h0 _ t d).trans ?_
    rw [show k0_pay62 (F := Ideal) (ix2 t d) = 0 by pointwise [k0_pay62], zero_add, Fin.sum_univ_one]
    rfl
  | succ e ih =>
    intro he v hv
    have hlt := v.isLt
    obtain ⟨acc, h1, h2⟩ := ih (by omega) ⟨s.val + e, by omega⟩ rfl
    refine ⟨_, held_next m c s ⟨s.val + e, by omega⟩ v (by show v.val = s.val + e + 1; omega) (by omega) acc h1, fun t d => ?_⟩
    refine (point_at m c s v ⟨e + 1, he⟩ (by show v.val % 8 = e + 1; omega) acc t d).trans ?_
    rw [h2, Fin.sum_univ_castSucc (n := e + 1)]
    rfl

/-! ## The array -/

theorem flush_last : ∀ t : Fin grid0.N, t.val % 8 = 7 → win0_11.flush t = true := by decide +kernel

theorem idx_inj (t t' : Fin grid0.N) (hf : win0_11.flush t = true) (hf' : win0_11.flush t' = true)
    (h : win0_11.index t = win0_11.index t') : t = t' := by
  have e : ∀ t : Fin grid0.N, win0_11.flush t = true → t.val % 8 = 7 := by decide +kernel
  have h1 := (idx_rows t).2.1
  have h2 := (idx_rows t').2.1
  rw [h, h2] at h1
  have := e t hf
  have := e t' hf'
  exact Fin.ext (by omega)

theorem disjoint : ∀ t t' : Fin cfg0.N, (cfg0.win 11).flush t = true → (cfg0.win 11).flush t' = true → t ≠ t' →
    Disjoint ((cfg0.win 11).blk t).view.set ((cfg0.win 11).blk t').view.set :=
  fun t t' hf hf' hne => (cfg0.win 11).disjoint_blk fun h => hne (idx_inj t t' hf hf' h)

theorem flushed_at (c : Dev nD) (t : Fin cfg0.N) :
    (dats m 0 c).flushed 11 t = (cfg0.win 11).cut (grid0.coords t) (result m c t) := by
  show (cfg0.win 11).cut (grid0.coords t) ((dats m 0 c).after 11 t) = _
  rw [after_11]

/-- The row of a token after the norm and the modulation. -/
def hidden (c : Dev nD) (r : Fin 24576) : Fin 1024 → EReal :=
  modulated (fun k => tokens m c (ix2 r k)) (fun k => gains m c (ix1 k)) (fun k => mods m c (ix5 1 (groupOf r) 3 0 k))
    (fun k => mods m c (ix5 1 (groupOf r) 4 0 k))

/-- The logits of a token. -/
def tokenLogits (c : Dev nD) (r : Fin 24576) (e : Fin 8) : EReal := (∑ k, hidden m c r k * router m c (ix2 k e)) + offsets m c (ix1 e)

theorem group_tile (r : Fin 24576) : (groupOf r).val = tileGroup (r.val / 1024) := by
  unfold groupOf tileGroup
  split_ifs with h h' h'
  · rfl
  · exfalso; omega
  · exfalso; omega
  · show 1 + (r.val - 8192) / 4096 = 1 + (r.val / 1024 - 8) / 4; omega

theorem rows_eq (c : Dev nD) (s : Fin cfg0.N) (r : Fin 24576) (hr : r.val / 1024 = s.val / 8) (d : Fin 1024) :
    tileRows m c s (ix2 ⟨r.val % 1024, by omega⟩ d) = hidden m c r d := by
  have hg : (groupOf r).val = tileGroup (s.val / 8) := by rw [group_tile, hr]
  have hr' : (⟨1024 * (s.val / 8) + r.val % 1024, by omega⟩ : Fin 24576) = r := Fin.ext (by simp only; omega)
  unfold tileRows
  rw [rows_at]
  unfold hidden
  congr 1
  · funext k; rw [iblk0 m c s _ _ (by omega), hr']
  · funext k; rw [iblk4]
  · funext k; rw [iblk1 m c s k _ hg]
  · funext k; rw [iblk2 m c s k _ hg]

theorem logits_eq (c : Dev nD) (s : Fin cfg0.N) (r : Fin 24576) (hr : r.val / 1024 = s.val / 8) :
    tileLogits m c s ⟨r.val % 1024, by omega⟩ = padded (tokenLogits m c r) := by
  funext e
  unfold tileLogits logits padded
  rw [products_at, bias_at, iblk6]
  by_cases h : e.val < 8
  · rw [dif_pos h, dif_pos h]
    unfold tokenLogits
    refine congrArg (· + offsets m c (ix1 ⟨e.val, h⟩)) (Finset.sum_congr rfl fun k _ => ?_)
    rw [iblk5, dif_pos h, mul_comm]
    exact congrArg (· * _) (rows_eq m c s r hr k)
  · rw [dif_neg h, dif_neg h, EReal.add_bot]

/-- The kernel's result at row `r` and column `d`. -/
theorem array_at (c : Dev nD) (r : Fin 24576) (d : Fin 1024) :
    ((dats m 0 c).arrAt 11 cfg0.N : Vec Ideal S24576x1024 .f32) (ix2 r d)
      = tokens m c (ix2 r d) + mods m c (ix5 1 (groupOf r) 5 0 d) * ∑ e : Fin 8, share (padded (tokenLogits m c r)) ⟨e.val, by omega⟩
        * expert (fun k j => wgate m c (ix3 e k j)) (fun k j => wup m c (ix3 e k j)) (fun j d => wdown m c (ix3 e j d)) d (hidden m c r) := by
  have hN : cfg0.N = 192 := N_0
  obtain ⟨s, hs⟩ : ∃ s : Fin cfg0.N, s.val = 8 * (r.val / 1024) := ⟨⟨8 * (r.val / 1024), by omega⟩, rfl⟩
  have hlt : s.val + 7 < cfg0.N := by omega
  obtain ⟨t, ht⟩ : ∃ t : Fin cfg0.N, t = ⟨s.val + 7, hlt⟩ := ⟨_, rfl⟩
  have htv : t.val = s.val + 7 := by rw [ht]
  obtain ⟨-, h11⟩ := idx_rows t
  have e : (ix2 r d : S24576x1024.Idx) = ((cfg0.win 11).blk t).view.emb (ix2 (⟨r.val % 1024, by omega⟩ : Fin 1024) d) := by
    funext a
    apply Fin.ext
    match a with
    | ⟨0, _⟩ => show r.val = win0_11.index t 0 * 1024 + 1 * (r.val % 1024); rw [h11.1]; omega
    | ⟨1, _⟩ => show d.val = win0_11.index t 1 * 1024 + 1 * d.val; rw [h11.2]; omega
  have hg : (groupOf r).val = tileGroup (t.val / 8) := by rw [group_tile, show t.val / 8 = r.val / 1024 by omega]
  have hr' : (⟨1024 * (t.val / 8) + r.val % 1024, by omega⟩ : Fin 24576) = r := Fin.ext (by simp only; omega)
  rw [e]
  refine ((dats m 0 c).arrAt_emb_eq_flushed 11 disjoint t (flush_last t (by omega)) _).trans ?_
  rw [cast_eq, flushed_at]
  obtain ⟨acc, h1, h2⟩ := held_at m c s (by omega) 7 (by omega) t (by omega)
  have hh : (held m c t.val t.isLt).2.2 (ix2 ⟨r.val % 1024, by omega⟩ d) = ∑ j : Fin 8, added m c s ⟨r.val % 1024, by omega⟩ d j := by
    rw [h1]
    exact h2 _ _
  refine (closing_at (iblk m c 0 t) (iblk m c 3 t) (held m c t.val t.isLt).2.2 ⟨r.val % 1024, by omega⟩ d).trans ?_
  rw [hh, iblk0 m c t _ _ (by omega), hr', iblk3 m c t d _ hg, ← e]
  have ha : ∀ j : Fin 8, added m c s ⟨r.val % 1024, by omega⟩ d j = share (padded (tokenLogits m c r)) ⟨j.val, by omega⟩
      * expert (fun k i => wgate m c (ix3 j k i)) (fun k i => wup m c (ix3 j k i)) (fun i d => wdown m c (ix3 j i d)) d (hidden m c r) := fun j => by
    unfold added
    rw [logits_eq m c s r (by omega), show (fun k => tileRows m c s (ix2 ⟨r.val % 1024, by omega⟩ k)) = hidden m c r from
      funext fun k => rows_eq m c s r (by omega) k]
  rw [Finset.sum_congr rfl fun j _ => ha j]

/-- The run: the result array, the arguments kept. -/
theorem run (ρ : Dev nD → PrngReg) : θ_run (defs (F := Ideal)) (onTc (τ := τ) (main (F := Ideal))) ⟨m, fun _ => 0, ρ⟩ fun r => ∀ c : Dev nD,
      r.2.mem ((c : Thread nD τ).loc main_v13) = (dats m 0 c).arrAt 11 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) := by
  refine (θ_run defs _ _).mono (fun r h c => ⟨(h c).1 11, ?_, ?_, ?_, ?_, ?_, ?_, ?_, ?_⟩) (run_main m ρ)
  · exact ((h c).1 0).trans (((dats m 0 c).arrAt_in 0 rfl _).trans ((A_eq m c 0).trans (V_main_arg0 m c)))
  · exact ((h c).1 3).trans (((dats m 0 c).arrAt_in 3 rfl _).trans ((A_eq m c 3).trans (V_main_arg1 m c)))
  · exact ((h c).2 main_arg2 (Pipeline.mem_restRefs_of main_arg2 (by decide) (by decide))).trans (V_main_arg2 m c)
  · exact ((h c).2 main_arg3 (Pipeline.mem_restRefs_of main_arg3 (by decide) (by decide))).trans (V_main_arg3 m c)
  · exact ((h c).2 main_arg4 (Pipeline.mem_restRefs_of main_arg4 (by decide) (by decide))).trans (V_main_arg4 m c)
  · exact ((h c).2 main_arg5 (Pipeline.mem_restRefs_of main_arg5 (by decide) (by decide))).trans (V_main_arg5 m c)
  · exact ((h c).2 main_arg6 (Pipeline.mem_restRefs_of main_arg6 (by decide) (by decide))).trans (V_main_arg6 m c)
  · exact ((h c).2 main_arg7 (Pipeline.mem_restRefs_of main_arg7 (by decide) (by decide))).trans (V_main_arg7 m c)

end Cert.MoeIdeal.Experts

end
-- ==== Proof.MoeRef.lean ====
/- What the reference of the expert layer computes at one row and column. -/
module

public import proofs.«01_k».proof.Proof.Routed
public import proofs.«01_k».proof.Proof.Chosen
public import proofs.«01_k».proof.Proof.Gen.MoeRefIdeal.Read
public import Idealize.ShloMosaic.Lib.Pointwise

@[expose] public section

set_option maxRecDepth 16384

noncomputable section

namespace Cert.MoeRefIdeal.Experts

open Cert.MoeRefIdeal Cert.MoeRefIdeal.Gen Cert.MoeRefIdeal.Read Cert.Gated Cert.Routed Idealize.ShloMosaic Idealize.ShloMosaic.TcCoe Idealize.SL.Sem

variable (x0 : Vec Ideal S24576x1024 .f32) (x1 : Vec Ideal S4x8x6x1x1024 .f32) (x2 : Vec Ideal S1024 .f32)
  (x3 : Vec Ideal S1024x8 .f32) (x4 : Vec Ideal S8 .f32) (x5 x6 x7 : Vec Ideal S8x1024x1024 .f32)

theorem shift_at (r : Fin 24576) (d : Fin 1024) :
    (val_main_v7 (F := Ideal) x1 : Vec Ideal S24576x1024 .f32) (ix2 r d) = x1 (ix5 1 (groupOf r) 3 0 d) := by
  unfold val_main_v7 val_main_v6 val_main_v5 val_main_v4 val_main_v3 val_main_v2 val_main_v1 val_main_v0
  pointwise
  unfold groupOf
  split_ifs <;> rfl

theorem scale_at (r : Fin 24576) (d : Fin 1024) :
    (val_main_v15 (F := Ideal) x1 : Vec Ideal S24576x1024 .f32) (ix2 r d) = x1 (ix5 1 (groupOf r) 4 0 d) := by
  unfold val_main_v15 val_main_v14 val_main_v13 val_main_v12 val_main_v11 val_main_v10 val_main_v9 val_main_v8
  pointwise
  unfold groupOf
  split_ifs <;> rfl

theorem gate_at (r : Fin 24576) (d : Fin 1024) :
    (val_main_v64 (F := Ideal) x1 : Vec Ideal S24576x1024 .f32) (ix2 r d) = x1 (ix5 1 (groupOf r) 5 0 d) := by
  unfold val_main_v64 val_main_v63 val_main_v62 val_main_v61 val_main_v60 val_main_v59 val_main_v58 val_main_v57
  pointwise
  unfold groupOf
  split_ifs <;> rfl

theorem norm_at (r : Fin 24576) (d : Fin 1024) :
    (val_main_v25 (F := Ideal) x0 : Vec Ideal S24576x1024 .f32) (ix2 r d) = normed (fun k => x0 (ix2 r k)) d := by
  unfold val_main_v25 val_main_v24 val_main_v23 val_main_v22 val_main_v21 val_main_v20 val_main_v19 val_main_v18 val_main_v17 val_main_v16 val_main_cst val_main_cst_0 val_main_cst_1
  pointwise
  rfl

theorem rows_at (r : Fin 24576) (d : Fin 1024) :
    (val_main_v32 (F := Ideal) x0 x1 x2 : Vec Ideal S24576x1024 .f32) (ix2 r d)
      = modulated (fun k => x0 (ix2 r k)) (fun k => x2 (ix1 k)) (fun k => x1 (ix5 1 (groupOf r) 3 0 k))
        (fun k => x1 (ix5 1 (groupOf r) 4 0 k)) d := by
  rw [val_main_v32_apply, val_main_v31_apply, val_main_v30_apply, val_main_v28_apply, norm_at, shift_at, scale_at]
  unfold val_main_v27 val_main_v26 val_main_v29 val_main_cst_2
  pointwise
  rfl

/-- The row of a token after the norm and the modulation. -/
def hidden (r : Fin 24576) : Fin 1024 → EReal :=
  modulated (fun k => x0 (ix2 r k)) (fun k => x2 (ix1 k)) (fun k => x1 (ix5 1 (groupOf r) 3 0 k)) (fun k => x1 (ix5 1 (groupOf r) 4 0 k))

/-- The logits of a row. -/
def logits (r : Fin 24576) (e : Fin 8) : EReal := (∑ k, hidden x0 x1 x2 r k * x3 (ix2 k e)) + x4 (ix1 e)

theorem logits_at (r : Fin 24576) (e : Fin 8) :
    (val_main_v36 (F := Ideal) x0 x1 x2 x3 x4 : Vec Ideal S24576x8 .f32) (ix2 r e) = logits x0 x1 x2 x3 x4 r e := by
  unfold logits hidden
  simp only [← rows_at]
  unfold val_main_v36 val_main_v35 val_main_v34 val_main_v33
  generalize val_main_v32 (F := Ideal) x0 x1 x2 = h
  pointwise

theorem logits_row (r : Fin 24576) :
    (fun e => (val_main_v36 (F := Ideal) x0 x1 x2 x3 x4 : Vec Ideal S24576x8 .f32) (ix2 r e)) = logits x0 x1 x2 x3 x4 r :=
  funext fun e => logits_at x0 x1 x2 x3 x4 r e

theorem values_at (r : Fin 24576) (k : Fin 2) :
    (val_main_values (F := Ideal) x0 x1 x2 x3 x4 : Vec Ideal S24576x2 .f32) (ix2 r k)
      = logits x0 x1 x2 x3 x4 r (order (logits x0 x1 x2 x3 x4 r) ⟨k.val, by omega⟩) := by
  refine (top_values (val_main_v36 (F := Ideal) x0 x1 x2 x3 x4 : Vec Ideal S24576x8 .f32) sliceFits_S24576x8_S24576x2 r k).trans ?_
  rw [logits_row, logits_at]

theorem places_at (r : Fin 24576) (k : Fin 2) :
    (val_main_indices (F := Ideal) x0 x1 x2 x3 x4 : IVec S24576x2 32) (ix2 r k)
      = BitVec.ofNat 32 (order (logits x0 x1 x2 x3 x4 r) ⟨k.val, by omega⟩).val := by
  refine (top_places (val_main_v36 (F := Ideal) x0 x1 x2 x3 x4 : Vec Ideal S24576x8 .f32) sliceFits_S24576x8_S24576x2 r k).trans ?_
  rw [logits_row]

theorem max_two (f : Fin 2 → EReal) : max ⊥ (Finset.univ.fold max ⊥ f) = max ⊥ (max (f 0) (f 1)) := by
  congr 1
  apply le_antisymm
  · rw [Finset.fold_max_le]
    refine ⟨bot_le, fun i _ => ?_⟩
    match i with
    | ⟨0, _⟩ => exact le_max_left _ _
    | ⟨1, _⟩ => exact le_max_right _ _
  · refine max_le ?_ ?_ <;> rw [Finset.le_fold_max] <;> exact .inr ⟨_, Finset.mem_univ _, le_refl _⟩

theorem largest_at (r : Fin 24576) :
    (val_main_v39 (F := Ideal) x0 x1 x2 x3 x4 : Vec Ideal S24576 .f32) (ix1 r)
      = max ⊥ (max (logits x0 x1 x2 x3 x4 r (order (logits x0 x1 x2 x3 x4 r) 0)) (logits x0 x1 x2 x3 x4 r (order (logits x0 x1 x2 x3 x4 r) 1))) := by
  have h0 := values_at x0 x1 x2 x3 x4 r 0
  have h1 := values_at x0 x1 x2 x3 x4 r 1
  refine Eq.trans ?_ (congrArg₂ (fun a b => max ⊥ (max a b)) h0 h1)
  unfold val_main_v39 val_main_v38 val_main_v37 val_main_cst_3 val_main_cst_4
  generalize val_main_values (F := Ideal) x0 x1 x2 x3 x4 = v
  pointwise
  rw [minus_infinity]
  exact max_two fun k => v (ix2 r k)

theorem soft_at (r : Fin 24576) (k : Fin 2) :
    (val_main_v47 (F := Ideal) x0 x1 x2 x3 x4 : Vec Ideal S24576x2 .f32) (ix2 r k) = soft (logits x0 x1 x2 x3 x4 r) k := by
  unfold soft
  rw [← largest_at]
  simp only [← values_at]
  unfold val_main_v47 val_main_v46 val_main_v45 val_main_v44 val_main_cst_5 val_main_v43 val_main_v42 val_main_v41 val_main_v40
  generalize val_main_v39 (F := Ideal) x0 x1 x2 x3 x4 = m1
  generalize val_main_values (F := Ideal) x0 x1 x2 x3 x4 = v
  pointwise

theorem hot_at (r : Fin 24576) (k : Fin 2) (e : Fin 8) :
    (val_main_v48 (F := Ideal) x0 x1 x2 x3 x4 : Vec Ideal S24576x2x8 .f32) (ix3 r k e)
      = if BitVec.ofNat 32 (order (logits x0 x1 x2 x3 x4 r) ⟨k.val, by omega⟩).val = BitVec.ofNat 32 e.val then 1 else 0 := by
  rw [← places_at]
  unfold val_main_v48 val_main_call0_v4 val_main_call0_v3 val_main_call0_v2 val_main_call0_v1 val_main_call0_v0
  generalize val_main_indices (F := Ideal) x0 x1 x2 x3 x4 = i1
  pointwise
  show ((IntOp.cmpi .eq (i1 (ix2 r k)) (BitVec.ofNat 32 e.val)).toNat : EReal) = _
  by_cases h : i1 (ix2 r k) = BitVec.ofNat 32 e.val
  · rw [if_pos h, h]; simp [IntOp.cmpi]
  · rw [if_neg h]; simp [IntOp.cmpi, h]

theorem weights_at (r : Fin 24576) (hf : ∀ e, logits x0 x1 x2 x3 x4 r e ≠ ⊤ ∧ logits x0 x1 x2 x3 x4 r e ≠ ⊥) (e : Fin 8) :
    (val_main_v49 (F := Ideal) x0 x1 x2 x3 x4 : Vec Ideal S24576x8 .f32) (ix2 r e) = share (padded (logits x0 x1 x2 x3 x4 r)) (wide e) := by
  rw [share_soft _ hf, Finset.sum_congr rfl fun k _ =>
    (congrArg₂ (· * ·) (soft_at x0 x1 x2 x3 x4 r k) (hot_at x0 x1 x2 x3 x4 r k e)).symm]
  unfold val_main_v49
  generalize val_main_v47 (F := Ideal) x0 x1 x2 x3 x4 = m1
  generalize val_main_v48 (F := Ideal) x0 x1 x2 x3 x4 = m2
  pointwise

theorem gated_at (e : Fin 8) (r : Fin 24576) (i : Fin 1024) :
    (val_main_v55 (F := Ideal) x0 x1 x2 x5 x6 : Vec Ideal S8x24576x1024 .f32) (ix3 e r i)
      = gated (hidden x0 x1 x2 r) (fun k => x5 (ix3 e k i)) (fun k => x6 (ix3 e k i)) := by
  unfold gated hidden
  simp only [← rows_at, mul_comm ((val_main_v32 (F := Ideal) x0 x1 x2 : Vec Ideal S24576x1024 .f32) _ : EReal)]
  unfold val_main_v55 val_main_v54 val_main_v53 val_main_v52 val_main_call1_v5 val_main_call1_v4 val_main_call1_cst_0 val_main_call1_v3 val_main_call1_v2 val_main_call1_cst val_main_call1_v1 val_main_call1_v0 val_main_v51 val_main_v50
  generalize val_main_v32 (F := Ideal) x0 x1 x2 = h
  pointwise
  rfl

theorem sum_at (r : Fin 24576) (hf : ∀ e, logits x0 x1 x2 x3 x4 r e ≠ ⊤ ∧ logits x0 x1 x2 x3 x4 r e ≠ ⊥) (d : Fin 1024) :
    (val_main_v69 (F := Ideal) x0 x1 x2 x3 x4 x5 x6 x7 : Vec Ideal S24576x1024 .f32) (ix2 r d)
      = ∑ e : Fin 8, share (padded (logits x0 x1 x2 x3 x4 r)) ⟨e.val, by omega⟩
        * expert (fun k j => x5 (ix3 e k j)) (fun k j => x6 (ix3 e k j)) (fun j d => x7 (ix3 e j d)) d (hidden x0 x1 x2 r) := by
  unfold expert
  simp only [← gated_at]
  rw [Finset.sum_congr rfl fun e _ => congrArg (· * _) (weights_at x0 x1 x2 x3 x4 r hf e).symm]
  unfold val_main_v69 val_main_v68 val_main_v67 val_main_v66 val_main_v65 val_main_cst_6 val_main_v56
  generalize val_main_v49 (F := Ideal) x0 x1 x2 x3 x4 = m2
  generalize val_main_v55 (F := Ideal) x0 x1 x2 x5 x6 = m1
  pointwise

theorem ref_at (r : Fin 24576) (hf : ∀ e, logits x0 x1 x2 x3 x4 r e ≠ ⊤ ∧ logits x0 x1 x2 x3 x4 r e ≠ ⊥) (d : Fin 1024) :
    (val_main_v71 (F := Ideal) x0 x1 x2 x3 x4 x5 x6 x7 : Vec Ideal S24576x1024 .f32) (ix2 r d)
      = x0 (ix2 r d) + x1 (ix5 1 (groupOf r) 5 0 d) * ∑ e : Fin 8, share (padded (logits x0 x1 x2 x3 x4 r)) ⟨e.val, by omega⟩
        * expert (fun k j => x5 (ix3 e k j)) (fun k j => x6 (ix3 e k j)) (fun j d => x7 (ix3 e j d)) d (hidden x0 x1 x2 r) := by
  rw [← sum_at x0 x1 x2 x3 x4 x5 x6 x7 r hf, ← gate_at x1]
  rfl

end Cert.MoeRefIdeal.Experts

end
-- ==== Proof.MoeEq.lean ====
/- The expert layer's equation: the kernel's array is the reference's, where the router's logits are real. -/
module

public import proofs.«01_k».proof.Defs
public import proofs.«01_k».proof.Proof.MoeArray
public import proofs.«01_k».proof.Proof.MoeRef
public import proofs.«01_k».proof.Proof.Finite
public import proofs.«01_k».proof.Proof.Gen.MoeRefIdeal.Run
public import proofs.«01_k».proof.Proof.Gen.Pre_moe_finite

@[expose] public section

set_option maxRecDepth 16384

noncomputable section

namespace Cert.MoeIdeal.Experts

open Cert.MoeIdeal Cert.MoeIdeal.Gen Cert.Gated Idealize.ShloMosaic Idealize.ShloMosaic.TcCoe Idealize.SL.Sem

variable (m : (ℓ : Loc nD τ sig) → Buf (Elt Ideal) ℓ)

/-- What the precondition says of the router's logits. -/
theorem finite_logits (x0 : Vec Ideal S24576x1024 .f32) (x1 : Vec Ideal S4x8x6x1x1024 .f32) (x2 : Vec Ideal S1024 .f32)
    (x3 : Vec Ideal S1024x8 .f32) (x4 : Vec Ideal S8 .f32) (x5 x6 x7 : Vec Ideal S8x1024x1024 .f32)
    (h : Cert.Pre_moe_finite.fn (F := Ideal) x0 x1 x2 x3 x4 x5 x6 x7 = fun _ => 1#1) (r : Fin 24576) (e : Fin 8) :
    Cert.MoeRefIdeal.Experts.logits x0 x1 x2 x3 x4 r e ≠ ⊤ ∧ Cert.MoeRefIdeal.Experts.logits x0 x1 x2 x3 x4 r e ≠ ⊥ := by
  have e0 := Cert.MoeRefIdeal.Experts.logits_at x0 x1 x2 x3 x4 r e
  have h0 := congrFun h (fun k => k.elim0)
  unfold Cert.Pre_moe_finite.fn Cert.Pre_moe_finite.fn_part1 at h0
  dsimp only at h0
  have h1 := Cert.Attend.finite_of_all _ _ _ _ _ _ h0 (ix2 r e)
  open Cert.MoeRefIdeal.Read in
  unfold val_main_v36 val_main_v35 val_main_v34 val_main_v33 val_main_v32 val_main_v31 val_main_v30 val_main_v29 val_main_v28 val_main_v27 val_main_v26 val_main_v25 val_main_v24 val_main_v23 val_main_v22 val_main_v21 val_main_v20 val_main_v19 val_main_v18 val_main_v17 val_main_v16 val_main_v15 val_main_v14 val_main_v13 val_main_v12 val_main_v11 val_main_v10 val_main_v9 val_main_v8 val_main_v7 val_main_v6 val_main_v5 val_main_v4 val_main_v3 val_main_v2 val_main_v1 val_main_v0 val_main_cst val_main_cst_0 val_main_cst_1 val_main_cst_2 at e0
  exact ⟨fun q => h1.1 (e0.trans q), fun q => h1.2 (e0.trans q)⟩

theorem equation (c : Dev nD) (h : Cert.Pre_moe_finite.fn (F := Ideal) (tokens m c) (mods m c) (gains m c)
      (router m c) (offsets m c) (wgate m c) (wup m c) (wdown m c) = fun _ => 1#1) : ((dats m 0 c).arrAt 11 cfg0.N : Vec Ideal S24576x1024 .f32)
    = Cert.MoeRefIdeal.Read.val_main_v71 (F := Ideal) (tokens m c) (mods m c) (gains m c)
      (router m c) (offsets m c) (wgate m c) (wup m c) (wdown m c) := by
  funext i
  have hi : i = ix2 (i 0) (i 1) := by funext a; match a with | ⟨0, _⟩ => rfl | ⟨1, _⟩ => rfl
  rw [hi]
  exact (array_at m c (i 0) (i 1)).trans
    (Cert.MoeRefIdeal.Experts.ref_at (tokens m c) (mods m c) (gains m c)
      (router m c) (offsets m c) (wgate m c) (wup m c) (wdown m c) (i 0)
      (finite_logits _ _ _ _ _ _ _ _ h (i 0)) (i 1)).symm

theorem algebraic : Cert.algebraic_MoeIdeal_MoeRefIdeal_pre_moe_finite (hMoeIdeal := Cert.MoeIdeal.Gen.facts)
    (hMoeRefIdeal := Cert.MoeRefIdeal.Gen.facts) (hPre_moe_finite := Cert.Pre_moe_finite.Gen.facts) := by
  intro m g m' g' hpre hargs
  refine ⟨fun c => (dats m 0 c).arrAt 11 cfg0.N, run m g, ?_⟩
  refine (θ_run (Cert.MoeRefIdeal.defs (F := Ideal)) _ _).mono (fun r h c => ?_) (Cert.MoeRefIdeal.Value.run (F := Ideal) m' g')
  obtain ⟨hv, hk⟩ := h c
  refine ⟨hv.trans ?_, hk⟩
  rw [Cert.MoeRefIdeal.Read.val_main_v71_eq, (hargs c).1, (hargs c).2.1, (hargs c).2.2.1, (hargs c).2.2.2.1, (hargs c).2.2.2.2.1, (hargs c).2.2.2.2.2.1, (hargs c).2.2.2.2.2.2.1, (hargs c).2.2.2.2.2.2.2]
  exact (equation m c (hpre c)).symm

end Cert.MoeIdeal.Experts

end
-- ==== Proof.lean ====
/-
  The proof of `Cert.Claim`: the frames of the programs, and each algebraic claim from the module that proves its equation.
-/
module

public import proofs.«01_k».proof.Defs
public import proofs.«01_k».proof.Proof.Gen.Ctx.Frame
public import proofs.«01_k».proof.Proof.Gen.Ffn.Frame
public import proofs.«01_k».proof.Proof.CtxEq
public import proofs.«01_k».proof.Proof.FfnEq
public import proofs.«01_k».proof.Proof.Gen.Proj.Frame
public import proofs.«01_k».proof.Proof.ProjEq
public import proofs.«01_k».proof.Proof.MoeBitsFrame
public import proofs.«01_k».proof.Proof.MoeEq

@[expose] public section

noncomputable section

namespace Cert.Proof

open Idealize.ShloMosaic Idealize.SL.Sem

/-- The reference of the context attention runs, keeps its arguments and declares no semaphore. -/
theorem frame_ctx_ref : Cert.quiescent_CtxRefIdeal (hCtxRefIdeal := Cert.CtxRefIdeal.Gen.facts) := fun m g _ =>
  (θ_run Cert.CtxRefIdeal.defs _ _).mono (fun r h => ⟨fun c => (h c).2, sem_eq_zero_of_no_sems (by decide) r.2⟩)
     (Cert.CtxRefIdeal.Value.run (F := Ideal) m g)

/-- The reference of the dense feed-forward layer runs, keeps its arguments and declares no semaphore. -/
theorem frame_ffn_ref : Cert.quiescent_FfnRefIdeal (hFfnRefIdeal := Cert.FfnRefIdeal.Gen.facts) := fun m g _ =>
  (θ_run Cert.FfnRefIdeal.defs _ _).mono (fun r h => ⟨fun c => (h c).2, sem_eq_zero_of_no_sems (by decide) r.2⟩)
     (Cert.FfnRefIdeal.Value.run (F := Ideal) m g)

/-- The reference of the projection runs, keeps its arguments and declares no semaphore. -/
theorem frame_proj_ref : Cert.quiescent_ProjRefIdeal (hProjRefIdeal := Cert.ProjRefIdeal.Gen.facts) := fun m g _ =>
  (θ_run Cert.ProjRefIdeal.defs _ _).mono (fun r h => ⟨fun c => (h c).2.2.2.2.2.2, sem_eq_zero_of_no_sems (by decide) r.2⟩)
     (Cert.ProjRefIdeal.Value.run (F := Ideal) m g)

/-- The reference of the expert layer runs, keeps its arguments and declares no semaphore. -/
theorem frame_moe_ref : Cert.quiescent_MoeRefIdeal (hMoeRefIdeal := Cert.MoeRefIdeal.Gen.facts) := fun m g _ =>
  (θ_run Cert.MoeRefIdeal.defs _ _).mono (fun r h => ⟨fun c => (h c).2, sem_eq_zero_of_no_sems (by decide) r.2⟩)
     (Cert.MoeRefIdeal.Value.run (F := Ideal) m g)

theorem claim : Cert.Claim :=
  ⟨Cert.Ctx.Gen.facts, Cert.CtxIdeal.Gen.facts, Cert.CtxRefIdeal.Gen.facts,
    Cert.Ffn.Gen.facts, Cert.FfnIdeal.Gen.facts, Cert.FfnRefIdeal.Gen.facts,
    Cert.Proj.Gen.facts, Cert.ProjIdeal.Gen.facts, Cert.ProjRefIdeal.Gen.facts,
    Cert.Moe.Gen.facts, Cert.MoeIdeal.Gen.facts, Cert.MoeRefIdeal.Gen.facts, Cert.Pre_ctx_finite.Gen.facts, Cert.Pre_moe_finite.Gen.facts,
    fun m g _ => Cert.Ctx.Gen.frame m g, fun m g _ => Cert.CtxIdeal.Gen.frame m g, fun m g _ => Cert.CtxIdeal.Gen.frame m g,
    frame_ctx_ref, fun m g _ => frame_ctx_ref m g trivial,
    fun m g _ => Cert.Ffn.Gen.frame m g, fun m g _ => Cert.FfnIdeal.Gen.frame m g, frame_ffn_ref,
    fun m g _ => Cert.Proj.Gen.frame m g, fun m g _ => Cert.ProjIdeal.Gen.frame m g, frame_proj_ref,
    fun m g _ => Cert.Moe.Experts.frame m g, fun m g _ => Cert.MoeIdeal.Experts.frame m g, fun m g _ => Cert.MoeIdeal.Experts.frame m g,
    frame_moe_ref, fun m g _ => frame_moe_ref m g trivial,
    trivial, Cert.CtxIdeal.Attn.algebraic, trivial, Cert.FfnIdeal.Dense.algebraic,
    trivial, Cert.ProjIdeal.Entry.algebraic, trivial, Cert.MoeIdeal.Experts.algebraic⟩

end Cert.Proof

end
